-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_keys_finite [hPre_keys_finite : Cert.Pre_keys_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_keys_finite.fn (F := Ideal) (m ((c.tc : Thread Cert.Kernel2Ideal.nD Cert.Kernel2Ideal.τ).loc Cert.Kernel2Ideal.main_arg0))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_keys_finite [hPre_keys_finite : Cert.Pre_keys_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_keys_finite.fn (F := Ideal) (m ((c.tc : Thread Cert.Reference2Ideal.nD Cert.Reference2Ideal.τ).loc Cert.Reference2Ideal.main_arg0))) = (fun _ => 1#1)

def Pre_Kernel3 (m : (ℓ : Loc Cert.Kernel3.nD Cert.Kernel3.τ Cert.Kernel3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_inputs_finite [hPre_inputs_finite : Cert.Pre_inputs_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_inputs_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_inputs_finite [hPre_inputs_finite : Cert.Pre_inputs_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_inputs_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Kernel2Ideal_pre_keys_finite [hKernel2Ideal : Cert.Kernel2Ideal.Facts] [hPre_keys_finite : Cert.Pre_keys_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_keys_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Reference2Ideal_pre_keys_finite [hReference2Ideal : Cert.Reference2Ideal.Facts] [hPre_keys_finite : Cert.Pre_keys_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_keys_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_inputs_finite [hKernel5Ideal : Cert.Kernel5Ideal.Facts] [hPre_inputs_finite : Cert.Pre_inputs_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_inputs_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_inputs_finite [hReference5Ideal : Cert.Reference5Ideal.Facts] [hPre_inputs_finite : Cert.Pre_inputs_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_inputs_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_keys_finite [hKernel2Ideal : Cert.Kernel2Ideal.Facts] [hReference2Ideal : Cert.Reference2Ideal.Facts] [hPre_keys_finite : Cert.Pre_keys_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_keys_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v50) = v1 c
          ∧ r.2.mem ((c.tc : Thread Cert.Reference4Ideal.nD Cert.Reference4Ideal.τ).loc Cert.Reference4Ideal.main_v51) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_inputs_finite [hKernel5Ideal : Cert.Kernel5Ideal.Facts] [hReference5Ideal : Cert.Reference5Ideal.Facts] [hPre_inputs_finite : Cert.Pre_inputs_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_inputs_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_rows_in_range : Cert.Pre_rows_in_range.Facts) (hPre_keys_finite : Cert.Pre_keys_finite.Facts) (hPre_inputs_finite : Cert.Pre_inputs_finite.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ quiescent_Kernel2 (hKernel2 := hKernel2)
    ∧ quiescent_Kernel2Ideal (hKernel2Ideal := hKernel2Ideal)
    ∧ quiescent_Kernel2Ideal_pre_keys_finite (hKernel2Ideal := hKernel2Ideal) (hPre_keys_finite := hPre_keys_finite)
    ∧ quiescent_Reference2Ideal (hReference2Ideal := hReference2Ideal)
    ∧ quiescent_Reference2Ideal_pre_keys_finite (hReference2Ideal := hReference2Ideal) (hPre_keys_finite := hPre_keys_finite)
    ∧ quiescent_Kernel3 (hKernel3 := hKernel3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_inputs_finite (hKernel5Ideal := hKernel5Ideal) (hPre_inputs_finite := hPre_inputs_finite)
    ∧ quiescent_Reference5Ideal (hReference5Ideal := hReference5Ideal)
    ∧ quiescent_Reference5Ideal_pre_inputs_finite (hReference5Ideal := hReference5Ideal) (hPre_inputs_finite := hPre_inputs_finite)
    ∧ preserves_Kernel_KernelIdeal
    ∧ algebraic_KernelIdeal_ReferenceIdeal (hKernelIdeal := hKernelIdeal) (hReferenceIdeal := hReferenceIdeal) (hPre_rows_in_range := hPre_rows_in_range)
    ∧ preserves_Kernel2_Kernel2Ideal
    ∧ algebraic_Kernel2Ideal_Reference2Ideal_pre_keys_finite (hKernel2Ideal := hKernel2Ideal) (hReference2Ideal := hReference2Ideal) (hPre_keys_finite := hPre_keys_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_inputs_finite (hKernel5Ideal := hKernel5Ideal) (hReference5Ideal := hReference5Ideal) (hPre_inputs_finite := hPre_inputs_finite)
-- ==== Pre_inputs_finite.lean ====
abbrev S32x256x2048 : Shape := ⟨3, ![32, 256, 2048]⟩
abbrev S8x6x2048 : Shape := ⟨3, ![8, 6, 2048]⟩
abbrev S2048 : Shape := ⟨1, ![2048]⟩
abbrev S2048x5120 : Shape := ⟨2, ![2048, 5120]⟩
abbrev S64 : Shape := ⟨1, ![64]⟩
abbrev S_ : Shape := ⟨0, ![]⟩
abbrev S1x2x2048 : Shape := ⟨3, ![1, 2, 2048]⟩
abbrev S2x2048 : Shape := ⟨2, ![2, 2048]⟩
abbrev S2048x2048 : Shape := ⟨2, ![2048, 2048]⟩

class Facts : Prop where
  bcast_S_S32x256x2048 : S_.BroadcastsInDim S32x256x2048 (![] : Fin 0 → Fin S32x256x2048.rank)
  reducesTo_S32x256x2048_S_d0_1_2 : S32x256x2048.ReducesTo [0, 1, 2] S_
  h_S_ : 0 < S_.numel
  slices_S8x6x2048_S1x2x2048_0_0_0 : S8x6x2048.Slices ![0, 0, 0] S1x2x2048
  shapeCasts_S1x2x2048_S2x2048 : S1x2x2048.ShapeCasts S2x2048
  bcast_S_S2x2048 : S_.BroadcastsInDim S2x2048 (![] : Fin 0 → Fin S2x2048.rank)
  reducesTo_S2x2048_S_d0_1 : S2x2048.ReducesTo [0, 1] S_
  bcast_S_S2048 : S_.BroadcastsInDim S2048 (![] : Fin 0 → Fin S2048.rank)
  reducesTo_S2048_S_d0 : S2048.ReducesTo [0] S_
  slices_S2048x5120_S2048x2048_0_0 : S2048x5120.Slices ![0, 0] S2048x2048
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v15 : IVec S_ 1) (main_v17 : FVec F S2048x2048 .f32) : IVec S_ 1 :=
  let main_cst_4 : FVec F S_ .f32 := constant S_ .f32 0x7F800000#32
  let main_v18 : FVec F S2048x2048 .f32 := broadcastInDim S2048x2048 ![] bcast_S_S2048x2048 main_cst_4
  let main_v19 : IVec S2048x2048 1 := cmpf .olt main_v17 main_v18
  let main_c_5 : IVec S_ 1 := constantI S_ 1 1#1
  let main_v20 : IVec S_ 1 := (fun x v => Host.reduce IntOp.andi x v reducesTo_S2048x2048_S_d0_1 h_S_) main_v19 main_c_5
  let main_v21 : IVec S_ 1 := andi main_v15 main_v20
  main_v21

def fn {F : FTy → Type} [FloatOps F] (main_arg0 : FVec F S32x256x2048 .f32) (main_arg1 : FVec F S8x6x2048 .f32) (main_arg2 : FVec F S2048 .f32) (main_arg3 : FVec F S2048x5120 .f32) (main_arg4 : FVec F S64 .f32) (main_arg5 : FVec F S64 .f32) : IVec S_ 1 :=
  let main_v0 : FVec F S32x256x2048 .f32 := Host.absf main_arg0
  let main_cst : FVec F S_ .f32 := constant S_ .f32 0x7F800000#32
  let main_v1 : FVec F S32x256x2048 .f32 := broadcastInDim S32x256x2048 ![] bcast_S_S32x256x2048 main_cst
  let main_v2 : IVec S32x256x2048 1 := cmpf .olt main_v0 main_v1
  let main_c : IVec S_ 1 := constantI S_ 1 1#1
  let main_v3 : IVec S_ 1 := (fun x v => Host.reduce IntOp.andi x v reducesTo_S32x256x2048_S_d0_1_2 h_S_) main_v2 main_c
  let main_v4 : FVec F S1x2x2048 .f32 := (extractStridedSlice S1x2x2048 ![0, 0, 0] · slices_S8x6x2048_S1x2x2048_0_0_0) main_arg1
  let main_v5 : FVec F S2x2048 .f32 := shapeCast S2x2048 main_v4 shapeCasts_S1x2x2048_S2x2048
  let main_v6 : FVec F S2x2048 .f32 := Host.absf main_v5
  let main_cst_0 : FVec F S_ .f32 := constant S_ .f32 0x7F800000#32
  let main_v7 : FVec F S2x2048 .f32 := broadcastInDim S2x2048 ![] bcast_S_S2x2048 main_cst_0
  let main_v8 : IVec S2x2048 1 := cmpf .olt main_v6 main_v7
  let main_c_1 : IVec S_ 1 := constantI S_ 1 1#1
  let main_v9 : IVec S_ 1 := (fun x v => Host.reduce IntOp.andi x v reducesTo_S2x2048_S_d0_1 h_S_) main_v8 main_c_1
  let main_v10 : IVec S_ 1 := andi main_v3 main_v9
  let main_v11 : FVec F S2048 .f32 := Host.absf main_arg2
  let main_cst_2 : FVec F S_ .f32 := constant S_ .f32 0x7F800000#32
  let main_v12 : FVec F S2048 .f32 := broadcastInDim S2048 ![] bcast_S_S2048 main_cst_2
  let main_v13 : IVec S2048 1 := cmpf .olt main_v11 main_v12
  let main_c_3 : IVec S_ 1 := constantI S_ 1 1#1
  let main_v14 : IVec S_ 1 := (fun x v => Host.reduce IntOp.andi x v reducesTo_S2048_S_d0 h_S_) main_v13 main_c_3
  let main_v15 : IVec S_ 1 := andi main_v10 main_v14
  let main_v16 : FVec F S2048x2048 .f32 := (extractStridedSlice S2048x2048 ![0, 0] · slices_S2048x5120_S2048x2048_0_0) main_arg3
  let main_v17 : FVec F S2048x2048 .f32 := Host.absf main_v16
  fn_part1 (F := F) main_v15 main_v17
-- ==== Pre_keys_finite.lean ====
abbrev S8192x5120 : Shape := ⟨2, ![8192, 5120]⟩
abbrev S8192x2048 : Shape := ⟨2, ![8192, 2048]⟩
abbrev S_ : Shape := ⟨0, ![]⟩

class Facts : Prop where
  slices_S8192x5120_S8192x2048_0_0 : S8192x5120.Slices ![0, 0] S8192x2048
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x5120 .f32) : IVec S_ 1 :=
  let main_v0 : FVec F S8192x2048 .f32 := (extractStridedSlice S8192x2048 ![0, 0] · slices_S8192x5120_S8192x2048_0_0) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  main_v4
-- ==== Pre_rows_in_range.lean ====
abbrev S16x1024 : Shape := ⟨2, ![16, 1024]⟩
abbrev S16x512 : Shape := ⟨2, ![16, 512]⟩
abbrev S8192x1024 : Shape := ⟨2, ![8192, 1024]⟩
abbrev S4096x1024 : Shape := ⟨2, ![4096, 1024]⟩
abbrev S16x2048x2048 : Shape := ⟨3, ![16, 2048, 2048]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : IVec S16x1024 32) (main_arg1 : IVec S16x512 32) (main_arg2 : IVec S8192x1024 32) (main_arg3 : IVec S4096x1024 32) (main_arg4 : FVec F S16x1024 .f32) (main_arg5 : FVec F S16x512 .f32) (main_arg6 : FVec F S16x2048x2048 .f32) (main_arg7 : FVec F S16x2048x2048 .f32) (main_arg8 : FVec F S16x2048x2048 .f32) : IVec S_ 1 :=
  let main_c : IVec S_ 32 := constantI S_ 32 0#32
  let main_v0 : IVec S16x1024 32 := broadcastInDim S16x1024 ![] bcast_S_S16x1024 main_c
  let main_v1 : IVec S16x1024 1 := cmpi .sge main_arg0 main_v0
  let main_c_0 : IVec S_ 32 := constantI S_ 32 8192#32
  let main_v2 : IVec S16x1024 32 := broadcastInDim S16x1024 ![] bcast_S_S16x1024 main_c_0
  let main_v3 : IVec S16x1024 1 := cmpi .slt main_arg0 main_v2
  let main_v4 : IVec S16x1024 1 := andi main_v1 main_v3
  let main_c_1 : IVec S_ 1 := constantI S_ 1 1#1
  let main_v5 : IVec S_ 1 := (fun x v => Host.reduce IntOp.andi x v reducesTo_S16x1024_S_d0_1 h_S_) main_v4 main_c_1
  let main_c_2 : IVec S_ 32 := constantI S_ 32 0#32
  let main_v6 : IVec S16x512 32 := broadcastInDim S16x512 ![] bcast_S_S16x512 main_c_2
  let main_v7 : IVec S16x512 1 := cmpi .sge main_arg1 main_v6
  let main_c_3 : IVec S_ 32 := constantI S_ 32 4096#32
  let main_v8 : IVec S16x512 32 := broadcastInDim S16x512 ![] bcast_S_S16x512 main_c_3
  let main_v9 : IVec S16x512 1 := cmpi .slt main_arg1 main_v8
  let main_v10 : IVec S16x512 1 := andi main_v7 main_v9
  let main_c_4 : IVec S_ 1 := constantI S_ 1 1#1
  let main_v11 : IVec S_ 1 := (fun x v => Host.reduce IntOp.andi x v reducesTo_S16x512_S_d0_1 h_S_) main_v10 main_c_4
  let main_v12 : IVec S_ 1 := andi main_v5 main_v11
  main_v12
-- ==== Kernel.lean ====
abbrev S16x1024 : Shape := ⟨2, ![16, 1024]⟩
abbrev S16x512 : Shape := ⟨2, ![16, 512]⟩
abbrev S8192x1024 : Shape := ⟨2, ![8192, 1024]⟩
abbrev S4096x1024 : Shape := ⟨2, ![4096, 1024]⟩
abbrev S16x2048x2048 : Shape := ⟨3, ![16, 2048, 2048]⟩
abbrev S16x1536 : Shape := ⟨2, ![16, 1536]⟩
abbrev S24576 : Shape := ⟨1, ![24576]⟩
abbrev S16x1536x1 : Shape := ⟨3, ![16, 1536, 1]⟩
abbrev S16x1024x2048 : Shape := ⟨3, ![16, 1024, 2048]⟩
abbrev S16x512x2048 : Shape := ⟨3, ![16, 512, 2048]⟩
abbrev S1x1536x1 : Shape := ⟨3, ![1, 1536, 1]⟩
abbrev S1x2048x512 : Shape := ⟨3, ![1, 2048, 512]⟩
abbrev S1x1024x512 : Shape := ⟨3, ![1, 1024, 512]⟩
abbrev S1x512x512 : Shape := ⟨3, ![1, 512, 512]⟩
abbrev S1536x1024 : Shape := ⟨2, ![1536, 1024]⟩
abbrev S1536x2048 : Shape := ⟨2, ![1536, 2048]⟩
abbrev S4x1536x512 : Shape := ⟨3, ![4, 1536, 512]⟩
abbrev S2 : Shape := ⟨1, ![2]⟩
abbrev S1 : Shape := ⟨1, ![1]⟩
abbrev S_ : Shape := ⟨0, ![]⟩
abbrev S1x1024 : Shape := ⟨2, ![1, 1024]⟩
abbrev S2048x512 : Shape := ⟨2, ![2048, 512]⟩
abbrev S768x1024 : Shape := ⟨2, ![768, 1024]⟩
abbrev S768x2048 : Shape := ⟨2, ![768, 2048]⟩
abbrev S768x512 : Shape := ⟨2, ![768, 512]⟩
abbrev S1x768x512 : Shape := ⟨3, ![1, 768, 512]⟩
abbrev S1x1536x512 : Shape := ⟨3, ![1, 1536, 512]⟩
abbrev S1536x512 : Shape := ⟨2, ![1536, 512]⟩
abbrev S512x512 : Shape := ⟨2, ![512, 512]⟩
abbrev S1536x1 : Shape := ⟨2, ![1536, 1]⟩
abbrev S1024x512 : Shape := ⟨2, ![1024, 512]⟩

abbrev nBuf : Space → Nat
  | .hbm => 14
  | .vmem => 15
  | .smem => 1
  | _ => 0

abbrev bufTy : (tb : Table) → Fin (tcTables nBuf tb) → BufTy
  | .hbm, ⟨0, _⟩ => ⟨S16x1024, .i32⟩
  | .hbm, ⟨1, _⟩ => ⟨S16x512, .i32⟩
  | .hbm, ⟨2, _⟩ => ⟨S8192x1024, .i32⟩
  | .hbm, ⟨3, _⟩ => ⟨S4096x1024, .i32⟩
  | .hbm, ⟨4, _⟩ => ⟨S16x1024, .f32⟩
  | .hbm, ⟨5, _⟩ => ⟨S16x512, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S16x1536, .i32⟩
  | .hbm, ⟨10, _⟩ => ⟨S16x1536, .f32⟩
  | .hbm, ⟨11, _⟩ => ⟨S16x1536x1, .f32⟩
  | .hbm, ⟨12, _⟩ => ⟨S16x1024x2048, .f32⟩
  | .hbm, ⟨13, _⟩ => ⟨S16x512x2048, .f32⟩
  | .local _ .vmem, ⟨0, _⟩ => ⟨S1x1536x1, .f32⟩
  | .local _ .vmem, ⟨1, _⟩ => ⟨S1x1536x1, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1x1024x512, .f32⟩
  | .local _ .vmem, ⟨9, _⟩ => ⟨S1x1024x512, .f32⟩
  | .local _ .vmem, ⟨10, _⟩ => ⟨S1x512x512, .f32⟩
  | .local _ .vmem, ⟨11, _⟩ => ⟨S1x512x512, .f32⟩
  | .local _ .vmem, ⟨12, _⟩ => ⟨S1536x1024, .i32⟩
  | .local _ .vmem, ⟨13, _⟩ => ⟨S1536x2048, .bf16⟩
  | .local _ .vmem, ⟨14, _⟩ => ⟨S4x1536x512, .bf16⟩
  | .local _ .smem, ⟨0, _⟩ => ⟨S24576, .i32⟩
  | _, _ => ⟨S16x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_9 : BitVec 32 := 0#32
  let c1024_i32 : BitVec 32 := 1024#32
  let v21 : BitVec 32 := Scalar.addi c0_i32_9 c1024_i32
  let c1_i32 : BitVec 32 := 1#32
  ⟨c0_i32_9, v21, c1_i32⟩
def k0_off1 (k0_t1 : Fin k0_t1_loop.trips) : Fin 1 → Nat :=
  let c0_i32_14 : BitVec 32 := 0#32
  let c0_i32_9 : BitVec 32 := 0#32
  let c1_i32 : BitVec 32 := 1#32
  let arg15 : BitVec 32 := Scf.iv c0_i32_9 c1_i32 k0_t1
  let v23 : BitVec 32 := Scalar.addi c0_i32_14 arg15
  let v24 : Index := Scalar.indexCast v23
  ![v24.toNat]
def k0_off2 (k0_t1 : Fin k0_t1_loop.trips) : Fin 2 → Nat :=
  let c0_i32_15 : BitVec 32 := 0#32
  let c0_i32_9 : BitVec 32 := 0#32
  let c1_i32 : BitVec 32 := 1#32
  let arg15 : BitVec 32 := Scf.iv c0_i32_9 c1_i32 k0_t1
  let v26 : BitVec 32 := Scalar.addi c0_i32_15 arg15
  let c0_i32_17 : BitVec 32 := 0#32
  ![v26.toNat, 0]
def k0_off3 (v25 : BitVec 32) : Fin 2 → Nat :=
  let c0_i32_18 : BitVec 32 := 0#32
  ![v25.toNat, 0]

def k0_chk1 (i : grid0.Coords) (v25 : BitVec 32) : Prop :=
  (∀ (k0_h1 : k0_cond1 i = 1#1), ∀ a, (k0_off3 v25) a + S1x1024.size a ≤ S8192x1024.size a)
theorem k0_off3_inb : ∀ (i : grid0.Coords) (v25 : BitVec 32) (k0_hw1 : k0_chk1 i v25), ∀ (k0_h1 : k0_cond1 i = 1#1), ∀ a, (k0_off3 v25) a + S1x1024.size a ≤ S8192x1024.size a := fun i v25 k0_hw1 k0_h1 => k0_hw1 k0_h1

@[reducible] def k0_t2_loop : Scf.Loop 32 :=
  let c0_i32_11 : BitVec 32 := 0#32
  let c512_i32 : BitVec 32 := 512#32
  let v22 : BitVec 32 := Scalar.addi c0_i32_11 c512_i32
  let c1_i32_12 : BitVec 32 := 1#32
  ⟨c0_i32_11, v22, c1_i32_12⟩
def k0_off4 (k0_t2 : Fin k0_t2_loop.trips) : Fin 1 → Nat :=
  let c1024_i32_14 : BitVec 32 := 1024#32
  let c0_i32_11 : BitVec 32 := 0#32
  let c1_i32_12 : BitVec 32 := 1#32
  let arg15 : BitVec 32 := Scf.iv c0_i32_11 c1_i32_12 k0_t2
  let v23 : BitVec 32 := Scalar.addi c1024_i32_14 arg15
  let v24 : Index := Scalar.indexCast v23
  ![v24.toNat]
def k0_off5 (k0_t2 : Fin k0_t2_loop.trips) : Fin 2 → Nat :=
  let c1024_i32_15 : BitVec 32 := 1024#32
  let c0_i32_11 : BitVec 32 := 0#32
  let c1_i32_12 : BitVec 32 := 1#32
  let arg15 : BitVec 32 := Scf.iv c0_i32_11 c1_i32_12 k0_t2
  let v26 : BitVec 32 := Scalar.addi c1024_i32_15 arg15
  let c0_i32_17 : BitVec 32 := 0#32
  ![v26.toNat, 0]
def k0_off6 (v25 : BitVec 32) : Fin 2 → Nat :=
  let c0_i32_18 : BitVec 32 := 0#32
  ![v25.toNat, 0]

def k0_chk2 (i : grid0.Coords) (v25 : BitVec 32) : Prop :=
  (∀ (k0_h1 : k0_cond1 i = 1#1), ∀ a, (k0_off6 v25) a + S1x1024.size a ≤ S4096x1024.size a)
theorem k0_off6_inb : ∀ (i : grid0.Coords) (v25 : BitVec 32) (k0_hw2 : k0_chk2 i v25), ∀ (k0_h1 : k0_cond1 i = 1#1), ∀ a, (k0_off6 v25) a + S1x1024.size a ≤ S4096x1024.size a := fun i v25 k0_hw2 k0_h1 => k0_hw2 k0_h1

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k0_t3_loop : Scf.Loop 32 :=
  let c0_i32_9 : BitVec 32 := 0#32
  let c1024_i32 : BitVec 32 := 1024#32
  let v21 : BitVec 32 := Scalar.addi c0_i32_9 c1024_i32
  let c1_i32 : BitVec 32 := 1#32
  ⟨c0_i32_9, v21, c1_i32⟩
def k0_off7 (k0_t3 : Fin k0_t3_loop.trips) : Fin 2 → Nat :=
  let c0_i32_40 : BitVec 32 := 0#32
  let c0_i32_9 : BitVec 32 := 0#32
  let c1_i32 : BitVec 32 := 1#32
  let arg15 : BitVec 32 := Scf.iv c0_i32_9 c1_i32 k0_t3
  let v73 : BitVec 32 := Scalar.addi c0_i32_40 arg15
  let c0_i32_42 : BitVec 32 := 0#32
  ![v73.toNat, 0]
@[reducible] def k0_t4_loop : Scf.Loop 32 :=
  let c0_i32_11 : BitVec 32 := 0#32
  let c512_i32 : BitVec 32 := 512#32
  let v22 : BitVec 32 := Scalar.addi c0_i32_11 c512_i32
  let c1_i32_12 : BitVec 32 := 1#32
  ⟨c0_i32_11, v22, c1_i32_12⟩
def k0_off8 (k0_t4 : Fin k0_t4_loop.trips) : Fin 2 → Nat :=
  let c1024_i32_40 : BitVec 32 := 1024#32
  let c0_i32_11 : BitVec 32 := 0#32
  let c1_i32_12 : BitVec 32 := 1#32
  let arg15 : BitVec 32 := Scf.iv c0_i32_11 c1_i32_12 k0_t4
  let v73 : BitVec 32 := Scalar.addi c1024_i32_40 arg15
  let c0_i32_42 : BitVec 32 := 0#32
  ![v73.toNat, 0]
def k0_off9 (i : grid0.Coords) : Fin 3 → Nat :=
  let arg1 : BitVec 32 := BitVec.ofNat 32 (i 1).val
  let v47 : Index := Scalar.indexCast arg1
  let c0_27 : Index := 0#32
  let c0_28 : Index := 0#32
  ![v47.toNat, 0, 0]
def k0_off10 (i : grid0.Coords) : Fin 3 → Nat :=
  let arg1 : BitVec 32 := BitVec.ofNat 32 (i 1).val
  let v69 : Index := Scalar.indexCast arg1
  let c768_38 : Index := 768#32
  let c0_39 : Index := 0#32
  ![v69.toNat, 768, 0]
def k0_cond3 (i : grid0.Coords) : BitVec 1 :=
  let arg1 : BitVec 32 := BitVec.ofNat 32 (i 1).val
  let c0_i32_4 : BitVec 32 := 0#32
  let v8 : BitVec 1 := Scalar.cmpi .sgt arg1 c0_i32_4
  let c4_i32 : BitVec 32 := 4#32
  let v9 : BitVec 1 := Scalar.cmpi .slt arg1 c4_i32
  let v10 : BitVec 1 := Scalar.andi v8 v9
  let v11 : BitVec 32 := Scalar.extui v10
  let c0_i32_5 : BitVec 32 := 0#32
  let v12 : BitVec 1 := Scalar.cmpi .ne v11 c0_i32_5
  v12

def k0_off11 (i : grid0.Coords) : Fin 3 → Nat :=
  let arg1 : BitVec 32 := BitVec.ofNat 32 (i 1).val
  let v34 : Index := Scalar.indexCast arg1
  let c0_17 : Index := 0#32
  let c0_18 : Index := 0#32
  ![v34.toNat, 0, 0]
def k0_off12 (i : grid0.Coords) : Fin 3 → Nat :=
  let arg1 : BitVec 32 := BitVec.ofNat 32 (i 1).val
  let v45 : Index := Scalar.indexCast arg1
  let c768_22 : Index := 768#32
  let c0_23 : Index := 0#32
  ![v45.toNat, 768, 0]
def k0_cond4 (i : grid0.Coords) : BitVec 1 :=
  let arg1 : BitVec 32 := BitVec.ofNat 32 (i 1).val
  let c4_i32_6 : BitVec 32 := 4#32
  let v13 : BitVec 1 := Scalar.cmpi .sge arg1 c4_i32_6
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c4_i32_10 : BitVec 32 := 4#32
  let v24 : BitVec 32 := Scalar.subi arg1 c4_i32_10
  let c0_i32_11 : BitVec 32 := 0#32
  let v25 : BitVec 1 := Scalar.cmpi .eq v24 c0_i32_11
  let v26 : BitVec 32 := Scalar.extui v25
  let c0_i32_12 : BitVec 32 := 0#32
  let v27 : BitVec 1 := Scalar.cmpi .ne v26 c0_i32_12
  v27

@[reducible] def k0_t5_loop : Scf.Loop 32 :=
  let c0_i32_43 : BitVec 32 := 0#32
  let c256_i32 : BitVec 32 := 256#32
  let v74 : BitVec 32 := Scalar.addi c0_i32_43 c256_i32
  let c1_i32_44 : BitVec 32 := 1#32
  ⟨c0_i32_43, v74, c1_i32_44⟩
def k0_off13 (i : grid0.Coords) (k0_t5 : Fin k0_t5_loop.trips) : Fin 1 → Nat :=
  let arg0 : BitVec 32 := BitVec.ofNat 32 (i 0).val
  let c1_i32 : BitVec 32 := 1#32
  let v21 : BitVec 32 := Scalar.addi arg0 c1_i32
  let c15_i32_9 : BitVec 32 := 15#32
  let v22 : BitVec 32 := Scalar.minsi v21 c15_i32_9
  let c1536_i32 : BitVec 32 := 1536#32
  let v23 : BitVec 32 := Scalar.muli v22 c1536_i32
  let c0_i32_49 : BitVec 32 := 0#32
  let c0_i32_43 : BitVec 32 := 0#32
  let c1_i32_44 : BitVec 32 := 1#32
  let arg15 : BitVec 32 := Scf.iv c0_i32_43 c1_i32_44 k0_t5
  let v76 : BitVec 32 := Scalar.addi c0_i32_49 arg15
  let v77 : BitVec 32 := Scalar.addi v23 v76
  let v78 : Index := Scalar.indexCast v77
  ![v78.toNat]
def k0_off14 (k0_t5 : Fin k0_t5_loop.trips) : Fin 2 → Nat :=
  let c0_i32_49 : BitVec 32 := 0#32
  let c0_i32_43 : BitVec 32 := 0#32
  let c1_i32_44 : BitVec 32 := 1#32
  let arg15 : BitVec 32 := Scf.iv c0_i32_43 c1_i32_44 k0_t5
  let v76 : BitVec 32 := Scalar.addi c0_i32_49 arg15
  let c0_i32_51 : BitVec 32 := 0#32
  ![v76.toNat, 0]
def k0_off15 (v79 : BitVec 32) : Fin 2 → Nat :=
  let c0_i32_52 : BitVec 32 := 0#32
  ![v79.toNat, 0]

def k0_chk3 (i : grid0.Coords) (v79 : BitVec 32) : Prop :=
  (∀ (k0_h4 : k0_cond4 i = 1#1), ∀ (k0_h5 : k0_cond5 i = 1#1), ∀ a, (k0_off15 v79) a + S1x1024.size a ≤ S8192x1024.size a)
theorem k0_off15_inb : ∀ (i : grid0.Coords) (v79 : BitVec 32) (k0_hw3 : k0_chk3 i v79), ∀ (k0_h4 : k0_cond4 i = 1#1), ∀ (k0_h5 : k0_cond5 i = 1#1), ∀ a, (k0_off15 v79) a + S1x1024.size a ≤ S8192x1024.size a := fun i v79 k0_hw3 k0_h4 k0_h5 => k0_hw3 k0_h4 k0_h5

@[reducible] def k0_t6_loop : Scf.Loop 32 :=
  let c0_i32_46 : BitVec 32 := 0#32
  let c128_i32 : BitVec 32 := 128#32
  let v75 : BitVec 32 := Scalar.addi c0_i32_46 c128_i32
  let c1_i32_47 : BitVec 32 := 1#32
  ⟨c0_i32_46, v75, c1_i32_47⟩
def k0_off16 (i : grid0.Coords) (k0_t6 : Fin k0_t6_loop.trips) : Fin 1 → Nat :=
  let arg0 : BitVec 32 := BitVec.ofNat 32 (i 0).val
  let c1_i32 : BitVec 32 := 1#32
  let v21 : BitVec 32 := Scalar.addi arg0 c1_i32
  let c15_i32_9 : BitVec 32 := 15#32
  let v22 : BitVec 32 := Scalar.minsi v21 c15_i32_9
  let c1536_i32 : BitVec 32 := 1536#32
  let v23 : BitVec 32 := Scalar.muli v22 c1536_i32
  let c1024_i32 : BitVec 32 := 1024#32
  let c0_i32_46 : BitVec 32 := 0#32
  let c1_i32_47 : BitVec 32 := 1#32
  let arg15 : BitVec 32 := Scf.iv c0_i32_46 c1_i32_47 k0_t6
  let v76 : BitVec 32 := Scalar.addi c1024_i32 arg15
  let v77 : BitVec 32 := Scalar.addi v23 v76
  let v78 : Index := Scalar.indexCast v77
  ![v78.toNat]
def k0_off17 (k0_t6 : Fin k0_t6_loop.trips) : Fin 2 → Nat :=
  let c1024_i32 : BitVec 32 := 1024#32
  let c0_i32_46 : BitVec 32 := 0#32
  let c1_i32_47 : BitVec 32 := 1#32
  let arg15 : BitVec 32 := Scf.iv c0_i32_46 c1_i32_47 k0_t6
  let v76 : BitVec 32 := Scalar.addi c1024_i32 arg15
  let c0_i32_50 : BitVec 32 := 0#32
  ![v76.toNat, 0]
def k0_off18 (v79 : BitVec 32) : Fin 2 → Nat :=
  let c0_i32_51 : BitVec 32 := 0#32
  ![v79.toNat, 0]

def k0_chk4 (i : grid0.Coords) (v79 : BitVec 32) : Prop :=
  (∀ (k0_h4 : k0_cond4 i = 1#1), ∀ (k0_h5 : k0_cond5 i = 1#1), ∀ a, (k0_off18 v79) a + S1x1024.size a ≤ S4096x1024.size a)
theorem k0_off18_inb : ∀ (i : grid0.Coords) (v79 : BitVec 32) (k0_hw4 : k0_chk4 i v79), ∀ (k0_h4 : k0_cond4 i = 1#1), ∀ (k0_h5 : k0_cond5 i = 1#1), ∀ a, (k0_off18 v79) a + S1x1024.size a ≤ S4096x1024.size a := fun i v79 k0_hw4 k0_h4 k0_h5 => k0_hw4 k0_h4 k0_h5

def k0_cond6 (i : grid0.Coords) : BitVec 1 :=
  let arg1 : BitVec 32 := BitVec.ofNat 32 (i 1).val
  let c4_i32_13 : BitVec 32 := 4#32
  let v28 : BitVec 32 := Scalar.subi arg1 c4_i32_13
  let c1_i32_14 : BitVec 32 := 1#32
  let v29 : BitVec 1 := Scalar.cmpi .eq v28 c1_i32_14
  let v30 : BitVec 32 := Scalar.extui v29
  let c0_i32_15 : BitVec 32 := 0#32
  let v31 : BitVec 1 := Scalar.cmpi .ne v30 c0_i32_15
  v31

@[reducible] def k0_t7_loop : Scf.Loop 32 :=
  let c0_i32_43 : BitVec 32 := 0#32
  let c256_i32 : BitVec 32 := 256#32
  let v74 : BitVec 32 := Scalar.addi c0_i32_43 c256_i32
  let c1_i32_44 : BitVec 32 := 1#32
  ⟨c0_i32_43, v74, c1_i32_44⟩
def k0_off19 (i : grid0.Coords) (k0_t7 : Fin k0_t7_loop.trips) : Fin 1 → Nat :=
  let arg0 : BitVec 32 := BitVec.ofNat 32 (i 0).val
  let c1_i32 : BitVec 32 := 1#32
  let v21 : BitVec 32 := Scalar.addi arg0 c1_i32
  let c15_i32_9 : BitVec 32 := 15#32
  let v22 : BitVec 32 := Scalar.minsi v21 c15_i32_9
  let c1536_i32 : BitVec 32 := 1536#32
  let v23 : BitVec 32 := Scalar.muli v22 c1536_i32
  let c256_i32_49 : BitVec 32 := 256#32
  let c0_i32_43 : BitVec 32 := 0#32
  let c1_i32_44 : BitVec 32 := 1#32
  let arg15 : BitVec 32 := Scf.iv c0_i32_43 c1_i32_44 k0_t7
  let v76 : BitVec 32 := Scalar.addi c256_i32_49 arg15
  let v77 : BitVec 32 := Scalar.addi v23 v76
  let v78 : Index := Scalar.indexCast v77
  ![v78.toNat]
def k0_off20 (k0_t7 : Fin k0_t7_loop.trips) : Fin 2 → Nat :=
  let c256_i32_49 : BitVec 32 := 256#32
  let c0_i32_43 : BitVec 32 := 0#32
  let c1_i32_44 : BitVec 32 := 1#32
  let arg15 : BitVec 32 := Scf.iv c0_i32_43 c1_i32_44 k0_t7
  let v76 : BitVec 32 := Scalar.addi c256_i32_49 arg15
  let c0_i32_51 : BitVec 32 := 0#32
  ![v76.toNat, 0]
def k0_off21 (v79 : BitVec 32) : Fin 2 → Nat :=
  let c0_i32_52 : BitVec 32 := 0#32
  ![v79.toNat, 0]

def k0_chk5 (i : grid0.Coords) (v79 : BitVec 32) : Prop :=
  (∀ (k0_h4 : k0_cond4 i = 1#1), ∀ (k0_h6 : k0_cond6 i = 1#1), ∀ a, (k0_off21 v79) a + S1x1024.size a ≤ S8192x1024.size a)
theorem k0_off21_inb : ∀ (i : grid0.Coords) (v79 : BitVec 32) (k0_hw5 : k0_chk5 i v79), ∀ (k0_h4 : k0_cond4 i = 1#1), ∀ (k0_h6 : k0_cond6 i = 1#1), ∀ a, (k0_off21 v79) a + S1x1024.size a ≤ S8192x1024.size a := fun i v79 k0_hw5 k0_h4 k0_h6 => k0_hw5 k0_h4 k0_h6

@[reducible] def k0_t8_loop : Scf.Loop 32 :=
  let c0_i32_46 : BitVec 32 := 0#32
  let c128_i32 : BitVec 32 := 128#32
  let v75 : BitVec 32 := Scalar.addi c0_i32_46 c128_i32
  let c1_i32_47 : BitVec 32 := 1#32
  ⟨c0_i32_46, v75, c1_i32_47⟩
def k0_off22 (i : grid0.Coords) (k0_t8 : Fin k0_t8_loop.trips) : Fin 1 → Nat :=
  let arg0 : BitVec 32 := BitVec.ofNat 32 (i 0).val
  let c1_i32 : BitVec 32 := 1#32
  let v21 : BitVec 32 := Scalar.addi arg0 c1_i32
  let c15_i32_9 : BitVec 32 := 15#32
  let v22 : BitVec 32 := Scalar.minsi v21 c15_i32_9
  let c1536_i32 : BitVec 32 := 1536#32
  let v23 : BitVec 32 := Scalar.muli v22 c1536_i32
  let c1152_i32 : BitVec 32 := 1152#32
  let c0_i32_46 : BitVec 32 := 0#32
  let c1_i32_47 : BitVec 32 := 1#32
  let arg15 : BitVec 32 := Scf.iv c0_i32_46 c1_i32_47 k0_t8
  let v76 : BitVec 32 := Scalar.addi c1152_i32 arg15
  let v77 : BitVec 32 := Scalar.addi v23 v76
  let v78 : Index := Scalar.indexCast v77
  ![v78.toNat]
def k0_off23 (k0_t8 : Fin k0_t8_loop.trips) : Fin 2 → Nat :=
  let c1152_i32 : BitVec 32 := 1152#32
  let c0_i32_46 : BitVec 32 := 0#32
  let c1_i32_47 : BitVec 32 := 1#32
  let arg15 : BitVec 32 := Scf.iv c0_i32_46 c1_i32_47 k0_t8
  let v76 : BitVec 32 := Scalar.addi c1152_i32 arg15
  let c0_i32_50 : BitVec 32 := 0#32
  ![v76.toNat, 0]
def k0_off24 (v79 : BitVec 32) : Fin 2 → Nat :=
  let c0_i32_51 : BitVec 32 := 0#32
  ![v79.toNat, 0]

def k0_chk6 (i : grid0.Coords) (v79 : BitVec 32) : Prop :=
  (∀ (k0_h4 : k0_cond4 i = 1#1), ∀ (k0_h6 : k0_cond6 i = 1#1), ∀ a, (k0_off24 v79) a + S1x1024.size a ≤ S4096x1024.size a)
theorem k0_off24_inb : ∀ (i : grid0.Coords) (v79 : BitVec 32) (k0_hw6 : k0_chk6 i v79), ∀ (k0_h4 : k0_cond4 i = 1#1), ∀ (k0_h6 : k0_cond6 i = 1#1), ∀ a, (k0_off24 v79) a + S1x1024.size a ≤ S4096x1024.size a := fun i v79 k0_hw6 k0_h4 k0_h6 => k0_hw6 k0_h4 k0_h6

def k0_cond7 (i : grid0.Coords) : BitVec 1 :=
  let arg1 : BitVec 32 := BitVec.ofNat 32 (i 1).val
  let c4_i32_16 : BitVec 32 := 4#32
  let v32 : BitVec 32 := Scalar.subi arg1 c4_i32_16
  let c2_i32 : BitVec 32 := 2#32
  let v33 : BitVec 1 := Scalar.cmpi .eq v32 c2_i32
  let v34 : BitVec 32 := Scalar.extui v33
  let c0_i32_17 : BitVec 32 := 0#32
  let v35 : BitVec 1 := Scalar.cmpi .ne v34 c0_i32_17
  v35

@[reducible] def k0_t9_loop : Scf.Loop 32 :=
  let c0_i32_43 : BitVec 32 := 0#32
  let c256_i32 : BitVec 32 := 256#32
  let v74 : BitVec 32 := Scalar.addi c0_i32_43 c256_i32
  let c1_i32_44 : BitVec 32 := 1#32
  ⟨c0_i32_43, v74, c1_i32_44⟩
def k0_off25 (i : grid0.Coords) (k0_t9 : Fin k0_t9_loop.trips) : Fin 1 → Nat :=
  let arg0 : BitVec 32 := BitVec.ofNat 32 (i 0).val
  let c1_i32 : BitVec 32 := 1#32
  let v21 : BitVec 32 := Scalar.addi arg0 c1_i32
  let c15_i32_9 : BitVec 32 := 15#32
  let v22 : BitVec 32 := Scalar.minsi v21 c15_i32_9
  let c1536_i32 : BitVec 32 := 1536#32
  let v23 : BitVec 32 := Scalar.muli v22 c1536_i32
  let c512_i32 : BitVec 32 := 512#32
  let c0_i32_43 : BitVec 32 := 0#32
  let c1_i32_44 : BitVec 32 := 1#32
  let arg15 : BitVec 32 := Scf.iv c0_i32_43 c1_i32_44 k0_t9
  let v76 : BitVec 32 := Scalar.addi c512_i32 arg15
  let v77 : BitVec 32 := Scalar.addi v23 v76
  let v78 : Index := Scalar.indexCast v77
  ![v78.toNat]
def k0_off26 (k0_t9 : Fin k0_t9_loop.trips) : Fin 2 → Nat :=
  let c512_i32 : BitVec 32 := 512#32
  let c0_i32_43 : BitVec 32 := 0#32
  let c1_i32_44 : BitVec 32 := 1#32
  let arg15 : BitVec 32 := Scf.iv c0_i32_43 c1_i32_44 k0_t9
  let v76 : BitVec 32 := Scalar.addi c512_i32 arg15
  let c0_i32_50 : BitVec 32 := 0#32
  ![v76.toNat, 0]
def k0_off27 (v79 : BitVec 32) : Fin 2 → Nat :=
  let c0_i32_51 : BitVec 32 := 0#32
  ![v79.toNat, 0]

def k0_chk7 (i : grid0.Coords) (v79 : BitVec 32) : Prop :=
  (∀ (k0_h4 : k0_cond4 i = 1#1), ∀ (k0_h7 : k0_cond7 i = 1#1), ∀ a, (k0_off27 v79) a + S1x1024.size a ≤ S8192x1024.size a)
theorem k0_off27_inb : ∀ (i : grid0.Coords) (v79 : BitVec 32) (k0_hw7 : k0_chk7 i v79), ∀ (k0_h4 : k0_cond4 i = 1#1), ∀ (k0_h7 : k0_cond7 i = 1#1), ∀ a, (k0_off27 v79) a + S1x1024.size a ≤ S8192x1024.size a := fun i v79 k0_hw7 k0_h4 k0_h7 => k0_hw7 k0_h4 k0_h7

@[reducible] def k0_t10_loop : Scf.Loop 32 :=
  let c0_i32_46 : BitVec 32 := 0#32
  let c128_i32 : BitVec 32 := 128#32
  let v75 : BitVec 32 := Scalar.addi c0_i32_46 c128_i32
  let c1_i32_47 : BitVec 32 := 1#32
  ⟨c0_i32_46, v75, c1_i32_47⟩
def k0_off28 (i : grid0.Coords) (k0_t10 : Fin k0_t10_loop.trips) : Fin 1 → Nat :=
  let arg0 : BitVec 32 := BitVec.ofNat 32 (i 0).val
  let c1_i32 : BitVec 32 := 1#32
  let v21 : BitVec 32 := Scalar.addi arg0 c1_i32
  let c15_i32_9 : BitVec 32 := 15#32
  let v22 : BitVec 32 := Scalar.minsi v21 c15_i32_9
  let c1536_i32 : BitVec 32 := 1536#32
  let v23 : BitVec 32 := Scalar.muli v22 c1536_i32
  let c1280_i32 : BitVec 32 := 1280#32
  let c0_i32_46 : BitVec 32 := 0#32
  let c1_i32_47 : BitVec 32 := 1#32
  let arg15 : BitVec 32 := Scf.iv c0_i32_46 c1_i32_47 k0_t10
  let v76 : BitVec 32 := Scalar.addi c1280_i32 arg15
  let v77 : BitVec 32 := Scalar.addi v23 v76
  let v78 : Index := Scalar.indexCast v77
  ![v78.toNat]
def k0_off29 (k0_t10 : Fin k0_t10_loop.trips) : Fin 2 → Nat :=
  let c1280_i32 : BitVec 32 := 1280#32
  let c0_i32_46 : BitVec 32 := 0#32
  let c1_i32_47 : BitVec 32 := 1#32
  let arg15 : BitVec 32 := Scf.iv c0_i32_46 c1_i32_47 k0_t10
  let v76 : BitVec 32 := Scalar.addi c1280_i32 arg15
  let c0_i32_50 : BitVec 32 := 0#32
  ![v76.toNat, 0]
def k0_off30 (v79 : BitVec 32) : Fin 2 → Nat :=
  let c0_i32_51 : BitVec 32 := 0#32
  ![v79.toNat, 0]

def k0_chk8 (i : grid0.Coords) (v79 : BitVec 32) : Prop :=
  (∀ (k0_h4 : k0_cond4 i = 1#1), ∀ (k0_h7 : k0_cond7 i = 1#1), ∀ a, (k0_off30 v79) a + S1x1024.size a ≤ S4096x1024.size a)
theorem k0_off30_inb : ∀ (i : grid0.Coords) (v79 : BitVec 32) (k0_hw8 : k0_chk8 i v79), ∀ (k0_h4 : k0_cond4 i = 1#1), ∀ (k0_h7 : k0_cond7 i = 1#1), ∀ a, (k0_off30 v79) a + S1x1024.size a ≤ S4096x1024.size a := fun i v79 k0_hw8 k0_h4 k0_h7 => k0_hw8 k0_h4 k0_h7

def k0_cond8 (i : grid0.Coords) : BitVec 1 :=
  let arg1 : BitVec 32 := BitVec.ofNat 32 (i 1).val
  let c4_i32_18 : BitVec 32 := 4#32
  let v36 : BitVec 32 := Scalar.subi arg1 c4_i32_18
  let c3_i32 : BitVec 32 := 3#32
  let v37 : BitVec 1 := Scalar.cmpi .eq v36 c3_i32
  let v38 : BitVec 32 := Scalar.extui v37
  let c0_i32_19 : BitVec 32 := 0#32
  let v39 : BitVec 1 := Scalar.cmpi .ne v38 c0_i32_19
  v39

@[reducible] def k0_t11_loop : Scf.Loop 32 :=
  let c0_i32_43 : BitVec 32 := 0#32
  let c256_i32 : BitVec 32 := 256#32
  let v74 : BitVec 32 := Scalar.addi c0_i32_43 c256_i32
  let c1_i32_44 : BitVec 32 := 1#32
  ⟨c0_i32_43, v74, c1_i32_44⟩
def k0_off31 (i : grid0.Coords) (k0_t11 : Fin k0_t11_loop.trips) : Fin 1 → Nat :=
  let arg0 : BitVec 32 := BitVec.ofNat 32 (i 0).val
  let c1_i32 : BitVec 32 := 1#32
  let v21 : BitVec 32 := Scalar.addi arg0 c1_i32
  let c15_i32_9 : BitVec 32 := 15#32
  let v22 : BitVec 32 := Scalar.minsi v21 c15_i32_9
  let c1536_i32 : BitVec 32 := 1536#32
  let v23 : BitVec 32 := Scalar.muli v22 c1536_i32
  let c768_i32 : BitVec 32 := 768#32
  let c0_i32_43 : BitVec 32 := 0#32
  let c1_i32_44 : BitVec 32 := 1#32
  let arg15 : BitVec 32 := Scf.iv c0_i32_43 c1_i32_44 k0_t11
  let v76 : BitVec 32 := Scalar.addi c768_i32 arg15
  let v77 : BitVec 32 := Scalar.addi v23 v76
  let v78 : Index := Scalar.indexCast v77
  ![v78.toNat]
def k0_off32 (k0_t11 : Fin k0_t11_loop.trips) : Fin 2 → Nat :=
  let c768_i32 : BitVec 32 := 768#32
  let c0_i32_43 : BitVec 32 := 0#32
  let c1_i32_44 : BitVec 32 := 1#32
  let arg15 : BitVec 32 := Scf.iv c0_i32_43 c1_i32_44 k0_t11
  let v76 : BitVec 32 := Scalar.addi c768_i32 arg15
  let c0_i32_50 : BitVec 32 := 0#32
  ![v76.toNat, 0]
def k0_off33 (v79 : BitVec 32) : Fin 2 → Nat :=
  let c0_i32_51 : BitVec 32 := 0#32
  ![v79.toNat, 0]

def k0_chk9 (i : grid0.Coords) (v79 : BitVec 32) : Prop :=
  (∀ (k0_h4 : k0_cond4 i = 1#1), ∀ (k0_h8 : k0_cond8 i = 1#1), ∀ a, (k0_off33 v79) a + S1x1024.size a ≤ S8192x1024.size a)
theorem k0_off33_inb : ∀ (i : grid0.Coords) (v79 : BitVec 32) (k0_hw9 : k0_chk9 i v79), ∀ (k0_h4 : k0_cond4 i = 1#1), ∀ (k0_h8 : k0_cond8 i = 1#1), ∀ a, (k0_off33 v79) a + S1x1024.size a ≤ S8192x1024.size a := fun i v79 k0_hw9 k0_h4 k0_h8 => k0_hw9 k0_h4 k0_h8

@[reducible] def k0_t12_loop : Scf.Loop 32 :=
  let c0_i32_46 : BitVec 32 := 0#32
  let c128_i32 : BitVec 32 := 128#32
  let v75 : BitVec 32 := Scalar.addi c0_i32_46 c128_i32
  let c1_i32_47 : BitVec 32 := 1#32
  ⟨c0_i32_46, v75, c1_i32_47⟩
def k0_off34 (i : grid0.Coords) (k0_t12 : Fin k0_t12_loop.trips) : Fin 1 → Nat :=
  let arg0 : BitVec 32 := BitVec.ofNat 32 (i 0).val
  let c1_i32 : BitVec 32 := 1#32
  let v21 : BitVec 32 := Scalar.addi arg0 c1_i32
  let c15_i32_9 : BitVec 32 := 15#32
  let v22 : BitVec 32 := Scalar.minsi v21 c15_i32_9
  let c1536_i32 : BitVec 32 := 1536#32
  let v23 : BitVec 32 := Scalar.muli v22 c1536_i32
  let c1408_i32 : BitVec 32 := 1408#32
  let c0_i32_46 : BitVec 32 := 0#32
  let c1_i32_47 : BitVec 32 := 1#32
  let arg15 : BitVec 32 := Scf.iv c0_i32_46 c1_i32_47 k0_t12
  let v76 : BitVec 32 := Scalar.addi c1408_i32 arg15
  let v77 : BitVec 32 := Scalar.addi v23 v76
  let v78 : Index := Scalar.indexCast v77
  ![v78.toNat]
def k0_off35 (k0_t12 : Fin k0_t12_loop.trips) : Fin 2 → Nat :=
  let c1408_i32 : BitVec 32 := 1408#32
  let c0_i32_46 : BitVec 32 := 0#32
  let c1_i32_47 : BitVec 32 := 1#32
  let arg15 : BitVec 32 := Scf.iv c0_i32_46 c1_i32_47 k0_t12
  let v76 : BitVec 32 := Scalar.addi c1408_i32 arg15
  let c0_i32_50 : BitVec 32 := 0#32
  ![v76.toNat, 0]
def k0_off36 (v79 : BitVec 32) : Fin 2 → Nat :=
  let c0_i32_51 : BitVec 32 := 0#32
  ![v79.toNat, 0]

def k0_chk10 (i : grid0.Coords) (v79 : BitVec 32) : Prop :=
  (∀ (k0_h4 : k0_cond4 i = 1#1), ∀ (k0_h8 : k0_cond8 i = 1#1), ∀ a, (k0_off36 v79) a + S1x1024.size a ≤ S4096x1024.size a)
theorem k0_off36_inb : ∀ (i : grid0.Coords) (v79 : BitVec 32) (k0_hw10 : k0_chk10 i v79), ∀ (k0_h4 : k0_cond4 i = 1#1), ∀ (k0_h8 : k0_cond8 i = 1#1), ∀ a, (k0_off36 v79) a + S1x1024.size a ≤ S4096x1024.size a := fun i v79 k0_hw10 k0_h4 k0_h8 => k0_hw10 k0_h4 k0_h8

def k0_cond9 (i : grid0.Coords) : BitVec 1 :=
  let arg0 : BitVec 32 := BitVec.ofNat 32 (i 0).val
  let c15_i32 : BitVec 32 := 15#32
  let v16 : BitVec 1 := Scalar.cmpi .eq arg0 c15_i32
  let arg1 : BitVec 32 := BitVec.ofNat 32 (i 1).val
  let c7_i32 : BitVec 32 := 7#32
  let v17 : BitVec 1 := Scalar.cmpi .eq arg1 c7_i32
  let v18 : BitVec 1 := Scalar.andi v16 v17
  let v19 : BitVec 32 := Scalar.extui v18
  let c0_i32_8 : BitVec 32 := 0#32
  let v20 : BitVec 1 := Scalar.cmpi .ne v19 c0_i32_8
  v20

@[reducible] def k0_t13_loop : Scf.Loop 32 :=
  let c0_i32_9 : BitVec 32 := 0#32
  let c1024_i32 : BitVec 32 := 1024#32
  let v21 : BitVec 32 := Scalar.addi c0_i32_9 c1024_i32
  let c1_i32 : BitVec 32 := 1#32
  ⟨c0_i32_9, v21, c1_i32⟩
def k0_off37 (k0_t13 : Fin k0_t13_loop.trips) : Fin 2 → Nat :=
  let c0_i32_14 : BitVec 32 := 0#32
  let c0_i32_9 : BitVec 32 := 0#32
  let c1_i32 : BitVec 32 := 1#32
  let arg15 : BitVec 32 := Scf.iv c0_i32_9 c1_i32 k0_t13
  let v23 : BitVec 32 := Scalar.addi c0_i32_14 arg15
  let c0_i32_16 : BitVec 32 := 0#32
  ![v23.toNat, 0]
@[reducible] def k0_t14_loop : Scf.Loop 32 :=
  let c0_i32_11 : BitVec 32 := 0#32
  let c512_i32 : BitVec 32 := 512#32
  let v22 : BitVec 32 := Scalar.addi c0_i32_11 c512_i32
  let c1_i32_12 : BitVec 32 := 1#32
  ⟨c0_i32_11, v22, c1_i32_12⟩
def k0_off38 (k0_t14 : Fin k0_t14_loop.trips) : Fin 2 → Nat :=
  let c1024_i32_14 : BitVec 32 := 1024#32
  let c0_i32_11 : BitVec 32 := 0#32
  let c1_i32_12 : BitVec 32 := 1#32
  let arg15 : BitVec 32 := Scf.iv c0_i32_11 c1_i32_12 k0_t14
  let v23 : BitVec 32 := Scalar.addi c1024_i32_14 arg15
  let c0_i32_16 : BitVec 32 := 0#32
  ![v23.toNat, 0]
def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

abbrev stage0_0 : Fin 2 → Memref sig .tc .vmem S1x1536x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16x1024 : Shape := ⟨2, ![16, 1024]⟩
abbrev S16x512 : Shape := ⟨2, ![16, 512]⟩
abbrev S8192x1024 : Shape := ⟨2, ![8192, 1024]⟩
abbrev S4096x1024 : Shape := ⟨2, ![4096, 1024]⟩
abbrev S16x2048x2048 : Shape := ⟨3, ![16, 2048, 2048]⟩
abbrev S_ : Shape := ⟨0, ![]⟩
abbrev S8192x2048 : Shape := ⟨2, ![8192, 2048]⟩
abbrev S16x1024x1 : Shape := ⟨3, ![16, 1024, 1]⟩
abbrev S16x1024x2048 : Shape := ⟨3, ![16, 1024, 2048]⟩
abbrev S4096x2048 : Shape := ⟨2, ![4096, 2048]⟩
abbrev S16x512x1 : Shape := ⟨3, ![16, 512, 1]⟩
abbrev S16x512x2048 : Shape := ⟨3, ![16, 512, 2048]⟩

abbrev nBuf : Space → Nat
  | .hbm => 77
  | .vmem => 0
  | .smem => 0
  | _ => 0

abbrev bufTy : (tb : Table) → Fin (tcTables nBuf tb) → BufTy
  | .hbm, ⟨0, _⟩ => ⟨S16x1024, .i32⟩
  | .hbm, ⟨1, _⟩ => ⟨S16x512, .i32⟩
  | .hbm, ⟨2, _⟩ => ⟨S8192x1024, .i32⟩
  | .hbm, ⟨3, _⟩ => ⟨S4096x1024, .i32⟩
  | .hbm, ⟨4, _⟩ => ⟨S16x1024, .f32⟩
  | .hbm, ⟨5, _⟩ => ⟨S16x512, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S_, .i32⟩
  | .hbm, ⟨10, _⟩ => ⟨S8192x1024, .i32⟩
  | .hbm, ⟨11, _⟩ => ⟨S8192x1024, .i32⟩
  | .hbm, ⟨12, _⟩ => ⟨S8192x1024, .f32⟩
  | .hbm, ⟨13, _⟩ => ⟨S_, .i32⟩
  | .hbm, ⟨14, _⟩ => ⟨S8192x1024, .i32⟩
  | .hbm, ⟨15, _⟩ => ⟨S8192x1024, .i32⟩
  | .hbm, ⟨16, _⟩ => ⟨S8192x1024, .f32⟩
  | .hbm, ⟨17, _⟩ => ⟨S8192x2048, .f32⟩
  | .hbm, ⟨18, _⟩ => ⟨S_, .i32⟩
  | .hbm, ⟨19, _⟩ => ⟨S16x1024, .i32⟩
  | .hbm, ⟨20, _⟩ => ⟨S16x1024, .i1⟩
  | .hbm, ⟨21, _⟩ => ⟨S_, .i32⟩
  | .hbm, ⟨22, _⟩ => ⟨S16x1024, .i32⟩
  | .hbm, ⟨23, _⟩ => ⟨S16x1024, .i32⟩
  | .hbm, ⟨24, _⟩ => ⟨S16x1024, .i32⟩
  | .hbm, ⟨25, _⟩ => ⟨S16x1024x1, .i32⟩
  | .hbm, ⟨26, _⟩ => ⟨S16x1024x2048, .f32⟩
  | .hbm, ⟨27, _⟩ => ⟨S16x1024x2048, .f32⟩
  | .hbm, ⟨28, _⟩ => ⟨S16x1024x2048, .f32⟩
  | .hbm, ⟨29, _⟩ => ⟨S16x1024x2048, .f32⟩
  | .hbm, ⟨30, _⟩ => ⟨S_, .f32⟩
  | .hbm, ⟨31, _⟩ => ⟨S16x1024x2048, .f32⟩
  | .hbm, ⟨32, _⟩ => ⟨S16x1024x2048, .f32⟩
  | .hbm, ⟨33, _⟩ => ⟨S_, .f32⟩
  | .hbm, ⟨34, _⟩ => ⟨S16x1024x2048, .f32⟩
  | .hbm, ⟨35, _⟩ => ⟨S16x1024x2048, .f32⟩
  | .hbm, ⟨36, _⟩ => ⟨S16x1024x2048, .f32⟩
  | .hbm, ⟨37, _⟩ => ⟨S16x1024x2048, .f32⟩
  | .hbm, ⟨38, _⟩ => ⟨S16x1024x2048, .f32⟩
  | .hbm, ⟨39, _⟩ => ⟨S16x1024x2048, .f32⟩
  | .hbm, ⟨40, _⟩ => ⟨S16x1024x1, .f32⟩
  | .hbm, ⟨41, _⟩ => ⟨S16x1024x2048, .f32⟩
  | .hbm, ⟨42, _⟩ => ⟨S16x1024x2048, .f32⟩
  | .hbm, ⟨43, _⟩ => ⟨S_, .i32⟩
  | .hbm, ⟨44, _⟩ => ⟨S4096x1024, .i32⟩
  | .hbm, ⟨45, _⟩ => ⟨S4096x1024, .i32⟩
  | .hbm, ⟨46, _⟩ => ⟨S4096x1024, .f32⟩
  | .hbm, ⟨47, _⟩ => ⟨S_, .i32⟩
  | .hbm, ⟨48, _⟩ => ⟨S4096x1024, .i32⟩
  | .hbm, ⟨49, _⟩ => ⟨S4096x1024, .i32⟩
  | .hbm, ⟨50, _⟩ => ⟨S4096x1024, .f32⟩
  | .hbm, ⟨51, _⟩ => ⟨S4096x2048, .f32⟩
  | .hbm, ⟨52, _⟩ => ⟨S_, .i32⟩
  | .hbm, ⟨53, _⟩ => ⟨S16x512, .i32⟩
  | .hbm, ⟨54, _⟩ => ⟨S16x512, .i1⟩
  | .hbm, ⟨55, _⟩ => ⟨S_, .i32⟩
  | .hbm, ⟨56, _⟩ => ⟨S16x512, .i32⟩
  | .hbm, ⟨57, _⟩ => ⟨S16x512, .i32⟩
  | .hbm, ⟨58, _⟩ => ⟨S16x512, .i32⟩
  | .hbm, ⟨59, _⟩ => ⟨S16x512x1, .i32⟩
  | .hbm, ⟨60, _⟩ => ⟨S16x512x2048, .f32⟩
  | .hbm, ⟨61, _⟩ => ⟨S16x512x2048, .f32⟩
  | .hbm, ⟨62, _⟩ => ⟨S16x512x2048, .f32⟩
  | .hbm, ⟨63, _⟩ => ⟨S16x512x2048, .f32⟩
  | .hbm, ⟨64, _⟩ => ⟨S_, .f32⟩
  | .hbm, ⟨65, _⟩ => ⟨S16x512x2048, .f32⟩
  | .hbm, ⟨66, _⟩ => ⟨S16x512x2048, .f32⟩
  | .hbm, ⟨67, _⟩ => ⟨S_, .f32⟩
  | .hbm, ⟨68, _⟩ => ⟨S16x512x2048, .f32⟩
  | .hbm, ⟨69, _⟩ => ⟨S16x512x2048, .f32⟩
  | .hbm, ⟨70, _⟩ => ⟨S16x512x2048, .f32⟩
  | .hbm, ⟨71, _⟩ => ⟨S16x512x2048, .f32⟩
  | .hbm, ⟨72, _⟩ => ⟨S16x512x2048, .f32⟩
  | .hbm, ⟨73, _⟩ => ⟨S16x512x2048, .f32⟩
  | .hbm, ⟨74, _⟩ => ⟨S16x512x1, .f32⟩
  | .hbm, ⟨75, _⟩ => ⟨S16x512x2048, .f32⟩
  | .hbm, ⟨76, _⟩ => ⟨S16x512x2048, .f32⟩
  | _, _ => ⟨S16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩

abbrev nD : Nat := 1
abbrev τ : Topo := Topo.v7x

variable {F : FTy → Type} [FloatOps F]
-- ==== Kernel2.lean ====
abbrev S8192x5120 : Shape := ⟨2, ![8192, 5120]⟩
abbrev S8192x1024 : Shape := ⟨2, ![8192, 1024]⟩
abbrev S32x1x16x256x64 : Shape := ⟨5, ![32, 1, 16, 256, 64]⟩
abbrev S256x1024 : Shape := ⟨2, ![256, 1024]⟩
abbrev S1x1x16x256x64 : Shape := ⟨5, ![1, 1, 16, 256, 64]⟩
abbrev S1x128 : Shape := ⟨2, ![1, 128]⟩
abbrev S256x128 : Shape := ⟨2, ![256, 128]⟩
abbrev S256x64 : Shape := ⟨2, ![256, 64]⟩
abbrev S1x1x1x256x64 : Shape := ⟨5, ![1, 1, 1, 256, 64]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S8192x5120, .f32⟩
  | .hbm, ⟨1, _⟩ => ⟨S8192x1024, .bf16⟩
  | .hbm, ⟨2, _⟩ => ⟨S32x1x16x256x64, .f32⟩
  | .hbm, ⟨3, _⟩ => ⟨S32x1x16x256x64, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1x1x16x256x64, .f32⟩
  | .local _ .vmem, ⟨9, _⟩ => ⟨S1x1x16x256x64, .f32⟩
  | .local _ .vmem, ⟨10, _⟩ => ⟨S1x1x16x256x64, .f32⟩
  | .local _ .vmem, ⟨11, _⟩ => ⟨S1x1x16x256x64, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x16x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8192x5120 : Shape := ⟨2, ![8192, 5120]⟩
abbrev S8192x1024 : Shape := ⟨2, ![8192, 1024]⟩
abbrev S32x256x16x64 : Shape := ⟨4, ![32, 256, 16, 64]⟩
abbrev S32x16x256x64 : Shape := ⟨4, ![32, 16, 256, 64]⟩
abbrev S32x16x256x256 : Shape := ⟨4, ![32, 16, 256, 256]⟩
abbrev S_ : Shape := ⟨0, ![]⟩
abbrev S32x16x256 : Shape := ⟨3, ![32, 16, 256]⟩
abbrev S32x16x256x1 : Shape := ⟨4, ![32, 16, 256, 1]⟩
abbrev S32x1x16x256x64 : Shape := ⟨5, ![32, 1, 16, 256, 64]⟩

abbrev nBuf : Space → Nat
  | .hbm => 34
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S8192x1024, .f32⟩
  | .hbm, ⟨2, _⟩ => ⟨S32x256x16x64, .f32⟩
  | .hbm, ⟨3, _⟩ => ⟨S32x16x256x64, .f32⟩
  | .hbm, ⟨4, _⟩ => ⟨S8192x1024, .f32⟩
  | .hbm, ⟨5, _⟩ => ⟨S32x256x16x64, .f32⟩
  | .hbm, ⟨6, _⟩ => ⟨S32x16x256x64, .f32⟩
  | .hbm, ⟨7, _⟩ => ⟨S8192x1024, .f32⟩
  | .hbm, ⟨8, _⟩ => ⟨S32x256x16x64, .f32⟩
  | .hbm, ⟨9, _⟩ => ⟨S32x16x256x64, .f32⟩
  | .hbm, ⟨10, _⟩ => ⟨S32x16x256x256, .f32⟩
  | .hbm, ⟨11, _⟩ => ⟨S_, .f32⟩
  | .hbm, ⟨12, _⟩ => ⟨S32x16x256x256, .f32⟩
  | .hbm, ⟨13, _⟩ => ⟨S32x16x256x256, .f32⟩
  | .hbm, ⟨14, _⟩ => ⟨S_, .f32⟩
  | .hbm, ⟨15, _⟩ => ⟨S32x16x256, .f32⟩
  | .hbm, ⟨16, _⟩ => ⟨S_, .f32⟩
  | .hbm, ⟨17, _⟩ => ⟨S32x16x256, .f32⟩
  | .hbm, ⟨18, _⟩ => ⟨S32x16x256, .f32⟩
  | .hbm, ⟨19, _⟩ => ⟨S32x16x256x1, .f32⟩
  | .hbm, ⟨20, _⟩ => ⟨S32x16x256x256, .f32⟩
  | .hbm, ⟨21, _⟩ => ⟨S32x16x256x256, .f32⟩
  | .hbm, ⟨22, _⟩ => ⟨S32x16x256x256, .f32⟩
  | .hbm, ⟨23, _⟩ => ⟨S_, .f32⟩
  | .hbm, ⟨24, _⟩ => ⟨S32x16x256, .f32⟩
  | .hbm, ⟨25, _⟩ => ⟨S32x16x256x1, .f32⟩
  | .hbm, ⟨26, _⟩ => ⟨S32x16x256x256, .f32⟩
  | .hbm, ⟨27, _⟩ => ⟨S32x16x256x256, .f32⟩
  | .hbm, ⟨28, _⟩ => ⟨S32x16x256x64, .f32⟩
  | .hbm, ⟨29, _⟩ => ⟨S32x256x16x64, .f32⟩
  | .hbm, ⟨30, _⟩ => ⟨S8192x1024, .f32⟩
  | .hbm, ⟨31, _⟩ => ⟨S8192x1024, .bf16⟩
  | .hbm, ⟨32, _⟩ => ⟨S32x1x16x256x64, .f32⟩
  | .hbm, ⟨33, _⟩ => ⟨S32x1x16x256x64, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Kernel3.lean ====
abbrev S8192x1024 : Shape := ⟨2, ![8192, 1024]⟩
abbrev S2048x2048 : Shape := ⟨2, ![2048, 2048]⟩
abbrev S32x256x2048 : Shape := ⟨3, ![32, 256, 2048]⟩
abbrev S8x6x2048 : Shape := ⟨3, ![8, 6, 2048]⟩
abbrev S2048 : Shape := ⟨1, ![2048]⟩
abbrev S2048x16 : Shape := ⟨2, ![2048, 16]⟩
abbrev S8192x2048 : Shape := ⟨2, ![8192, 2048]⟩
abbrev S1x2048 : Shape := ⟨2, ![1, 2048]⟩
abbrev S16x2048 : Shape := ⟨2, ![16, 2048]⟩
abbrev S16x8192 : Shape := ⟨2, ![16, 8192]⟩
abbrev S512x1024 : Shape := ⟨2, ![512, 1024]⟩
abbrev S512x2048 : Shape := ⟨2, ![512, 2048]⟩
abbrev S1x6x2048 : Shape := ⟨3, ![1, 6, 2048]⟩
abbrev S16x512 : Shape := ⟨2, ![16, 512]⟩
abbrev S1024x2048 : Shape := ⟨2, ![1024, 2048]⟩
abbrev S6x2048 : Shape := ⟨2, ![6, 2048]⟩
abbrev S512 : Shape := ⟨1, ![512]⟩
abbrev S512x1 : Shape := ⟨2, ![512, 1]⟩
abbrev S1x512 : Shape := ⟨2, ![1, 512]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S32x256x2048, .f32⟩
  | .hbm, ⟨4, _⟩ => ⟨S8x6x2048, .f32⟩
  | .hbm, ⟨5, _⟩ => ⟨S2048, .f32⟩
  | .hbm, ⟨6, _⟩ => ⟨S2048x16, .f32⟩
  | .hbm, ⟨7, _⟩ => ⟨S2048x2048, .bf16⟩
  | .hbm, ⟨8, _⟩ => ⟨S8192x2048, .f32⟩
  | .hbm, ⟨9, _⟩ => ⟨S1x2048, .f32⟩
  | .hbm, ⟨10, _⟩ => ⟨S16x2048, .f32⟩
  | .hbm, ⟨11, _⟩ => ⟨S16x2048, .bf16⟩
  | .hbm, ⟨12, _⟩ => ⟨S8192x2048, .f32⟩
  | .hbm, ⟨13, _⟩ => ⟨S8192x1024, .i32⟩
  | .hbm, ⟨14, _⟩ => ⟨S16x8192, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x6x2048, .f32⟩
  | .local _ .vmem, ⟨8, _⟩ => ⟨S1x2048, .f32⟩
  | .local _ .vmem, ⟨9, _⟩ => ⟨S16x2048, .bf16⟩
  | .local _ .vmem, ⟨10, _⟩ => ⟨S512x2048, .f32⟩
  | .local _ .vmem, ⟨11, _⟩ => ⟨S512x2048, .f32⟩
  | .local _ .vmem, ⟨12, _⟩ => ⟨S512x1024, .i32⟩
  | .local _ .vmem, ⟨13, _⟩ => ⟨S512x1024, .i32⟩
  | .local _ .vmem, ⟨14, _⟩ => ⟨S16x512, .f32⟩
  | .local _ .vmem, ⟨15, _⟩ => ⟨S16x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel4.lean ====
abbrev S8192x1024 : Shape := ⟨2, ![8192, 1024]⟩
abbrev S2048x2048 : Shape := ⟨2, ![2048, 2048]⟩
abbrev S32x256x2048 : Shape := ⟨3, ![32, 256, 2048]⟩
abbrev S8x6x2048 : Shape := ⟨3, ![8, 6, 2048]⟩
abbrev S2048 : Shape := ⟨1, ![2048]⟩
abbrev S2048x16 : Shape := ⟨2, ![2048, 16]⟩
abbrev S8192x2048 : Shape := ⟨2, ![8192, 2048]⟩
abbrev S1x2048 : Shape := ⟨2, ![1, 2048]⟩
abbrev S16x2048 : Shape := ⟨2, ![16, 2048]⟩
abbrev S16x8192 : Shape := ⟨2, ![16, 8192]⟩
abbrev S512x1024 : Shape := ⟨2, ![512, 1024]⟩
abbrev S512x2048 : Shape := ⟨2, ![512, 2048]⟩
abbrev S1x6x2048 : Shape := ⟨3, ![1, 6, 2048]⟩
abbrev S16x512 : Shape := ⟨2, ![16, 512]⟩
abbrev S1024x2048 : Shape := ⟨2, ![1024, 2048]⟩
abbrev S6x2048 : Shape := ⟨2, ![6, 2048]⟩
abbrev S512 : Shape := ⟨1, ![512]⟩
abbrev S512x1 : Shape := ⟨2, ![512, 1]⟩
abbrev S1x512 : Shape := ⟨2, ![1, 512]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S32x256x2048, .f32⟩
  | .hbm, ⟨4, _⟩ => ⟨S8x6x2048, .f32⟩
  | .hbm, ⟨5, _⟩ => ⟨S2048, .f32⟩
  | .hbm, ⟨6, _⟩ => ⟨S2048x16, .f32⟩
  | .hbm, ⟨7, _⟩ => ⟨S2048x2048, .bf16⟩
  | .hbm, ⟨8, _⟩ => ⟨S8192x2048, .f32⟩
  | .hbm, ⟨9, _⟩ => ⟨S1x2048, .f32⟩
  | .hbm, ⟨10, _⟩ => ⟨S16x2048, .f32⟩
  | .hbm, ⟨11, _⟩ => ⟨S16x2048, .bf16⟩
  | .hbm, ⟨12, _⟩ => ⟨S8192x2048, .f32⟩
  | .hbm, ⟨13, _⟩ => ⟨S8192x2048, .bf16⟩
  | .hbm, ⟨14, _⟩ => ⟨S16x8192, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x6x2048, .f32⟩
  | .local _ .vmem, ⟨8, _⟩ => ⟨S1x2048, .f32⟩
  | .local _ .vmem, ⟨9, _⟩ => ⟨S16x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S16x512, .f32⟩
  | .local _ .vmem, ⟨15, _⟩ => ⟨S16x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8192x1024 : Shape := ⟨2, ![8192, 1024]⟩
abbrev S2048x2048 : Shape := ⟨2, ![2048, 2048]⟩
abbrev S32x256x2048 : Shape := ⟨3, ![32, 256, 2048]⟩
abbrev S8x6x2048 : Shape := ⟨3, ![8, 6, 2048]⟩
abbrev S2048 : Shape := ⟨1, ![2048]⟩
abbrev S2048x16 : Shape := ⟨2, ![2048, 16]⟩
abbrev S1x1x2048 : Shape := ⟨3, ![1, 1, 2048]⟩
abbrev S1x2048 : Shape := ⟨2, ![1, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S8192x16 : Shape := ⟨2, ![8192, 16]⟩
abbrev S16x8192 : Shape := ⟨2, ![16, 8192]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S32x256x2048, .f32⟩
  | .hbm, ⟨4, _⟩ => ⟨S8x6x2048, .f32⟩
  | .hbm, ⟨5, _⟩ => ⟨S2048, .f32⟩
  | .hbm, ⟨6, _⟩ => ⟨S2048x16, .f32⟩
  | .hbm, ⟨7, _⟩ => ⟨S1x1x2048, .f32⟩
  | .hbm, ⟨8, _⟩ => ⟨S1x2048, .f32⟩
  | .hbm, ⟨9, _⟩ => ⟨S1x1x2048, .f32⟩
  | .hbm, ⟨10, _⟩ => ⟨S1x2048, .f32⟩
  | .hbm, ⟨11, _⟩ => ⟨S1x1x2048, .f32⟩
  | .hbm, ⟨12, _⟩ => ⟨S1x2048, .f32⟩
  | .hbm, ⟨13, _⟩ => ⟨S1x1x2048, .f32⟩
  | .hbm, ⟨14, _⟩ => ⟨S1x2048, .f32⟩
  | .hbm, ⟨15, _⟩ => ⟨S1x1x2048, .f32⟩
  | .hbm, ⟨16, _⟩ => ⟨S1x2048, .f32⟩
  | .hbm, ⟨17, _⟩ => ⟨S1x1x2048, .f32⟩
  | .hbm, ⟨18, _⟩ => ⟨S1x2048, .f32⟩
  | .hbm, ⟨19, _⟩ => ⟨S8192x2048, .bf16⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S1x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x16, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192x1, .f32⟩
  | .hbm, ⟨56, _⟩ => ⟨S8192x16, .f32⟩
  | .hbm, ⟨57, _⟩ => ⟨S8192x16, .f32⟩
  | .hbm, ⟨58, _⟩ => ⟨S8192x16, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x16, .f32⟩
  | .hbm, ⟨63, _⟩ => ⟨S8192x16, .f32⟩
  | .hbm, ⟨64, _⟩ => ⟨S8192x2048, .bf16⟩
  | .hbm, ⟨65, _⟩ => ⟨S16x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel5.lean ====
abbrev S32x256x2048 : Shape := ⟨3, ![32, 256, 2048]⟩
abbrev S8x6x2048 : Shape := ⟨3, ![8, 6, 2048]⟩
abbrev S2048 : Shape := ⟨1, ![2048]⟩
abbrev S2048x5120 : Shape := ⟨2, ![2048, 5120]⟩
abbrev S64 : Shape := ⟨1, ![64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S8192x2048 : Shape := ⟨2, ![8192, 2048]⟩
abbrev S1x2048 : Shape := ⟨2, ![1, 2048]⟩
abbrev S8192x5120 : Shape := ⟨2, ![8192, 5120]⟩
abbrev S1024x2048 : Shape := ⟨2, ![1024, 2048]⟩
abbrev S1x6x2048 : Shape := ⟨3, ![1, 6, 2048]⟩
abbrev S2048x512 : Shape := ⟨2, ![2048, 512]⟩
abbrev S1024x512 : Shape := ⟨2, ![1024, 512]⟩
abbrev S6x2048 : Shape := ⟨2, ![6, 2048]⟩
abbrev S16x2048 : Shape := ⟨2, ![16, 2048]⟩
abbrev S16 : Shape := ⟨1, ![16]⟩
abbrev S16x1 : Shape := ⟨2, ![16, 1]⟩

abbrev nBuf : Space → Nat
  | .hbm => 36
  | .vmem => 15
  | .smem => 0
  | _ => 0

abbrev bufTy : (tb : Table) → Fin (tcTables nBuf tb) → BufTy
  | .hbm, ⟨0, _⟩ => ⟨S32x256x2048, .f32⟩
  | .hbm, ⟨1, _⟩ => ⟨S8x6x2048, .f32⟩
  | .hbm, ⟨2, _⟩ => ⟨S2048, .f32⟩
  | .hbm, ⟨3, _⟩ => ⟨S2048x5120, .f32⟩
  | .hbm, ⟨4, _⟩ => ⟨S64, .f32⟩
  | .hbm, ⟨5, _⟩ => ⟨S64, .f32⟩
  | .hbm, ⟨6, _⟩ => ⟨S1x64, .f32⟩
  | .hbm, ⟨7, _⟩ => ⟨S8x64, .f32⟩
  | .hbm, ⟨8, _⟩ => ⟨S512, .f32⟩
  | .hbm, ⟨9, _⟩ => ⟨S1x512, .f32⟩
  | .hbm, ⟨10, _⟩ => ⟨S1x64, .f32⟩
  | .hbm, ⟨11, _⟩ => ⟨S8x64, .f32⟩
  | .hbm, ⟨12, _⟩ => ⟨S512, .f32⟩
  | .hbm, ⟨13, _⟩ => ⟨S1x512, .f32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S_, .f32⟩
  | .hbm, ⟨22, _⟩ => ⟨S64x64, .f32⟩
  | .hbm, ⟨23, _⟩ => ⟨S8x1x8x1, .f32⟩
  | .hbm, ⟨24, _⟩ => ⟨S1x64x1x64, .f32⟩
  | .hbm, ⟨25, _⟩ => ⟨S8x64x8x64, .f32⟩
  | .hbm, ⟨26, _⟩ => ⟨S8x64x8x64, .f32⟩
  | .hbm, ⟨27, _⟩ => ⟨S8x64x8x64, .f32⟩
  | .hbm, ⟨28, _⟩ => ⟨S512x512, .f32⟩
  | .hbm, ⟨29, _⟩ => ⟨S_, .f32⟩
  | .hbm, ⟨30, _⟩ => ⟨S512x512, .f32⟩
  | .hbm, ⟨31, _⟩ => ⟨S512x512, .f32⟩
  | .hbm, ⟨32, _⟩ => ⟨S512x512, .bf16⟩
  | .hbm, ⟨33, _⟩ => ⟨S8192x2048, .f32⟩
  | .hbm, ⟨34, _⟩ => ⟨S1x2048, .f32⟩
  | .hbm, ⟨35, _⟩ => ⟨S8192x5120, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048, .f32⟩
  | .local _ .vmem, ⟨6, _⟩ => ⟨S2048x512, .f32⟩
  | .local _ .vmem, ⟨7, _⟩ => ⟨S2048x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S1024x512, .f32⟩
  | .local _ .vmem, ⟨12, _⟩ => ⟨S1024x512, .f32⟩
  | .local _ .vmem, ⟨13, _⟩ => ⟨S1024x2048, .bf16⟩
  | .local _ .vmem, ⟨14, _⟩ => ⟨S1024x2048, .bf16⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 10], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c0_i32_1 : BitVec 32 := 0#32
  let v3 : BitVec 1 := Scalar.cmpi .eq arg1 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

@[reducible] def k0_t1_loop : Scf.Loop 32 :=
  let c0_i32_8 : BitVec 32 := 0#32
  let c64_i32 : BitVec 32 := 64#32
  let v15 : BitVec 32 := Scalar.addi c0_i32_8 c64_i32
  let c1_i32_9 : BitVec 32 := 1#32
  ⟨c0_i32_8, v15, c1_i32_9⟩
def k0_mult1 (k0_t1 : Fin k0_t1_loop.trips) : BitVec 32 :=
  let c0_i32_8 : BitVec 32 := 0#32
  let c1_i32_9 : BitVec 32 := 1#32
  let arg14 : BitVec 32 := Scf.iv c0_i32_8 c1_i32_9 k0_t1
  let c16_i32 : BitVec 32 := 16#32
  let v16 : BitVec 32 := Scalar.muli arg14 c16_i32
  v16
def k0_off1 (k0_t1 : Fin k0_t1_loop.trips) : Fin 2 → Nat :=
  let c0_i32_8 : BitVec 32 := 0#32
  let c1_i32_9 : BitVec 32 := 1#32
  let arg14 : BitVec 32 := Scf.iv c0_i32_8 c1_i32_9 k0_t1
  let c16_i32 : BitVec 32 := 16#32
  let v16 : BitVec 32 := Scalar.muli arg14 c16_i32
  let v19 : BitVec 32 := v16
  let v20 : Index := Scalar.indexCast v19
  let c0_14 : Index := 0#32
  ![v20.toNat, 0]
def k0_cond2 (i : grid0.Coords) : BitVec 1 :=
  let arg0 : BitVec 32 := BitVec.ofNat 32 (i 0).val
  let c1_i32 : BitVec 32 := 1#32
  let v7 : BitVec 32 := Scalar.andi arg0 c1_i32
  let c0_i32_3 : BitVec 32 := 0#32
  let v8 : BitVec 1 := Scalar.cmpi .eq v7 c0_i32_3
  let v9 : BitVec 32 := Scalar.extui v8
  let c0_i32_4 : BitVec 32 := 0#32
  let v10 : BitVec 1 := Scalar.cmpi .ne v9 c0_i32_4
  v10

def k0_cond3 (i : grid0.Coords) : BitVec 1 :=
  let arg1 : BitVec 32 := BitVec.ofNat 32 (i 1).val
  let c4_i32 : BitVec 32 := 4#32
  let v15 : BitVec 1 := Scalar.cmpi .slt arg1 c4_i32
  let v16 : BitVec 32 := Scalar.extui v15
  let c0_i32_8 : BitVec 32 := 0#32
  let v17 : BitVec 1 := Scalar.cmpi .ne v16 c0_i32_8
  v17

def k0_mult2 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c0_i32_11 : BitVec 32 := 0#32
  let v23 : BitVec 32 := Scalar.addi v22 c0_i32_11
  v23
def k0_off2 (i : grid0.Coords) (c0_i32_11 : BitVec 32) : Fin 2 → Nat :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let v23 : BitVec 32 := Scalar.addi v22 c0_i32_11
  let v26 : BitVec 32 := v23
  let v27 : Index := Scalar.indexCast v26
  let c0_15 : Index := 0#32
  ![v27.toNat, 0]
def k0_mult3 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c16_i32 : BitVec 32 := 16#32
  let v55 : BitVec 32 := Scalar.addi v22 c16_i32
  v55
def k0_mult4 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c32_i32 : BitVec 32 := 32#32
  let v87 : BitVec 32 := Scalar.addi v22 c32_i32
  v87
def k0_mult5 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c48_i32 : BitVec 32 := 48#32
  let v119 : BitVec 32 := Scalar.addi v22 c48_i32
  v119
def k0_mult6 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c64_i32 : BitVec 32 := 64#32
  let v151 : BitVec 32 := Scalar.addi v22 c64_i32
  v151
def k0_mult7 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c80_i32 : BitVec 32 := 80#32
  let v183 : BitVec 32 := Scalar.addi v22 c80_i32
  v183
def k0_mult8 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c96_i32 : BitVec 32 := 96#32
  let v215 : BitVec 32 := Scalar.addi v22 c96_i32
  v215
def k0_mult9 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c112_i32 : BitVec 32 := 112#32
  let v247 : BitVec 32 := Scalar.addi v22 c112_i32
  v247
def k0_cond4 (i : grid0.Coords) : BitVec 1 :=
  let arg1 : BitVec 32 := BitVec.ofNat 32 (i 1).val
  let c4_i32_9 : BitVec 32 := 4#32
  let v18 : BitVec 1 := Scalar.cmpi .sge arg1 c4_i32_9
  let v19 : BitVec 32 := Scalar.extui v18
  let c0_i32_10 : BitVec 32 := 0#32
  let v20 : BitVec 1 := Scalar.cmpi .ne v19 c0_i32_10
  v20

def k0_mult10 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c0_i32_11 : BitVec 32 := 0#32
  let v23 : BitVec 32 := Scalar.addi v22 c0_i32_11
  v23
def k0_off3 (i : grid0.Coords) (c0_i32_11 : BitVec 32) : Fin 2 → Nat :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let v23 : BitVec 32 := Scalar.addi v22 c0_i32_11
  let v26 : BitVec 32 := v23
  let v27 : Index := Scalar.indexCast v26
  let c0_15 : Index := 0#32
  ![v27.toNat, 0]
def k0_mult11 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c16_i32 : BitVec 32 := 16#32
  let v55 : BitVec 32 := Scalar.addi v22 c16_i32
  v55
def k0_mult12 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c32_i32 : BitVec 32 := 32#32
  let v87 : BitVec 32 := Scalar.addi v22 c32_i32
  v87
def k0_mult13 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c48_i32 : BitVec 32 := 48#32
  let v119 : BitVec 32 := Scalar.addi v22 c48_i32
  v119
def k0_mult14 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c64_i32 : BitVec 32 := 64#32
  let v151 : BitVec 32 := Scalar.addi v22 c64_i32
  v151
def k0_mult15 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c80_i32 : BitVec 32 := 80#32
  let v183 : BitVec 32 := Scalar.addi v22 c80_i32
  v183
def k0_mult16 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c96_i32 : BitVec 32 := 96#32
  let v215 : BitVec 32 := Scalar.addi v22 c96_i32
  v215
def k0_mult17 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c112_i32 : BitVec 32 := 112#32
  let v247 : BitVec 32 := Scalar.addi v22 c112_i32
  v247
def k0_cond5 (i : grid0.Coords) : BitVec 1 :=
  let arg0 : BitVec 32 := BitVec.ofNat 32 (i 0).val
  let c1_i32_5 : BitVec 32 := 1#32
  let v11 : BitVec 32 := Scalar.andi arg0 c1_i32_5
  let c1_i32_6 : BitVec 32 := 1#32
  let v12 : BitVec 1 := Scalar.cmpi .eq v11 c1_i32_6
  let v13 : BitVec 32 := Scalar.extui v12
  let c0_i32_7 : BitVec 32 := 0#32
  let v14 : BitVec 1 := Scalar.cmpi .ne v13 c0_i32_7
  v14

def k0_cond6 (i : grid0.Coords) : BitVec 1 :=
  let arg1 : BitVec 32 := BitVec.ofNat 32 (i 1).val
  let c4_i32 : BitVec 32 := 4#32
  let v15 : BitVec 1 := Scalar.cmpi .slt arg1 c4_i32
  let v16 : BitVec 32 := Scalar.extui v15
  let c0_i32_8 : BitVec 32 := 0#32
  let v17 : BitVec 1 := Scalar.cmpi .ne v16 c0_i32_8
  v17

def k0_mult18 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c0_i32_11 : BitVec 32 := 0#32
  let v23 : BitVec 32 := Scalar.addi v22 c0_i32_11
  v23
def k0_off4 (i : grid0.Coords) (c0_i32_11 : BitVec 32) : Fin 2 → Nat :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let v23 : BitVec 32 := Scalar.addi v22 c0_i32_11
  let v26 : BitVec 32 := v23
  let v27 : Index := Scalar.indexCast v26
  let c0_15 : Index := 0#32
  ![v27.toNat, 0]
def k0_mult19 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c16_i32 : BitVec 32 := 16#32
  let v55 : BitVec 32 := Scalar.addi v22 c16_i32
  v55
def k0_mult20 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c32_i32 : BitVec 32 := 32#32
  let v87 : BitVec 32 := Scalar.addi v22 c32_i32
  v87
def k0_mult21 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c48_i32 : BitVec 32 := 48#32
  let v119 : BitVec 32 := Scalar.addi v22 c48_i32
  v119
def k0_mult22 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c64_i32 : BitVec 32 := 64#32
  let v151 : BitVec 32 := Scalar.addi v22 c64_i32
  v151
def k0_mult23 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c80_i32 : BitVec 32 := 80#32
  let v183 : BitVec 32 := Scalar.addi v22 c80_i32
  v183
def k0_mult24 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c96_i32 : BitVec 32 := 96#32
  let v215 : BitVec 32 := Scalar.addi v22 c96_i32
  v215
def k0_mult25 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c112_i32 : BitVec 32 := 112#32
  let v247 : BitVec 32 := Scalar.addi v22 c112_i32
  v247
def k0_cond7 (i : grid0.Coords) : BitVec 1 :=
  let arg1 : BitVec 32 := BitVec.ofNat 32 (i 1).val
  let c4_i32_9 : BitVec 32 := 4#32
  let v18 : BitVec 1 := Scalar.cmpi .sge arg1 c4_i32_9
  let v19 : BitVec 32 := Scalar.extui v18
  let c0_i32_10 : BitVec 32 := 0#32
  let v20 : BitVec 1 := Scalar.cmpi .ne v19 c0_i32_10
  v20

def k0_mult26 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c0_i32_11 : BitVec 32 := 0#32
  let v23 : BitVec 32 := Scalar.addi v22 c0_i32_11
  v23
def k0_off5 (i : grid0.Coords) (c0_i32_11 : BitVec 32) : Fin 2 → Nat :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let v23 : BitVec 32 := Scalar.addi v22 c0_i32_11
  let v26 : BitVec 32 := v23
  let v27 : Index := Scalar.indexCast v26
  let c0_15 : Index := 0#32
  ![v27.toNat, 0]
def k0_mult27 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c16_i32 : BitVec 32 := 16#32
  let v55 : BitVec 32 := Scalar.addi v22 c16_i32
  v55
def k0_mult28 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c32_i32 : BitVec 32 := 32#32
  let v87 : BitVec 32 := Scalar.addi v22 c32_i32
  v87
def k0_mult29 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c48_i32 : BitVec 32 := 48#32
  let v119 : BitVec 32 := Scalar.addi v22 c48_i32
  v119
def k0_mult30 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c64_i32 : BitVec 32 := 64#32
  let v151 : BitVec 32 := Scalar.addi v22 c64_i32
  v151
def k0_mult31 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c80_i32 : BitVec 32 := 80#32
  let v183 : BitVec 32 := Scalar.addi v22 c80_i32
  v183
def k0_mult32 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c96_i32 : BitVec 32 := 96#32
  let v215 : BitVec 32 := Scalar.addi v22 c96_i32
  v215
def k0_mult33 (i : grid0.Coords) : BitVec 32 :=
  let arg1 : BitVec 32 := BitVec.ofNat 32 (i 1).val
  let c7_i32 : BitVec 32 := 7#32
  let v21 : BitVec 32 := Scalar.minsi arg1 c7_i32
  let c128_i32 : BitVec 32 := 128#32
  let v22 : BitVec 32 := Scalar.muli v21 c128_i32
  let c112_i32 : BitVec 32 := 112#32
  let v247 : BitVec 32 := Scalar.addi v22 c112_i32
  v247
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x6x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S32x256x2048 : Shape := ⟨3, ![32, 256, 2048]⟩
abbrev S8x6x2048 : Shape := ⟨3, ![8, 6, 2048]⟩
abbrev S2048 : Shape := ⟨1, ![2048]⟩
abbrev S2048x5120 : Shape := ⟨2, ![2048, 5120]⟩
abbrev S64 : Shape := ⟨1, ![64]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S32x256x5120 : Shape := ⟨3, ![32, 256, 5120]⟩
abbrev S32x256x1024 : Shape := ⟨3, ![32, 256, 1024]⟩
abbrev S32x256x16x64 : Shape := ⟨4, ![32, 256, 16, 64]⟩
abbrev S32x256x16 : Shape := ⟨3, ![32, 256, 16]⟩
abbrev S32x256x16x1 : Shape := ⟨4, ![32, 256, 16, 1]⟩
abbrev S1x1x1x64 : Shape := ⟨4, ![1, 1, 1, 64]⟩
abbrev S32x256x3072 : Shape := ⟨3, ![32, 256, 3072]⟩
abbrev S8192x5120 : Shape := ⟨2, ![8192, 5120]⟩

abbrev nBuf : Space → Nat
  | .hbm => 77
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S8x6x2048, .f32⟩
  | .hbm, ⟨2, _⟩ => ⟨S2048, .f32⟩
  | .hbm, ⟨3, _⟩ => ⟨S2048x5120, .f32⟩
  | .hbm, ⟨4, _⟩ => ⟨S64, .f32⟩
  | .hbm, ⟨5, _⟩ => ⟨S64, .f32⟩
  | .hbm, ⟨6, _⟩ => ⟨S32x256x2048, .f32⟩
  | .hbm, ⟨7, _⟩ => ⟨S_, .f32⟩
  | .hbm, ⟨8, _⟩ => ⟨S32x256, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S32x256x1, .f32⟩
  | .hbm, ⟨17, _⟩ => ⟨S32x256x2048, .f32⟩
  | .hbm, ⟨18, _⟩ => ⟨S32x256x2048, .f32⟩
  | .hbm, ⟨19, _⟩ => ⟨S1x1x2048, .f32⟩
  | .hbm, ⟨20, _⟩ => ⟨S32x256x2048, .f32⟩
  | .hbm, ⟨21, _⟩ => ⟨S32x256x2048, .f32⟩
  | .hbm, ⟨22, _⟩ => ⟨S1x1x2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S1x1x2048, .f32⟩
  | .hbm, ⟨28, _⟩ => ⟨S32x256x2048, .f32⟩
  | .hbm, ⟨29, _⟩ => ⟨S32x256x2048, .f32⟩
  | .hbm, ⟨30, _⟩ => ⟨S1x1x2048, .f32⟩
  | .hbm, ⟨31, _⟩ => ⟨S2048, .f32⟩
  | .hbm, ⟨32, _⟩ => ⟨S1x1x2048, .f32⟩
  | .hbm, ⟨33, _⟩ => ⟨S32x256x2048, .f32⟩
  | .hbm, ⟨34, _⟩ => ⟨S32x256x2048, .f32⟩
  | .hbm, ⟨35, _⟩ => ⟨S32x256x5120, .f32⟩
  | .hbm, ⟨36, _⟩ => ⟨S32x256x1024, .f32⟩
  | .hbm, ⟨37, _⟩ => ⟨S32x256x16x64, .f32⟩
  | .hbm, ⟨38, _⟩ => ⟨S32x256x16x64, .f32⟩
  | .hbm, ⟨39, _⟩ => ⟨S_, .f32⟩
  | .hbm, ⟨40, _⟩ => ⟨S32x256x16, .f32⟩
  | .hbm, ⟨41, _⟩ => ⟨S32x256x16x1, .f32⟩
  | .hbm, ⟨42, _⟩ => ⟨S_, .f32⟩
  | .hbm, ⟨43, _⟩ => ⟨S32x256x16x1, .f32⟩
  | .hbm, ⟨44, _⟩ => ⟨S32x256x16x1, .f32⟩
  | .hbm, ⟨45, _⟩ => ⟨S_, .f32⟩
  | .hbm, ⟨46, _⟩ => ⟨S32x256x16x1, .f32⟩
  | .hbm, ⟨47, _⟩ => ⟨S32x256x16x1, .f32⟩
  | .hbm, ⟨48, _⟩ => ⟨S32x256x16x1, .f32⟩
  | .hbm, ⟨49, _⟩ => ⟨S32x256x16x64, .f32⟩
  | .hbm, ⟨50, _⟩ => ⟨S32x256x16x64, .f32⟩
  | .hbm, ⟨51, _⟩ => ⟨S1x1x1x64, .f32⟩
  | .hbm, ⟨52, _⟩ => ⟨S32x256x16x64, .f32⟩
  | .hbm, ⟨53, _⟩ => ⟨S32x256x16x64, .f32⟩
  | .hbm, ⟨54, _⟩ => ⟨S32x256x1024, .f32⟩
  | .hbm, ⟨55, _⟩ => ⟨S32x256x1024, .f32⟩
  | .hbm, ⟨56, _⟩ => ⟨S32x256x16x64, .f32⟩
  | .hbm, ⟨57, _⟩ => ⟨S32x256x16x64, .f32⟩
  | .hbm, ⟨58, _⟩ => ⟨S_, .f32⟩
  | .hbm, ⟨59, _⟩ => ⟨S32x256x16, .f32⟩
  | .hbm, ⟨60, _⟩ => ⟨S32x256x16x1, .f32⟩
  | .hbm, ⟨61, _⟩ => ⟨S_, .f32⟩
  | .hbm, ⟨62, _⟩ => ⟨S32x256x16x1, .f32⟩
  | .hbm, ⟨63, _⟩ => ⟨S32x256x16x1, .f32⟩
  | .hbm, ⟨64, _⟩ => ⟨S_, .f32⟩
  | .hbm, ⟨65, _⟩ => ⟨S32x256x16x1, .f32⟩
  | .hbm, ⟨66, _⟩ => ⟨S32x256x16x1, .f32⟩
  | .hbm, ⟨67, _⟩ => ⟨S32x256x16x1, .f32⟩
  | .hbm, ⟨68, _⟩ => ⟨S32x256x16x64, .f32⟩
  | .hbm, ⟨69, _⟩ => ⟨S32x256x16x64, .f32⟩
  | .hbm, ⟨70, _⟩ => ⟨S1x1x1x64, .f32⟩
  | .hbm, ⟨71, _⟩ => ⟨S32x256x16x64, .f32⟩
  | .hbm, ⟨72, _⟩ => ⟨S32x256x16x64, .f32⟩
  | .hbm, ⟨73, _⟩ => ⟨S32x256x1024, .f32⟩
  | .hbm, ⟨74, _⟩ => ⟨S32x256x3072, .f32⟩
  | .hbm, ⟨75, _⟩ => ⟨S32x256x5120, .f32⟩
  | .hbm, ⟨76, _⟩ => ⟨S8192x5120, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Proof.Gather.lean ====
/-
  THE ROWS' TRANSFERS of the expert network's body: the scratch buffer's rows as sets of places, what the gathered buffer
  holds for an expert, and, per token group, one trip of the loop that starts a row's copy and one of the loop that waits
  for a row's copy, each stated of the transfers in flight. The loops are the kernel's; the lemmas take their offsets as
  hypotheses, so that every printed loop is an instance.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.ValueIdx

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] {Λ : Labels}

/-- The proof's user algebra: the pipeline library's beside the transfers' counters. -/
local notation "𝕄" => MT nD τ sig Unit (Elt F) ℕ (Pipeline.UD sig nD τ) ℕ

/-- Where the transfers' counters live in the user algebra. -/
abbrev EC (F : FTy → Type) [FloatOps F] : UEmb Counters 𝕄 := countersEmb (U := Pipeline.UD sig nD τ)

/-- The programs of the body's core. -/
abbrev BProg (F : FTy → Type) (Λ : Labels) (α : Type) := Prog (TpuEff nD τ sig (Elt F) Λ .tc) α

/-! ## Rows and their contents -/

/-- The places of row `r` of the gathered buffer. -/
def rowSet (r : ℕ) : Finset S1536x1024.Idx := Finset.univ.filter fun y => (y 0).val = r

theorem mem_rowSet {r : ℕ} {y : S1536x1024.Idx} : y ∈ rowSet r ↔ (y 0).val = r := by simp [rowSet]

/-- The unit rectangle over the whole of row `r` covers exactly that row. -/
theorem rect_set_row (r : ℕ) (off : Fin 2 → ℕ) (hoff : off = ![r, 0]) (inb : ∀ a, off a + S1x1024.size a ≤ S1536x1024.size a) :
    (Rect.unit (s := S1536x1024) off S1x1024.size inb).set = rowSet r := by
  subst hoff
  ext y
  rw [mem_rowSet, Rect.mem_set_unit]
  constructor
  · intro h
    have h0 := h 0
    simp at h0
    omega
  · intro h a
    fin_cases a
    · simp; omega
    · simpa using (y 1).isLt

/-- Entry `n` of the table of row numbers. -/
def tblN (T : S24576.Idx → BitVec 32) (n : ℕ) : BitVec 32 := if h : n < 24576 then T (ix1 ⟨n, h⟩) else 0#32

/-- Row `n` of the first group's packed rows at lane `j`. -/
def rowA (H : S8192x1024.Idx → BitVec 32) (n : ℕ) (j : Fin 1024) : BitVec 32 := if h : n < 8192 then H (ix2 ⟨n, h⟩ j) else 0#32
/-- Row `n` of the second group's packed rows at lane `j`. -/
def rowB (H : S4096x1024.Idx → BitVec 32) (n : ℕ) (j : Fin 1024) : BitVec 32 := if h : n < 4096 then H (ix2 ⟨n, h⟩ j) else 0#32

/-- What the gathered buffer holds for expert `e`: its 1024 rows of the first group, then its 512 of the second. -/
def XE (T : S24576.Idx → BitVec 32) (HA : S8192x1024.Idx → BitVec 32) (HB : S4096x1024.Idx → BitVec 32) (e : ℕ) :
    S1536x1024.Idx → BitVec 32 := fun y =>
  if (y 0).val < 1024 then rowA HA (tblN T (e * 1536 + (y 0).val)).toNat (y 1)
  else rowB HB (tblN T (e * 1536 + (y 0).val)).toNat (y 1)

/-- The credit one row's copy pays. -/
abbrev NR : ℕ := ((Memref.whole cc0_scratch0).slice (Rect.unit (s := S1536x1024) ![0, 0] S1x1024.size (by decide)) (fun _ => rfl)).view.dmaCredit

theorem NR_pos : 0 < NR := by decide

/-! ## One transfer that takes part of a resource with it -/

/-- Starting one copy of a batch whose delivery also returns a resource `P` lent with it: the whole source at the copy's
    own share of it rather than the part the copy reads. -/
theorem wp_startRow {c : Thread nD τ} {defs : Defs nD τ sig (Elt F) Λ} (𝒱 : Variants) {bd : Option 𝒱.V} {α : Type} {Q : α → sProp 𝕄}
    {sp sp' : Space} {s : Shape} {e : EltTy} {n : ℕ}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q : PosShare TreeShare} {fs : Buf (Elt F) (src.view.loc c)}
    {Sd : Finset (Idx (dst.view.loc c))} {fd : Buf (Elt F) (dst.view.loc c)}
    {D : Fin n → sProp 𝕄} {j u : ℕ} {P : sProp 𝕄}
    (N : ℕ) (hN : dst.view.amount sm = N) (hSd : dst.view.set ⊆ Sd) (hj : j < n) (hu : u ≤ j * N)
    (hD : iprop(P ∗ ((dst.view.loc c ↦[Sd]{fullShare} (dst.view.write (Elt F) fd (src.view.read (Elt F) fs) Finset.univ))
              ∗ (src.view.loc c ↦[src.view.set]{q} fs))) ⊢ D ⟨j, hj⟩) :
    iprop(P ∗ (src.view.loc c ↦[src.view.set]{q} fs) ∗ (dst.view.loc c ↦[Sd]{fullShare} fd) ∗ Transfers.Batch (EC F) c sm () N D j u)
      ⊢ iprop((Transfers.Batch (EC F) c sm () N D (j + 1) u -∗ wp frame (wpE defs 𝒱 c bd) Set.univ (k ⟨⟩) Q)
          -∗ wp frame (wpE defs 𝒱 c bd) Set.univ (.op (.enqueueDma src (.here dst) sm hsrc hdst hsem) k) Q) := by
  unfold Transfers.Batch
  iintro ⟨HP, Hs, Hd, ⟨%γ, %γ₀, %κ, #Hinv, HI, H0, Hcred⟩⟩ Hk
  ihave HI' := (show bigSep (Transfers.pending j) (fun t => count (EC F) (γ t) 0) ⊢ iprop(count (EC F) (γ ⟨j, hj⟩) 0 ∗ bigSep (Transfers.pending (j + 1)) (fun t => count (EC F) (γ t) 0))
    from Entails.of_eq (by rw [Transfers.pending_succ hj, bigSep_insert (Transfers.not_mem_pending_succ hj)]; rfl)) $$ HI
  icases HI' with ⟨Ht, HI⟩
  iapply (wp_enqueueDma 𝒱 c bd Set.univ () N hN) $$ [Hs Hd] [Ht HP]
  · isplitl [Hs]; · iexact Hs
    iapply (pointsTo_writeUpdate c hSd) $$ Hd
  · iapply (Transfers.batch_creditUpdate_with (EC F) ⟨j, hj⟩ (put := P) hD)
    isplitr; · iexact Hinv
    isplitl [Ht]; · iexact Ht
    iexact HP
  iintro Hcred'
  iapply Hk
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

/-! ## Token group A -/

/-- The semaphore of group A's copies. -/
abbrev semA : DmaSem sig := ((cc0_scratch3.slice (Rect.unit (s := S2) ![0] S1.size inb_S2_S1_0)).squeeze S_ squeezes_S1_S_).sem

/-- What copy `t` of group A delivers: row `0 + t` of the gathered buffer at contents `X`, and its share of the
    group's packed rows. -/
def DelA (c : Dev nD) (X : S1536x1024.Idx → BitVec 32) (H : S8192x1024.Idx → BitVec 32) (t : Fin 1024) : sProp 𝕄 :=
  iprop((((c : Thread nD τ).loc cc0_scratch0) ↦[rowSet (0 + t.val)]{fullShare} (X : Buf (Elt F) ((c : Thread nD τ).loc cc0_scratch0)))
    ∗ (((c : Thread nD τ).loc main_arg2) ↦{Transfers.shareTok fullShare 1024 t} (H : Buf (Elt F) ((c : Thread nD τ).loc main_arg2))))

instance storable_DelA (c : Dev nD) (X : S1536x1024.Idx → BitVec 32) (H : S8192x1024.Idx → BitVec 32) (t : Fin 1024) :
    Storable (upEmb : UEmb _ 𝕄) (DelA (F := F) c X H t) := by
  unfold DelA; infer_instance

/-- Group A with `j` copies started and `u` units waited for. -/
abbrev BatA (c : Dev nD) (X : S1536x1024.Idx → BitVec 32) (H : S8192x1024.Idx → BitVec 32) (j u : ℕ) : sProp 𝕄 :=
  Transfers.Batch (EC F) (c : Thread nD τ) (.dma semA) () NR (DelA (F := F) c X H) j u

/-- What is in hand for copy `t` of group A before it starts: its row at some contents, its share of the source. -/
def HandA (c : Dev nD) (H : S8192x1024.Idx → BitVec 32) (t : Fin 1024) : sProp 𝕄 :=
  iprop((∃ f : Buf (Elt F) ((c : Thread nD τ).loc cc0_scratch0), ((c : Thread nD τ).loc cc0_scratch0) ↦[rowSet (0 + t.val)]{fullShare} f)
    ∗ (((c : Thread nD τ).loc main_arg2) ↦{Transfers.shareTok fullShare 1024 t} (H : Buf (Elt F) ((c : Thread nD τ).loc main_arg2))))

/-- Group A in flight: `j` copies started, the others' rows and shares in hand. -/
def FlyA (c : Dev nD) (X : S1536x1024.Idx → BitVec 32) (H : S8192x1024.Idx → BitVec 32) (j : ℕ) : sProp 𝕄 :=
  iprop(BatA (F := F) c X H j 0 ∗ bigSep (Ring.rangeSet 1024 j 1024) (HandA (F := F) c H))

/-- One trip of a loop that starts a copy of group A, over its offsets and its side condition. -/
def startA (offT : Fin 1 → ℕ) (hT : ∀ a, offT a + S1.size a ≤ S24576.size a) (chk : BitVec 32 → Prop) (dec : ∀ v, Decidable (chk v))
    (offD : Fin 2 → ℕ) (hD : ∀ a, offD a + S1x1024.size a ≤ S1536x1024.size a)
    (offS : BitVec 32 → Fin 2 → ℕ) (hS : ∀ v, chk v → ∀ a, offS v a + S1x1024.size a ≤ S8192x1024.size a) : BProg F Λ PUnit := do
  let v : Elt F .i32 ← smemLoad (Memref.whole main_v1) (Rect.unit (s := S24576) offT S1.size hT) numel1_S1 rfl
  have hw : chk v := (← Prog.lift (TpuEff.assume (chk v) (dec v))).down
  Prog.lift (.enqueueDma ((Memref.whole main_arg2).slice (Rect.unit (s := S8192x1024) (offS v) S1x1024.size (hS v hw)) (fun _ => rfl))
    (.here ((Memref.whole cc0_scratch0).slice (Rect.unit (s := S1536x1024) offD S1x1024.size hD) (fun _ => rfl)))
    (.dma semA) (View.wordExact_bits rfl) (View.wordExact_bits rfl) ⟨Or.inl rfl, trivial⟩)
  pure ⟨⟩

/-- The copied row is the row of `XE`. -/
theorem landedA (T : S24576.Idx → BitVec 32) (HA : S8192x1024.Idx → BitVec 32) (HB : S4096x1024.Idx → BitVec 32) (e j : ℕ) (hj : j < 1024)
    (offD : Fin 2 → ℕ) (hD : ∀ a, offD a + S1x1024.size a ≤ S1536x1024.size a) (hoffD : offD = ![0 + j, 0])
    (off : Fin 2 → ℕ) (hS : ∀ a, off a + S1x1024.size a ≤ S8192x1024.size a) (hoff : off = ![(tblN T (e * 1536 + (0 + j))).toNat, 0])
    (f : S1536x1024.Idx → BitVec 32) (y : S1536x1024.Idx) (hy : y ∈ rowSet (0 + j)) :
    ((Memref.whole cc0_scratch0).slice (Rect.unit (s := S1536x1024) offD S1x1024.size hD) (fun _ => rfl)).view.write (Elt F) f
      (((Memref.whole main_arg2).slice (Rect.unit (s := S8192x1024) off S1x1024.size hS) (fun _ => rfl)).view.read (Elt F) HA) Finset.univ y
      = XE T HA HB e y := by
  subst hoffD hoff
  have hy0 := mem_rowSet.mp hy
  have hlt : (tblN T (e * 1536 + (0 + j))).toNat < 8192 := by have h : (tblN T (e * 1536 + (0 + j))).toNat + 1 ≤ 8192 := hS 0; omega
  have hmem : y ∈ ((View.whole cc0_scratch0).slice (Rect.unit (s := S1536x1024) ![0 + j, 0] S1x1024.size hD)).set := by
    rw [View.set_slice_whole, rect_set_row (0 + j) _ rfl]; exact hy
  obtain ⟨x, hx⟩ : ∃ x : S1x1024.Idx, ((Memref.whole cc0_scratch0).slice (Rect.unit (s := S1536x1024) ![0 + j, 0] S1x1024.size hD) (fun _ => rfl)).view.emb x = y := by
    obtain ⟨x, -, hx⟩ := Finset.mem_map.mp hmem; exact ⟨x, hx⟩
  rw [← hx, View.write_emb_of_mem _ _ (Finset.mem_univ _), View.read_apply]
  have hx0 : (x 0).val = 0 := by have : (x 0).val < 1 := (x 0).isLt; omega
  have h0 : ((View.emb ((Memref.whole cc0_scratch0).slice (Rect.unit (s := S1536x1024) ![0 + j, 0] S1x1024.size hD) (fun _ => rfl)).view x : S1536x1024.Idx) 0).val = 0 + j := by
    rw [hx]; exact hy0
  have h1 : ((View.emb ((Memref.whole cc0_scratch0).slice (Rect.unit (s := S1536x1024) ![0 + j, 0] S1x1024.size hD) (fun _ => rfl)).view x : S1536x1024.Idx) 1) = x 1 := by
    apply Fin.ext
    show ((Rect.unit (s := S1536x1024) ![0 + j, 0] S1x1024.size hD).emb x 1 : ℕ) = (x 1).val
    simp [Rect.emb_apply]
  unfold XE rowA
  rw [h0, h1]
  rw [if_pos (show 0 + j < 1024 by omega), dif_pos hlt]
  show HA _ = HA _
  congr 1
  funext a
  fin_cases a
  · apply Fin.ext; show ((Rect.unit (s := S8192x1024) ![(tblN T (e * 1536 + (0 + j))).toNat, 0] S1x1024.size hS).emb x 0 : ℕ) = (tblN T (e * 1536 + (0 + j))).toNat
    simp [Rect.emb_apply, hx0]
  · apply Fin.ext; show ((Rect.unit (s := S8192x1024) ![(tblN T (e * 1536 + (0 + j))).toNat, 0] S1x1024.size hS).emb x 1 : ℕ) = (x 1).val
    simp [Rect.emb_apply]

/-- What copy `j` leaves is its delivery. -/
theorem deliverA (c : Dev nD) (T : S24576.Idx → BitVec 32) (HA : S8192x1024.Idx → BitVec 32) (HB : S4096x1024.Idx → BitVec 32) (e j : ℕ) (hj : j < 1024)
    (offD : Fin 2 → ℕ) (hD : ∀ a, offD a + S1x1024.size a ≤ S1536x1024.size a) (hoffD : offD = ![0 + j, 0])
    (off : Fin 2 → ℕ) (hS : ∀ a, off a + S1x1024.size a ≤ S8192x1024.size a) (hoff : off = ![(tblN T (e * 1536 + (0 + j))).toNat, 0])
    (f : S1536x1024.Idx → BitVec 32) :
    (iprop((((c : Thread nD τ).loc main_arg2) ↦[Finset.univ \ ((Memref.whole main_arg2).slice (Rect.unit (s := S8192x1024) off S1x1024.size hS) (fun _ => rfl)).view.set]{Transfers.shareTok fullShare 1024 ⟨j, hj⟩} (HA : Buf (Elt F) ((c : Thread nD τ).loc main_arg2)))
      ∗ (((c : Thread nD τ).loc cc0_scratch0) ↦[rowSet (0 + j)]{fullShare}
          (((Memref.whole cc0_scratch0).slice (Rect.unit (s := S1536x1024) offD S1x1024.size hD) (fun _ => rfl)).view.write (Elt F) f
            (((Memref.whole main_arg2).slice (Rect.unit (s := S8192x1024) off S1x1024.size hS) (fun _ => rfl)).view.read (Elt F) HA) Finset.univ : Buf (Elt F) ((c : Thread nD τ).loc cc0_scratch0)))
      ∗ (((c : Thread nD τ).loc main_arg2) ↦[((Memref.whole main_arg2).slice (Rect.unit (s := S8192x1024) off S1x1024.size hS) (fun _ => rfl)).view.set]{Transfers.shareTok fullShare 1024 ⟨j, hj⟩} (HA : Buf (Elt F) ((c : Thread nD τ).loc main_arg2)))) : sProp 𝕄)
      ⊢ DelA (F := F) c (XE T HA HB e) HA ⟨j, hj⟩ := by
  unfold DelA
  have hrow := pointsTo_congr (Val := Elt F) (Ix := Unit) (Name := ℕ) (U := Pipeline.UD sig nD τ) (Lvl := ℕ) (ℓ := (c : Thread nD τ).loc cc0_scratch0) (q := fullShare) (I := rowSet (0 + j))
    (fun y hy => landedA (F := F) T HA HB e j hj offD hD hoffD off hS hoff f y hy)
  have hjoin := (pointsTo_split_subset (Val := Elt F) (Ix := Unit) (Name := ℕ) (U := Pipeline.UD sig nD τ) (Lvl := ℕ) (ℓ := (c : Thread nD τ).loc main_arg2) (q := Transfers.shareTok fullShare 1024 ⟨j, hj⟩) (f := HA)
    (Finset.subset_univ (((Memref.whole main_arg2).slice (Rect.unit (s := S8192x1024) off S1x1024.size hS) (fun _ => rfl)).view.set))).2
  iintro ⟨Hrest, Hd, Hs⟩
  isplitl [Hd]
  · iapply (Entails.of_eq hrow) $$ Hd
  · iapply hjoin
    isplitl [Hs]; · iexact Hs
    iexact Hrest

/-- ONE START of group A: with `j` copies started and the table in hand, the trip starts copy `j`. -/
theorem wp_startA (c : Dev nD) {defs : Defs nD τ sig (Elt F) Λ} (𝒱 : Variants) (q : PosShare TreeShare)
    (T : S24576.Idx → BitVec 32) (HA : S8192x1024.Idx → BitVec 32) (HB : S4096x1024.Idx → BitVec 32) (e j : ℕ) (hj : j < 1024)
    (offT : Fin 1 → ℕ) (hT : ∀ a, offT a + S1.size a ≤ S24576.size a) (chk : BitVec 32 → Prop) (dec : ∀ v, Decidable (chk v))
    (offD : Fin 2 → ℕ) (hD : ∀ a, offD a + S1x1024.size a ≤ S1536x1024.size a)
    (offS : BitVec 32 → Fin 2 → ℕ) (hS : ∀ v, chk v → ∀ a, offS v a + S1x1024.size a ≤ S8192x1024.size a)
    (hoffT : offT = ![e * 1536 + (0 + j)]) (hoffD : offD = ![0 + j, 0]) (hoffS : ∀ v, offS v = ![v.toNat, 0])
    (hchk : chk (tblN T (e * 1536 + (0 + j)))) :
    iprop((((c : Thread nD τ).loc main_v1) ↦{q} (T : Buf (Elt F) ((c : Thread nD τ).loc main_v1))) ∗ FlyA (F := F) c (XE T HA HB e) HA j)
      ⊢ wp frame (wpE defs 𝒱 (c : Thread nD τ) none) Set.univ (startA (F := F) (Λ := Λ) offT hT chk dec offD hD offS hS)
        (fun _ => iprop((((c : Thread nD τ).loc main_v1) ↦{q} (T : Buf (Elt F) ((c : Thread nD τ).loc main_v1))) ∗ FlyA (F := F) c (XE T HA HB e) HA (j + 1))) := by
  unfold FlyA
  rw [Ring.bigSep_rangeSet_head (hj) (hj)]
  unfold startA
  simp only [smemLoad, smemLoadElt, Prog.lift, Prog.bind_op, Prog.bind_ret, Prog.pure_eq_ret, Prog.bind_assoc]
  iintro ⟨Htbl, HB, HH, Hrest⟩
  iapply (wp_load_rect 𝒱 (c : Thread nD τ) none Set.univ (m := Memref.whole main_v1) (r := Rect.unit (s := S24576) offT S1.size hT) (Finset.subset_univ _)) $$ Htbl
  iintro Htbl
  have hval : ((Memref.whole main_v1).access (Rect.unit (s := S24576) offT S1.size hT)).read (Elt F) T (Shape.Idx.first (s := S1) (numel1_S1.symm ▸ Nat.one_pos)) = tblN T (e * 1536 + (0 + j)) := by
    have hlt : e * 1536 + (0 + j) < 24576 := by have := hT 0; rw [hoffT] at this; simp at this; omega
    unfold tblN
    rw [dif_pos hlt, View.read_apply]
    show T _ = T _
    congr 1
    funext a
    fin_cases a
    apply Fin.ext
    show ((Rect.unit (s := S24576) offT S1.size hT).emb _ 0 : ℕ) = e * 1536 + (0 + j)
    rw [Rect.emb_apply]
    subst hoffT
    show e * 1536 + (0 + j) + 1 * ((Shape.Idx.first (s := S1) (numel1_S1.symm ▸ Nat.one_pos)) 0).val = e * 1536 + (0 + j)
    have h0 : ((Shape.Idx.first (s := S1) (numel1_S1.symm ▸ Nat.one_pos)) 0).val < 1 := ((Shape.Idx.first (s := S1) (numel1_S1.symm ▸ Nat.one_pos)) 0).isLt
    omega
  generalize hw : ((Memref.whole main_v1).access (Rect.unit (s := S24576) offT S1.size hT)).read (Elt F) T (Shape.Idx.first (s := S1) (numel1_S1.symm ▸ Nat.one_pos)) = w at hval
  subst hval
  rw [wp_assume_of 𝒱 (c : Thread nD τ) none Set.univ hchk]
  unfold HandA
  icases HH with ⟨⟨%f, Hrow⟩, Htok⟩
  ihave Htok' := (pointsTo_split_subset (Finset.subset_univ
    ((Memref.whole main_arg2).slice (Rect.unit (s := S8192x1024) (offS _) S1x1024.size (hS _ hchk)) (fun _ => rfl)).view.set)).1 $$ Htok
  icases Htok' with ⟨Hsrc, Hsrest⟩
  iapply (wp_startRow 𝒱 (c := (c : Thread nD τ)) (dst := (Memref.whole cc0_scratch0).slice (Rect.unit (s := S1536x1024) offD S1x1024.size hD) (fun _ => rfl)) (Sd := rowSet (0 + j)) (fd := f)
      (fs := HA) (q := Transfers.shareTok fullShare 1024 ⟨j, hj⟩) (D := DelA (F := F) c (XE T HA HB e) HA)
      (P := iprop(((c : Thread nD τ).loc main_arg2) ↦[Finset.univ \ ((Memref.whole main_arg2).slice (Rect.unit (s := S8192x1024) (offS _) S1x1024.size (hS _ hchk)) (fun _ => rfl)).view.set]{Transfers.shareTok fullShare 1024 ⟨j, hj⟩} (HA : Buf (Elt F) ((c : Thread nD τ).loc main_arg2)))) NR rfl ?hSd hj (Nat.zero_le _) ?hDel) $$ [Hsrc Hsrest Hrow HB]
  case hSd =>
    show ((View.whole cc0_scratch0).slice (Rect.unit (s := S1536x1024) offD S1x1024.size hD)).set ⊆ _
    rw [View.set_slice_whole, rect_set_row (0 + j) offD hoffD]
  case hDel => exact deliverA (F := F) c T HA HB e j hj offD hD hoffD (offS _) (hS _ hchk) (hoffS _) f
  · isplitl [Hsrest]; · iexact Hsrest
    isplitl [Hsrc]; · iexact Hsrc
    isplitl [Hrow]; · iexact Hrow
    iexact HB
  iintro HB
  rw [wp_ret]
  imodintro
  isplitl [Htbl]; · iexact Htbl
  isplitl [HB]; · iexact HB
  iexact Hrest

/-! ## Token group B -/

/-- The semaphore of group B's copies. -/
abbrev semB : DmaSem sig := ((cc0_scratch3.slice (Rect.unit (s := S2) ![1] S1.size inb_S2_S1_1)).squeeze S_ squeezes_S1_S_).sem

/-- What copy `t` of group B delivers: row `1024 + t` of the gathered buffer at contents `X`, and its share of the
    group's packed rows. -/
def DelB (c : Dev nD) (X : S1536x1024.Idx → BitVec 32) (H : S4096x1024.Idx → BitVec 32) (t : Fin 512) : sProp 𝕄 :=
  iprop((((c : Thread nD τ).loc cc0_scratch0) ↦[rowSet (1024 + t.val)]{fullShare} (X : Buf (Elt F) ((c : Thread nD τ).loc cc0_scratch0)))
    ∗ (((c : Thread nD τ).loc main_arg3) ↦{Transfers.shareTok fullShare 512 t} (H : Buf (Elt F) ((c : Thread nD τ).loc main_arg3))))

instance storable_DelB (c : Dev nD) (X : S1536x1024.Idx → BitVec 32) (H : S4096x1024.Idx → BitVec 32) (t : Fin 512) :
    Storable (upEmb : UEmb _ 𝕄) (DelB (F := F) c X H t) := by
  unfold DelB; infer_instance

/-- Group B with `j` copies started and `u` units waited for. -/
abbrev BatB (c : Dev nD) (X : S1536x1024.Idx → BitVec 32) (H : S4096x1024.Idx → BitVec 32) (j u : ℕ) : sProp 𝕄 :=
  Transfers.Batch (EC F) (c : Thread nD τ) (.dma semB) () NR (DelB (F := F) c X H) j u

/-- What is in hand for copy `t` of group B before it starts: its row at some contents, its share of the source. -/
def HandB (c : Dev nD) (H : S4096x1024.Idx → BitVec 32) (t : Fin 512) : sProp 𝕄 :=
  iprop((∃ f : Buf (Elt F) ((c : Thread nD τ).loc cc0_scratch0), ((c : Thread nD τ).loc cc0_scratch0) ↦[rowSet (1024 + t.val)]{fullShare} f)
    ∗ (((c : Thread nD τ).loc main_arg3) ↦{Transfers.shareTok fullShare 512 t} (H : Buf (Elt F) ((c : Thread nD τ).loc main_arg3))))

/-- Group B in flight: `j` copies started, the others' rows and shares in hand. -/
def FlyB (c : Dev nD) (X : S1536x1024.Idx → BitVec 32) (H : S4096x1024.Idx → BitVec 32) (j : ℕ) : sProp 𝕄 :=
  iprop(BatB (F := F) c X H j 0 ∗ bigSep (Ring.rangeSet 512 j 512) (HandB (F := F) c H))

/-- One trip of a loop that starts a copy of group B, over its offsets and its side condition. -/
def startB (offT : Fin 1 → ℕ) (hT : ∀ a, offT a + S1.size a ≤ S24576.size a) (chk : BitVec 32 → Prop) (dec : ∀ v, Decidable (chk v))
    (offD : Fin 2 → ℕ) (hD : ∀ a, offD a + S1x1024.size a ≤ S1536x1024.size a)
    (offS : BitVec 32 → Fin 2 → ℕ) (hS : ∀ v, chk v → ∀ a, offS v a + S1x1024.size a ≤ S4096x1024.size a) : BProg F Λ PUnit := do
  let v : Elt F .i32 ← smemLoad (Memref.whole main_v1) (Rect.unit (s := S24576) offT S1.size hT) numel1_S1 rfl
  have hw : chk v := (← Prog.lift (TpuEff.assume (chk v) (dec v))).down
  Prog.lift (.enqueueDma ((Memref.whole main_arg3).slice (Rect.unit (s := S4096x1024) (offS v) S1x1024.size (hS v hw)) (fun _ => rfl))
    (.here ((Memref.whole cc0_scratch0).slice (Rect.unit (s := S1536x1024) offD S1x1024.size hD) (fun _ => rfl)))
    (.dma semB) (View.wordExact_bits rfl) (View.wordExact_bits rfl) ⟨Or.inl rfl, trivial⟩)
  pure ⟨⟩

/-- The copied row is the row of `XE`. -/
theorem landedB (T : S24576.Idx → BitVec 32) (HA : S8192x1024.Idx → BitVec 32) (HB : S4096x1024.Idx → BitVec 32) (e j : ℕ) (hj : j < 512)
    (offD : Fin 2 → ℕ) (hD : ∀ a, offD a + S1x1024.size a ≤ S1536x1024.size a) (hoffD : offD = ![1024 + j, 0])
    (off : Fin 2 → ℕ) (hS : ∀ a, off a + S1x1024.size a ≤ S4096x1024.size a) (hoff : off = ![(tblN T (e * 1536 + (1024 + j))).toNat, 0])
    (f : S1536x1024.Idx → BitVec 32) (y : S1536x1024.Idx) (hy : y ∈ rowSet (1024 + j)) :
    ((Memref.whole cc0_scratch0).slice (Rect.unit (s := S1536x1024) offD S1x1024.size hD) (fun _ => rfl)).view.write (Elt F) f
      (((Memref.whole main_arg3).slice (Rect.unit (s := S4096x1024) off S1x1024.size hS) (fun _ => rfl)).view.read (Elt F) HB) Finset.univ y
      = XE T HA HB e y := by
  subst hoffD hoff
  have hy0 := mem_rowSet.mp hy
  have hlt : (tblN T (e * 1536 + (1024 + j))).toNat < 4096 := by have h : (tblN T (e * 1536 + (1024 + j))).toNat + 1 ≤ 4096 := hS 0; omega
  have hmem : y ∈ ((View.whole cc0_scratch0).slice (Rect.unit (s := S1536x1024) ![1024 + j, 0] S1x1024.size hD)).set := by
    rw [View.set_slice_whole, rect_set_row (1024 + j) _ rfl]; exact hy
  obtain ⟨x, hx⟩ : ∃ x : S1x1024.Idx, ((Memref.whole cc0_scratch0).slice (Rect.unit (s := S1536x1024) ![1024 + j, 0] S1x1024.size hD) (fun _ => rfl)).view.emb x = y := by
    obtain ⟨x, -, hx⟩ := Finset.mem_map.mp hmem; exact ⟨x, hx⟩
  rw [← hx, View.write_emb_of_mem _ _ (Finset.mem_univ _), View.read_apply]
  have hx0 : (x 0).val = 0 := by have : (x 0).val < 1 := (x 0).isLt; omega
  have h0 : ((View.emb ((Memref.whole cc0_scratch0).slice (Rect.unit (s := S1536x1024) ![1024 + j, 0] S1x1024.size hD) (fun _ => rfl)).view x : S1536x1024.Idx) 0).val = 1024 + j := by
    rw [hx]; exact hy0
  have h1 : ((View.emb ((Memref.whole cc0_scratch0).slice (Rect.unit (s := S1536x1024) ![1024 + j, 0] S1x1024.size hD) (fun _ => rfl)).view x : S1536x1024.Idx) 1) = x 1 := by
    apply Fin.ext
    show ((Rect.unit (s := S1536x1024) ![1024 + j, 0] S1x1024.size hD).emb x 1 : ℕ) = (x 1).val
    simp [Rect.emb_apply]
  unfold XE rowB
  rw [h0, h1]
  rw [if_neg (show ¬ (1024 + j < 1024) by omega), dif_pos hlt]
  show HB _ = HB _
  congr 1
  funext a
  fin_cases a
  · apply Fin.ext; show ((Rect.unit (s := S4096x1024) ![(tblN T (e * 1536 + (1024 + j))).toNat, 0] S1x1024.size hS).emb x 0 : ℕ) = (tblN T (e * 1536 + (1024 + j))).toNat
    simp [Rect.emb_apply, hx0]
  · apply Fin.ext; show ((Rect.unit (s := S4096x1024) ![(tblN T (e * 1536 + (1024 + j))).toNat, 0] S1x1024.size hS).emb x 1 : ℕ) = (x 1).val
    simp [Rect.emb_apply]

/-- What copy `j` leaves is its delivery. -/
theorem deliverB (c : Dev nD) (T : S24576.Idx → BitVec 32) (HA : S8192x1024.Idx → BitVec 32) (HB : S4096x1024.Idx → BitVec 32) (e j : ℕ) (hj : j < 512)
    (offD : Fin 2 → ℕ) (hD : ∀ a, offD a + S1x1024.size a ≤ S1536x1024.size a) (hoffD : offD = ![1024 + j, 0])
    (off : Fin 2 → ℕ) (hS : ∀ a, off a + S1x1024.size a ≤ S4096x1024.size a) (hoff : off = ![(tblN T (e * 1536 + (1024 + j))).toNat, 0])
    (f : S1536x1024.Idx → BitVec 32) :
    (iprop((((c : Thread nD τ).loc main_arg3) ↦[Finset.univ \ ((Memref.whole main_arg3).slice (Rect.unit (s := S4096x1024) off S1x1024.size hS) (fun _ => rfl)).view.set]{Transfers.shareTok fullShare 512 ⟨j, hj⟩} (HB : Buf (Elt F) ((c : Thread nD τ).loc main_arg3)))
      ∗ (((c : Thread nD τ).loc cc0_scratch0) ↦[rowSet (1024 + j)]{fullShare}
          (((Memref.whole cc0_scratch0).slice (Rect.unit (s := S1536x1024) offD S1x1024.size hD) (fun _ => rfl)).view.write (Elt F) f
            (((Memref.whole main_arg3).slice (Rect.unit (s := S4096x1024) off S1x1024.size hS) (fun _ => rfl)).view.read (Elt F) HB) Finset.univ : Buf (Elt F) ((c : Thread nD τ).loc cc0_scratch0)))
      ∗ (((c : Thread nD τ).loc main_arg3) ↦[((Memref.whole main_arg3).slice (Rect.unit (s := S4096x1024) off S1x1024.size hS) (fun _ => rfl)).view.set]{Transfers.shareTok fullShare 512 ⟨j, hj⟩} (HB : Buf (Elt F) ((c : Thread nD τ).loc main_arg3)))) : sProp 𝕄)
      ⊢ DelB (F := F) c (XE T HA HB e) HB ⟨j, hj⟩ := by
  unfold DelB
  have hrow := pointsTo_congr (Val := Elt F) (Ix := Unit) (Name := ℕ) (U := Pipeline.UD sig nD τ) (Lvl := ℕ) (ℓ := (c : Thread nD τ).loc cc0_scratch0) (q := fullShare) (I := rowSet (1024 + j))
    (fun y hy => landedB (F := F) T HA HB e j hj offD hD hoffD off hS hoff f y hy)
  have hjoin := (pointsTo_split_subset (Val := Elt F) (Ix := Unit) (Name := ℕ) (U := Pipeline.UD sig nD τ) (Lvl := ℕ) (ℓ := (c : Thread nD τ).loc main_arg3) (q := Transfers.shareTok fullShare 512 ⟨j, hj⟩) (f := HB)
    (Finset.subset_univ (((Memref.whole main_arg3).slice (Rect.unit (s := S4096x1024) off S1x1024.size hS) (fun _ => rfl)).view.set))).2
  iintro ⟨Hrest, Hd, Hs⟩
  isplitl [Hd]
  · iapply (Entails.of_eq hrow) $$ Hd
  · iapply hjoin
    isplitl [Hs]; · iexact Hs
    iexact Hrest

/-- ONE START of group B: with `j` copies started and the table in hand, the trip starts copy `j`. -/
theorem wp_startB (c : Dev nD) {defs : Defs nD τ sig (Elt F) Λ} (𝒱 : Variants) (q : PosShare TreeShare)
    (T : S24576.Idx → BitVec 32) (HA : S8192x1024.Idx → BitVec 32) (HB : S4096x1024.Idx → BitVec 32) (e j : ℕ) (hj : j < 512)
    (offT : Fin 1 → ℕ) (hT : ∀ a, offT a + S1.size a ≤ S24576.size a) (chk : BitVec 32 → Prop) (dec : ∀ v, Decidable (chk v))
    (offD : Fin 2 → ℕ) (hD : ∀ a, offD a + S1x1024.size a ≤ S1536x1024.size a)
    (offS : BitVec 32 → Fin 2 → ℕ) (hS : ∀ v, chk v → ∀ a, offS v a + S1x1024.size a ≤ S4096x1024.size a)
    (hoffT : offT = ![e * 1536 + (1024 + j)]) (hoffD : offD = ![1024 + j, 0]) (hoffS : ∀ v, offS v = ![v.toNat, 0])
    (hchk : chk (tblN T (e * 1536 + (1024 + j)))) :
    iprop((((c : Thread nD τ).loc main_v1) ↦{q} (T : Buf (Elt F) ((c : Thread nD τ).loc main_v1))) ∗ FlyB (F := F) c (XE T HA HB e) HB j)
      ⊢ wp frame (wpE defs 𝒱 (c : Thread nD τ) none) Set.univ (startB (F := F) (Λ := Λ) offT hT chk dec offD hD offS hS)
        (fun _ => iprop((((c : Thread nD τ).loc main_v1) ↦{q} (T : Buf (Elt F) ((c : Thread nD τ).loc main_v1))) ∗ FlyB (F := F) c (XE T HA HB e) HB (j + 1))) := by
  unfold FlyB
  rw [Ring.bigSep_rangeSet_head (hj) (hj)]
  unfold startB
  simp only [smemLoad, smemLoadElt, Prog.lift, Prog.bind_op, Prog.bind_ret, Prog.pure_eq_ret, Prog.bind_assoc]
  iintro ⟨Htbl, HB, HH, Hrest⟩
  iapply (wp_load_rect 𝒱 (c : Thread nD τ) none Set.univ (m := Memref.whole main_v1) (r := Rect.unit (s := S24576) offT S1.size hT) (Finset.subset_univ _)) $$ Htbl
  iintro Htbl
  have hval : ((Memref.whole main_v1).access (Rect.unit (s := S24576) offT S1.size hT)).read (Elt F) T (Shape.Idx.first (s := S1) (numel1_S1.symm ▸ Nat.one_pos)) = tblN T (e * 1536 + (1024 + j)) := by
    have hlt : e * 1536 + (1024 + j) < 24576 := by have := hT 0; rw [hoffT] at this; simp at this; omega
    unfold tblN
    rw [dif_pos hlt, View.read_apply]
    show T _ = T _
    congr 1
    funext a
    fin_cases a
    apply Fin.ext
    show ((Rect.unit (s := S24576) offT S1.size hT).emb _ 0 : ℕ) = e * 1536 + (1024 + j)
    rw [Rect.emb_apply]
    subst hoffT
    show e * 1536 + (1024 + j) + 1 * ((Shape.Idx.first (s := S1) (numel1_S1.symm ▸ Nat.one_pos)) 0).val = e * 1536 + (1024 + j)
    have h0 : ((Shape.Idx.first (s := S1) (numel1_S1.symm ▸ Nat.one_pos)) 0).val < 1 := ((Shape.Idx.first (s := S1) (numel1_S1.symm ▸ Nat.one_pos)) 0).isLt
    omega
  generalize hw : ((Memref.whole main_v1).access (Rect.unit (s := S24576) offT S1.size hT)).read (Elt F) T (Shape.Idx.first (s := S1) (numel1_S1.symm ▸ Nat.one_pos)) = w at hval
  subst hval
  rw [wp_assume_of 𝒱 (c : Thread nD τ) none Set.univ hchk]
  unfold HandB
  icases HH with ⟨⟨%f, Hrow⟩, Htok⟩
  ihave Htok' := (pointsTo_split_subset (Finset.subset_univ
    ((Memref.whole main_arg3).slice (Rect.unit (s := S4096x1024) (offS _) S1x1024.size (hS _ hchk)) (fun _ => rfl)).view.set)).1 $$ Htok
  icases Htok' with ⟨Hsrc, Hsrest⟩
  iapply (wp_startRow 𝒱 (c := (c : Thread nD τ)) (dst := (Memref.whole cc0_scratch0).slice (Rect.unit (s := S1536x1024) offD S1x1024.size hD) (fun _ => rfl)) (Sd := rowSet (1024 + j)) (fd := f)
      (fs := HB) (q := Transfers.shareTok fullShare 512 ⟨j, hj⟩) (D := DelB (F := F) c (XE T HA HB e) HB)
      (P := iprop(((c : Thread nD τ).loc main_arg3) ↦[Finset.univ \ ((Memref.whole main_arg3).slice (Rect.unit (s := S4096x1024) (offS _) S1x1024.size (hS _ hchk)) (fun _ => rfl)).view.set]{Transfers.shareTok fullShare 512 ⟨j, hj⟩} (HB : Buf (Elt F) ((c : Thread nD τ).loc main_arg3)))) NR rfl ?hSd hj (Nat.zero_le _) ?hDel) $$ [Hsrc Hsrest Hrow HB]
  case hSd =>
    show ((View.whole cc0_scratch0).slice (Rect.unit (s := S1536x1024) offD S1x1024.size hD)).set ⊆ _
    rw [View.set_slice_whole, rect_set_row (1024 + j) offD hoffD]
  case hDel => exact deliverB (F := F) c T HA HB e j hj offD hD hoffD (offS _) (hS _ hchk) (hoffS _) f
  · isplitl [Hsrest]; · iexact Hsrest
    isplitl [Hsrc]; · iexact Hsrc
    isplitl [Hrow]; · iexact Hrow
    iexact HB
  iintro HB
  rw [wp_ret]
  imodintro
  isplitl [Htbl]; · iexact Htbl
  isplitl [HB]; · iexact HB
  iexact Hrest

end Cert.KernelIdeal.Hand
-- ==== Proof.Flight.lean ====
/-
  A WHOLE ROUND OF COPIES of the expert network's body: from the gathered buffer and the two groups' packed rows in hand, through
  both groups in flight, to the buffer holding the expert's rows and everything back.
-/
module

public import proofs.«01_k».proof.Proof.Gather

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] {Λ : Labels}

/-- The proof's user algebra: the pipeline library's beside the transfers' counters. -/
local notation "𝕄" => MT nD τ sig Unit (Elt F) ℕ (Pipeline.UD sig nD τ) ℕ

/-- The rows of the first group in the gathered buffer. -/
def blkA : Finset S1536x1024.Idx := Finset.univ.filter fun y => (y 0).val < 1024

theorem rowsA : (Finset.univ.biUnion fun t : Fin 1024 => rowSet (0 + t.val)) = blkA := by
  ext y
  simp only [Finset.mem_biUnion, Finset.mem_univ, true_and, mem_rowSet, blkA, Finset.mem_filter]
  constructor
  · rintro ⟨t, ht⟩; have := t.isLt; omega
  · intro h; exact ⟨⟨(y 0).val, h⟩, by simp⟩

theorem rowsB : (Finset.univ.biUnion fun t : Fin 512 => rowSet (1024 + t.val)) = Finset.univ \ blkA := by
  ext y
  simp only [Finset.mem_biUnion, Finset.mem_univ, true_and, mem_rowSet, blkA, Finset.mem_filter, Finset.mem_sdiff]
  constructor
  · rintro ⟨t, ht⟩; have := t.isLt; omega
  · intro h
    have h1 : (y 0).val < 1536 := (y 0).isLt
    exact ⟨⟨(y 0).val - 1024, by omega⟩, by show (y 0).val = 1024 + ((y 0).val - 1024); omega⟩

theorem rowSet_disj {n : ℕ} (b : ℕ) (t t' : Fin n) (h : t ≠ t') : Disjoint (rowSet (b + t.val)) (rowSet (b + t'.val)) := by
  rw [Finset.disjoint_left]
  intro y hy hy'
  rw [mem_rowSet] at hy hy'
  exact h (Fin.ext (by omega))

/-! ## Token group A -/

/-- One trip of a loop that waits for a copy of group A. -/
def waitA (offD : Fin 2 → ℕ) (hD : ∀ a, offD a + S1x1024.size a ≤ S1536x1024.size a) : BProg F Λ PUnit := do
  Prog.lift (.waitDma2 semA ((Memref.whole main_arg2).slice (Rect.unit (s := S8192x1024) ![0, 0] S1x1024.size inb_S8192x1024_S1x1024_0_0) (fun _ => rfl))
    ((Memref.whole cc0_scratch0).slice (Rect.unit (s := S1536x1024) offD S1x1024.size hD) (fun _ => rfl)) (View.wordExact_bits rfl) (View.wordExact_bits rfl))
  pure ⟨⟩

/-- What the waiting loop holds after `k` waits: the batch with `k` rows' credit taken, and after the last everything delivered
    and the cell back at zero. -/
def TakenA (c : Dev nD) (X : S1536x1024.Idx → BitVec 32) (H : S8192x1024.Idx → BitVec 32) (k : ℕ) : sProp 𝕄 :=
  iprop((∃ W, owes (c : Thread nD τ) 0 W)
    ∗ if k < 1024 then BatA (F := F) c X H 1024 (k * NR)
      else iprop(bigSep Finset.univ (DelA (F := F) c X H) ∗ semVal ((c : Thread nD τ), .dma semA) 0))

/-- ONE WAIT of group A. -/
theorem wp_waitA (c : Dev nD) {defs : Defs nD τ sig (Elt F) Λ} (𝒱 : Variants)
    (X : S1536x1024.Idx → BitVec 32) (H : S8192x1024.Idx → BitVec 32) (k : ℕ) (hk : k < 1024)
    (offD : Fin 2 → ℕ) (hD : ∀ a, offD a + S1x1024.size a ≤ S1536x1024.size a) :
    TakenA (F := F) c X H k
      ⊢ wp frame (wpE defs 𝒱 (c : Thread nD τ) none) Set.univ (waitA (F := F) (Λ := Λ) offD hD) (fun _ => TakenA (F := F) c X H (k + 1)) := by
  unfold TakenA waitA
  rw [if_pos hk]
  simp only [Prog.lift, Prog.bind_op, Prog.bind_ret, Prog.pure_eq_ret, Prog.bind_assoc]
  iintro ⟨⟨%W, HW⟩, HB⟩
  by_cases hl : k + 1 < 1024
  · rw [if_pos hl]
    iapply (Transfers.wp_waitBatch (EC F) 𝒱 (c : Thread nD τ) none () (N := NR)
      (srcw := (Memref.whole main_arg2).slice (Rect.unit (s := S8192x1024) ![0, 0] S1x1024.size inb_S8192x1024_S1x1024_0_0) (fun _ => rfl)) (dstw := (Memref.whole cc0_scratch0).slice (Rect.unit (s := S1536x1024) offD S1x1024.size hD) (fun _ => rfl)) (hsrc := View.wordExact_bits rfl) (hdst := View.wordExact_bits rfl) rfl
      (show k * NR + NR < NR * 1024 by rw [← Nat.succ_mul, Nat.mul_comm NR]; exact Nat.mul_lt_mul_of_pos_right hl NR_pos)) $$ [HB HW]
    · isplitl [HB]; · iexact HB
      iexact HW
    iintro ⟨HB, HW⟩
    rw [wp_ret]; imodintro
    isplitl [HW]; · iexists _; iexact HW
    rw [Nat.succ_mul]
    iexact HB
  · rw [if_neg hl]
    iapply (Transfers.wp_waitBatchLast (EC F) 𝒱 (c : Thread nD τ) none () (N := NR)
      (srcw := (Memref.whole main_arg2).slice (Rect.unit (s := S8192x1024) ![0, 0] S1x1024.size inb_S8192x1024_S1x1024_0_0) (fun _ => rfl)) (dstw := (Memref.whole cc0_scratch0).slice (Rect.unit (s := S1536x1024) offD S1x1024.size hD) (fun _ => rfl)) (hsrc := View.wordExact_bits rfl) (hdst := View.wordExact_bits rfl) rfl NR_pos
      (show k * NR + NR = NR * 1024 by rw [← Nat.succ_mul, Nat.mul_comm NR, show k.succ = 1024 by omega])) $$ [HB HW]
    · isplitl [HB]; · iexact HB
      iexact HW
    iintro ⟨HB, Hs, HW⟩
    rw [wp_ret]; imodintro
    isplitl [HW]; · iexists _; iexact HW
    isplitl [HB]; · iexact HB
    iexact Hs

/-- Group A's rows and shares, in hand and not started, with its cell at zero, become group A in flight with nothing started. -/
theorem beginA (c : Dev nD) (X : S1536x1024.Idx → BitVec 32) (H : S8192x1024.Idx → BitVec 32) (f : S1536x1024.Idx → BitVec 32) :
    (iprop(semVal ((c : Thread nD τ), .dma semA) 0
      ∗ (((c : Thread nD τ).loc cc0_scratch0) ↦[blkA]{fullShare} (f : Buf (Elt F) ((c : Thread nD τ).loc cc0_scratch0)))
      ∗ (((c : Thread nD τ).loc main_arg2) ↦{fullShare} (H : Buf (Elt F) ((c : Thread nD τ).loc main_arg2)))) : sProp 𝕄)
      ⊢ |={Set.univ}=> iprop(FlyA (F := F) c X H 0 ∗ (((c : Thread nD τ).loc main_arg2) ↦{Transfers.shareDrop fullShare 1024} (H : Buf (Elt F) ((c : Thread nD τ).loc main_arg2)))) := by
  have hr := pointsTo_biUnion (Val := Elt F) (Ix := Unit) (Name := ℕ) (U := Pipeline.UD sig nD τ) (Lvl := ℕ) (ℓ := (c : Thread nD τ).loc cc0_scratch0) (q := fullShare) (f := f)
    Finset.univ (fun t : Fin 1024 => rowSet (0 + t.val)) (fun t _ t' _ h => rowSet_disj _ t t' h)
  have hset : (Finset.univ.biUnion fun t : Fin 1024 => (rowSet (0 + t.val) : Finset (Idx ((c : Thread nD τ).loc cc0_scratch0)))) = blkA := rowsA
  rw [hset] at hr
  unfold FlyA
  iintro ⟨Hc, Hx, Hh⟩
  imod (Transfers.batch_alloc' (Lvl := ℕ) (EC F) (c : Thread nD τ) () NR (DelA (F := F) c X H) (sm := .dma semA) (E := Set.univ)) $$ Hc with HB
  imodintro
  ihave Hh' := (Transfers.pointsTo_toks_split fullShare 1024) $$ Hh
  icases Hh' with ⟨Hdrop, Htoks⟩
  ihave Hx' := (Entails.of_eq hr) $$ Hx
  isplitr [Hdrop]
  · isplitl [HB]; · iexact HB
    rw [Ring.rangeSet_univ]
    unfold HandA
    rw [bigSep_sep']
    isplitl [Hx']
    · have hm : (bigSep Finset.univ (fun t : Fin 1024 => (((c : Thread nD τ).loc cc0_scratch0) ↦[rowSet (0 + t.val)]{fullShare} (f : Buf (Elt F) ((c : Thread nD τ).loc cc0_scratch0)))) : sProp 𝕄)
          ⊢ bigSep Finset.univ (fun t : Fin 1024 => iprop(∃ g : Buf (Elt F) ((c : Thread nD τ).loc cc0_scratch0), ((c : Thread nD τ).loc cc0_scratch0) ↦[rowSet (0 + t.val)]{fullShare} g)) := by
        have h1 : ∀ t : Fin 1024, ((((c : Thread nD τ).loc cc0_scratch0) ↦[rowSet (0 + t.val)]{fullShare} (f : Buf (Elt F) ((c : Thread nD τ).loc cc0_scratch0))) : sProp 𝕄)
            ⊢ iprop(∃ g : Buf (Elt F) ((c : Thread nD τ).loc cc0_scratch0), ((c : Thread nD τ).loc cc0_scratch0) ↦[rowSet (0 + t.val)]{fullShare} g) := by
          intro t; iintro H; iexists f; iexact H
        exact bigSep_mono fun t _ => h1 t
      iapply hm; iexact Hx'
    · iexact Htoks
  · iexact Hdrop

/-- Group A delivered: its rows at `X` and the source whole again. -/
theorem finishA (c : Dev nD) (X : S1536x1024.Idx → BitVec 32) (H : S8192x1024.Idx → BitVec 32) :
    (iprop(bigSep Finset.univ (DelA (F := F) c X H) ∗ (((c : Thread nD τ).loc main_arg2) ↦{Transfers.shareDrop fullShare 1024} (H : Buf (Elt F) ((c : Thread nD τ).loc main_arg2)))) : sProp 𝕄)
      ⊢ iprop((((c : Thread nD τ).loc cc0_scratch0) ↦[blkA]{fullShare} (X : Buf (Elt F) ((c : Thread nD τ).loc cc0_scratch0)))
      ∗ (((c : Thread nD τ).loc main_arg2) ↦{fullShare} (H : Buf (Elt F) ((c : Thread nD τ).loc main_arg2)))) := by
  have hr := pointsTo_biUnion (Val := Elt F) (Ix := Unit) (Name := ℕ) (U := Pipeline.UD sig nD τ) (Lvl := ℕ) (ℓ := (c : Thread nD τ).loc cc0_scratch0) (q := fullShare) (f := X)
    Finset.univ (fun t : Fin 1024 => rowSet (0 + t.val)) (fun t _ t' _ h => rowSet_disj _ t t' h)
  have hset : (Finset.univ.biUnion fun t : Fin 1024 => (rowSet (0 + t.val) : Finset (Idx ((c : Thread nD τ).loc cc0_scratch0)))) = blkA := rowsA
  rw [hset] at hr
  unfold DelA
  rw [bigSep_sep']
  iintro ⟨⟨Hx, Ht⟩, Hdrop⟩
  isplitl [Hx]
  · iapply (Entails.of_eq hr.symm); iexact Hx
  · iapply (Transfers.pointsTo_toks_join fullShare 1024)
    isplitl [Hdrop]; · iexact Hdrop
    iexact Ht

/-- All of group A started, ready to be waited for. -/
theorem landed_startA (c : Dev nD) (X : S1536x1024.Idx → BitVec 32) (H : S8192x1024.Idx → BitVec 32) :
    (iprop((∃ W, owes (c : Thread nD τ) 0 W) ∗ FlyA (F := F) c X H 1024) : sProp 𝕄) ⊢ TakenA (F := F) c X H 0 := by
  unfold TakenA FlyA
  rw [if_pos (by decide), Nat.zero_mul]
  iintro ⟨HW, HB, -⟩
  isplitl [HW]; · iexact HW
  iexact HB

/-! ## Token group B -/

/-- One trip of a loop that waits for a copy of group B. -/
def waitB (offD : Fin 2 → ℕ) (hD : ∀ a, offD a + S1x1024.size a ≤ S1536x1024.size a) : BProg F Λ PUnit := do
  Prog.lift (.waitDma2 semB ((Memref.whole main_arg3).slice (Rect.unit (s := S4096x1024) ![0, 0] S1x1024.size inb_S4096x1024_S1x1024_0_0) (fun _ => rfl))
    ((Memref.whole cc0_scratch0).slice (Rect.unit (s := S1536x1024) offD S1x1024.size hD) (fun _ => rfl)) (View.wordExact_bits rfl) (View.wordExact_bits rfl))
  pure ⟨⟩

/-- What the waiting loop holds after `k` waits: the batch with `k` rows' credit taken, and after the last everything delivered
    and the cell back at zero. -/
def TakenB (c : Dev nD) (X : S1536x1024.Idx → BitVec 32) (H : S4096x1024.Idx → BitVec 32) (k : ℕ) : sProp 𝕄 :=
  iprop((∃ W, owes (c : Thread nD τ) 0 W)
    ∗ if k < 512 then BatB (F := F) c X H 512 (k * NR)
      else iprop(bigSep Finset.univ (DelB (F := F) c X H) ∗ semVal ((c : Thread nD τ), .dma semB) 0))

/-- ONE WAIT of group B. -/
theorem wp_waitB (c : Dev nD) {defs : Defs nD τ sig (Elt F) Λ} (𝒱 : Variants)
    (X : S1536x1024.Idx → BitVec 32) (H : S4096x1024.Idx → BitVec 32) (k : ℕ) (hk : k < 512)
    (offD : Fin 2 → ℕ) (hD : ∀ a, offD a + S1x1024.size a ≤ S1536x1024.size a) :
    TakenB (F := F) c X H k
      ⊢ wp frame (wpE defs 𝒱 (c : Thread nD τ) none) Set.univ (waitB (F := F) (Λ := Λ) offD hD) (fun _ => TakenB (F := F) c X H (k + 1)) := by
  unfold TakenB waitB
  rw [if_pos hk]
  simp only [Prog.lift, Prog.bind_op, Prog.bind_ret, Prog.pure_eq_ret, Prog.bind_assoc]
  iintro ⟨⟨%W, HW⟩, HB⟩
  by_cases hl : k + 1 < 512
  · rw [if_pos hl]
    iapply (Transfers.wp_waitBatch (EC F) 𝒱 (c : Thread nD τ) none () (N := NR)
      (srcw := (Memref.whole main_arg3).slice (Rect.unit (s := S4096x1024) ![0, 0] S1x1024.size inb_S4096x1024_S1x1024_0_0) (fun _ => rfl)) (dstw := (Memref.whole cc0_scratch0).slice (Rect.unit (s := S1536x1024) offD S1x1024.size hD) (fun _ => rfl)) (hsrc := View.wordExact_bits rfl) (hdst := View.wordExact_bits rfl) rfl
      (show k * NR + NR < NR * 512 by rw [← Nat.succ_mul, Nat.mul_comm NR]; exact Nat.mul_lt_mul_of_pos_right hl NR_pos)) $$ [HB HW]
    · isplitl [HB]; · iexact HB
      iexact HW
    iintro ⟨HB, HW⟩
    rw [wp_ret]; imodintro
    isplitl [HW]; · iexists _; iexact HW
    rw [Nat.succ_mul]
    iexact HB
  · rw [if_neg hl]
    iapply (Transfers.wp_waitBatchLast (EC F) 𝒱 (c : Thread nD τ) none () (N := NR)
      (srcw := (Memref.whole main_arg3).slice (Rect.unit (s := S4096x1024) ![0, 0] S1x1024.size inb_S4096x1024_S1x1024_0_0) (fun _ => rfl)) (dstw := (Memref.whole cc0_scratch0).slice (Rect.unit (s := S1536x1024) offD S1x1024.size hD) (fun _ => rfl)) (hsrc := View.wordExact_bits rfl) (hdst := View.wordExact_bits rfl) rfl NR_pos
      (show k * NR + NR = NR * 512 by rw [← Nat.succ_mul, Nat.mul_comm NR, show k.succ = 512 by omega])) $$ [HB HW]
    · isplitl [HB]; · iexact HB
      iexact HW
    iintro ⟨HB, Hs, HW⟩
    rw [wp_ret]; imodintro
    isplitl [HW]; · iexists _; iexact HW
    isplitl [HB]; · iexact HB
    iexact Hs

/-- Group B's rows and shares, in hand and not started, with its cell at zero, become group B in flight with nothing started. -/
theorem beginB (c : Dev nD) (X : S1536x1024.Idx → BitVec 32) (H : S4096x1024.Idx → BitVec 32) (f : S1536x1024.Idx → BitVec 32) :
    (iprop(semVal ((c : Thread nD τ), .dma semB) 0
      ∗ (((c : Thread nD τ).loc cc0_scratch0) ↦[(Finset.univ \ blkA)]{fullShare} (f : Buf (Elt F) ((c : Thread nD τ).loc cc0_scratch0)))
      ∗ (((c : Thread nD τ).loc main_arg3) ↦{fullShare} (H : Buf (Elt F) ((c : Thread nD τ).loc main_arg3)))) : sProp 𝕄)
      ⊢ |={Set.univ}=> iprop(FlyB (F := F) c X H 0 ∗ (((c : Thread nD τ).loc main_arg3) ↦{Transfers.shareDrop fullShare 512} (H : Buf (Elt F) ((c : Thread nD τ).loc main_arg3)))) := by
  have hr := pointsTo_biUnion (Val := Elt F) (Ix := Unit) (Name := ℕ) (U := Pipeline.UD sig nD τ) (Lvl := ℕ) (ℓ := (c : Thread nD τ).loc cc0_scratch0) (q := fullShare) (f := f)
    Finset.univ (fun t : Fin 512 => rowSet (1024 + t.val)) (fun t _ t' _ h => rowSet_disj _ t t' h)
  have hset : (Finset.univ.biUnion fun t : Fin 512 => (rowSet (1024 + t.val) : Finset (Idx ((c : Thread nD τ).loc cc0_scratch0)))) = (Finset.univ \ blkA) := rowsB
  rw [hset] at hr
  unfold FlyB
  iintro ⟨Hc, Hx, Hh⟩
  imod (Transfers.batch_alloc' (Lvl := ℕ) (EC F) (c : Thread nD τ) () NR (DelB (F := F) c X H) (sm := .dma semB) (E := Set.univ)) $$ Hc with HB
  imodintro
  ihave Hh' := (Transfers.pointsTo_toks_split fullShare 512) $$ Hh
  icases Hh' with ⟨Hdrop, Htoks⟩
  ihave Hx' := (Entails.of_eq hr) $$ Hx
  isplitr [Hdrop]
  · isplitl [HB]; · iexact HB
    rw [Ring.rangeSet_univ]
    unfold HandB
    rw [bigSep_sep']
    isplitl [Hx']
    · have hm : (bigSep Finset.univ (fun t : Fin 512 => (((c : Thread nD τ).loc cc0_scratch0) ↦[rowSet (1024 + t.val)]{fullShare} (f : Buf (Elt F) ((c : Thread nD τ).loc cc0_scratch0)))) : sProp 𝕄)
          ⊢ bigSep Finset.univ (fun t : Fin 512 => iprop(∃ g : Buf (Elt F) ((c : Thread nD τ).loc cc0_scratch0), ((c : Thread nD τ).loc cc0_scratch0) ↦[rowSet (1024 + t.val)]{fullShare} g)) := by
        have h1 : ∀ t : Fin 512, ((((c : Thread nD τ).loc cc0_scratch0) ↦[rowSet (1024 + t.val)]{fullShare} (f : Buf (Elt F) ((c : Thread nD τ).loc cc0_scratch0))) : sProp 𝕄)
            ⊢ iprop(∃ g : Buf (Elt F) ((c : Thread nD τ).loc cc0_scratch0), ((c : Thread nD τ).loc cc0_scratch0) ↦[rowSet (1024 + t.val)]{fullShare} g) := by
          intro t; iintro H; iexists f; iexact H
        exact bigSep_mono fun t _ => h1 t
      iapply hm; iexact Hx'
    · iexact Htoks
  · iexact Hdrop

/-- Group B delivered: its rows at `X` and the source whole again. -/
theorem finishB (c : Dev nD) (X : S1536x1024.Idx → BitVec 32) (H : S4096x1024.Idx → BitVec 32) :
    (iprop(bigSep Finset.univ (DelB (F := F) c X H) ∗ (((c : Thread nD τ).loc main_arg3) ↦{Transfers.shareDrop fullShare 512} (H : Buf (Elt F) ((c : Thread nD τ).loc main_arg3)))) : sProp 𝕄)
      ⊢ iprop((((c : Thread nD τ).loc cc0_scratch0) ↦[(Finset.univ \ blkA)]{fullShare} (X : Buf (Elt F) ((c : Thread nD τ).loc cc0_scratch0)))
      ∗ (((c : Thread nD τ).loc main_arg3) ↦{fullShare} (H : Buf (Elt F) ((c : Thread nD τ).loc main_arg3)))) := by
  have hr := pointsTo_biUnion (Val := Elt F) (Ix := Unit) (Name := ℕ) (U := Pipeline.UD sig nD τ) (Lvl := ℕ) (ℓ := (c : Thread nD τ).loc cc0_scratch0) (q := fullShare) (f := X)
    Finset.univ (fun t : Fin 512 => rowSet (1024 + t.val)) (fun t _ t' _ h => rowSet_disj _ t t' h)
  have hset : (Finset.univ.biUnion fun t : Fin 512 => (rowSet (1024 + t.val) : Finset (Idx ((c : Thread nD τ).loc cc0_scratch0)))) = (Finset.univ \ blkA) := rowsB
  rw [hset] at hr
  unfold DelB
  rw [bigSep_sep']
  iintro ⟨⟨Hx, Ht⟩, Hdrop⟩
  isplitl [Hx]
  · iapply (Entails.of_eq hr.symm); iexact Hx
  · iapply (Transfers.pointsTo_toks_join fullShare 512)
    isplitl [Hdrop]; · iexact Hdrop
    iexact Ht

/-- All of group B started, ready to be waited for. -/
theorem landed_startB (c : Dev nD) (X : S1536x1024.Idx → BitVec 32) (H : S4096x1024.Idx → BitVec 32) :
    (iprop((∃ W, owes (c : Thread nD τ) 0 W) ∗ FlyB (F := F) c X H 512) : sProp 𝕄) ⊢ TakenB (F := F) c X H 0 := by
  unfold TakenB FlyB
  rw [if_pos (by decide), Nat.zero_mul]
  iintro ⟨HW, HB, -⟩
  isplitl [HW]; · iexact HW
  iexact HB

/-! ## Both groups -/

/-- The transfers of expert `e` in flight, `jA` and `jB` of the two groups' copies started. -/
def Flight (c : Dev nD) (T : S24576.Idx → BitVec 32) (HA : S8192x1024.Idx → BitVec 32) (HB : S4096x1024.Idx → BitVec 32) (e jA jB : ℕ) : sProp 𝕄 :=
  iprop((FlyA (F := F) c (XE T HA HB e) HA jA ∗ FlyB (F := F) c (XE T HA HB e) HB jB)
    ∗ (((c : Thread nD τ).loc main_arg2) ↦{Transfers.shareDrop fullShare 1024} (HA : Buf (Elt F) ((c : Thread nD τ).loc main_arg2)))
    ∗ (((c : Thread nD τ).loc main_arg3) ↦{Transfers.shareDrop fullShare 512} (HB : Buf (Elt F) ((c : Thread nD τ).loc main_arg3))))

/-- Nothing in flight: the gathered buffer at `f`, both groups' packed rows and both cells in hand. -/
def Idle (c : Dev nD) (HA : S8192x1024.Idx → BitVec 32) (HB : S4096x1024.Idx → BitVec 32) (f : S1536x1024.Idx → BitVec 32) : sProp 𝕄 :=
  iprop((((c : Thread nD τ).loc cc0_scratch0) ↦{fullShare} (f : Buf (Elt F) ((c : Thread nD τ).loc cc0_scratch0)))
    ∗ (((c : Thread nD τ).loc main_arg2) ↦{fullShare} (HA : Buf (Elt F) ((c : Thread nD τ).loc main_arg2)))
    ∗ (((c : Thread nD τ).loc main_arg3) ↦{fullShare} (HB : Buf (Elt F) ((c : Thread nD τ).loc main_arg3)))
    ∗ semVal ((c : Thread nD τ), .dma semA) 0 ∗ semVal ((c : Thread nD τ), .dma semB) 0)

/-- With nothing in flight a round for expert `e` may begin. -/
theorem flight_begin (c : Dev nD) (T : S24576.Idx → BitVec 32) (HA : S8192x1024.Idx → BitVec 32) (HB : S4096x1024.Idx → BitVec 32) (e : ℕ) (f : S1536x1024.Idx → BitVec 32) :
    Idle (F := F) c HA HB f ⊢ |={Set.univ}=> Flight (F := F) c T HA HB e 0 0 := by
  unfold Idle Flight
  iintro ⟨Hx, Ha, Hb, HsA, HsB⟩
  ihave Hx' := (pointsTo_split_subset (Finset.subset_univ (blkA : Finset (Idx ((c : Thread nD τ).loc cc0_scratch0))))).1 $$ Hx
  icases Hx' with ⟨HxA, HxB⟩
  imod (beginA (F := F) c (XE T HA HB e) HA f) $$ [HsA HxA Ha] with ⟨HA', HdA⟩
  · isplitl [HsA]; · iexact HsA
    isplitl [HxA]; · iexact HxA
    iexact Ha
  imod (beginB (F := F) c (XE T HA HB e) HB f) $$ [HsB HxB Hb] with ⟨HB', HdB⟩
  · isplitl [HsB]; · iexact HsB
    isplitl [HxB]; · iexact HxB
    iexact Hb
  imodintro
  isplitl [HA' HB']
  · isplitl [HA']; · iexact HA'
    iexact HB'
  · isplitl [HdA]; · iexact HdA
    iexact HdB

/-- Both groups delivered: the gathered buffer at expert `e`'s rows, everything back. -/
theorem flight_end (c : Dev nD) (T : S24576.Idx → BitVec 32) (HA : S8192x1024.Idx → BitVec 32) (HB : S4096x1024.Idx → BitVec 32) (e : ℕ) :
    (iprop((bigSep Finset.univ (DelA (F := F) c (XE T HA HB e) HA) ∗ semVal ((c : Thread nD τ), .dma semA) 0)
      ∗ (bigSep Finset.univ (DelB (F := F) c (XE T HA HB e) HB) ∗ semVal ((c : Thread nD τ), .dma semB) 0)
      ∗ (((c : Thread nD τ).loc main_arg2) ↦{Transfers.shareDrop fullShare 1024} (HA : Buf (Elt F) ((c : Thread nD τ).loc main_arg2)))
      ∗ (((c : Thread nD τ).loc main_arg3) ↦{Transfers.shareDrop fullShare 512} (HB : Buf (Elt F) ((c : Thread nD τ).loc main_arg3)))) : sProp 𝕄)
      ⊢ Idle (F := F) c HA HB (XE T HA HB e) := by
  unfold Idle
  iintro ⟨⟨HDA, HsA⟩, ⟨HDB, HsB⟩, HdA, HdB⟩
  ihave HfA := (finishA (F := F) c (XE T HA HB e) HA) $$ [HDA HdA]
  · isplitl [HDA]; · iexact HDA
    iexact HdA
  icases HfA with ⟨HxA, Ha⟩
  ihave HfB := (finishB (F := F) c (XE T HA HB e) HB) $$ [HDB HdB]
  · isplitl [HDB]; · iexact HDB
    iexact HdB
  icases HfB with ⟨HxB, Hb⟩
  isplitl [HxA HxB]
  · iapply (pointsTo_split_subset (Finset.subset_univ (blkA : Finset (Idx ((c : Thread nD τ).loc cc0_scratch0))))).2
    isplitl [HxA]; · iexact HxA
    iexact HxB
  isplitl [Ha]; · iexact Ha
  isplitl [Hb]; · iexact Hb
  isplitl [HsA]; · iexact HsA
  iexact HsB

end Cert.KernelIdeal.Hand
-- ==== Proof.CopyLoops.lean ====
/-
  THE BODY'S FOURTEEN COPY LOOPS, each from the transfers in flight before it to those after it: ten that start copies (two at the first
  grid point, eight over the four last points of each expert) and four that wait for them.
-/
module

public import proofs.«01_k».proof.Proof.Flight

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The table's entries name rows of the group they are for. -/
def InRange (T : S24576.Idx → BitVec 32) : Prop :=
  ∀ e r : ℕ, e < 16 → r < 1536 → (r < 1024 → (tblN T (e * 1536 + r)).toNat < 8192) ∧ (1024 ≤ r → (tblN T (e * 1536 + r)).toNat < 4096)

/-- The expert whose rows the last four points of an expert fetch: the next one, or the last again. -/
def nextE (i : grid0.Coords) : ℕ := min ((i 0).val + 1) 15

theorem nextE_lt (i : grid0.Coords) : nextE i < 16 := by unfold nextE; omega

theorem coord0_lt (i : grid0.Coords) : (i 0).val < 16 := (i 0).isLt
theorem coord1_lt (i : grid0.Coords) : (i 1).val < 8 := (i 1).isLt

/-- The next expert's first entry of the table, in words. -/
theorem nextE_word (i : grid0.Coords) :
    Scalar.muli (Scalar.minsi (Scalar.addi (BitVec.ofNat 32 (i 0).val) 1#32) 15#32) 1536#32 = BitVec.ofNat 32 (nextE i * 1536) := by
  have h : ∀ n : Fin 16, Scalar.muli (Scalar.minsi (Scalar.addi (BitVec.ofNat 32 n.val) 1#32) 15#32) 1536#32 = BitVec.ofNat 32 (min (n.val + 1) 15 * 1536) := by decide
  exact h ⟨(i 0).val, coord0_lt i⟩

theorem iv_word (t : ℕ) : Scf.iv (w := 32) 0#32 1#32 t = BitVec.ofNat 32 t := by
  unfold Scf.iv; simp

theorem sum2_word (a t : ℕ) (h : a + t < 2 ^ 32) : (Scalar.addi (BitVec.ofNat 32 a) (BitVec.ofNat 32 t)).toNat = a + t := by
  show (BitVec.ofNat 32 a + BitVec.ofNat 32 t).toNat = _
  rw [BitVec.toNat_add, BitVec.toNat_ofNat, BitVec.toNat_ofNat]; omega

theorem sum3_word (b a t : ℕ) (h : b + (a + t) < 2 ^ 32) : (Scalar.addi (BitVec.ofNat 32 b) (Scalar.addi (BitVec.ofNat 32 a) (BitVec.ofNat 32 t))).toNat = b + (a + t) := by
  show (BitVec.ofNat 32 b + (BitVec.ofNat 32 a + BitVec.ofNat 32 t)).toNat = _
  rw [BitVec.toNat_add, BitVec.toNat_add, BitVec.toNat_ofNat, BitVec.toNat_ofNat, BitVec.toNat_ofNat]; omega

section Loops

variable (c : Dev nD) (𝒱 : Variants) (q : PosShare TreeShare)
  (T : S24576.Idx → BitVec 32) (HA : S8192x1024.Idx → BitVec 32) (HB : S4096x1024.Idx → BitVec 32)
  (i : grid0.Coords) (a5 : Memref sig .tc .vmem S1x1536x1 .f32) (h5 : a5.IsWhole) (a6 : Memref sig .tc .vmem S1x2048x512 .f32) (h6 : a6.IsWhole)
  (a7 : Memref sig .tc .vmem S1x2048x512 .f32) (h7 : a7.IsWhole) (a8 : Memref sig .tc .vmem S1x2048x512 .f32) (h8 : a8.IsWhole)
  (a9 : Memref sig .tc .vmem S1x1024x512 .f32) (h9 : a9.IsWhole) (a10 : Memref sig .tc .vmem S1x512x512 .f32) (h10 : a10.IsWhole)

/-- Loop 1: starts copies `0 … 1024` of group A for expert `0`. -/
theorem loop_t1 (hT : InRange T) (hc1 : k0_cond1 i = 1#1) {β : Type} {kk : Unit → Prog (TpuEff nD τ sig (Elt F) Λ₀ .tc) β} {Q : β → sProp 𝕄} :
    iprop((((c : Thread nD τ).loc main_v1) ↦{q} (T : Buf (Elt F) ((c : Thread nD τ).loc main_v1))) ∗ FlyA (F := F) c (XE T HA HB (0)) HA 0)
      ⊢ iprop((iprop((((c : Thread nD τ).loc main_v1) ↦{q} (T : Buf (Elt F) ((c : Thread nD τ).loc main_v1))) ∗ FlyA (F := F) c (XE T HA HB (0)) HA 1024) -∗ wp frame (wpE (defs₀ (F := F)) 𝒱 (c : Thread nD τ) none) Set.univ (kk ⟨⟩) Q)
        -∗ wp frame (wpE (defs₀ (F := F)) 𝒱 (c : Thread nD τ) none) Set.univ (Scf.Loop.for k0_t1_loop (k0_t1_ok i hc1) ⟨⟩ (k0_t1_body (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3  hc1) >>= kk) Q) := by
  have htr : k0_t1_loop.trips = 1024 := by decide
  iintro Hin Hk
  iapply (Scf.wp_for_bind frame (wpE (defs₀ (F := F)) 𝒱 (c : Thread nD τ) none) Set.univ k0_t1_loop.lb k0_t1_loop.ub k0_t1_loop.st (k0_t1_ok i hc1) _ _
    (fun k _ => iprop((((c : Thread nD τ).loc main_v1) ↦{q} (T : Buf (Elt F) ((c : Thread nD τ).loc main_v1))) ∗ FlyA (F := F) c (XE T HA HB (0)) HA (0 + k))) ?step) $$ [Hin]
  case step =>
    intro t acc
    have ht : t.val < 1024 := by have := t.isLt; rw [← htr]; exact this
    have hr := hT (0) (0 + (0 + t.val)) (by decide) (by omega)
    exact wp_startA (F := F) c 𝒱 q T HA HB (0) (0 + t.val) (by omega) (k0_off1  t) _ (k0_chk1 i) (k0_chk1.dec i) (k0_off2 t) _ k0_off3
      (fun v hw => hw hc1) (by
        unfold k0_off1
        simp only [ iv_word, Scalar.indexCast]
        congr 1
        exact (sum2_word 0 t.val (by omega)).trans (by omega)) (by
        unfold k0_off2
        simp only [iv_word]
        rw [sum2_word _ _ (by omega)]
        congr 1 <;> omega) (fun v => rfl) (by
        intro _ a
        fin_cases a
        · show (tblN T _).toNat + 1 ≤ 8192
          have := hr.1 (by omega)
          omega
        · show (0 : ℕ) + 1024 ≤ 1024; decide)
  · simp only [Nat.add_zero]; iexact Hin
  iintro %acc H
  iapply Hk
  simp only [show Scf.trips k0_t1_loop.lb k0_t1_loop.ub k0_t1_loop.st = 1024 from htr]
  iexact H

/-- Loop 2: starts copies `0 … 512` of group B for expert `0`. -/
theorem loop_t2 (hT : InRange T) (hc1 : k0_cond1 i = 1#1) {β : Type} {kk : Unit → Prog (TpuEff nD τ sig (Elt F) Λ₀ .tc) β} {Q : β → sProp 𝕄} :
    iprop((((c : Thread nD τ).loc main_v1) ↦{q} (T : Buf (Elt F) ((c : Thread nD τ).loc main_v1))) ∗ FlyB (F := F) c (XE T HA HB (0)) HB 0)
      ⊢ iprop((iprop((((c : Thread nD τ).loc main_v1) ↦{q} (T : Buf (Elt F) ((c : Thread nD τ).loc main_v1))) ∗ FlyB (F := F) c (XE T HA HB (0)) HB 512) -∗ wp frame (wpE (defs₀ (F := F)) 𝒱 (c : Thread nD τ) none) Set.univ (kk ⟨⟩) Q)
        -∗ wp frame (wpE (defs₀ (F := F)) 𝒱 (c : Thread nD τ) none) Set.univ (Scf.Loop.for k0_t2_loop (k0_t2_ok i hc1) ⟨⟩ (k0_t2_body (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3  hc1) >>= kk) Q) := by
  have htr : k0_t2_loop.trips = 512 := by decide
  iintro Hin Hk
  iapply (Scf.wp_for_bind frame (wpE (defs₀ (F := F)) 𝒱 (c : Thread nD τ) none) Set.univ k0_t2_loop.lb k0_t2_loop.ub k0_t2_loop.st (k0_t2_ok i hc1) _ _
    (fun k _ => iprop((((c : Thread nD τ).loc main_v1) ↦{q} (T : Buf (Elt F) ((c : Thread nD τ).loc main_v1))) ∗ FlyB (F := F) c (XE T HA HB (0)) HB (0 + k))) ?step) $$ [Hin]
  case step =>
    intro t acc
    have ht : t.val < 512 := by have := t.isLt; rw [← htr]; exact this
    have hr := hT (0) (1024 + (0 + t.val)) (by decide) (by omega)
    exact wp_startB (F := F) c 𝒱 q T HA HB (0) (0 + t.val) (by omega) (k0_off4  t) _ (k0_chk2 i) (k0_chk2.dec i) (k0_off5 t) _ k0_off6
      (fun v hw => hw hc1) (by
        unfold k0_off4
        simp only [ iv_word, Scalar.indexCast]
        congr 1
        exact (sum2_word 1024 t.val (by omega)).trans (by omega)) (by
        unfold k0_off5
        simp only [iv_word]
        rw [sum2_word _ _ (by omega)]
        congr 1 <;> omega) (fun v => rfl) (by
        intro _ a
        fin_cases a
        · show (tblN T _).toNat + 1 ≤ 4096
          have := hr.2 (by omega)
          omega
        · show (0 : ℕ) + 1024 ≤ 1024; decide)
  · simp only [Nat.add_zero]; iexact Hin
  iintro %acc H
  iapply Hk
  simp only [show Scf.trips k0_t2_loop.lb k0_t2_loop.ub k0_t2_loop.st = 512 from htr]
  iexact H

/-- Loop 5: starts copies `0 … 256` of group A for expert `nextE i`. -/
theorem loop_t5 (hT : InRange T) (hc4 : k0_cond4 i = 1#1) (hc5 : k0_cond5 i = 1#1) (arg0 arg1 : BitVec 32) {β : Type} {kk : Unit → Prog (TpuEff nD τ sig (Elt F) Λ₀ .tc) β} {Q : β → sProp 𝕄} :
    iprop((((c : Thread nD τ).loc main_v1) ↦{q} (T : Buf (Elt F) ((c : Thread nD τ).loc main_v1))) ∗ FlyA (F := F) c (XE T HA HB (nextE i)) HA 0)
      ⊢ iprop((iprop((((c : Thread nD τ).loc main_v1) ↦{q} (T : Buf (Elt F) ((c : Thread nD τ).loc main_v1))) ∗ FlyA (F := F) c (XE T HA HB (nextE i)) HA 256) -∗ wp frame (wpE (defs₀ (F := F)) 𝒱 (c : Thread nD τ) none) Set.univ (kk ⟨⟩) Q)
        -∗ wp frame (wpE (defs₀ (F := F)) 𝒱 (c : Thread nD τ) none) Set.univ (Scf.Loop.for k0_t5_loop (k0_t5_ok i hc4 hc5) ⟨⟩ (k0_t5_body (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg0 arg1 hc4 hc5) >>= kk) Q) := by
  have htr : k0_t5_loop.trips = 256 := by decide
  iintro Hin Hk
  iapply (Scf.wp_for_bind frame (wpE (defs₀ (F := F)) 𝒱 (c : Thread nD τ) none) Set.univ k0_t5_loop.lb k0_t5_loop.ub k0_t5_loop.st (k0_t5_ok i hc4 hc5) _ _
    (fun k _ => iprop((((c : Thread nD τ).loc main_v1) ↦{q} (T : Buf (Elt F) ((c : Thread nD τ).loc main_v1))) ∗ FlyA (F := F) c (XE T HA HB (nextE i)) HA (0 + k))) ?step) $$ [Hin]
  case step =>
    intro t acc
    have ht : t.val < 256 := by have := t.isLt; rw [← htr]; exact this
    have hr := hT (nextE i) (0 + (0 + t.val)) (nextE_lt i) (by omega)
    exact wp_startA (F := F) c 𝒱 q T HA HB (nextE i) (0 + t.val) (by omega) (k0_off13 i t) _ (k0_chk3 i) (k0_chk3.dec i) (k0_off14 t) _ k0_off15
      (fun v hw => hw hc4 hc5) (by
        unfold k0_off13
        simp only [nextE_word, iv_word, Scalar.indexCast]
        congr 1
        exact (sum3_word _ 0 t.val (by have := nextE_lt i; omega)).trans (by omega)) (by
        unfold k0_off14
        simp only [iv_word]
        rw [sum2_word _ _ (by omega)]
        congr 1 <;> omega) (fun v => rfl) (by
        intro _ _ a
        fin_cases a
        · show (tblN T _).toNat + 1 ≤ 8192
          have := hr.1 (by omega)
          omega
        · show (0 : ℕ) + 1024 ≤ 1024; decide)
  · simp only [Nat.add_zero]; iexact Hin
  iintro %acc H
  iapply Hk
  simp only [show Scf.trips k0_t5_loop.lb k0_t5_loop.ub k0_t5_loop.st = 256 from htr]
  iexact H

/-- Loop 6: starts copies `0 … 128` of group B for expert `nextE i`. -/
theorem loop_t6 (hT : InRange T) (hc4 : k0_cond4 i = 1#1) (hc5 : k0_cond5 i = 1#1) (arg0 arg1 : BitVec 32) {β : Type} {kk : Unit → Prog (TpuEff nD τ sig (Elt F) Λ₀ .tc) β} {Q : β → sProp 𝕄} :
    iprop((((c : Thread nD τ).loc main_v1) ↦{q} (T : Buf (Elt F) ((c : Thread nD τ).loc main_v1))) ∗ FlyB (F := F) c (XE T HA HB (nextE i)) HB 0)
      ⊢ iprop((iprop((((c : Thread nD τ).loc main_v1) ↦{q} (T : Buf (Elt F) ((c : Thread nD τ).loc main_v1))) ∗ FlyB (F := F) c (XE T HA HB (nextE i)) HB 128) -∗ wp frame (wpE (defs₀ (F := F)) 𝒱 (c : Thread nD τ) none) Set.univ (kk ⟨⟩) Q)
        -∗ wp frame (wpE (defs₀ (F := F)) 𝒱 (c : Thread nD τ) none) Set.univ (Scf.Loop.for k0_t6_loop (k0_t6_ok i hc4 hc5) ⟨⟩ (k0_t6_body (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg0 arg1 hc4 hc5) >>= kk) Q) := by
  have htr : k0_t6_loop.trips = 128 := by decide
  iintro Hin Hk
  iapply (Scf.wp_for_bind frame (wpE (defs₀ (F := F)) 𝒱 (c : Thread nD τ) none) Set.univ k0_t6_loop.lb k0_t6_loop.ub k0_t6_loop.st (k0_t6_ok i hc4 hc5) _ _
    (fun k _ => iprop((((c : Thread nD τ).loc main_v1) ↦{q} (T : Buf (Elt F) ((c : Thread nD τ).loc main_v1))) ∗ FlyB (F := F) c (XE T HA HB (nextE i)) HB (0 + k))) ?step) $$ [Hin]
  case step =>
    intro t acc
    have ht : t.val < 128 := by have := t.isLt; rw [← htr]; exact this
    have hr := hT (nextE i) (1024 + (0 + t.val)) (nextE_lt i) (by omega)
    exact wp_startB (F := F) c 𝒱 q T HA HB (nextE i) (0 + t.val) (by omega) (k0_off16 i t) _ (k0_chk4 i) (k0_chk4.dec i) (k0_off17 t) _ k0_off18
      (fun v hw => hw hc4 hc5) (by
        unfold k0_off16
        simp only [nextE_word, iv_word, Scalar.indexCast]
        congr 1
        exact (sum3_word _ 1024 t.val (by have := nextE_lt i; omega)).trans (by omega)) (by
        unfold k0_off17
        simp only [iv_word]
        rw [sum2_word _ _ (by omega)]
        congr 1 <;> omega) (fun v => rfl) (by
        intro _ _ a
        fin_cases a
        · show (tblN T _).toNat + 1 ≤ 4096
          have := hr.2 (by omega)
          omega
        · show (0 : ℕ) + 1024 ≤ 1024; decide)
  · simp only [Nat.add_zero]; iexact Hin
  iintro %acc H
  iapply Hk
  simp only [show Scf.trips k0_t6_loop.lb k0_t6_loop.ub k0_t6_loop.st = 128 from htr]
  iexact H

/-- Loop 7: starts copies `256 … 512` of group A for expert `nextE i`. -/
theorem loop_t7 (hT : InRange T) (hc4 : k0_cond4 i = 1#1) (hc6 : k0_cond6 i = 1#1) (arg0 arg1 : BitVec 32) {β : Type} {kk : Unit → Prog (TpuEff nD τ sig (Elt F) Λ₀ .tc) β} {Q : β → sProp 𝕄} :
    iprop((((c : Thread nD τ).loc main_v1) ↦{q} (T : Buf (Elt F) ((c : Thread nD τ).loc main_v1))) ∗ FlyA (F := F) c (XE T HA HB (nextE i)) HA 256)
      ⊢ iprop((iprop((((c : Thread nD τ).loc main_v1) ↦{q} (T : Buf (Elt F) ((c : Thread nD τ).loc main_v1))) ∗ FlyA (F := F) c (XE T HA HB (nextE i)) HA 512) -∗ wp frame (wpE (defs₀ (F := F)) 𝒱 (c : Thread nD τ) none) Set.univ (kk ⟨⟩) Q)
        -∗ wp frame (wpE (defs₀ (F := F)) 𝒱 (c : Thread nD τ) none) Set.univ (Scf.Loop.for k0_t7_loop (k0_t7_ok i hc4 hc6) ⟨⟩ (k0_t7_body (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg0 arg1 hc4 hc6) >>= kk) Q) := by
  have htr : k0_t7_loop.trips = 256 := by decide
  iintro Hin Hk
  iapply (Scf.wp_for_bind frame (wpE (defs₀ (F := F)) 𝒱 (c : Thread nD τ) none) Set.univ k0_t7_loop.lb k0_t7_loop.ub k0_t7_loop.st (k0_t7_ok i hc4 hc6) _ _
    (fun k _ => iprop((((c : Thread nD τ).loc main_v1) ↦{q} (T : Buf (Elt F) ((c : Thread nD τ).loc main_v1))) ∗ FlyA (F := F) c (XE T HA HB (nextE i)) HA (256 + k))) ?step) $$ [Hin]
  case step =>
    intro t acc
    have ht : t.val < 256 := by have := t.isLt; rw [← htr]; exact this
    have hr := hT (nextE i) (0 + (256 + t.val)) (nextE_lt i) (by omega)
    exact wp_startA (F := F) c 𝒱 q T HA HB (nextE i) (256 + t.val) (by omega) (k0_off19 i t) _ (k0_chk5 i) (k0_chk5.dec i) (k0_off20 t) _ k0_off21
      (fun v hw => hw hc4 hc6) (by
        unfold k0_off19
        simp only [nextE_word, iv_word, Scalar.indexCast]
        congr 1
        exact (sum3_word _ 256 t.val (by have := nextE_lt i; omega)).trans (by omega)) (by
        unfold k0_off20
        simp only [iv_word]
        rw [sum2_word _ _ (by omega)]
        congr 1 <;> omega) (fun v => rfl) (by
        intro _ _ a
        fin_cases a
        · show (tblN T _).toNat + 1 ≤ 8192
          have := hr.1 (by omega)
          omega
        · show (0 : ℕ) + 1024 ≤ 1024; decide)
  · simp only [Nat.add_zero]; iexact Hin
  iintro %acc H
  iapply Hk
  simp only [show Scf.trips k0_t7_loop.lb k0_t7_loop.ub k0_t7_loop.st = 256 from htr]
  iexact H

/-- Loop 8: starts copies `128 … 256` of group B for expert `nextE i`. -/
theorem loop_t8 (hT : InRange T) (hc4 : k0_cond4 i = 1#1) (hc6 : k0_cond6 i = 1#1) (arg0 arg1 : BitVec 32) {β : Type} {kk : Unit → Prog (TpuEff nD τ sig (Elt F) Λ₀ .tc) β} {Q : β → sProp 𝕄} :
    iprop((((c : Thread nD τ).loc main_v1) ↦{q} (T : Buf (Elt F) ((c : Thread nD τ).loc main_v1))) ∗ FlyB (F := F) c (XE T HA HB (nextE i)) HB 128)
      ⊢ iprop((iprop((((c : Thread nD τ).loc main_v1) ↦{q} (T : Buf (Elt F) ((c : Thread nD τ).loc main_v1))) ∗ FlyB (F := F) c (XE T HA HB (nextE i)) HB 256) -∗ wp frame (wpE (defs₀ (F := F)) 𝒱 (c : Thread nD τ) none) Set.univ (kk ⟨⟩) Q)
        -∗ wp frame (wpE (defs₀ (F := F)) 𝒱 (c : Thread nD τ) none) Set.univ (Scf.Loop.for k0_t8_loop (k0_t8_ok i hc4 hc6) ⟨⟩ (k0_t8_body (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg0 arg1 hc4 hc6) >>= kk) Q) := by
  have htr : k0_t8_loop.trips = 128 := by decide
  iintro Hin Hk
  iapply (Scf.wp_for_bind frame (wpE (defs₀ (F := F)) 𝒱 (c : Thread nD τ) none) Set.univ k0_t8_loop.lb k0_t8_loop.ub k0_t8_loop.st (k0_t8_ok i hc4 hc6) _ _
    (fun k _ => iprop((((c : Thread nD τ).loc main_v1) ↦{q} (T : Buf (Elt F) ((c : Thread nD τ).loc main_v1))) ∗ FlyB (F := F) c (XE T HA HB (nextE i)) HB (128 + k))) ?step) $$ [Hin]
  case step =>
    intro t acc
    have ht : t.val < 128 := by have := t.isLt; rw [← htr]; exact this
    have hr := hT (nextE i) (1024 + (128 + t.val)) (nextE_lt i) (by omega)
    exact wp_startB (F := F) c 𝒱 q T HA HB (nextE i) (128 + t.val) (by omega) (k0_off22 i t) _ (k0_chk6 i) (k0_chk6.dec i) (k0_off23 t) _ k0_off24
      (fun v hw => hw hc4 hc6) (by
        unfold k0_off22
        simp only [nextE_word, iv_word, Scalar.indexCast]
        congr 1
        exact (sum3_word _ 1152 t.val (by have := nextE_lt i; omega)).trans (by omega)) (by
        unfold k0_off23
        simp only [iv_word]
        rw [sum2_word _ _ (by omega)]
        congr 1 <;> omega) (fun v => rfl) (by
        intro _ _ a
        fin_cases a
        · show (tblN T _).toNat + 1 ≤ 4096
          have := hr.2 (by omega)
          omega
        · show (0 : ℕ) + 1024 ≤ 1024; decide)
  · simp only [Nat.add_zero]; iexact Hin
  iintro %acc H
  iapply Hk
  simp only [show Scf.trips k0_t8_loop.lb k0_t8_loop.ub k0_t8_loop.st = 128 from htr]
  iexact H

/-- Loop 9: starts copies `512 … 768` of group A for expert `nextE i`. -/
theorem loop_t9 (hT : InRange T) (hc4 : k0_cond4 i = 1#1) (hc7 : k0_cond7 i = 1#1) (arg0 arg1 : BitVec 32) {β : Type} {kk : Unit → Prog (TpuEff nD τ sig (Elt F) Λ₀ .tc) β} {Q : β → sProp 𝕄} :
    iprop((((c : Thread nD τ).loc main_v1) ↦{q} (T : Buf (Elt F) ((c : Thread nD τ).loc main_v1))) ∗ FlyA (F := F) c (XE T HA HB (nextE i)) HA 512)
      ⊢ iprop((iprop((((c : Thread nD τ).loc main_v1) ↦{q} (T : Buf (Elt F) ((c : Thread nD τ).loc main_v1))) ∗ FlyA (F := F) c (XE T HA HB (nextE i)) HA 768) -∗ wp frame (wpE (defs₀ (F := F)) 𝒱 (c : Thread nD τ) none) Set.univ (kk ⟨⟩) Q)
        -∗ wp frame (wpE (defs₀ (F := F)) 𝒱 (c : Thread nD τ) none) Set.univ (Scf.Loop.for k0_t9_loop (k0_t9_ok i hc4 hc7) ⟨⟩ (k0_t9_body (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg0 arg1 hc4 hc7) >>= kk) Q) := by
  have htr : k0_t9_loop.trips = 256 := by decide
  iintro Hin Hk
  iapply (Scf.wp_for_bind frame (wpE (defs₀ (F := F)) 𝒱 (c : Thread nD τ) none) Set.univ k0_t9_loop.lb k0_t9_loop.ub k0_t9_loop.st (k0_t9_ok i hc4 hc7) _ _
    (fun k _ => iprop((((c : Thread nD τ).loc main_v1) ↦{q} (T : Buf (Elt F) ((c : Thread nD τ).loc main_v1))) ∗ FlyA (F := F) c (XE T HA HB (nextE i)) HA (512 + k))) ?step) $$ [Hin]
  case step =>
    intro t acc
    have ht : t.val < 256 := by have := t.isLt; rw [← htr]; exact this
    have hr := hT (nextE i) (0 + (512 + t.val)) (nextE_lt i) (by omega)
    exact wp_startA (F := F) c 𝒱 q T HA HB (nextE i) (512 + t.val) (by omega) (k0_off25 i t) _ (k0_chk7 i) (k0_chk7.dec i) (k0_off26 t) _ k0_off27
      (fun v hw => hw hc4 hc7) (by
        unfold k0_off25
        simp only [nextE_word, iv_word, Scalar.indexCast]
        congr 1
        exact (sum3_word _ 512 t.val (by have := nextE_lt i; omega)).trans (by omega)) (by
        unfold k0_off26
        simp only [iv_word]
        rw [sum2_word _ _ (by omega)]
        congr 1 <;> omega) (fun v => rfl) (by
        intro _ _ a
        fin_cases a
        · show (tblN T _).toNat + 1 ≤ 8192
          have := hr.1 (by omega)
          omega
        · show (0 : ℕ) + 1024 ≤ 1024; decide)
  · simp only [Nat.add_zero]; iexact Hin
  iintro %acc H
  iapply Hk
  simp only [show Scf.trips k0_t9_loop.lb k0_t9_loop.ub k0_t9_loop.st = 256 from htr]
  iexact H

/-- Loop 10: starts copies `256 … 384` of group B for expert `nextE i`. -/
theorem loop_t10 (hT : InRange T) (hc4 : k0_cond4 i = 1#1) (hc7 : k0_cond7 i = 1#1) (arg0 arg1 : BitVec 32) {β : Type} {kk : Unit → Prog (TpuEff nD τ sig (Elt F) Λ₀ .tc) β} {Q : β → sProp 𝕄} :
    iprop((((c : Thread nD τ).loc main_v1) ↦{q} (T : Buf (Elt F) ((c : Thread nD τ).loc main_v1))) ∗ FlyB (F := F) c (XE T HA HB (nextE i)) HB 256)
      ⊢ iprop((iprop((((c : Thread nD τ).loc main_v1) ↦{q} (T : Buf (Elt F) ((c : Thread nD τ).loc main_v1))) ∗ FlyB (F := F) c (XE T HA HB (nextE i)) HB 384) -∗ wp frame (wpE (defs₀ (F := F)) 𝒱 (c : Thread nD τ) none) Set.univ (kk ⟨⟩) Q)
        -∗ wp frame (wpE (defs₀ (F := F)) 𝒱 (c : Thread nD τ) none) Set.univ (Scf.Loop.for k0_t10_loop (k0_t10_ok i hc4 hc7) ⟨⟩ (k0_t10_body (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg0 arg1 hc4 hc7) >>= kk) Q) := by
  have htr : k0_t10_loop.trips = 128 := by decide
  iintro Hin Hk
  iapply (Scf.wp_for_bind frame (wpE (defs₀ (F := F)) 𝒱 (c : Thread nD τ) none) Set.univ k0_t10_loop.lb k0_t10_loop.ub k0_t10_loop.st (k0_t10_ok i hc4 hc7) _ _
    (fun k _ => iprop((((c : Thread nD τ).loc main_v1) ↦{q} (T : Buf (Elt F) ((c : Thread nD τ).loc main_v1))) ∗ FlyB (F := F) c (XE T HA HB (nextE i)) HB (256 + k))) ?step) $$ [Hin]
  case step =>
    intro t acc
    have ht : t.val < 128 := by have := t.isLt; rw [← htr]; exact this
    have hr := hT (nextE i) (1024 + (256 + t.val)) (nextE_lt i) (by omega)
    exact wp_startB (F := F) c 𝒱 q T HA HB (nextE i) (256 + t.val) (by omega) (k0_off28 i t) _ (k0_chk8 i) (k0_chk8.dec i) (k0_off29 t) _ k0_off30
      (fun v hw => hw hc4 hc7) (by
        unfold k0_off28
        simp only [nextE_word, iv_word, Scalar.indexCast]
        congr 1
        exact (sum3_word _ 1280 t.val (by have := nextE_lt i; omega)).trans (by omega)) (by
        unfold k0_off29
        simp only [iv_word]
        rw [sum2_word _ _ (by omega)]
        congr 1 <;> omega) (fun v => rfl) (by
        intro _ _ a
        fin_cases a
        · show (tblN T _).toNat + 1 ≤ 4096
          have := hr.2 (by omega)
          omega
        · show (0 : ℕ) + 1024 ≤ 1024; decide)
  · simp only [Nat.add_zero]; iexact Hin
  iintro %acc H
  iapply Hk
  simp only [show Scf.trips k0_t10_loop.lb k0_t10_loop.ub k0_t10_loop.st = 128 from htr]
  iexact H

/-- Loop 11: starts copies `768 … 1024` of group A for expert `nextE i`. -/
theorem loop_t11 (hT : InRange T) (hc4 : k0_cond4 i = 1#1) (hc8 : k0_cond8 i = 1#1) (arg0 arg1 : BitVec 32) {β : Type} {kk : Unit → Prog (TpuEff nD τ sig (Elt F) Λ₀ .tc) β} {Q : β → sProp 𝕄} :
    iprop((((c : Thread nD τ).loc main_v1) ↦{q} (T : Buf (Elt F) ((c : Thread nD τ).loc main_v1))) ∗ FlyA (F := F) c (XE T HA HB (nextE i)) HA 768)
      ⊢ iprop((iprop((((c : Thread nD τ).loc main_v1) ↦{q} (T : Buf (Elt F) ((c : Thread nD τ).loc main_v1))) ∗ FlyA (F := F) c (XE T HA HB (nextE i)) HA 1024) -∗ wp frame (wpE (defs₀ (F := F)) 𝒱 (c : Thread nD τ) none) Set.univ (kk ⟨⟩) Q)
        -∗ wp frame (wpE (defs₀ (F := F)) 𝒱 (c : Thread nD τ) none) Set.univ (Scf.Loop.for k0_t11_loop (k0_t11_ok i hc4 hc8) ⟨⟩ (k0_t11_body (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg0 arg1 hc4 hc8) >>= kk) Q) := by
  have htr : k0_t11_loop.trips = 256 := by decide
  iintro Hin Hk
  iapply (Scf.wp_for_bind frame (wpE (defs₀ (F := F)) 𝒱 (c : Thread nD τ) none) Set.univ k0_t11_loop.lb k0_t11_loop.ub k0_t11_loop.st (k0_t11_ok i hc4 hc8) _ _
    (fun k _ => iprop((((c : Thread nD τ).loc main_v1) ↦{q} (T : Buf (Elt F) ((c : Thread nD τ).loc main_v1))) ∗ FlyA (F := F) c (XE T HA HB (nextE i)) HA (768 + k))) ?step) $$ [Hin]
  case step =>
    intro t acc
    have ht : t.val < 256 := by have := t.isLt; rw [← htr]; exact this
    have hr := hT (nextE i) (0 + (768 + t.val)) (nextE_lt i) (by omega)
    exact wp_startA (F := F) c 𝒱 q T HA HB (nextE i) (768 + t.val) (by omega) (k0_off31 i t) _ (k0_chk9 i) (k0_chk9.dec i) (k0_off32 t) _ k0_off33
      (fun v hw => hw hc4 hc8) (by
        unfold k0_off31
        simp only [nextE_word, iv_word, Scalar.indexCast]
        congr 1
        exact (sum3_word _ 768 t.val (by have := nextE_lt i; omega)).trans (by omega)) (by
        unfold k0_off32
        simp only [iv_word]
        rw [sum2_word _ _ (by omega)]
        congr 1 <;> omega) (fun v => rfl) (by
        intro _ _ a
        fin_cases a
        · show (tblN T _).toNat + 1 ≤ 8192
          have := hr.1 (by omega)
          omega
        · show (0 : ℕ) + 1024 ≤ 1024; decide)
  · simp only [Nat.add_zero]; iexact Hin
  iintro %acc H
  iapply Hk
  simp only [show Scf.trips k0_t11_loop.lb k0_t11_loop.ub k0_t11_loop.st = 256 from htr]
  iexact H

/-- Loop 12: starts copies `384 … 512` of group B for expert `nextE i`. -/
theorem loop_t12 (hT : InRange T) (hc4 : k0_cond4 i = 1#1) (hc8 : k0_cond8 i = 1#1) (arg0 arg1 : BitVec 32) {β : Type} {kk : Unit → Prog (TpuEff nD τ sig (Elt F) Λ₀ .tc) β} {Q : β → sProp 𝕄} :
    iprop((((c : Thread nD τ).loc main_v1) ↦{q} (T : Buf (Elt F) ((c : Thread nD τ).loc main_v1))) ∗ FlyB (F := F) c (XE T HA HB (nextE i)) HB 384)
      ⊢ iprop((iprop((((c : Thread nD τ).loc main_v1) ↦{q} (T : Buf (Elt F) ((c : Thread nD τ).loc main_v1))) ∗ FlyB (F := F) c (XE T HA HB (nextE i)) HB 512) -∗ wp frame (wpE (defs₀ (F := F)) 𝒱 (c : Thread nD τ) none) Set.univ (kk ⟨⟩) Q)
        -∗ wp frame (wpE (defs₀ (F := F)) 𝒱 (c : Thread nD τ) none) Set.univ (Scf.Loop.for k0_t12_loop (k0_t12_ok i hc4 hc8) ⟨⟩ (k0_t12_body (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg0 arg1 hc4 hc8) >>= kk) Q) := by
  have htr : k0_t12_loop.trips = 128 := by decide
  iintro Hin Hk
  iapply (Scf.wp_for_bind frame (wpE (defs₀ (F := F)) 𝒱 (c : Thread nD τ) none) Set.univ k0_t12_loop.lb k0_t12_loop.ub k0_t12_loop.st (k0_t12_ok i hc4 hc8) _ _
    (fun k _ => iprop((((c : Thread nD τ).loc main_v1) ↦{q} (T : Buf (Elt F) ((c : Thread nD τ).loc main_v1))) ∗ FlyB (F := F) c (XE T HA HB (nextE i)) HB (384 + k))) ?step) $$ [Hin]
  case step =>
    intro t acc
    have ht : t.val < 128 := by have := t.isLt; rw [← htr]; exact this
    have hr := hT (nextE i) (1024 + (384 + t.val)) (nextE_lt i) (by omega)
    exact wp_startB (F := F) c 𝒱 q T HA HB (nextE i) (384 + t.val) (by omega) (k0_off34 i t) _ (k0_chk10 i) (k0_chk10.dec i) (k0_off35 t) _ k0_off36
      (fun v hw => hw hc4 hc8) (by
        unfold k0_off34
        simp only [nextE_word, iv_word, Scalar.indexCast]
        congr 1
        exact (sum3_word _ 1408 t.val (by have := nextE_lt i; omega)).trans (by omega)) (by
        unfold k0_off35
        simp only [iv_word]
        rw [sum2_word _ _ (by omega)]
        congr 1 <;> omega) (fun v => rfl) (by
        intro _ _ a
        fin_cases a
        · show (tblN T _).toNat + 1 ≤ 4096
          have := hr.2 (by omega)
          omega
        · show (0 : ℕ) + 1024 ≤ 1024; decide)
  · simp only [Nat.add_zero]; iexact Hin
  iintro %acc H
  iapply Hk
  simp only [show Scf.trips k0_t12_loop.lb k0_t12_loop.ub k0_t12_loop.st = 128 from htr]
  iexact H

/-- Loop 3: waits for every copy of group A. -/
theorem loop_t3 (X : S1536x1024.Idx → BitVec 32) (hc2 : k0_cond2 i = 1#1) (arg1 : BitVec 32) {β : Type} {kk : Unit → Prog (TpuEff nD τ sig (Elt F) Λ₀ .tc) β} {Q : β → sProp 𝕄} :
    iprop((∃ W, owes (c : Thread nD τ) 0 W) ∗ FlyA (F := F) c X HA 1024)
      ⊢ iprop((iprop((∃ W, owes (c : Thread nD τ) 0 W) ∗ bigSep Finset.univ (DelA (F := F) c X HA) ∗ semVal ((c : Thread nD τ), .dma semA) 0) -∗ wp frame (wpE (defs₀ (F := F)) 𝒱 (c : Thread nD τ) none) Set.univ (kk ⟨⟩) Q)
        -∗ wp frame (wpE (defs₀ (F := F)) 𝒱 (c : Thread nD τ) none) Set.univ (Scf.Loop.for k0_t3_loop (k0_t3_ok i hc2) ⟨⟩ (k0_t3_body (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg1 hc2) >>= kk) Q) := by
  have htr : k0_t3_loop.trips = 1024 := by decide
  iintro Hin Hk
  iapply (Scf.wp_for_bind frame (wpE (defs₀ (F := F)) 𝒱 (c : Thread nD τ) none) Set.univ k0_t3_loop.lb k0_t3_loop.ub k0_t3_loop.st (k0_t3_ok i hc2) _ _
    (fun k _ => TakenA (F := F) c X HA k) ?step) $$ [Hin]
  case step =>
    intro t acc
    have ht : t.val < 1024 := by have := t.isLt; rw [← htr]; exact this
    exact wp_waitA (F := F) c 𝒱 X HA t.val ht (k0_off7 t) _
  · iapply (landed_startA (F := F) c X HA); iexact Hin
  iintro %acc H
  iapply Hk
  ihave H' := (show TakenA (F := F) c X HA (Scf.trips k0_t3_loop.lb k0_t3_loop.ub k0_t3_loop.st)
      ⊢ iprop((∃ W, owes (c : Thread nD τ) 0 W) ∗ bigSep Finset.univ (DelA (F := F) c X HA) ∗ semVal ((c : Thread nD τ), .dma semA) 0) from by
    rw [show Scf.trips k0_t3_loop.lb k0_t3_loop.ub k0_t3_loop.st = 1024 from htr]; unfold TakenA; rw [if_neg (by decide)]) $$ H
  iexact H'

/-- Loop 4: waits for every copy of group B. -/
theorem loop_t4 (X : S1536x1024.Idx → BitVec 32) (hc2 : k0_cond2 i = 1#1) (arg1 : BitVec 32) {β : Type} {kk : Unit → Prog (TpuEff nD τ sig (Elt F) Λ₀ .tc) β} {Q : β → sProp 𝕄} :
    iprop((∃ W, owes (c : Thread nD τ) 0 W) ∗ FlyB (F := F) c X HB 512)
      ⊢ iprop((iprop((∃ W, owes (c : Thread nD τ) 0 W) ∗ bigSep Finset.univ (DelB (F := F) c X HB) ∗ semVal ((c : Thread nD τ), .dma semB) 0) -∗ wp frame (wpE (defs₀ (F := F)) 𝒱 (c : Thread nD τ) none) Set.univ (kk ⟨⟩) Q)
        -∗ wp frame (wpE (defs₀ (F := F)) 𝒱 (c : Thread nD τ) none) Set.univ (Scf.Loop.for k0_t4_loop (k0_t4_ok i hc2) ⟨⟩ (k0_t4_body (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg1 hc2) >>= kk) Q) := by
  have htr : k0_t4_loop.trips = 512 := by decide
  iintro Hin Hk
  iapply (Scf.wp_for_bind frame (wpE (defs₀ (F := F)) 𝒱 (c : Thread nD τ) none) Set.univ k0_t4_loop.lb k0_t4_loop.ub k0_t4_loop.st (k0_t4_ok i hc2) _ _
    (fun k _ => TakenB (F := F) c X HB k) ?step) $$ [Hin]
  case step =>
    intro t acc
    have ht : t.val < 512 := by have := t.isLt; rw [← htr]; exact this
    exact wp_waitB (F := F) c 𝒱 X HB t.val ht (k0_off8 t) _
  · iapply (landed_startB (F := F) c X HB); iexact Hin
  iintro %acc H
  iapply Hk
  ihave H' := (show TakenB (F := F) c X HB (Scf.trips k0_t4_loop.lb k0_t4_loop.ub k0_t4_loop.st)
      ⊢ iprop((∃ W, owes (c : Thread nD τ) 0 W) ∗ bigSep Finset.univ (DelB (F := F) c X HB) ∗ semVal ((c : Thread nD τ), .dma semB) 0) from by
    rw [show Scf.trips k0_t4_loop.lb k0_t4_loop.ub k0_t4_loop.st = 512 from htr]; unfold TakenB; rw [if_neg (by decide)]) $$ H
  iexact H'

/-- Loop 13: waits for every copy of group A. -/
theorem loop_t13 (X : S1536x1024.Idx → BitVec 32) (hc9 : k0_cond9 i = 1#1) {β : Type} {kk : Unit → Prog (TpuEff nD τ sig (Elt F) Λ₀ .tc) β} {Q : β → sProp 𝕄} :
    iprop((∃ W, owes (c : Thread nD τ) 0 W) ∗ FlyA (F := F) c X HA 1024)
      ⊢ iprop((iprop((∃ W, owes (c : Thread nD τ) 0 W) ∗ bigSep Finset.univ (DelA (F := F) c X HA) ∗ semVal ((c : Thread nD τ), .dma semA) 0) -∗ wp frame (wpE (defs₀ (F := F)) 𝒱 (c : Thread nD τ) none) Set.univ (kk ⟨⟩) Q)
        -∗ wp frame (wpE (defs₀ (F := F)) 𝒱 (c : Thread nD τ) none) Set.univ (Scf.Loop.for k0_t13_loop (k0_t13_ok i hc9) ⟨⟩ (k0_t13_body (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3  hc9) >>= kk) Q) := by
  have htr : k0_t13_loop.trips = 1024 := by decide
  iintro Hin Hk
  iapply (Scf.wp_for_bind frame (wpE (defs₀ (F := F)) 𝒱 (c : Thread nD τ) none) Set.univ k0_t13_loop.lb k0_t13_loop.ub k0_t13_loop.st (k0_t13_ok i hc9) _ _
    (fun k _ => TakenA (F := F) c X HA k) ?step) $$ [Hin]
  case step =>
    intro t acc
    have ht : t.val < 1024 := by have := t.isLt; rw [← htr]; exact this
    exact wp_waitA (F := F) c 𝒱 X HA t.val ht (k0_off37 t) _
  · iapply (landed_startA (F := F) c X HA); iexact Hin
  iintro %acc H
  iapply Hk
  ihave H' := (show TakenA (F := F) c X HA (Scf.trips k0_t13_loop.lb k0_t13_loop.ub k0_t13_loop.st)
      ⊢ iprop((∃ W, owes (c : Thread nD τ) 0 W) ∗ bigSep Finset.univ (DelA (F := F) c X HA) ∗ semVal ((c : Thread nD τ), .dma semA) 0) from by
    rw [show Scf.trips k0_t13_loop.lb k0_t13_loop.ub k0_t13_loop.st = 1024 from htr]; unfold TakenA; rw [if_neg (by decide)]) $$ H
  iexact H'

/-- Loop 14: waits for every copy of group B. -/
theorem loop_t14 (X : S1536x1024.Idx → BitVec 32) (hc9 : k0_cond9 i = 1#1) {β : Type} {kk : Unit → Prog (TpuEff nD τ sig (Elt F) Λ₀ .tc) β} {Q : β → sProp 𝕄} :
    iprop((∃ W, owes (c : Thread nD τ) 0 W) ∗ FlyB (F := F) c X HB 512)
      ⊢ iprop((iprop((∃ W, owes (c : Thread nD τ) 0 W) ∗ bigSep Finset.univ (DelB (F := F) c X HB) ∗ semVal ((c : Thread nD τ), .dma semB) 0) -∗ wp frame (wpE (defs₀ (F := F)) 𝒱 (c : Thread nD τ) none) Set.univ (kk ⟨⟩) Q)
        -∗ wp frame (wpE (defs₀ (F := F)) 𝒱 (c : Thread nD τ) none) Set.univ (Scf.Loop.for k0_t14_loop (k0_t14_ok i hc9) ⟨⟩ (k0_t14_body (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3  hc9) >>= kk) Q) := by
  have htr : k0_t14_loop.trips = 512 := by decide
  iintro Hin Hk
  iapply (Scf.wp_for_bind frame (wpE (defs₀ (F := F)) 𝒱 (c : Thread nD τ) none) Set.univ k0_t14_loop.lb k0_t14_loop.ub k0_t14_loop.st (k0_t14_ok i hc9) _ _
    (fun k _ => TakenB (F := F) c X HB k) ?step) $$ [Hin]
  case step =>
    intro t acc
    have ht : t.val < 512 := by have := t.isLt; rw [← htr]; exact this
    exact wp_waitB (F := F) c 𝒱 X HB t.val ht (k0_off38 t) _
  · iapply (landed_startB (F := F) c X HB); iexact Hin
  iintro %acc H
  iapply Hk
  ihave H' := (show TakenB (F := F) c X HB (Scf.trips k0_t14_loop.lb k0_t14_loop.ub k0_t14_loop.st)
      ⊢ iprop((∃ W, owes (c : Thread nD τ) 0 W) ∗ bigSep Finset.univ (DelB (F := F) c X HB) ∗ semVal ((c : Thread nD τ), .dma semB) 0) from by
    rw [show Scf.trips k0_t14_loop.lb k0_t14_loop.ub k0_t14_loop.st = 512 from htr]; unfold TakenB; rw [if_neg (by decide)]) $$ H
  iexact H'

end Loops

end Cert.KernelIdeal.Hand
-- ==== Proof.Steps.lean ====
/-
  ONE LOAD OR STORE AT A TIME, in terms of what a memref reads as (`owns`): a load of a rectangle gives the contents on it, a store
  of a whole rectangle lays the stored block over the contents.
-/
module

public import proofs.«01_k».proof.Proof.CopyLoops

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

section
variable (c : Dev nD) (𝒱 : Variants) {Λ : Labels} {defs : Defs nD τ sig (Elt F) Λ} {α : Type}
variable {cs : CoreSpace} {s : Shape} {e : EltTy}

/-- A load of a rectangle gives the memref's contents on it. -/
theorem owns_load {m : Memref sig .tc cs s e} {r : Rect s} {hl : m.view.LoadsAt r.toLoadRect} {q : PosShare TreeShare}
    {X : s.Idx → Elt F e} {k : (r.shape.Idx → Elt F e) → Prog (TpuEff nD τ sig (Elt F) Λ .tc) α} {Q : α → sProp 𝕄} :
    (owns (c : Thread nD τ) m q X : sProp 𝕄)
      ⊢ iprop((owns (c : Thread nD τ) m q X -∗ wp frame (wpE defs 𝒱 (c : Thread nD τ) none) Set.univ (k (fun x => X (r.emb x))) Q)
        -∗ wp frame (wpE defs 𝒱 (c : Thread nD τ) none) Set.univ (Prog.lift (.load m r.toLoadRect hl) >>= k) Q) := by
  simp only [Prog.lift, Prog.bind_op, Prog.bind_ret]
  unfold owns
  iintro ⟨%f, %hf, H⟩ Hk
  subst hf
  iapply (wp_load_rect (Γ := _) 𝒱 (c : Thread nD τ) none Set.univ (m := m) (r := r) (S := m.view.set) (q := q) (f := f) (k := k) (hl := hl) (Q := Q) (by
    show (m.view.slice r).set ⊆ m.view.set
    exact View.set_slice_subset _ _)) $$ [H]
  · iexact H
  iintro H
  iapply Hk
  iexists f
  isplitr
  · ipureintro; rfl
  iexact H

/-- A store of a whole rectangle lays the block over the contents. -/
theorem owns_store {m : Memref sig .tc cs s e} {r : Rect s} {w : r.shape.Idx → Elt F e} {hx : (m.access r).Stores Finset.univ}
    {hm : Finset.univ = Finset.univ ∨ ∀ a, r.stride a = 1}
    {X : s.Idx → Elt F e} {k : PUnit → Prog (TpuEff nD τ sig (Elt F) Λ .tc) α} {Q : α → sProp 𝕄} :
    (owns (c : Thread nD τ) m fullShare X : sProp 𝕄)
      ⊢ iprop((owns (c : Thread nD τ) m fullShare (r.overlay X w) -∗ wp frame (wpE defs 𝒱 (c : Thread nD τ) none) Set.univ (k ⟨⟩) Q)
        -∗ wp frame (wpE defs 𝒱 (c : Thread nD τ) none) Set.univ (Prog.lift (.store m r w Finset.univ hx hm) >>= k) Q) := by
  simp only [Prog.lift, Prog.bind_op, Prog.bind_ret]
  unfold owns
  iintro ⟨%f, %hf, H⟩ Hk
  subst hf
  iapply (wp_store (Γ := _) 𝒱 (c : Thread nD τ) none Set.univ (m := m) (r := r) (S := m.view.set) (f := f) (k := k) (w := w) (hx := hx) (hm := hm) (Q := Q) (by
    show (m.view.slice r).setOn Finset.univ ⊆ m.view.set
    exact (View.setOn_subset_set _ _).trans (View.set_slice_subset _ _))) $$ [H]
  · iexact H
  iintro H
  iapply Hk
  iexists _
  isplitr
  swap
  · iexact H
  ipureintro
  funext y
  by_cases hy : y ∈ r.set
  · obtain ⟨x, rfl⟩ := r.exists_idx_of_mem hy
    refine Eq.trans ?_ (Rect.overlay_emb r _ w x).symm
    exact congrFun (View.read_write_univ (v := m.access r) (f := f) (w := w)) x
  · rw [Rect.overlay_of_not_mem _ _ _ hy, View.read_apply, View.read_apply, View.write_of_not_mem]
    intro h
    rw [View.setOn_univ] at h
    have h' : m.view.emb y ∈ (m.view.slice r).set := h
    rw [View.set_slice, Finset.mem_map] at h'
    obtain ⟨x, hx, hxy⟩ := h'
    exact hy (m.view.emb.injective hxy ▸ hx)

end

end Cert.KernelIdeal.Hand

end
-- ==== Proof.Contents.lean ====
/-
  WHAT THE BODY'S BUFFERS HOLD: the unpacked rows (`XB`), one 512-wide chunk of the hidden activations (`HE`), the block of the
  output of one expert and one 512-wide piece of the model width; and the rectangles' stores read back.
-/
module

public import proofs.«01_k».proof.Proof.Steps

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## Stores read back -/

theorem overlay_in {S : Shape} {α : Type} {off size : Fin S.rank → ℕ} (h : ∀ a, off a + size a ≤ S.size a) (X : S.Idx → α)
    (w : (Rect.unit (s := S) off size h).shape.Idx → α) (y : S.Idx) (x : (Rect.unit (s := S) off size h).shape.Idx)
    (hx : ∀ a, (y a).val = off a + (x a).val) : (Rect.unit (s := S) off size h).overlay X w y = w x := by
  have hy : (Rect.unit (s := S) off size h).emb x = y := by
    funext a; apply Fin.ext
    rw [Rect.emb_apply, hx a]
    show off a + 1 * (x a).val = _
    omega
  rw [← hy, Rect.overlay_emb]

theorem overlay_out {S : Shape} {α : Type} {off size : Fin S.rank → ℕ} (h : ∀ a, off a + size a ≤ S.size a) (X : S.Idx → α)
    (w : (Rect.unit (s := S) off size h).shape.Idx → α) (y : S.Idx) (a : Fin S.rank)
    (ha : ¬(off a ≤ (y a).val ∧ (y a).val < off a + size a)) : (Rect.unit (s := S) off size h).overlay X w y = X y := by
  rw [Rect.overlay_of_not_mem]
  intro hy
  exact ha (Rect.mem_set_unit.mp hy a)

theorem emb_val {S : Shape} {off size : Fin S.rank → ℕ} (h : ∀ a, off a + size a ≤ S.size a) (x : (Rect.unit (s := S) off size h).shape.Idx) (a : Fin S.rank) :
    ((Rect.unit (s := S) off size h).emb x a).val = off a + (x a).val := by
  rw [Rect.emb_apply]; show off a + 1 * (x a).val = _; omega

/-! ## The unpacked rows -/

/-- The upper 768 gathered rows. -/
abbrev wTop (X : S1536x1024.Idx → BitVec 32) : S768x1024.Idx → BitVec 32 :=
  fun x => X ((Rect.unit (s := S1536x1024) ![0, 0] S768x1024.size inb_S1536x1024_S768x1024_0_0).emb x)
/-- The lower 768 gathered rows. -/
abbrev wBot (X : S1536x1024.Idx → BitVec 32) : S768x1024.Idx → BitVec 32 :=
  fun x => X ((Rect.unit (s := S1536x1024) ![768, 0] S768x1024.size inb_S1536x1024_S768x1024_768_0).emb x)

/-- The rows unpacked: the words' lower halves are the first 1024 columns, their upper halves the last 1024. -/
def XB (X : S1536x1024.Idx → BitVec 32) : S1536x2048.Idx → Elt F .bf16 := fun y =>
  if h0 : (y 0).val < 768 then
    if h1 : (y 1).val < 1024 then k0_pay13 (F := F) (wTop X) (ix2 ⟨(y 0).val, h0⟩ ⟨(y 1).val, h1⟩)
    else k0_pay14 (F := F) (wTop X) (ix2 ⟨(y 0).val, h0⟩ ⟨(y 1).val - 1024, by have h : (y 1).val < 2048 := (y 1).isLt; omega⟩)
  else
    if h1 : (y 1).val < 1024 then k0_pay1 (F := F) (wBot X) (ix2 ⟨(y 0).val - 768, by have h : (y 0).val < 1536 := (y 0).isLt; omega⟩ ⟨(y 1).val, h1⟩)
    else k0_pay2 (F := F) (wBot X) (ix2 ⟨(y 0).val - 768, by have h : (y 0).val < 1536 := (y 0).isLt; omega⟩ ⟨(y 1).val - 1024, by have h : (y 1).val < 2048 := (y 1).isLt; omega⟩)

/-- The upper half of an unpacked buffer. -/
abbrev bTop (B : S1536x2048.Idx → Elt F .bf16) : S768x2048.Idx → Elt F .bf16 :=
  fun x => B ((Rect.unit (s := S1536x2048) ![0, 0] S768x2048.size inb_S1536x2048_S768x2048_0_0).emb x)
/-- The lower half of an unpacked buffer. -/
abbrev bBot (B : S1536x2048.Idx → Elt F .bf16) : S768x2048.Idx → Elt F .bf16 :=
  fun x => B ((Rect.unit (s := S1536x2048) ![768, 0] S768x2048.size inb_S1536x2048_S768x2048_768_0).emb x)

/-- The unpacked buffer after the first two stores. -/
abbrev halfXB (B : S1536x2048.Idx → Elt F .bf16) (X : S1536x1024.Idx → BitVec 32) : S1536x2048.Idx → Elt F .bf16 :=
  (Rect.unit (s := S1536x2048) ![0, 1024] S768x1024.size inb_S1536x2048_S768x1024_0_1024).overlay
    ((Rect.unit (s := S1536x2048) ![0, 0] S768x1024.size inb_S1536x2048_S768x1024_0_0).overlay B (k0_pay13 (F := F) (wTop X))) (k0_pay14 (F := F) (wTop X))
/-- The unpacked buffer after all four. -/
abbrev fullXB (B : S1536x2048.Idx → Elt F .bf16) (X : S1536x1024.Idx → BitVec 32) : S1536x2048.Idx → Elt F .bf16 :=
  (Rect.unit (s := S1536x2048) ![768, 1024] S768x1024.size inb_S1536x2048_S768x1024_768_1024).overlay
    ((Rect.unit (s := S1536x2048) ![768, 0] S768x1024.size inb_S1536x2048_S768x1024_768_0).overlay (halfXB B X) (k0_pay1 (F := F) (wBot X))) (k0_pay2 (F := F) (wBot X))

theorem halfXB_eq (B : S1536x2048.Idx → Elt F .bf16) (X : S1536x1024.Idx → BitVec 32) (y : S1536x2048.Idx) (h0 : (y 0).val < 768) :
    halfXB B X y = XB (F := F) X y := by
  have hy1 : (y 1).val < 2048 := (y 1).isLt
  unfold XB
  rw [dif_pos h0]
  by_cases h1 : (y 1).val < 1024
  · rw [dif_pos h1]
    refine (overlay_out (S := S1536x2048) inb_S1536x2048_S768x1024_0_1024 _ _ y 1 ?_).trans ?_
    · show ¬(1024 ≤ (y 1).val ∧ _); omega
    refine overlay_in (S := S1536x2048) inb_S1536x2048_S768x1024_0_0 _ _ y (ix2 (n0 := 768) (n1 := 1024) ⟨(y 0).val, h0⟩ ⟨(y 1).val, h1⟩) fun a => ?_
    fin_cases a
    · show (y 0).val = 0 + (y 0).val; omega
    · show (y 1).val = 0 + (y 1).val; omega
  · rw [dif_neg h1]
    refine overlay_in (S := S1536x2048) inb_S1536x2048_S768x1024_0_1024 _ _ y (ix2 (n0 := 768) (n1 := 1024) ⟨(y 0).val, h0⟩ ⟨(y 1).val - 1024, by omega⟩) fun a => ?_
    fin_cases a
    · show (y 0).val = 0 + (y 0).val; omega
    · show (y 1).val = 1024 + ((y 1).val - 1024); omega

theorem fullXB_eq (B : S1536x2048.Idx → Elt F .bf16) (X : S1536x1024.Idx → BitVec 32) : fullXB B X = XB (F := F) X := by
  funext y
  have hy0 : (y 0).val < 1536 := (y 0).isLt
  have hy1 : (y 1).val < 2048 := (y 1).isLt
  by_cases h0 : (y 0).val < 768
  · refine (overlay_out (S := S1536x2048) inb_S1536x2048_S768x1024_768_1024 _ _ y 0 ?_).trans ?_
    · show ¬(768 ≤ (y 0).val ∧ _); omega
    refine (overlay_out (S := S1536x2048) inb_S1536x2048_S768x1024_768_0 _ _ y 0 ?_).trans (halfXB_eq B X y h0)
    · show ¬(768 ≤ (y 0).val ∧ _); omega
  · unfold XB
    rw [dif_neg h0]
    by_cases h1 : (y 1).val < 1024
    · rw [dif_pos h1]
      refine (overlay_out (S := S1536x2048) inb_S1536x2048_S768x1024_768_1024 _ _ y 1 ?_).trans ?_
      · show ¬(1024 ≤ (y 1).val ∧ _); omega
      refine overlay_in (S := S1536x2048) inb_S1536x2048_S768x1024_768_0 _ _ y (ix2 (n0 := 768) (n1 := 1024) ⟨(y 0).val - 768, by omega⟩ ⟨(y 1).val, h1⟩) fun a => ?_
      fin_cases a
      · show (y 0).val = 768 + ((y 0).val - 768); omega
      · show (y 1).val = 0 + (y 1).val; omega
    · rw [dif_neg h1]
      refine overlay_in (S := S1536x2048) inb_S1536x2048_S768x1024_768_1024 _ _ y (ix2 (n0 := 768) (n1 := 1024) ⟨(y 0).val - 768, by omega⟩ ⟨(y 1).val - 1024, by omega⟩) fun a => ?_
      fin_cases a
      · show (y 0).val = 768 + ((y 0).val - 768); omega
      · show (y 1).val = 1024 + ((y 1).val - 1024); omega

theorem bTop_halfXB (B : S1536x2048.Idx → Elt F .bf16) (X : S1536x1024.Idx → BitVec 32) : bTop (halfXB B X) = bTop (XB (F := F) X) := by
  funext x
  refine halfXB_eq B X _ ?_
  have h := emb_val (S := S1536x2048) inb_S1536x2048_S768x2048_0_0 x 0
  have hx : (x 0).val < 768 := (x 0).isLt
  have h' : ((Rect.unit (s := S1536x2048) ![0, 0] S768x2048.size inb_S1536x2048_S768x2048_0_0).emb x 0).val = 0 + (x 0).val := h
  omega

/-! ## The hidden activations -/

/-- One 512-wide chunk of the hidden activations, from the chunk's blocks of the two weights and the unpacked rows. -/
def HE (wg wu : S1x2048x512.Idx → Elt F .f32) (B : S1536x2048.Idx → Elt F .bf16) : S1536x512.Idx → Elt F .bf16 := fun y =>
  if h0 : (y 0).val < 768 then k0_pay6 (F := F) wg wu (bTop B) (ix3 0 ⟨(y 0).val, h0⟩ (y 1))
  else k0_pay7 (F := F) wg wu (bBot B) (ix3 0 ⟨(y 0).val - 768, by have h : (y 0).val < 1536 := (y 0).isLt; omega⟩ (y 1))

theorem pay15_eq (wg wu : S1x2048x512.Idx → Elt F .f32) (x : S768x2048.Idx → Elt F .bf16) : k0_pay15 (F := F) wg wu x = k0_pay6 wg wu x := rfl
theorem pay3_eq (wg wu : S1x2048x512.Idx → Elt F .f32) (x : S768x2048.Idx → Elt F .bf16) : k0_pay3 (F := F) (k0_pay11 wg) (k0_pay12 wu) x = k0_pay7 wg wu x := rfl
theorem off9_eq (i : grid0.Coords) : k0_off9 i = k0_off11 i := rfl
theorem off10_eq (i : grid0.Coords) : k0_off10 i = k0_off12 i := rfl

theorem off11_eq (i : grid0.Coords) : k0_off11 i = ![(i 1).val, 0, 0] := by
  have h : ∀ n : Fin 8, (BitVec.ofNat 32 n.val).toNat = n.val := by decide
  have := h ⟨(i 1).val, coord1_lt i⟩
  show ![(BitVec.ofNat 32 (i 1).val).toNat, 0, 0] = _
  rw [this]
theorem off12_eq (i : grid0.Coords) : k0_off12 i = ![(i 1).val, 768, 0] := by
  have h : ∀ n : Fin 8, (BitVec.ofNat 32 n.val).toNat = n.val := by decide
  have := h ⟨(i 1).val, coord1_lt i⟩
  show ![(BitVec.ofNat 32 (i 1).val).toNat, 768, 0] = _
  rw [this]

/-- The first `n` chunks of the hidden buffer are `H 0`, …, `H (n - 1)`. -/
def Chunks (H : ℕ → S1536x512.Idx → Elt F .bf16) (n : ℕ) (f : S4x1536x512.Idx → Elt F .bf16) : Prop :=
  ∀ (k : Fin 4) (r : Fin 1536) (d : Fin 512), k.val < n → f (ix3 k r d) = H k.val (ix2 r d)

/-- Storing the two halves of chunk `n` makes one more. -/
theorem Chunks.step {H : ℕ → S1536x512.Idx → Elt F .bf16} {n : ℕ} {f : S4x1536x512.Idx → Elt F .bf16} (hf : Chunks H n f)
    (wg wu : S1x2048x512.Idx → Elt F .f32) (B : S1536x2048.Idx → Elt F .bf16) (hH : H n = HE wg wu B)
    (o1 o2 : Fin 3 → ℕ) (h1 : ∀ a, o1 a + S1x768x512.size a ≤ S4x1536x512.size a) (h2 : ∀ a, o2 a + S1x768x512.size a ≤ S4x1536x512.size a)
    (e1 : o1 = ![n, 0, 0]) (e2 : o2 = ![n, 768, 0]) :
    Chunks H (n + 1) ((Rect.unit (s := S4x1536x512) o2 S1x768x512.size h2).overlay
      ((Rect.unit (s := S4x1536x512) o1 S1x768x512.size h1).overlay f (k0_pay6 (F := F) wg wu (bTop B))) (k0_pay7 (F := F) wg wu (bBot B))) := by
  subst e1 e2
  intro k r d hk
  have hr := r.isLt
  by_cases hkn : k.val = n
  · rw [hkn, hH]
    unfold HE
    by_cases h0 : r.val < 768
    · rw [dif_pos (show ((ix2 r d : S1536x512.Idx) 0).val < 768 from h0)]
      refine (overlay_out (S := S4x1536x512) h2 _ _ _ 1 ?_).trans ?_
      · show ¬(768 ≤ r.val ∧ _); omega
      refine overlay_in (S := S4x1536x512) h1 _ _ _ (ix3 (0 : Fin 1) (⟨r.val, h0⟩ : Fin 768) d) fun a => ?_
      fin_cases a
      · show k.val = n + 0; omega
      · show r.val = 0 + r.val; omega
      · show d.val = 0 + d.val; omega
    · rw [dif_neg (show ¬((ix2 r d : S1536x512.Idx) 0).val < 768 from h0)]
      refine overlay_in (S := S4x1536x512) h2 _ _ _ (ix3 (0 : Fin 1) (⟨r.val - 768, by omega⟩ : Fin 768) d) fun a => ?_
      fin_cases a
      · show k.val = n + 0; omega
      · show r.val = 768 + (r.val - 768); omega
      · show d.val = 0 + d.val; omega
  · refine (overlay_out (S := S4x1536x512) h2 _ _ _ 0 ?_).trans ?_
    · show ¬(n ≤ k.val ∧ k.val < n + 1); omega
    refine (overlay_out (S := S4x1536x512) h1 _ _ _ 0 ?_).trans (hf k r d (by omega))
    · show ¬(n ≤ k.val ∧ k.val < n + 1); omega

/-- One chunk of the hidden buffer, as loaded. -/
abbrev he0 (f : S4x1536x512.Idx → Elt F .bf16) : S1x1536x512.Idx → Elt F .bf16 := fun x => f ((Rect.unit (s := S4x1536x512) ![0, 0, 0] S1x1536x512.size inb_S4x1536x512_S1x1536x512_0_0_0).emb x)
abbrev he1 (f : S4x1536x512.Idx → Elt F .bf16) : S1x1536x512.Idx → Elt F .bf16 := fun x => f ((Rect.unit (s := S4x1536x512) ![1, 0, 0] S1x1536x512.size inb_S4x1536x512_S1x1536x512_1_0_0).emb x)
abbrev he2 (f : S4x1536x512.Idx → Elt F .bf16) : S1x1536x512.Idx → Elt F .bf16 := fun x => f ((Rect.unit (s := S4x1536x512) ![2, 0, 0] S1x1536x512.size inb_S4x1536x512_S1x1536x512_2_0_0).emb x)
abbrev he3 (f : S4x1536x512.Idx → Elt F .bf16) : S1x1536x512.Idx → Elt F .bf16 := fun x => f ((Rect.unit (s := S4x1536x512) ![3, 0, 0] S1x1536x512.size inb_S4x1536x512_S1x1536x512_3_0_0).emb x)

/-- The hidden buffer holding the four chunks. -/
def HF (H : ℕ → S1536x512.Idx → Elt F .bf16) : S4x1536x512.Idx → Elt F .bf16 := fun y => H (y 0).val (ix2 (y 1) (y 2))

theorem Chunks.all {H : ℕ → S1536x512.Idx → Elt F .bf16} {n : ℕ} {f : S4x1536x512.Idx → Elt F .bf16} (hf : Chunks H n f) (hn : 4 ≤ n) : f = HF H := by
  funext y
  have h := hf (y 0) (y 1) (y 2) (lt_of_lt_of_le (y 0).isLt hn)
  rw [show (ix3 (y 0) (y 1) (y 2) : S4x1536x512.Idx) = y from (eq_ix3 y).symm] at h
  exact h

/-! ## The output's blocks -/

/-- The first group's block of the output, from the hidden chunks, the block of the down weights and the gates. -/
def OA (f : S4x1536x512.Idx → Elt F .bf16) (wd : S1x2048x512.Idx → Elt F .f32) (g : S1x1536x1.Idx → Elt F .f32) : S1x1024x512.Idx → Elt F .f32 :=
  k0_pay9 (F := F) (k0_pay16 wd) (k0_pay17 wd (he0 f)) (k0_pay18 wd (he1 f)) (he2 f) (he3 f) g
/-- The second group's. -/
def OB (f : S4x1536x512.Idx → Elt F .bf16) (wd : S1x2048x512.Idx → Elt F .f32) (g : S1x1536x1.Idx → Elt F .f32) : S1x512x512.Idx → Elt F .f32 :=
  k0_pay10 (F := F) (k0_pay16 wd) (k0_pay17 wd (he0 f)) (k0_pay18 wd (he1 f)) (he2 f) (he3 f) g

/-! ## The body's branch conditions, from the grid coordinates -/

theorem cond1_iff (i : grid0.Coords) : k0_cond1 i = 1#1 ↔ (i 0).val = 0 ∧ (i 1).val = 0 := by
  have h : ∀ (n : Fin 16) (k : Fin 8), (Scalar.cmpi .ne (Scalar.extui (Scalar.andi (Scalar.cmpi .eq (BitVec.ofNat 32 n.val) 0#32) (Scalar.cmpi .eq (BitVec.ofNat 32 k.val) 0#32)) : BitVec 32) 0#32 = 1#1 ↔ n.val = 0 ∧ k.val = 0) := by decide
  exact h ⟨_, coord0_lt i⟩ ⟨_, coord1_lt i⟩
theorem cond2_iff (i : grid0.Coords) : k0_cond2 i = 1#1 ↔ (i 1).val = 0 := by
  have h : ∀ k : Fin 8, (Scalar.cmpi .ne (Scalar.extui (Scalar.cmpi .eq (BitVec.ofNat 32 k.val) 0#32) : BitVec 32) 0#32 = 1#1 ↔ k.val = 0) := by decide
  exact h ⟨_, coord1_lt i⟩
theorem cond3_iff (i : grid0.Coords) : k0_cond3 i = 1#1 ↔ 0 < (i 1).val ∧ (i 1).val < 4 := by
  have h : ∀ k : Fin 8, (Scalar.cmpi .ne (Scalar.extui (Scalar.andi (Scalar.cmpi .sgt (BitVec.ofNat 32 k.val) 0#32) (Scalar.cmpi .slt (BitVec.ofNat 32 k.val) 4#32)) : BitVec 32) 0#32 = 1#1 ↔ 0 < k.val ∧ k.val < 4) := by decide
  exact h ⟨_, coord1_lt i⟩
theorem cond4_iff (i : grid0.Coords) : k0_cond4 i = 1#1 ↔ 4 ≤ (i 1).val := by
  have h : ∀ k : Fin 8, (Scalar.cmpi .ne (Scalar.extui (Scalar.cmpi .sge (BitVec.ofNat 32 k.val) 4#32) : BitVec 32) 0#32 = 1#1 ↔ 4 ≤ k.val) := by decide
  exact h ⟨_, coord1_lt i⟩
theorem cond5_iff (i : grid0.Coords) : k0_cond5 i = 1#1 ↔ (i 1).val = 4 := by
  have h : ∀ k : Fin 8, (Scalar.cmpi .ne (Scalar.extui (Scalar.cmpi .eq (Scalar.subi (BitVec.ofNat 32 k.val) 4#32) 0#32) : BitVec 32) 0#32 = 1#1 ↔ k.val = 4) := by decide
  exact h ⟨_, coord1_lt i⟩
theorem cond6_iff (i : grid0.Coords) : k0_cond6 i = 1#1 ↔ (i 1).val = 5 := by
  have h : ∀ k : Fin 8, (Scalar.cmpi .ne (Scalar.extui (Scalar.cmpi .eq (Scalar.subi (BitVec.ofNat 32 k.val) 4#32) 1#32) : BitVec 32) 0#32 = 1#1 ↔ k.val = 5) := by decide
  exact h ⟨_, coord1_lt i⟩
theorem cond7_iff (i : grid0.Coords) : k0_cond7 i = 1#1 ↔ (i 1).val = 6 := by
  have h : ∀ k : Fin 8, (Scalar.cmpi .ne (Scalar.extui (Scalar.cmpi .eq (Scalar.subi (BitVec.ofNat 32 k.val) 4#32) 2#32) : BitVec 32) 0#32 = 1#1 ↔ k.val = 6) := by decide
  exact h ⟨_, coord1_lt i⟩
theorem cond8_iff (i : grid0.Coords) : k0_cond8 i = 1#1 ↔ (i 1).val = 7 := by
  have h : ∀ k : Fin 8, (Scalar.cmpi .ne (Scalar.extui (Scalar.cmpi .eq (Scalar.subi (BitVec.ofNat 32 k.val) 4#32) 3#32) : BitVec 32) 0#32 = 1#1 ↔ k.val = 7) := by decide
  exact h ⟨_, coord1_lt i⟩
theorem cond9_iff (i : grid0.Coords) : k0_cond9 i = 1#1 ↔ (i 0).val = 15 ∧ (i 1).val = 7 := by
  have h : ∀ (n : Fin 16) (k : Fin 8), (Scalar.cmpi .ne (Scalar.extui (Scalar.andi (Scalar.cmpi .eq (BitVec.ofNat 32 n.val) 15#32) (Scalar.cmpi .eq (BitVec.ofNat 32 k.val) 7#32)) : BitVec 32) 0#32 = 1#1 ↔ n.val = 15 ∧ k.val = 7) := by decide
  exact h ⟨_, coord0_lt i⟩ ⟨_, coord1_lt i⟩

end Cert.KernelIdeal.Hand

end
-- ==== Proof.BodyParts.lean ====
/-
  THE BODY'S TWO LONG PARTS. The first, at an expert's first point: waits for the expert's rows, unpacks the upper half and computes the
  upper half of chunk 0. The second, at its last four: starts a quarter of the next expert's copies and multiplies the first two chunks.
-/
module

public import proofs.«01_k».proof.Proof.Contents

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- A whole buffer at `f` is owned at `f`. -/
theorem own_whole (c : Dev nD) (b : Ref sig .tc) (q : PosShare TreeShare) (f : Buf (Elt F) ((c : Thread nD τ).loc b)) :
    ((((c : Thread nD τ).loc b) ↦{q} f) : sProp 𝕄) ⊢ owns (c : Thread nD τ) (Memref.whole b) q f := by
  unfold owns
  iintro H
  iexists f
  isplitr
  · ipureintro; rfl
  have h : ((((c : Thread nD τ).loc b) ↦{q} f) : sProp 𝕄) ⊢ ((Memref.whole b).view.loc (c : Thread nD τ) ↦[(Memref.whole b).view.set]{q} f) := by
    rw [show (Memref.whole b).view.set = Finset.univ from View.set_whole b]
  iapply h; iexact H

/-- And back. -/
theorem whole_own (c : Dev nD) (b : Ref sig .tc) (q : PosShare TreeShare) (f : Buf (Elt F) ((c : Thread nD τ).loc b)) :
    (owns (c : Thread nD τ) (Memref.whole b) q f : sProp 𝕄) ⊢ (((c : Thread nD τ).loc b) ↦{q} f) := by
  unfold owns
  iintro ⟨%g, %hg, H⟩
  have h : (((Memref.whole b).view.loc (c : Thread nD τ) ↦[(Memref.whole b).view.set]{q} g) : sProp 𝕄) ⊢ (((c : Thread nD τ).loc b) ↦{q} f) := by
    rw [show (Memref.whole b).view.set = Finset.univ from View.set_whole b, ← hg]; exact .rfl
  iapply h; iexact H

section Parts

variable (c : Dev nD) (𝒱 : Variants) (q : PosShare TreeShare)
  (T : S24576.Idx → BitVec 32) (HA : S8192x1024.Idx → BitVec 32) (HB : S4096x1024.Idx → BitVec 32)
  (i : grid0.Coords) (a5 : Memref sig .tc .vmem S1x1536x1 .f32) (h5 : a5.IsWhole) (a6 : Memref sig .tc .vmem S1x2048x512 .f32) (h6 : a6.IsWhole)
  (a7 : Memref sig .tc .vmem S1x2048x512 .f32) (h7 : a7.IsWhole) (a8 : Memref sig .tc .vmem S1x2048x512 .f32) (h8 : a8.IsWhole)
  (a9 : Memref sig .tc .vmem S1x1024x512 .f32) (h9 : a9.IsWhole) (a10 : Memref sig .tc .vmem S1x512x512 .f32) (h10 : a10.IsWhole)

/-- A load of a whole staging block is its contents. -/
theorem ld3 {n0 n1 n2 : ℕ} {α : Type} (X : (⟨3, ![n0, n1, n2]⟩ : Shape).Idx → α) (h : ∀ a, (![0, 0, 0] : Fin 3 → ℕ) a + (![n0, n1, n2] : Fin 3 → ℕ) a ≤ (![n0, n1, n2] : Fin 3 → ℕ) a) :
    (fun x => X ((Rect.unit (s := (⟨3, ![n0, n1, n2]⟩ : Shape)) ![0, 0, 0] ![n0, n1, n2] h).emb x)) = X := by
  funext x
  congr 1
  funext a; apply Fin.ext
  rw [emb_val]
  fin_cases a <;> exact Nat.zero_add _

/-- A store of a whole staging block leaves the stored block. -/
theorem st3 {n0 n1 n2 : ℕ} {α : Type} (X w : (⟨3, ![n0, n1, n2]⟩ : Shape).Idx → α) (h : ∀ a, (![0, 0, 0] : Fin 3 → ℕ) a + (![n0, n1, n2] : Fin 3 → ℕ) a ≤ (![n0, n1, n2] : Fin 3 → ℕ) a) :
    (Rect.unit (s := (⟨3, ![n0, n1, n2]⟩ : Shape)) ![0, 0, 0] ![n0, n1, n2] h).overlay X w = w := by
  funext x
  refine overlay_in (S := ⟨3, ![n0, n1, n2]⟩) h X w x x fun a => ?_
  fin_cases a <;> exact (Nat.zero_add _).symm

/-- The part at an expert's first point. -/
theorem part1_run (hc2 : k0_cond2 i = 1#1) (e : ℕ) (arg1 : BitVec 32) (wg wu : S1x2048x512.Idx → Elt F .f32) (B : S1536x2048.Idx → Elt F .bf16) (f : S4x1536x512.Idx → Elt F .bf16)
    {β : Type} {kk : (Σ' (v25 : FVec F S2048x512 .bf16) (v28 : FVec F S2048x512 .bf16), FVec F S1x768x512 .bf16) → Prog (TpuEff nD τ sig (Elt F) Λ₀ .tc) β} {Q : β → sProp 𝕄} :
    iprop((∃ W, owes (c : Thread nD τ) 0 W) ∗ Flight (F := F) c T HA HB e 1024 512 ∗ owns (c : Thread nD τ) a6 fullShare (wg) ∗ owns (c : Thread nD τ) a7 fullShare (wu) ∗ owns (c : Thread nD τ) (Memref.whole cc0_scratch1 : Memref sig .tc .vmem S1536x2048 .bf16) fullShare (B) ∗ owns (c : Thread nD τ) (Memref.whole cc0_scratch2 : Memref sig .tc .vmem S4x1536x512 .bf16) fullShare (f))
      ⊢ iprop((iprop((∃ W, owes (c : Thread nD τ) 0 W) ∗ owns (c : Thread nD τ) (Memref.whole cc0_scratch0 : Memref sig .tc .vmem S1536x1024 .i32) fullShare (XE T HA HB e) ∗ (((c : Thread nD τ).loc main_arg2) ↦{fullShare} (HA : Buf (Elt F) ((c : Thread nD τ).loc main_arg2))) ∗ (((c : Thread nD τ).loc main_arg3) ↦{fullShare} (HB : Buf (Elt F) ((c : Thread nD τ).loc main_arg3))) ∗ semVal ((c : Thread nD τ), .dma semA) 0 ∗ semVal ((c : Thread nD τ), .dma semB) 0
            ∗ owns (c : Thread nD τ) a6 fullShare (wg) ∗ owns (c : Thread nD τ) a7 fullShare (wu) ∗ owns (c : Thread nD τ) (Memref.whole cc0_scratch1 : Memref sig .tc .vmem S1536x2048 .bf16) fullShare (halfXB B (XE T HA HB e)) ∗ owns (c : Thread nD τ) (Memref.whole cc0_scratch2 : Memref sig .tc .vmem S4x1536x512 .bf16) fullShare (f))
          -∗ wp frame (wpE (defs₀ (F := F)) 𝒱 (c : Thread nD τ) none) Set.univ (kk ⟨k0_pay11 wg, k0_pay12 wu, k0_pay6 wg wu (bTop (XB (XE T HA HB e)))⟩) Q)
        -∗ wp frame (wpE (defs₀ (F := F)) 𝒱 (c : Thread nD τ) none) Set.univ (k0_part1 (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg1 hc2 >>= kk) Q) := by
  rw [← bTop_halfXB B (XE T HA HB e), ← pay15_eq]
  rw [k0_part1_eq_skeleton]; unfold k0_part1_skel
  simp only [Prog.bind_assoc, Prog.pure_eq_ret, Prog.bind_ret]
  unfold Flight
  iintro ⟨HW, ⟨⟨HfA, HfB⟩, HdA, HdB⟩, H6, H7, H12, H13⟩ Hk
  iapply (loop_t3 (F := F) c 𝒱 HA i a5 h5 a6 h6 a7 h7 a8 h8 a9 h9 a10 h10 (XE T HA HB e) hc2 arg1) $$ [HW HfA]
  · isplitl [HW]; · iexact HW
    iexact HfA
  iintro ⟨HW, HDA, HsA⟩
  iapply (loop_t4 (F := F) c 𝒱 HB i a5 h5 a6 h6 a7 h7 a8 h8 a9 h9 a10 h10 (XE T HA HB e) hc2 arg1) $$ [HW HfB]
  · isplitl [HW]; · iexact HW
    iexact HfB
  iintro ⟨HW, HDB, HsB⟩
  ihave HI := (flight_end (F := F) c T HA HB e) $$ [HDA HsA HDB HsB HdA HdB]
  · isplitl [HDA HsA]
    · isplitl [HDA]; · iexact HDA
      iexact HsA
    isplitl [HDB HsB]
    · isplitl [HDB]; · iexact HDB
      iexact HsB
    isplitl [HdA]; · iexact HdA
    iexact HdB
  unfold Idle
  icases HI with ⟨H11, Ha, Hb, HsA, HsB⟩
  ihave H11' := (own_whole (F := F) c cc0_scratch0 fullShare (XE T HA HB e)) $$ H11
  iapply (owns_load (F := F) c 𝒱) $$ H6
  iintro H6
  rw [ld3 (n0 := 1) (n1 := 2048) (n2 := 512) wg]
  iapply (owns_load (F := F) c 𝒱) $$ H7
  iintro H7
  rw [ld3 (n0 := 1) (n1 := 2048) (n2 := 512) wu]
  iapply (owns_load (F := F) c 𝒱) $$ H11'
  iintro H11
  iapply (owns_load (F := F) c 𝒱) $$ H12
  iintro H12
  iapply (owns_store (F := F) c 𝒱) $$ H12
  iintro H12
  iapply (owns_load (F := F) c 𝒱) $$ H12
  iintro H12
  iapply (owns_store (F := F) c 𝒱) $$ H12
  iintro H12
  iapply (owns_load (F := F) c 𝒱) $$ H12
  iintro H12
  iapply (owns_load (F := F) c 𝒱) $$ H13
  iintro H13
  iapply Hk
  isplitl [HW]; · iexact HW
  isplitl [H11]; · iexact H11
  isplitl [Ha]; · iexact Ha
  isplitl [Hb]; · iexact Hb
  isplitl [HsA]; · iexact HsA
  isplitl [HsB]; · iexact HsB
  isplitl [H6]; · iexact H6
  isplitl [H7]; · iexact H7
  isplitl [H12]; · iexact H12
  iexact H13

/-- The part at an expert's point 4: quarter 0 of each group's copies. -/
theorem part2_run_0 (hT : InRange T) (hc4 : k0_cond4 i = 1#1) (hc5 : k0_cond5 i = 1#1) (hc6 : ¬k0_cond6 i = 1#1) (hc7 : ¬k0_cond7 i = 1#1) (hc8 : ¬k0_cond8 i = 1#1) (arg0 arg1 : BitVec 32) (wd : S1x2048x512.Idx → Elt F .f32) (f : S4x1536x512.Idx → Elt F .bf16)
    {β : Type} {kk : (Σ' (v42 : FVec F S2048x512 .bf16) (v46 : FVec F S1536x512 .f32), FVec F S1536x512 .f32) → Prog (TpuEff nD τ sig (Elt F) Λ₀ .tc) β} {Q : β → sProp 𝕄} :
    iprop((((c : Thread nD τ).loc main_v1) ↦{q} (T : Buf (Elt F) ((c : Thread nD τ).loc main_v1))) ∗ Flight (F := F) c T HA HB (nextE i) 0 0 ∗ owns (c : Thread nD τ) a8 fullShare (wd) ∗ owns (c : Thread nD τ) (Memref.whole cc0_scratch2 : Memref sig .tc .vmem S4x1536x512 .bf16) fullShare (f))
      ⊢ iprop((iprop((((c : Thread nD τ).loc main_v1) ↦{q} (T : Buf (Elt F) ((c : Thread nD τ).loc main_v1))) ∗ Flight (F := F) c T HA HB (nextE i) 256 128 ∗ owns (c : Thread nD τ) a8 fullShare (wd) ∗ owns (c : Thread nD τ) (Memref.whole cc0_scratch2 : Memref sig .tc .vmem S4x1536x512 .bf16) fullShare (f))
          -∗ wp frame (wpE (defs₀ (F := F)) 𝒱 (c : Thread nD τ) none) Set.univ (kk ⟨k0_pay16 wd, k0_pay17 wd (he0 f), k0_pay18 wd (he1 f)⟩) Q)
        -∗ wp frame (wpE (defs₀ (F := F)) 𝒱 (c : Thread nD τ) none) Set.univ (k0_part2 (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg0 arg1 hc4 >>= kk) Q) := by
  rw [k0_part2_eq_skeleton]; unfold k0_part2_skel
  simp only [dif_pos hc5, dif_neg hc6, dif_neg hc7, dif_neg hc8, Prog.bind_assoc, Prog.pure_eq_ret, Prog.bind_ret]
  unfold Flight
  iintro ⟨Ht, ⟨⟨HfA, HfB⟩, HdA, HdB⟩, H8, H13⟩ Hk
  iapply (loop_t5 (F := F) c 𝒱 q T HA HB i a5 h5 a6 h6 a7 h7 a8 h8 a9 h9 a10 h10 hT hc4 hc5 arg0 arg1) $$ [Ht HfA]
  · isplitl [Ht]; · iexact Ht
    iexact HfA
  iintro ⟨Ht, HfA⟩
  iapply (loop_t6 (F := F) c 𝒱 q T HA HB i a5 h5 a6 h6 a7 h7 a8 h8 a9 h9 a10 h10 hT hc4 hc5 arg0 arg1) $$ [Ht HfB]
  · isplitl [Ht]; · iexact Ht
    iexact HfB
  iintro ⟨Ht, HfB⟩
  iapply (owns_load (F := F) c 𝒱) $$ H8
  iintro H8
  rw [ld3 (n0 := 1) (n1 := 2048) (n2 := 512) wd]
  iapply (owns_load (F := F) c 𝒱) $$ H13
  iintro H13
  iapply (owns_load (F := F) c 𝒱) $$ H13
  iintro H13
  iapply Hk
  isplitl [Ht]; · iexact Ht
  isplitl [HfA HfB HdA HdB]
  · isplitl [HfA HfB]
    · isplitl [HfA]; · iexact HfA
      iexact HfB
    isplitl [HdA]; · iexact HdA
    iexact HdB
  isplitl [H8]; · iexact H8
  iexact H13

/-- The part at an expert's point 5: quarter 1 of each group's copies. -/
theorem part2_run_1 (hT : InRange T) (hc4 : k0_cond4 i = 1#1) (hc5 : ¬k0_cond5 i = 1#1) (hc6 : k0_cond6 i = 1#1) (hc7 : ¬k0_cond7 i = 1#1) (hc8 : ¬k0_cond8 i = 1#1) (arg0 arg1 : BitVec 32) (wd : S1x2048x512.Idx → Elt F .f32) (f : S4x1536x512.Idx → Elt F .bf16)
    {β : Type} {kk : (Σ' (v42 : FVec F S2048x512 .bf16) (v46 : FVec F S1536x512 .f32), FVec F S1536x512 .f32) → Prog (TpuEff nD τ sig (Elt F) Λ₀ .tc) β} {Q : β → sProp 𝕄} :
    iprop((((c : Thread nD τ).loc main_v1) ↦{q} (T : Buf (Elt F) ((c : Thread nD τ).loc main_v1))) ∗ Flight (F := F) c T HA HB (nextE i) 256 128 ∗ owns (c : Thread nD τ) a8 fullShare (wd) ∗ owns (c : Thread nD τ) (Memref.whole cc0_scratch2 : Memref sig .tc .vmem S4x1536x512 .bf16) fullShare (f))
      ⊢ iprop((iprop((((c : Thread nD τ).loc main_v1) ↦{q} (T : Buf (Elt F) ((c : Thread nD τ).loc main_v1))) ∗ Flight (F := F) c T HA HB (nextE i) 512 256 ∗ owns (c : Thread nD τ) a8 fullShare (wd) ∗ owns (c : Thread nD τ) (Memref.whole cc0_scratch2 : Memref sig .tc .vmem S4x1536x512 .bf16) fullShare (f))
          -∗ wp frame (wpE (defs₀ (F := F)) 𝒱 (c : Thread nD τ) none) Set.univ (kk ⟨k0_pay16 wd, k0_pay17 wd (he0 f), k0_pay18 wd (he1 f)⟩) Q)
        -∗ wp frame (wpE (defs₀ (F := F)) 𝒱 (c : Thread nD τ) none) Set.univ (k0_part2 (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg0 arg1 hc4 >>= kk) Q) := by
  rw [k0_part2_eq_skeleton]; unfold k0_part2_skel
  simp only [dif_neg hc5, dif_pos hc6, dif_neg hc7, dif_neg hc8, Prog.bind_assoc, Prog.pure_eq_ret, Prog.bind_ret]
  unfold Flight
  iintro ⟨Ht, ⟨⟨HfA, HfB⟩, HdA, HdB⟩, H8, H13⟩ Hk
  iapply (loop_t7 (F := F) c 𝒱 q T HA HB i a5 h5 a6 h6 a7 h7 a8 h8 a9 h9 a10 h10 hT hc4 hc6 arg0 arg1) $$ [Ht HfA]
  · isplitl [Ht]; · iexact Ht
    iexact HfA
  iintro ⟨Ht, HfA⟩
  iapply (loop_t8 (F := F) c 𝒱 q T HA HB i a5 h5 a6 h6 a7 h7 a8 h8 a9 h9 a10 h10 hT hc4 hc6 arg0 arg1) $$ [Ht HfB]
  · isplitl [Ht]; · iexact Ht
    iexact HfB
  iintro ⟨Ht, HfB⟩
  iapply (owns_load (F := F) c 𝒱) $$ H8
  iintro H8
  rw [ld3 (n0 := 1) (n1 := 2048) (n2 := 512) wd]
  iapply (owns_load (F := F) c 𝒱) $$ H13
  iintro H13
  iapply (owns_load (F := F) c 𝒱) $$ H13
  iintro H13
  iapply Hk
  isplitl [Ht]; · iexact Ht
  isplitl [HfA HfB HdA HdB]
  · isplitl [HfA HfB]
    · isplitl [HfA]; · iexact HfA
      iexact HfB
    isplitl [HdA]; · iexact HdA
    iexact HdB
  isplitl [H8]; · iexact H8
  iexact H13

/-- The part at an expert's point 6: quarter 2 of each group's copies. -/
theorem part2_run_2 (hT : InRange T) (hc4 : k0_cond4 i = 1#1) (hc5 : ¬k0_cond5 i = 1#1) (hc6 : ¬k0_cond6 i = 1#1) (hc7 : k0_cond7 i = 1#1) (hc8 : ¬k0_cond8 i = 1#1) (arg0 arg1 : BitVec 32) (wd : S1x2048x512.Idx → Elt F .f32) (f : S4x1536x512.Idx → Elt F .bf16)
    {β : Type} {kk : (Σ' (v42 : FVec F S2048x512 .bf16) (v46 : FVec F S1536x512 .f32), FVec F S1536x512 .f32) → Prog (TpuEff nD τ sig (Elt F) Λ₀ .tc) β} {Q : β → sProp 𝕄} :
    iprop((((c : Thread nD τ).loc main_v1) ↦{q} (T : Buf (Elt F) ((c : Thread nD τ).loc main_v1))) ∗ Flight (F := F) c T HA HB (nextE i) 512 256 ∗ owns (c : Thread nD τ) a8 fullShare (wd) ∗ owns (c : Thread nD τ) (Memref.whole cc0_scratch2 : Memref sig .tc .vmem S4x1536x512 .bf16) fullShare (f))
      ⊢ iprop((iprop((((c : Thread nD τ).loc main_v1) ↦{q} (T : Buf (Elt F) ((c : Thread nD τ).loc main_v1))) ∗ Flight (F := F) c T HA HB (nextE i) 768 384 ∗ owns (c : Thread nD τ) a8 fullShare (wd) ∗ owns (c : Thread nD τ) (Memref.whole cc0_scratch2 : Memref sig .tc .vmem S4x1536x512 .bf16) fullShare (f))
          -∗ wp frame (wpE (defs₀ (F := F)) 𝒱 (c : Thread nD τ) none) Set.univ (kk ⟨k0_pay16 wd, k0_pay17 wd (he0 f), k0_pay18 wd (he1 f)⟩) Q)
        -∗ wp frame (wpE (defs₀ (F := F)) 𝒱 (c : Thread nD τ) none) Set.univ (k0_part2 (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg0 arg1 hc4 >>= kk) Q) := by
  rw [k0_part2_eq_skeleton]; unfold k0_part2_skel
  simp only [dif_neg hc5, dif_neg hc6, dif_pos hc7, dif_neg hc8, Prog.bind_assoc, Prog.pure_eq_ret, Prog.bind_ret]
  unfold Flight
  iintro ⟨Ht, ⟨⟨HfA, HfB⟩, HdA, HdB⟩, H8, H13⟩ Hk
  iapply (loop_t9 (F := F) c 𝒱 q T HA HB i a5 h5 a6 h6 a7 h7 a8 h8 a9 h9 a10 h10 hT hc4 hc7 arg0 arg1) $$ [Ht HfA]
  · isplitl [Ht]; · iexact Ht
    iexact HfA
  iintro ⟨Ht, HfA⟩
  iapply (loop_t10 (F := F) c 𝒱 q T HA HB i a5 h5 a6 h6 a7 h7 a8 h8 a9 h9 a10 h10 hT hc4 hc7 arg0 arg1) $$ [Ht HfB]
  · isplitl [Ht]; · iexact Ht
    iexact HfB
  iintro ⟨Ht, HfB⟩
  iapply (owns_load (F := F) c 𝒱) $$ H8
  iintro H8
  rw [ld3 (n0 := 1) (n1 := 2048) (n2 := 512) wd]
  iapply (owns_load (F := F) c 𝒱) $$ H13
  iintro H13
  iapply (owns_load (F := F) c 𝒱) $$ H13
  iintro H13
  iapply Hk
  isplitl [Ht]; · iexact Ht
  isplitl [HfA HfB HdA HdB]
  · isplitl [HfA HfB]
    · isplitl [HfA]; · iexact HfA
      iexact HfB
    isplitl [HdA]; · iexact HdA
    iexact HdB
  isplitl [H8]; · iexact H8
  iexact H13

/-- The part at an expert's point 7: quarter 3 of each group's copies. -/
theorem part2_run_3 (hT : InRange T) (hc4 : k0_cond4 i = 1#1) (hc5 : ¬k0_cond5 i = 1#1) (hc6 : ¬k0_cond6 i = 1#1) (hc7 : ¬k0_cond7 i = 1#1) (hc8 : k0_cond8 i = 1#1) (arg0 arg1 : BitVec 32) (wd : S1x2048x512.Idx → Elt F .f32) (f : S4x1536x512.Idx → Elt F .bf16)
    {β : Type} {kk : (Σ' (v42 : FVec F S2048x512 .bf16) (v46 : FVec F S1536x512 .f32), FVec F S1536x512 .f32) → Prog (TpuEff nD τ sig (Elt F) Λ₀ .tc) β} {Q : β → sProp 𝕄} :
    iprop((((c : Thread nD τ).loc main_v1) ↦{q} (T : Buf (Elt F) ((c : Thread nD τ).loc main_v1))) ∗ Flight (F := F) c T HA HB (nextE i) 768 384 ∗ owns (c : Thread nD τ) a8 fullShare (wd) ∗ owns (c : Thread nD τ) (Memref.whole cc0_scratch2 : Memref sig .tc .vmem S4x1536x512 .bf16) fullShare (f))
      ⊢ iprop((iprop((((c : Thread nD τ).loc main_v1) ↦{q} (T : Buf (Elt F) ((c : Thread nD τ).loc main_v1))) ∗ Flight (F := F) c T HA HB (nextE i) 1024 512 ∗ owns (c : Thread nD τ) a8 fullShare (wd) ∗ owns (c : Thread nD τ) (Memref.whole cc0_scratch2 : Memref sig .tc .vmem S4x1536x512 .bf16) fullShare (f))
          -∗ wp frame (wpE (defs₀ (F := F)) 𝒱 (c : Thread nD τ) none) Set.univ (kk ⟨k0_pay16 wd, k0_pay17 wd (he0 f), k0_pay18 wd (he1 f)⟩) Q)
        -∗ wp frame (wpE (defs₀ (F := F)) 𝒱 (c : Thread nD τ) none) Set.univ (k0_part2 (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg0 arg1 hc4 >>= kk) Q) := by
  rw [k0_part2_eq_skeleton]; unfold k0_part2_skel
  simp only [dif_neg hc5, dif_neg hc6, dif_neg hc7, dif_pos hc8, Prog.bind_assoc, Prog.pure_eq_ret, Prog.bind_ret]
  unfold Flight
  iintro ⟨Ht, ⟨⟨HfA, HfB⟩, HdA, HdB⟩, H8, H13⟩ Hk
  iapply (loop_t11 (F := F) c 𝒱 q T HA HB i a5 h5 a6 h6 a7 h7 a8 h8 a9 h9 a10 h10 hT hc4 hc8 arg0 arg1) $$ [Ht HfA]
  · isplitl [Ht]; · iexact Ht
    iexact HfA
  iintro ⟨Ht, HfA⟩
  iapply (loop_t12 (F := F) c 𝒱 q T HA HB i a5 h5 a6 h6 a7 h7 a8 h8 a9 h9 a10 h10 hT hc4 hc8 arg0 arg1) $$ [Ht HfB]
  · isplitl [Ht]; · iexact Ht
    iexact HfB
  iintro ⟨Ht, HfB⟩
  iapply (owns_load (F := F) c 𝒱) $$ H8
  iintro H8
  rw [ld3 (n0 := 1) (n1 := 2048) (n2 := 512) wd]
  iapply (owns_load (F := F) c 𝒱) $$ H13
  iintro H13
  iapply (owns_load (F := F) c 𝒱) $$ H13
  iintro H13
  iapply Hk
  isplitl [Ht]; · iexact Ht
  isplitl [HfA HfB HdA HdB]
  · isplitl [HfA HfB]
    · isplitl [HfA]; · iexact HfA
      iexact HfB
    isplitl [HdA]; · iexact HdA
    iexact HdB
  isplitl [H8]; · iexact H8
  iexact H13

/-- The part at any of an expert's last four points. -/
theorem part2_run (hT : InRange T) (hc4 : k0_cond4 i = 1#1) (arg0 arg1 : BitVec 32) (wd : S1x2048x512.Idx → Elt F .f32) (f : S4x1536x512.Idx → Elt F .bf16)
    {β : Type} {kk : (Σ' (v42 : FVec F S2048x512 .bf16) (v46 : FVec F S1536x512 .f32), FVec F S1536x512 .f32) → Prog (TpuEff nD τ sig (Elt F) Λ₀ .tc) β} {Q : β → sProp 𝕄} :
    iprop((((c : Thread nD τ).loc main_v1) ↦{q} (T : Buf (Elt F) ((c : Thread nD τ).loc main_v1))) ∗ Flight (F := F) c T HA HB (nextE i) (256 * ((i 1).val - 4)) (128 * ((i 1).val - 4)) ∗ owns (c : Thread nD τ) a8 fullShare (wd) ∗ owns (c : Thread nD τ) (Memref.whole cc0_scratch2 : Memref sig .tc .vmem S4x1536x512 .bf16) fullShare (f))
      ⊢ iprop((iprop((((c : Thread nD τ).loc main_v1) ↦{q} (T : Buf (Elt F) ((c : Thread nD τ).loc main_v1))) ∗ Flight (F := F) c T HA HB (nextE i) (256 * ((i 1).val - 3)) (128 * ((i 1).val - 3)) ∗ owns (c : Thread nD τ) a8 fullShare (wd) ∗ owns (c : Thread nD τ) (Memref.whole cc0_scratch2 : Memref sig .tc .vmem S4x1536x512 .bf16) fullShare (f))
          -∗ wp frame (wpE (defs₀ (F := F)) 𝒱 (c : Thread nD τ) none) Set.univ (kk ⟨k0_pay16 wd, k0_pay17 wd (he0 f), k0_pay18 wd (he1 f)⟩) Q)
        -∗ wp frame (wpE (defs₀ (F := F)) 𝒱 (c : Thread nD τ) none) Set.univ (k0_part2 (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3 arg0 arg1 hc4 >>= kk) Q) := by
  have h4 : 4 ≤ (i 1).val := (cond4_iff i).mp hc4
  have h8 := coord1_lt i
  rcases (show (i 1).val = 4 ∨ (i 1).val = 5 ∨ (i 1).val = 6 ∨ (i 1).val = 7 by omega) with h | h | h | h
  · rw [h]
    exact part2_run_0 (F := F) c 𝒱 q T HA HB i a5 h5 a6 h6 a7 h7 a8 (by assumption) a9 h9 a10 h10 hT hc4 ((cond5_iff i).mpr h) (fun hh => by have := (cond6_iff i).mp hh; omega) (fun hh => by have := (cond7_iff i).mp hh; omega) (fun hh => by have := (cond8_iff i).mp hh; omega) arg0 arg1 wd f
  · rw [h]
    exact part2_run_1 (F := F) c 𝒱 q T HA HB i a5 h5 a6 h6 a7 h7 a8 (by assumption) a9 h9 a10 h10 hT hc4 (fun hh => by have := (cond5_iff i).mp hh; omega) ((cond6_iff i).mpr h) (fun hh => by have := (cond7_iff i).mp hh; omega) (fun hh => by have := (cond8_iff i).mp hh; omega) arg0 arg1 wd f
  · rw [h]
    exact part2_run_2 (F := F) c 𝒱 q T HA HB i a5 h5 a6 h6 a7 h7 a8 (by assumption) a9 h9 a10 h10 hT hc4 (fun hh => by have := (cond5_iff i).mp hh; omega) (fun hh => by have := (cond6_iff i).mp hh; omega) ((cond7_iff i).mpr h) (fun hh => by have := (cond8_iff i).mp hh; omega) arg0 arg1 wd f
  · rw [h]
    exact part2_run_3 (F := F) c 𝒱 q T HA HB i a5 h5 a6 h6 a7 h7 a8 (by assumption) a9 h9 a10 h10 hT hc4 (fun hh => by have := (cond5_iff i).mp hh; omega) (fun hh => by have := (cond6_iff i).mp hh; omega) (fun hh => by have := (cond7_iff i).mp hh; omega) ((cond8_iff i).mpr h) arg0 arg1 wd f

end Parts

end Cert.KernelIdeal.Hand

end
-- ==== Proof.Bodies.lean ====
/-
  THE BODY AT EACH KIND OF POINT: the grid's first point, an expert's first point, its next three, its last four, and the grid's last
  point. Each runs the whole printed body from the state before the point to the one after it.
-/
module

public import proofs.«01_k».proof.Proof.BodyParts

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

section Bodies

variable (c : Dev nD) (𝒱 : Variants) (q : PosShare TreeShare)
  (T : S24576.Idx → BitVec 32) (HA : S8192x1024.Idx → BitVec 32) (HB : S4096x1024.Idx → BitVec 32)
  (i : grid0.Coords) (a5 : Memref sig .tc .vmem S1x1536x1 .f32) (h5 : a5.IsWhole) (a6 : Memref sig .tc .vmem S1x2048x512 .f32) (h6 : a6.IsWhole)
  (a7 : Memref sig .tc .vmem S1x2048x512 .f32) (h7 : a7.IsWhole) (a8 : Memref sig .tc .vmem S1x2048x512 .f32) (h8 : a8.IsWhole)
  (a9 : Memref sig .tc .vmem S1x1024x512 .f32) (h9 : a9.IsWhole) (a10 : Memref sig .tc .vmem S1x512x512 .f32) (h10 : a10.IsWhole)

/-- The grid's first point: starts and collects expert 0's copies, unpacks the rows and computes chunk 0. -/
theorem body_first (hT : InRange T) (hc1 : k0_cond1 i = 1#1) (hc2 : k0_cond2 i = 1#1) (hc3 : ¬k0_cond3 i = 1#1) (hc4 : ¬k0_cond4 i = 1#1) (hc9 : ¬k0_cond9 i = 1#1)
    (wg wu : S1x2048x512.Idx → Elt F .f32) (X0 : S1536x1024.Idx → BitVec 32) (B : S1536x2048.Idx → Elt F .bf16) (f : S4x1536x512.Idx → Elt F .bf16)
    (H : ℕ → S1536x512.Idx → Elt F .bf16) (hH : H 0 = HE wg wu (XB (XE T HA HB 0))) {Q : PUnit → sProp 𝕄} :
    iprop((∃ W, owes (c : Thread nD τ) 0 W) ∗ (((c : Thread nD τ).loc main_v1) ↦{q} (T : Buf (Elt F) ((c : Thread nD τ).loc main_v1))) ∗ Idle (F := F) c HA HB X0 ∗ owns (c : Thread nD τ) a6 fullShare (wg) ∗ owns (c : Thread nD τ) a7 fullShare (wu) ∗ owns (c : Thread nD τ) (Memref.whole cc0_scratch1 : Memref sig .tc .vmem S1536x2048 .bf16) fullShare (B) ∗ owns (c : Thread nD τ) (Memref.whole cc0_scratch2 : Memref sig .tc .vmem S4x1536x512 .bf16) fullShare (f))
      ⊢ iprop((iprop((∃ W, owes (c : Thread nD τ) 0 W) ∗ (((c : Thread nD τ).loc main_v1) ↦{q} (T : Buf (Elt F) ((c : Thread nD τ).loc main_v1))) ∗ Idle (F := F) c HA HB (XE T HA HB 0) ∗ owns (c : Thread nD τ) a6 fullShare (wg) ∗ owns (c : Thread nD τ) a7 fullShare (wu) ∗ owns (c : Thread nD τ) (Memref.whole cc0_scratch1 : Memref sig .tc .vmem S1536x2048 .bf16) fullShare (XB (XE T HA HB 0))
            ∗ (∃ f' : S4x1536x512.Idx → Elt F .bf16, owns (c : Thread nD τ) (Memref.whole cc0_scratch2 : Memref sig .tc .vmem S4x1536x512 .bf16) fullShare (f') ∗ ⌜Chunks H 1 f'⌝)) -∗ Q ⟨⟩)
        -∗ wp frame (wpE (defs₀ (F := F)) 𝒱 (c : Thread nD τ) none) Set.univ (cc0_expert_ffn (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3) Q) := by
  rw [cc0_expert_ffn_eq_skeleton]; unfold cc0_expert_ffn_skel
  simp only [dif_pos hc1, dif_pos hc2, dif_neg hc3, dif_neg hc4, dif_neg hc9, Prog.bind_assoc, Prog.pure_eq_ret, Prog.bind_ret]
  iintro ⟨HW, Ht, HI, H6, H7, H12, H13⟩ Hk
  imod (flight_begin (F := F) c T HA HB 0 X0) $$ HI with HF
  unfold Flight
  icases HF with ⟨⟨HfA, HfB⟩, HdA, HdB⟩
  iapply (loop_t1 (F := F) c 𝒱 q T HA HB i a5 h5 a6 h6 a7 h7 a8 h8 a9 h9 a10 h10 hT hc1) $$ [Ht HfA]
  · isplitl [Ht]; · iexact Ht
    iexact HfA
  iintro ⟨Ht, HfA⟩
  iapply (loop_t2 (F := F) c 𝒱 q T HA HB i a5 h5 a6 h6 a7 h7 a8 h8 a9 h9 a10 h10 hT hc1) $$ [Ht HfB]
  · isplitl [Ht]; · iexact Ht
    iexact HfB
  iintro ⟨Ht, HfB⟩
  ihave HF := (show iprop((FlyA (F := F) c (XE T HA HB 0) HA 1024 ∗ FlyB (F := F) c (XE T HA HB 0) HB 512)
    ∗ (((c : Thread nD τ).loc main_arg2) ↦{Transfers.shareDrop fullShare 1024} (HA : Buf (Elt F) ((c : Thread nD τ).loc main_arg2)))
    ∗ (((c : Thread nD τ).loc main_arg3) ↦{Transfers.shareDrop fullShare 512} (HB : Buf (Elt F) ((c : Thread nD τ).loc main_arg3)))) ⊢ Flight (F := F) c T HA HB 0 1024 512 from by unfold Flight; exact .rfl) $$ [HfA HfB HdA HdB]
  · isplitl [HfA HfB]
    · isplitl [HfA]; · iexact HfA
      iexact HfB
    isplitl [HdA]; · iexact HdA
    iexact HdB
  iapply (part1_run (F := F) c 𝒱 T HA HB i a5 h5 a6 h6 a7 h7 a8 h8 a9 h9 a10 h10 hc2 0 (BitVec.ofNat 32 (i 1).val) wg wu B f) $$ [HW HF H6 H7 H12 H13]
  · isplitl [HW]; · iexact HW
    isplitl [HF]; · iexact HF
    isplitl [H6]; · iexact H6
    isplitl [H7]; · iexact H7
    isplitl [H12]; · iexact H12
    iexact H13
  iintro ⟨HW, H11, Ha, Hb, HsA, HsB, H6, H7, H12, H13⟩
  iapply (owns_store (F := F) c 𝒱) $$ H13
  iintro H13
  iapply (owns_load (F := F) c 𝒱) $$ H11
  iintro H11
  iapply (owns_load (F := F) c 𝒱) $$ H12
  iintro H12
  iapply (owns_store (F := F) c 𝒱) $$ H12
  iintro H12
  iapply (owns_load (F := F) c 𝒱) $$ H12
  iintro H12
  iapply (owns_store (F := F) c 𝒱) $$ H12
  iintro H12
  iapply (owns_load (F := F) c 𝒱) $$ H12
  iintro H12
  iapply (owns_load (F := F) c 𝒱) $$ H13
  iintro H13
  iapply (owns_store (F := F) c 𝒱) $$ H13
  iintro H13
  rw [wp_ret]; imodintro
  have hF : Chunks H 1 ((Rect.unit (s := S4x1536x512) (k0_off10 i) S1x768x512.size (k0_off10_inb i hc2)).overlay
      ((Rect.unit (s := S4x1536x512) (k0_off9 i) S1x768x512.size (k0_off9_inb i hc2)).overlay f (k0_pay6 (F := F) wg wu (bTop (XB (XE T HA HB 0)))))
      (k0_pay3 (F := F) (k0_pay11 wg) (k0_pay12 wu) (bBot (fullXB B (XE T HA HB 0))))) := by
    rw [fullXB_eq, pay3_eq]
    have h0 : (i 1).val = 0 := (cond2_iff i).mp hc2
    exact Chunks.step (n := 0) (fun k r d hk => absurd hk (Nat.not_lt_zero _)) wg wu _ hH _ _ _ _ (by rw [off9_eq, off11_eq, h0]) (by rw [off10_eq, off12_eq, h0])
  have e12 : (owns (c : Thread nD τ) (Memref.whole cc0_scratch1 : Memref sig .tc .vmem S1536x2048 .bf16) fullShare (fullXB B (XE T HA HB 0)) : sProp 𝕄) ⊢ owns (c : Thread nD τ) (Memref.whole cc0_scratch1 : Memref sig .tc .vmem S1536x2048 .bf16) fullShare (XB (XE T HA HB 0)) := by rw [fullXB_eq]
  ihave H12' := e12 $$ [H12]
  · iexact H12
  ihave H11' := (whole_own (F := F) c cc0_scratch0 fullShare (XE T HA HB 0)) $$ H11
  iapply Hk
  isplitl [HW]; · iexact HW
  isplitl [Ht]; · iexact Ht
  isplitl [H11' Ha Hb HsA HsB]
  · unfold Idle
    isplitl [H11']; · iexact H11'
    isplitl [Ha]; · iexact Ha
    isplitl [Hb]; · iexact Hb
    isplitl [HsA]; · iexact HsA
    iexact HsB
  isplitl [H6]; · iexact H6
  isplitl [H7]; · iexact H7
  isplitl [H12']; · iexact H12'
  iexists _
  isplitl [H13]; · iexact H13
  ipureintro; exact hF

/-- A later expert's first point: collects its copies, unpacks the rows and computes chunk 0. -/
theorem body_start (hc1 : ¬k0_cond1 i = 1#1) (hc2 : k0_cond2 i = 1#1) (hc3 : ¬k0_cond3 i = 1#1) (hc4 : ¬k0_cond4 i = 1#1) (hc9 : ¬k0_cond9 i = 1#1) (e : ℕ)
    (wg wu : S1x2048x512.Idx → Elt F .f32) (B : S1536x2048.Idx → Elt F .bf16) (f : S4x1536x512.Idx → Elt F .bf16)
    (H : ℕ → S1536x512.Idx → Elt F .bf16) (hH : H 0 = HE wg wu (XB (XE T HA HB e))) {Q : PUnit → sProp 𝕄} :
    iprop((∃ W, owes (c : Thread nD τ) 0 W) ∗ Flight (F := F) c T HA HB e 1024 512 ∗ owns (c : Thread nD τ) a6 fullShare (wg) ∗ owns (c : Thread nD τ) a7 fullShare (wu) ∗ owns (c : Thread nD τ) (Memref.whole cc0_scratch1 : Memref sig .tc .vmem S1536x2048 .bf16) fullShare (B) ∗ owns (c : Thread nD τ) (Memref.whole cc0_scratch2 : Memref sig .tc .vmem S4x1536x512 .bf16) fullShare (f))
      ⊢ iprop((iprop((∃ W, owes (c : Thread nD τ) 0 W) ∗ Idle (F := F) c HA HB (XE T HA HB e) ∗ owns (c : Thread nD τ) a6 fullShare (wg) ∗ owns (c : Thread nD τ) a7 fullShare (wu) ∗ owns (c : Thread nD τ) (Memref.whole cc0_scratch1 : Memref sig .tc .vmem S1536x2048 .bf16) fullShare (XB (XE T HA HB e))
            ∗ (∃ f' : S4x1536x512.Idx → Elt F .bf16, owns (c : Thread nD τ) (Memref.whole cc0_scratch2 : Memref sig .tc .vmem S4x1536x512 .bf16) fullShare (f') ∗ ⌜Chunks H 1 f'⌝)) -∗ Q ⟨⟩)
        -∗ wp frame (wpE (defs₀ (F := F)) 𝒱 (c : Thread nD τ) none) Set.univ (cc0_expert_ffn (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3) Q) := by
  rw [cc0_expert_ffn_eq_skeleton]; unfold cc0_expert_ffn_skel
  simp only [dif_neg hc1, dif_pos hc2, dif_neg hc3, dif_neg hc4, dif_neg hc9, Prog.bind_assoc, Prog.pure_eq_ret, Prog.bind_ret]
  iintro ⟨HW, HF, H6, H7, H12, H13⟩ Hk
  iapply (part1_run (F := F) c 𝒱 T HA HB i a5 h5 a6 h6 a7 h7 a8 h8 a9 h9 a10 h10 hc2 e (BitVec.ofNat 32 (i 1).val) wg wu B f) $$ [HW HF H6 H7 H12 H13]
  · isplitl [HW]; · iexact HW
    isplitl [HF]; · iexact HF
    isplitl [H6]; · iexact H6
    isplitl [H7]; · iexact H7
    isplitl [H12]; · iexact H12
    iexact H13
  iintro ⟨HW, H11, Ha, Hb, HsA, HsB, H6, H7, H12, H13⟩
  iapply (owns_store (F := F) c 𝒱) $$ H13
  iintro H13
  iapply (owns_load (F := F) c 𝒱) $$ H11
  iintro H11
  iapply (owns_load (F := F) c 𝒱) $$ H12
  iintro H12
  iapply (owns_store (F := F) c 𝒱) $$ H12
  iintro H12
  iapply (owns_load (F := F) c 𝒱) $$ H12
  iintro H12
  iapply (owns_store (F := F) c 𝒱) $$ H12
  iintro H12
  iapply (owns_load (F := F) c 𝒱) $$ H12
  iintro H12
  iapply (owns_load (F := F) c 𝒱) $$ H13
  iintro H13
  iapply (owns_store (F := F) c 𝒱) $$ H13
  iintro H13
  rw [wp_ret]; imodintro
  have hF : Chunks H 1 ((Rect.unit (s := S4x1536x512) (k0_off10 i) S1x768x512.size (k0_off10_inb i hc2)).overlay
      ((Rect.unit (s := S4x1536x512) (k0_off9 i) S1x768x512.size (k0_off9_inb i hc2)).overlay f (k0_pay6 (F := F) wg wu (bTop (XB (XE T HA HB e)))))
      (k0_pay3 (F := F) (k0_pay11 wg) (k0_pay12 wu) (bBot (fullXB B (XE T HA HB e))))) := by
    rw [fullXB_eq, pay3_eq]
    have h0 : (i 1).val = 0 := (cond2_iff i).mp hc2
    exact Chunks.step (n := 0) (fun k r d hk => absurd hk (Nat.not_lt_zero _)) wg wu _ hH _ _ _ _ (by rw [off9_eq, off11_eq, h0]) (by rw [off10_eq, off12_eq, h0])
  have e12 : (owns (c : Thread nD τ) (Memref.whole cc0_scratch1 : Memref sig .tc .vmem S1536x2048 .bf16) fullShare (fullXB B (XE T HA HB e)) : sProp 𝕄) ⊢ owns (c : Thread nD τ) (Memref.whole cc0_scratch1 : Memref sig .tc .vmem S1536x2048 .bf16) fullShare (XB (XE T HA HB e)) := by rw [fullXB_eq]
  ihave H12' := e12 $$ [H12]
  · iexact H12
  ihave H11' := (whole_own (F := F) c cc0_scratch0 fullShare (XE T HA HB e)) $$ H11
  iapply Hk
  isplitl [HW]; · iexact HW
  isplitl [H11' Ha Hb HsA HsB]
  · unfold Idle
    isplitl [H11']; · iexact H11'
    isplitl [Ha]; · iexact Ha
    isplitl [Hb]; · iexact Hb
    isplitl [HsA]; · iexact HsA
    iexact HsB
  isplitl [H6]; · iexact H6
  isplitl [H7]; · iexact H7
  isplitl [H12']; · iexact H12'
  iexists _
  isplitl [H13]; · iexact H13
  ipureintro; exact hF

/-- An expert's second to fourth points: one more chunk. -/
theorem body_mid (hc1 : ¬k0_cond1 i = 1#1) (hc2 : ¬k0_cond2 i = 1#1) (hc3 : k0_cond3 i = 1#1) (hc4 : ¬k0_cond4 i = 1#1) (hc9 : ¬k0_cond9 i = 1#1)
    (wg wu : S1x2048x512.Idx → Elt F .f32) (B : S1536x2048.Idx → Elt F .bf16) (f : S4x1536x512.Idx → Elt F .bf16)
    (H : ℕ → S1536x512.Idx → Elt F .bf16) (hf : Chunks H (i 1).val f) (hH : H (i 1).val = HE wg wu B) {Q : PUnit → sProp 𝕄} :
    iprop(owns (c : Thread nD τ) a6 fullShare (wg) ∗ owns (c : Thread nD τ) a7 fullShare (wu) ∗ owns (c : Thread nD τ) (Memref.whole cc0_scratch1 : Memref sig .tc .vmem S1536x2048 .bf16) fullShare (B) ∗ owns (c : Thread nD τ) (Memref.whole cc0_scratch2 : Memref sig .tc .vmem S4x1536x512 .bf16) fullShare (f))
      ⊢ iprop((iprop(owns (c : Thread nD τ) a6 fullShare (wg) ∗ owns (c : Thread nD τ) a7 fullShare (wu) ∗ owns (c : Thread nD τ) (Memref.whole cc0_scratch1 : Memref sig .tc .vmem S1536x2048 .bf16) fullShare (B)
            ∗ (∃ f' : S4x1536x512.Idx → Elt F .bf16, owns (c : Thread nD τ) (Memref.whole cc0_scratch2 : Memref sig .tc .vmem S4x1536x512 .bf16) fullShare (f') ∗ ⌜Chunks H ((i 1).val + 1) f'⌝)) -∗ Q ⟨⟩)
        -∗ wp frame (wpE (defs₀ (F := F)) 𝒱 (c : Thread nD τ) none) Set.univ (cc0_expert_ffn (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3) Q) := by
  rw [cc0_expert_ffn_eq_skeleton]; unfold cc0_expert_ffn_skel
  simp only [dif_neg hc1, dif_neg hc2, dif_pos hc3, dif_neg hc4, dif_neg hc9, Prog.bind_assoc, Prog.pure_eq_ret, Prog.bind_ret]
  iintro ⟨H6, H7, H12, H13⟩ Hk
  iapply (owns_load (F := F) c 𝒱) $$ H6
  iintro H6
  rw [ld3 (n0 := 1) (n1 := 2048) (n2 := 512) wg]
  iapply (owns_load (F := F) c 𝒱) $$ H7
  iintro H7
  rw [ld3 (n0 := 1) (n1 := 2048) (n2 := 512) wu]
  iapply (owns_load (F := F) c 𝒱) $$ H12
  iintro H12
  iapply (owns_load (F := F) c 𝒱) $$ H13
  iintro H13
  iapply (owns_store (F := F) c 𝒱) $$ H13
  iintro H13
  iapply (owns_load (F := F) c 𝒱) $$ H12
  iintro H12
  iapply (owns_load (F := F) c 𝒱) $$ H13
  iintro H13
  iapply (owns_store (F := F) c 𝒱) $$ H13
  iintro H13
  rw [wp_ret]; imodintro
  have hF : Chunks H ((i 1).val + 1) ((Rect.unit (s := S4x1536x512) (k0_off12 i) S1x768x512.size (k0_off12_inb i hc3)).overlay
      ((Rect.unit (s := S4x1536x512) (k0_off11 i) S1x768x512.size (k0_off11_inb i hc3)).overlay f (k0_pay6 (F := F) wg wu (bTop B)))
      (k0_pay7 (F := F) wg wu (bBot B))) :=
    hf.step wg wu B hH _ _ _ _ (off11_eq i) (off12_eq i)
  iapply Hk
  isplitl [H6]; · iexact H6
  isplitl [H7]; · iexact H7
  isplitl [H12]; · iexact H12
  iexists _
  isplitl [H13]; · iexact H13
  ipureintro; exact hF

/-- An expert's last four points, the grid's last apart: a quarter of the next expert's copies started, and a block of the output. -/
theorem body_proj (hT : InRange T) (hc1 : ¬k0_cond1 i = 1#1) (hc2 : ¬k0_cond2 i = 1#1) (hc3 : ¬k0_cond3 i = 1#1) (hc4 : k0_cond4 i = 1#1) (hc9 : ¬k0_cond9 i = 1#1)
    (wd : S1x2048x512.Idx → Elt F .f32) (g : S1x1536x1.Idx → Elt F .f32) (f : S4x1536x512.Idx → Elt F .bf16)
    (d9 : S1x1024x512.Idx → Elt F .f32) (d10 : S1x512x512.Idx → Elt F .f32) {Q : PUnit → sProp 𝕄} :
    iprop((((c : Thread nD τ).loc main_v1) ↦{q} (T : Buf (Elt F) ((c : Thread nD τ).loc main_v1))) ∗ Flight (F := F) c T HA HB (nextE i) (256 * ((i 1).val - 4)) (128 * ((i 1).val - 4)) ∗ owns (c : Thread nD τ) a5 fullShare (g) ∗ owns (c : Thread nD τ) a8 fullShare (wd) ∗ owns (c : Thread nD τ) (Memref.whole cc0_scratch2 : Memref sig .tc .vmem S4x1536x512 .bf16) fullShare (f) ∗ owns (c : Thread nD τ) a9 fullShare (d9) ∗ owns (c : Thread nD τ) a10 fullShare (d10))
      ⊢ iprop((iprop((((c : Thread nD τ).loc main_v1) ↦{q} (T : Buf (Elt F) ((c : Thread nD τ).loc main_v1))) ∗ Flight (F := F) c T HA HB (nextE i) (256 * ((i 1).val - 3)) (128 * ((i 1).val - 3)) ∗ owns (c : Thread nD τ) a5 fullShare (g) ∗ owns (c : Thread nD τ) a8 fullShare (wd) ∗ owns (c : Thread nD τ) (Memref.whole cc0_scratch2 : Memref sig .tc .vmem S4x1536x512 .bf16) fullShare (f) ∗ owns (c : Thread nD τ) a9 fullShare (OA f wd g) ∗ owns (c : Thread nD τ) a10 fullShare (OB f wd g)) -∗ Q ⟨⟩)
        -∗ wp frame (wpE (defs₀ (F := F)) 𝒱 (c : Thread nD τ) none) Set.univ (cc0_expert_ffn (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3) Q) := by
  unfold OA OB
  rw [cc0_expert_ffn_eq_skeleton]; unfold cc0_expert_ffn_skel
  simp only [dif_neg hc1, dif_neg hc2, dif_neg hc3, dif_pos hc4, dif_neg hc9, Prog.bind_assoc, Prog.pure_eq_ret, Prog.bind_ret]
  iintro ⟨Ht, HI, H5, H8, H13, H9, H10⟩ Hk
  iapply (part2_run (F := F) c 𝒱 q T HA HB i a5 h5 a6 h6 a7 h7 a8 h8 a9 h9 a10 h10 hT hc4 (BitVec.ofNat 32 (i 0).val) (BitVec.ofNat 32 (i 1).val) wd f) $$ [Ht HI H8 H13]
  · isplitl [Ht]; · iexact Ht
    isplitl [HI]; · iexact HI
    isplitl [H8]; · iexact H8
    iexact H13
  iintro ⟨Ht, HF, H8, H13⟩
  iapply (owns_load (F := F) c 𝒱) $$ H13
  iintro H13
  iapply (owns_load (F := F) c 𝒱) $$ H13
  iintro H13
  iapply (owns_load (F := F) c 𝒱) $$ H5
  iintro H5
  rw [ld3 (n0 := 1) (n1 := 1536) (n2 := 1) g]
  iapply (owns_load (F := F) c 𝒱) $$ H9
  iintro H9
  iapply (owns_store (F := F) c 𝒱) $$ H9
  iintro H9
  iapply (owns_load (F := F) c 𝒱) $$ H10
  iintro H10
  iapply (owns_store (F := F) c 𝒱) $$ H10
  iintro H10
  rw [st3 (n0 := 1) (n1 := 1024) (n2 := 512) d9, st3 (n0 := 1) (n1 := 512) (n2 := 512) d10]
  rw [wp_ret]; imodintro
  iapply Hk
  isplitl [Ht]; · iexact Ht
  isplitl [HF]; · iexact HF
  isplitl [H5]; · iexact H5
  isplitl [H8]; · iexact H8
  isplitl [H13]; · iexact H13
  isplitl [H9]; · iexact H9
  iexact H10

/-- The grid's last point: as the others, and every copy collected. -/
theorem body_last (hT : InRange T) (hc1 : ¬k0_cond1 i = 1#1) (hc2 : ¬k0_cond2 i = 1#1) (hc3 : ¬k0_cond3 i = 1#1) (hc4 : k0_cond4 i = 1#1) (hc9 : k0_cond9 i = 1#1)
    (wd : S1x2048x512.Idx → Elt F .f32) (g : S1x1536x1.Idx → Elt F .f32) (f : S4x1536x512.Idx → Elt F .bf16)
    (d9 : S1x1024x512.Idx → Elt F .f32) (d10 : S1x512x512.Idx → Elt F .f32) {Q : PUnit → sProp 𝕄} :
    iprop((∃ W, owes (c : Thread nD τ) 0 W) ∗ (((c : Thread nD τ).loc main_v1) ↦{q} (T : Buf (Elt F) ((c : Thread nD τ).loc main_v1))) ∗ Flight (F := F) c T HA HB (nextE i) (256 * ((i 1).val - 4)) (128 * ((i 1).val - 4)) ∗ owns (c : Thread nD τ) a5 fullShare (g) ∗ owns (c : Thread nD τ) a8 fullShare (wd) ∗ owns (c : Thread nD τ) (Memref.whole cc0_scratch2 : Memref sig .tc .vmem S4x1536x512 .bf16) fullShare (f) ∗ owns (c : Thread nD τ) a9 fullShare (d9) ∗ owns (c : Thread nD τ) a10 fullShare (d10))
      ⊢ iprop((iprop((∃ W, owes (c : Thread nD τ) 0 W) ∗ (((c : Thread nD τ).loc main_v1) ↦{q} (T : Buf (Elt F) ((c : Thread nD τ).loc main_v1))) ∗ Idle (F := F) c HA HB (XE T HA HB (nextE i)) ∗ owns (c : Thread nD τ) a5 fullShare (g) ∗ owns (c : Thread nD τ) a8 fullShare (wd) ∗ owns (c : Thread nD τ) (Memref.whole cc0_scratch2 : Memref sig .tc .vmem S4x1536x512 .bf16) fullShare (f) ∗ owns (c : Thread nD τ) a9 fullShare (OA f wd g) ∗ owns (c : Thread nD τ) a10 fullShare (OB f wd g)) -∗ Q ⟨⟩)
        -∗ wp frame (wpE (defs₀ (F := F)) 𝒱 (c : Thread nD τ) none) Set.univ (cc0_expert_ffn (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3) Q) := by
  have hi7 : (i 1).val = 7 := ((cond9_iff i).mp hc9).2
  unfold OA OB
  rw [cc0_expert_ffn_eq_skeleton]; unfold cc0_expert_ffn_skel
  simp only [dif_neg hc1, dif_neg hc2, dif_neg hc3, dif_pos hc4, dif_pos hc9, Prog.bind_assoc, Prog.pure_eq_ret, Prog.bind_ret]
  iintro ⟨HW, Ht, HI, H5, H8, H13, H9, H10⟩ Hk
  iapply (part2_run (F := F) c 𝒱 q T HA HB i a5 h5 a6 h6 a7 h7 a8 h8 a9 h9 a10 h10 hT hc4 (BitVec.ofNat 32 (i 0).val) (BitVec.ofNat 32 (i 1).val) wd f) $$ [Ht HI H8 H13]
  · isplitl [Ht]; · iexact Ht
    isplitl [HI]; · iexact HI
    isplitl [H8]; · iexact H8
    iexact H13
  iintro ⟨Ht, HF, H8, H13⟩
  iapply (owns_load (F := F) c 𝒱) $$ H13
  iintro H13
  iapply (owns_load (F := F) c 𝒱) $$ H13
  iintro H13
  iapply (owns_load (F := F) c 𝒱) $$ H5
  iintro H5
  rw [ld3 (n0 := 1) (n1 := 1536) (n2 := 1) g]
  iapply (owns_load (F := F) c 𝒱) $$ H9
  iintro H9
  iapply (owns_store (F := F) c 𝒱) $$ H9
  iintro H9
  iapply (owns_load (F := F) c 𝒱) $$ H10
  iintro H10
  iapply (owns_store (F := F) c 𝒱) $$ H10
  iintro H10
  rw [st3 (n0 := 1) (n1 := 1024) (n2 := 512) d9, st3 (n0 := 1) (n1 := 512) (n2 := 512) d10]
  ihave HF' := (show Flight (F := F) c T HA HB (nextE i) (256 * ((i 1).val - 3)) (128 * ((i 1).val - 3)) ⊢ iprop((FlyA (F := F) c (XE T HA HB (nextE i)) HA 1024 ∗ FlyB (F := F) c (XE T HA HB (nextE i)) HB 512)
    ∗ (((c : Thread nD τ).loc main_arg2) ↦{Transfers.shareDrop fullShare 1024} (HA : Buf (Elt F) ((c : Thread nD τ).loc main_arg2)))
    ∗ (((c : Thread nD τ).loc main_arg3) ↦{Transfers.shareDrop fullShare 512} (HB : Buf (Elt F) ((c : Thread nD τ).loc main_arg3)))) from by rw [hi7]; unfold Flight; exact .rfl) $$ HF
  icases HF' with ⟨⟨HfA, HfB⟩, HdA, HdB⟩
  iapply (loop_t13 (F := F) c 𝒱 HA i a5 h5 a6 h6 a7 h7 a8 h8 a9 h9 a10 h10 (XE T HA HB (nextE i)) hc9) $$ [HW HfA]
  · isplitl [HW]; · iexact HW
    iexact HfA
  iintro ⟨HW, HDA, HsA⟩
  iapply (loop_t14 (F := F) c 𝒱 HB i a5 h5 a6 h6 a7 h7 a8 h8 a9 h9 a10 h10 (XE T HA HB (nextE i)) hc9) $$ [HW HfB]
  · isplitl [HW]; · iexact HW
    iexact HfB
  iintro ⟨HW, HDB, HsB⟩
  ihave HI := (flight_end (F := F) c T HA HB (nextE i)) $$ [HDA HsA HDB HsB HdA HdB]
  · isplitl [HDA HsA]
    · isplitl [HDA]; · iexact HDA
      iexact HsA
    isplitl [HDB HsB]
    · isplitl [HDB]; · iexact HDB
      iexact HsB
    isplitl [HdA]; · iexact HdA
    iexact HdB
  rw [wp_ret]; imodintro
  iapply Hk
  isplitl [HW]; · iexact HW
  isplitl [Ht]; · iexact Ht
  isplitl [HI]; · iexact HI
  isplitl [H5]; · iexact H5
  isplitl [H8]; · iexact H8
  isplitl [H13]; · iexact H13
  isplitl [H9]; · iexact H9
  iexact H10

end Bodies

end Cert.KernelIdeal.Hand

end
-- ==== Proof.Invariant.lean ====
/-
  THE STATE BETWEEN GRID POINTS, and the body as a step from each point's state to the next one's. `Hid` is an expert's hidden layer by
  chunks, of the rows its copies bring; `St e s` is what is held before point `(e, s)`: the table of row indices, the transfers (at rest
  before the grid's first point and after its last, an expert's rows landed while it is being read, the next expert's rows partly or
  wholly on their way later), the unpacked rows, the hidden chunks so far and the generator's register.
-/
module

public import proofs.«01_k».proof.Proof.Bodies

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The `k`-th column block of expert `e`'s weights. -/
def blkW (A : S16x2048x2048.Idx → Elt F .f32) (e k : ℕ) : S1x2048x512.Idx → Elt F .f32 := fun y =>
  A (ix3 (n0 := 16) (n1 := 2048) (n2 := 2048) ⟨min e 15, by omega⟩ (y 1) ⟨512 * min k 3 + (y 2).val, by have h : (y 2).val < 512 := (y 2).isLt; omega⟩)

/-- Expert `e`'s gates. -/
def blkG (A : S16x1536x1.Idx → Elt F .f32) (e : ℕ) : S1x1536x1.Idx → Elt F .f32 := fun y =>
  A (ix3 (n0 := 16) (n1 := 1536) (n2 := 1) ⟨min e 15, by omega⟩ (y 1) (y 2))

section Invariant

variable (T : S24576.Idx → BitVec 32) (HA : S8192x1024.Idx → BitVec 32) (HB : S4096x1024.Idx → BitVec 32)
  (WG WU WD : S16x2048x2048.Idx → Elt F .f32) (G : S16x1536x1.Idx → Elt F .f32)

/-- Chunk `k` of expert `e`'s hidden layer. -/
def Hid (e k : ℕ) : S1536x512.Idx → Elt F .bf16 := HE (blkW WG e k) (blkW WU e k) (XB (XE T HA HB e))

/-- What expert `e` leaves in column block `s - 4` of the first group's result. -/
def OutA (e s : ℕ) : S1x1024x512.Idx → Elt F .f32 := OA (HF (Hid T HA HB WG WU e)) (blkW WD e (s - 4)) (blkG G e)
/-- What expert `e` leaves in column block `s - 4` of the second group's result. -/
def OutB (e s : ℕ) : S1x512x512.Idx → Elt F .f32 := OB (HF (Hid T HA HB WG WU e)) (blkW WD e (s - 4)) (blkG G e)

/-- The transfers before point `(e, s)`. -/
def TS (c : Dev nD) (e s : ℕ) : sProp 𝕄 :=
  if s = 0 then (if e = 0 ∨ e = 16 then iprop(∃ f, Idle (F := F) c HA HB f) else Flight (F := F) c T HA HB e 1024 512)
  else if s ≤ 4 then Idle (F := F) c HA HB (XE T HA HB e)
  else Flight (F := F) c T HA HB (min (e + 1) 15) (256 * (s - 4)) (128 * (s - 4))

/-- The state before point `(e, s)`. -/
def St (c : Dev nD) (e s : ℕ) : sProp 𝕄 :=
  iprop((((c : Thread nD τ).loc main_v1) ↦{fullShare.right} (T : Buf (Elt F) ((c : Thread nD τ).loc main_v1))) ∗ TS (F := F) T HA HB c e s
    ∗ (∃ B : S1536x2048.Idx → Elt F .bf16, owns (c : Thread nD τ) (Memref.whole cc0_scratch1 : Memref sig .tc .vmem S1536x2048 .bf16) fullShare (B) ∗ ⌜s ≠ 0 → B = XB (XE T HA HB e)⌝)
    ∗ (∃ f : S4x1536x512.Idx → Elt F .bf16, owns (c : Thread nD τ) (Memref.whole cc0_scratch2 : Memref sig .tc .vmem S4x1536x512 .bf16) fullShare (f) ∗ ⌜Chunks (Hid T HA HB WG WU e) (min s 4) f⌝)
    ∗ ∃ r, prngReg c r)

variable (c : Dev nD) (𝒱 : Variants)
  (i : grid0.Coords) (a5 : Memref sig .tc .vmem S1x1536x1 .f32) (h5 : a5.IsWhole) (a6 : Memref sig .tc .vmem S1x2048x512 .f32) (h6 : a6.IsWhole)
  (a7 : Memref sig .tc .vmem S1x2048x512 .f32) (h7 : a7.IsWhole) (a8 : Memref sig .tc .vmem S1x2048x512 .f32) (h8 : a8.IsWhole)
  (a9 : Memref sig .tc .vmem S1x1024x512 .f32) (h9 : a9.IsWhole) (a10 : Memref sig .tc .vmem S1x512x512 .f32) (h10 : a10.IsWhole)

/-- An expert's first four points: the hidden layer's chunk is added, the windows of the weights are kept. -/
theorem point_head (hT : InRange T) (hs : (i 1).val < 4) {Q : PUnit → sProp 𝕄} :
    iprop(St (F := F) T HA HB WG WU c (i 0).val (i 1).val ∗ (∃ W, owes (c : Thread nD τ) 0 W) ∗ owns (c : Thread nD τ) a6 fullShare ((blkW WG (i 0).val (i 1).val)) ∗ owns (c : Thread nD τ) a7 fullShare ((blkW WU (i 0).val (i 1).val)))
      ⊢ iprop((iprop(St (F := F) T HA HB WG WU c (i 0).val ((i 1).val + 1) ∗ (∃ W, owes (c : Thread nD τ) 0 W) ∗ owns (c : Thread nD τ) a6 fullShare ((blkW WG (i 0).val (i 1).val)) ∗ owns (c : Thread nD τ) a7 fullShare ((blkW WU (i 0).val (i 1).val))) -∗ Q ⟨⟩)
        -∗ wp frame (wpE (defs₀ (F := F)) 𝒱 (c : Thread nD τ) none) Set.univ (cc0_expert_ffn (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3) Q) := by
  have hc4 : ¬k0_cond4 i = 1#1 := fun h => by have := (cond4_iff i).mp h; omega
  have hc9 : ¬k0_cond9 i = 1#1 := fun h => by have := (cond9_iff i).mp h; omega
  have he : (i 0).val < 16 := coord0_lt i
  have hm : min ((i 1).val + 1) 4 = (i 1).val + 1 := by omega
  have hm' : min (i 1).val 4 = (i 1).val := by omega
  have hts : TS (F := F) T HA HB c (i 0).val ((i 1).val + 1) = Idle (F := F) c HA HB (XE T HA HB (i 0).val) := by
    unfold TS; rw [if_neg (by omega), if_pos (by omega)]
  unfold St
  rw [hts, hm, hm']
  by_cases h0 : (i 1).val = 0
  · have hc2 := (cond2_iff i).mpr h0
    have hc3 : ¬k0_cond3 i = 1#1 := fun h => by have := (cond3_iff i).mp h; omega
    by_cases he0 : (i 0).val = 0
    · have hc1 := (cond1_iff i).mpr ⟨he0, h0⟩
      have htp : TS (F := F) T HA HB c (i 0).val (i 1).val = iprop(∃ f, Idle (F := F) c HA HB f) := by
        unfold TS; rw [if_pos h0, if_pos (Or.inl he0)]
      rw [htp, h0, he0]
      iintro ⟨⟨Ht, ⟨%X0, HI⟩, ⟨%B, H12, -⟩, ⟨%f, H13, -⟩, Hr⟩, HW, H6, H7⟩ Hk
      iapply (body_first (F := F) c 𝒱 fullShare.right T HA HB i a5 h5 a6 h6 a7 h7 a8 h8 a9 h9 a10 h10 hT hc1 hc2 hc3 hc4 hc9 (blkW WG 0 0) (blkW WU 0 0) X0 B f (Hid T HA HB WG WU 0) rfl) $$ [HW Ht HI H6 H7 H12 H13]
      · isplitl [HW]; · iexact HW
        isplitl [Ht]; · iexact Ht
        isplitl [HI]; · iexact HI
        isplitl [H6]; · iexact H6
        isplitl [H7]; · iexact H7
        isplitl [H12]; · iexact H12
        iexact H13
      iintro ⟨HW, Ht, HI, H6, H7, H12, ⟨%f', H13, %hf⟩⟩
      iapply Hk
      isplitr [HW H6 H7]
      · isplitl [Ht]; · iexact Ht
        isplitl [HI]; · iexact HI
        isplitl [H12]
        · iexists (XB (XE T HA HB 0)); isplitl; · iexact H12
          ipureintro; exact fun _ => rfl
        isplitl [H13]
        · iexists f'; isplitl; · iexact H13
          ipureintro; exact hf
        iexact Hr
      isplitl [HW]; · iexact HW
      isplitl [H6]; · iexact H6
      iexact H7
    · have hc1 : ¬k0_cond1 i = 1#1 := fun h => he0 ((cond1_iff i).mp h).1
      have htp : TS (F := F) T HA HB c (i 0).val (i 1).val = Flight (F := F) c T HA HB (i 0).val 1024 512 := by
        unfold TS; rw [if_pos h0, if_neg (by omega)]
      rw [htp, h0]
      iintro ⟨⟨Ht, HI, ⟨%B, H12, -⟩, ⟨%f, H13, -⟩, Hr⟩, HW, H6, H7⟩ Hk
      iapply (body_start (F := F) c 𝒱 T HA HB i a5 h5 a6 h6 a7 h7 a8 h8 a9 h9 a10 h10 hc1 hc2 hc3 hc4 hc9 (i 0).val (blkW WG (i 0).val 0) (blkW WU (i 0).val 0) B f (Hid T HA HB WG WU (i 0).val) rfl) $$ [HW HI H6 H7 H12 H13]
      · isplitl [HW]; · iexact HW
        isplitl [HI]; · iexact HI
        isplitl [H6]; · iexact H6
        isplitl [H7]; · iexact H7
        isplitl [H12]; · iexact H12
        iexact H13
      iintro ⟨HW, HI, H6, H7, H12, ⟨%f', H13, %hf⟩⟩
      iapply Hk
      isplitr [HW H6 H7]
      · isplitl [Ht]; · iexact Ht
        isplitl [HI]; · iexact HI
        isplitl [H12]
        · iexists (XB (XE T HA HB (i 0).val)); isplitl; · iexact H12
          ipureintro; exact fun _ => rfl
        isplitl [H13]
        · iexists f'; isplitl; · iexact H13
          ipureintro; exact hf
        iexact Hr
      isplitl [HW]; · iexact HW
      isplitl [H6]; · iexact H6
      iexact H7
  · have hc2 : ¬k0_cond2 i = 1#1 := fun h => h0 ((cond2_iff i).mp h)
    have hc1 : ¬k0_cond1 i = 1#1 := fun h => h0 ((cond1_iff i).mp h).2
    have hc3 := (cond3_iff i).mpr ⟨by omega, hs⟩
    have htp : TS (F := F) T HA HB c (i 0).val (i 1).val = Idle (F := F) c HA HB (XE T HA HB (i 0).val) := by
      unfold TS; rw [if_neg h0, if_pos (by omega)]
    rw [htp]
    iintro ⟨⟨Ht, HI, ⟨%B, H12, %hB⟩, ⟨%f, H13, %hf⟩, Hr⟩, HW, H6, H7⟩ Hk
    obtain rfl := hB h0
    iapply (body_mid (F := F) c 𝒱 i a5 h5 a6 h6 a7 h7 a8 h8 a9 h9 a10 h10 hc1 hc2 hc3 hc4 hc9 (blkW WG (i 0).val (i 1).val) (blkW WU (i 0).val (i 1).val) (XB (XE T HA HB (i 0).val)) f (Hid T HA HB WG WU (i 0).val) hf rfl) $$ [H6 H7 H12 H13]
    · isplitl [H6]; · iexact H6
      isplitl [H7]; · iexact H7
      isplitl [H12]; · iexact H12
      iexact H13
    iintro ⟨H6, H7, H12, ⟨%f', H13, %hf'⟩⟩
    iapply Hk
    isplitr [HW H6 H7]
    · isplitl [Ht]; · iexact Ht
      isplitl [HI]; · iexact HI
      isplitl [H12]
      · iexists (XB (XE T HA HB (i 0).val)); isplitl; · iexact H12
        ipureintro; exact fun _ => rfl
      isplitl [H13]
      · iexists f'; isplitl; · iexact H13
        ipureintro; exact hf'
      iexact Hr
    isplitl [HW]; · iexact HW
    isplitl [H6]; · iexact H6
    iexact H7

/-- The transfers met at an expert's last four points, the next expert's copies of the points before started. -/
theorem ts_flight (h4 : 4 ≤ (i 1).val) :
    TS (F := F) T HA HB c (i 0).val (i 1).val ⊢ iprop(|={Set.univ}=> Flight (F := F) c T HA HB (nextE i) (256 * ((i 1).val - 4)) (128 * ((i 1).val - 4))) := by
  unfold TS
  rw [if_neg (by omega)]
  by_cases h : (i 1).val = 4
  · rw [if_pos (by omega), h]
    iintro HI
    imod (flight_begin (F := F) c T HA HB (nextE i) (XE T HA HB (i 0).val)) $$ HI with HF
    imodintro
    iexact HF
  · rw [if_neg (by omega)]
    iintro HF
    imodintro
    iexact HF

/-- The state after an expert's last four points: the next point's, the next expert's first where the expert ends. -/
def Nx (c : Dev nD) (e s : ℕ) : sProp 𝕄 := if s = 7 then St (F := F) T HA HB WG WU c (e + 1) 0 else St (F := F) T HA HB WG WU c e (s + 1)

/-- An expert's last four points: both results' blocks are left at the projection of the hidden layer, scaled by the gates. -/
theorem point_tail (hT : InRange T) (h4 : 4 ≤ (i 1).val) (d9 : S1x1024x512.Idx → Elt F .f32) (d10 : S1x512x512.Idx → Elt F .f32) {Q : PUnit → sProp 𝕄} :
    iprop(St (F := F) T HA HB WG WU c (i 0).val (i 1).val ∗ (∃ W, owes (c : Thread nD τ) 0 W) ∗ owns (c : Thread nD τ) a5 fullShare ((blkG G (i 0).val)) ∗ owns (c : Thread nD τ) a8 fullShare ((blkW WD (i 0).val ((i 1).val - 4))) ∗ owns (c : Thread nD τ) a9 fullShare (d9) ∗ owns (c : Thread nD τ) a10 fullShare (d10))
      ⊢ iprop((iprop(Nx (F := F) T HA HB WG WU c (i 0).val (i 1).val ∗ (∃ W, owes (c : Thread nD τ) 0 W) ∗ owns (c : Thread nD τ) a5 fullShare ((blkG G (i 0).val)) ∗ owns (c : Thread nD τ) a8 fullShare ((blkW WD (i 0).val ((i 1).val - 4))) ∗ owns (c : Thread nD τ) a9 fullShare ((OutA T HA HB WG WU WD G (i 0).val (i 1).val)) ∗ owns (c : Thread nD τ) a10 fullShare ((OutB T HA HB WG WU WD G (i 0).val (i 1).val))) -∗ Q ⟨⟩)
        -∗ wp frame (wpE (defs₀ (F := F)) 𝒱 (c : Thread nD τ) none) Set.univ (cc0_expert_ffn (F := F) i (Memref.whole main_v1) (Memref.isWhole_whole _) (Memref.whole main_arg2) (Memref.isWhole_whole _) (Memref.whole main_arg3) (Memref.isWhole_whole _) a5 h5 a6 h6 a7 h7 a8 h8 a9 h9 a10 h10 (Memref.whole cc0_scratch0) (Memref.isWhole_whole _) (Memref.whole cc0_scratch1) (Memref.isWhole_whole _) (Memref.whole cc0_scratch2) (Memref.isWhole_whole _) cc0_scratch3) Q) := by
  have he : (i 0).val < 16 := coord0_lt i
  have hs8 : (i 1).val < 8 := coord1_lt i
  have hc1 : ¬k0_cond1 i = 1#1 := fun h => by have := (cond1_iff i).mp h; omega
  have hc2 : ¬k0_cond2 i = 1#1 := fun h => by have := (cond2_iff i).mp h; omega
  have hc3 : ¬k0_cond3 i = 1#1 := fun h => by have := (cond3_iff i).mp h; omega
  have hc4 := (cond4_iff i).mpr h4
  have hm' : min (i 1).val 4 = 4 := by omega
  have hnx : Nx (F := F) T HA HB WG WU c (i 0).val (i 1).val =
      (if (i 1).val = 7 then St (F := F) T HA HB WG WU c ((i 0).val + 1) 0 else St (F := F) T HA HB WG WU c (i 0).val ((i 1).val + 1)) := rfl
  unfold OutA OutB
  iintro ⟨HS, HW, H5, H8, H9, H10⟩ Hk
  unfold St
  rw [hm']
  icases HS with ⟨Ht, HT, ⟨%B, H12, %hB⟩, ⟨%f, H13, %hf⟩, Hr⟩
  have hB := hB (by omega)
  obtain rfl := hf.all le_rfl
  imod (ts_flight (F := F) T HA HB c i h4) $$ HT with HF
  by_cases hc9 : k0_cond9 i = 1#1
  · have hc := (cond9_iff i).mp hc9
    iapply (body_last (F := F) c 𝒱 fullShare.right T HA HB i a5 h5 a6 h6 a7 h7 a8 h8 a9 h9 a10 h10 hT hc1 hc2 hc3 hc4 hc9 (blkW WD (i 0).val ((i 1).val - 4)) (blkG G (i 0).val) (HF (Hid T HA HB WG WU (i 0).val)) d9 d10) $$ [HW Ht HF H5 H8 H13 H9 H10]
    · isplitl [HW]; · iexact HW
      isplitl [Ht]; · iexact Ht
      isplitl [HF]; · iexact HF
      isplitl [H5]; · iexact H5
      isplitl [H8]; · iexact H8
      isplitl [H13]; · iexact H13
      isplitl [H9]; · iexact H9
      iexact H10
    iintro ⟨HW, Ht, HI, H5, H8, H13, H9, H10⟩
    iapply Hk
    isplitr [HW H5 H8 H9 H10]
    · rw [hnx, if_pos hc.2]
      unfold St TS
      rw [if_pos rfl, if_pos (Or.inr (by omega))]
      isplitl [Ht]; · iexact Ht
      isplitl [HI]
      · iexists (XE T HA HB (nextE i)); iexact HI
      isplitl [H12]
      · iexists B; isplitl; · iexact H12
        ipureintro; exact fun h => absurd rfl h
      isplitl [H13]
      · iexists _; isplitl; · iexact H13
        ipureintro; exact fun k r d hk => absurd hk (Nat.not_lt_zero _)
      iexact Hr
    isplitl [HW]; · iexact HW
    isplitl [H5]; · iexact H5
    isplitl [H8]; · iexact H8
    isplitl [H9]; · iexact H9
    iexact H10
  · iapply (body_proj (F := F) c 𝒱 fullShare.right T HA HB i a5 h5 a6 h6 a7 h7 a8 h8 a9 h9 a10 h10 hT hc1 hc2 hc3 hc4 hc9 (blkW WD (i 0).val ((i 1).val - 4)) (blkG G (i 0).val) (HF (Hid T HA HB WG WU (i 0).val)) d9 d10) $$ [Ht HF H5 H8 H13 H9 H10]
    · isplitl [Ht]; · iexact Ht
      isplitl [HF]; · iexact HF
      isplitl [H5]; · iexact H5
      isplitl [H8]; · iexact H8
      isplitl [H13]; · iexact H13
      isplitl [H9]; · iexact H9
      iexact H10
    iintro ⟨Ht, HI, H5, H8, H13, H9, H10⟩
    iapply Hk
    isplitr [HW H5 H8 H9 H10]
    · rw [hnx]
      by_cases h7 : (i 1).val = 7
      · have he15 : (i 0).val ≠ 15 := fun h => hc9 ((cond9_iff i).mpr ⟨h, h7⟩)
        rw [if_pos h7]
        unfold St TS
        rw [if_pos rfl, if_neg (by omega)]
        have e1 : Flight (F := F) c T HA HB (nextE i) (256 * ((i 1).val - 3)) (128 * ((i 1).val - 3)) ⊢ Flight (F := F) c T HA HB ((i 0).val + 1) 1024 512 := by
          rw [h7, show nextE i = (i 0).val + 1 from by unfold nextE; omega]
        ihave HI' := e1 $$ HI
        isplitl [Ht]; · iexact Ht
        isplitl [HI']; · iexact HI'
        isplitl [H12]
        · iexists B; isplitl; · iexact H12
          ipureintro; exact fun h => absurd rfl h
        isplitl [H13]
        · iexists _; isplitl; · iexact H13
          ipureintro; exact fun k r d hk => absurd hk (Nat.not_lt_zero _)
        iexact Hr
      · rw [if_neg h7]
        unfold St TS
        rw [if_neg (by omega), if_neg (by omega), show min ((i 1).val + 1) 4 = 4 from by omega, show (i 1).val + 1 - 4 = (i 1).val - 3 from by omega]
        isplitl [Ht]; · iexact Ht
        isplitl [HI]; · iexact HI
        isplitl [H12]
        · iexists B; isplitl; · iexact H12
          ipureintro; exact fun _ => hB
        isplitl [H13]
        · iexists _; isplitl; · iexact H13
          ipureintro; exact hf
        iexact Hr
    isplitl [HW]; · iexact HW
    isplitl [H5]; · iexact H5
    isplitl [H8]; · iexact H8
    isplitl [H9]; · iexact H9
    iexact H10

end Invariant

end Cert.KernelIdeal.Hand

end
-- ==== Proof.Data.lean ====
/-
  THE PIPELINE'S DATA: the arrays at the region's entry, what each window's buffer holds after the body at each point, the state between
  points (Invariant.lean), and where the blocks lie in their arrays.
-/
module

public import proofs.«01_k».proof.Proof.Invariant
public import Idealize.ShloMosaic.Lib.Pipeline.FrameBody
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

open Idealize.ShloMosaic.Pipeline (Dat BodyObligation)

variable (m : (ℓ : Loc nD τ sig) → Buf (Elt F) ℓ)

/-- The buffers at the region's entry: the launch contents after the host operations. -/
abbrev V (c : Dev nD) (b : Ref sig .tc) : Buf (Elt F) ((c : Thread nD τ).loc b) := StableHlo.after hostOps0 (fun b => m (c, b)) b

/-- The prefetched table's contents at the region's entry. -/
abbrev tabs (p : Fin 1) : (pcfgs (F := F) p).Adm := ⟨fun k => V m 0 (pre0.ref k), trivial⟩

theorem coords_val : ∀ t : Fin grid0.N, (grid0.coords t 0).val = t.val / 8 ∧ (grid0.coords t 1).val = t.val % 8 := by decide +kernel

/-- The state before the `n`-th point. -/
def StN (c : Dev nD) (n : ℕ) : sProp 𝕄 :=
  St (F := F) (V m c main_v1) (V m c main_arg2) (V m c main_arg3) (V m c main_arg6) (V m c main_arg7) c (n / 8) (n % 8)

/-- The pipeline's data: the windows of the inputs are left as they are, those of the results at the projection. -/
def dats (_ : Fin 1) (c : Dev nD) : Dat τ (Elt F) Unit ℕ (Pipeline.UD sig nD τ) ℕ (cfg0 (tabs m 0)) c where
  A w := V m c (Pipeline.arrRef spec0 w)
  after w t := match w with
    | ⟨0, _⟩ => (blkG (V m c main_v3) (t.val / 8) : S1x1536x1.Idx → Elt F .f32)
    | ⟨1, _⟩ => (blkW (V m c main_arg6) (t.val / 8) (t.val % 8) : S1x2048x512.Idx → Elt F .f32)
    | ⟨2, _⟩ => (blkW (V m c main_arg7) (t.val / 8) (t.val % 8) : S1x2048x512.Idx → Elt F .f32)
    | ⟨3, _⟩ => (blkW (V m c main_arg8) (t.val / 8) (t.val % 8 - 4) : S1x2048x512.Idx → Elt F .f32)
    | ⟨4, _⟩ => (OutA (V m c main_v1) (V m c main_arg2) (V m c main_arg3) (V m c main_arg6) (V m c main_arg7) (V m c main_arg8) (V m c main_v3) (t.val / 8) (t.val % 8) : S1x1024x512.Idx → Elt F .f32)
    | ⟨5, _⟩ => (OutB (V m c main_v1) (V m c main_arg2) (V m c main_arg3) (V m c main_arg6) (V m c main_arg7) (V m c main_arg8) (V m c main_v3) (t.val / 8) (t.val % 8) : S1x512x512.Idx → Elt F .f32)
    | ⟨_ + 6, h⟩ => absurd h (Nat.not_lt.2 (Nat.le_add_left _ _))
  Φ t := StN m c t.val
  q _ := fullShare
  owed _ := 0

theorem tr2_eq (i : grid0.Coords) : cc0_transform_2 i = ![(i 0).val, 0, 0] := by
  have h : ∀ n : Fin 16, (BitVec.ofNat 32 n.val).toNat = n.val := by decide
  show ![(BitVec.ofNat 32 (i 0).val).toNat, 0, 0] = _
  rw [h ⟨_, coord0_lt i⟩]
theorem tr3_eq (i : grid0.Coords) : cc0_transform_3 i = ![(i 0).val, 0, min (i 1).val 3] := by
  have h : ∀ n : Fin 16, (BitVec.ofNat 32 n.val).toNat = n.val := by decide
  have h' : ∀ n : Fin 8, (Scalar.minsi (BitVec.ofNat 32 n.val) 3#32).toNat = min n.val 3 := by decide
  show ![(BitVec.ofNat 32 (i 0).val).toNat, 0, (Scalar.minsi (BitVec.ofNat 32 (i 1).val) 3#32).toNat] = _
  rw [h ⟨_, coord0_lt i⟩, h' ⟨_, coord1_lt i⟩]
theorem tr4_eq (i : grid0.Coords) : cc0_transform_4 i = ![(i 0).val, 0, min (i 1).val 3] := tr3_eq i
theorem tr5_eq (i : grid0.Coords) : cc0_transform_5 i = ![(i 0).val, 0, (i 1).val - 4] := by
  have h : ∀ n : Fin 16, (BitVec.ofNat 32 n.val).toNat = n.val := by decide
  have h' : ∀ n : Fin 8, (Scalar.maxsi (Scalar.subi (BitVec.ofNat 32 n.val) 4#32) 0#32).toNat = n.val - 4 := by decide
  show ![(BitVec.ofNat 32 (i 0).val).toNat, 0, (Scalar.maxsi (Scalar.subi (BitVec.ofNat 32 (i 1).val) 4#32) 0#32).toNat] = _
  rw [h ⟨_, coord0_lt i⟩, h' ⟨_, coord1_lt i⟩]
theorem tr6_eq (i : grid0.Coords) : cc0_transform_6 i = ![(i 0).val, 0, (i 1).val - 4] := tr5_eq i
theorem tr7_eq (i : grid0.Coords) : cc0_transform_7 i = ![(i 0).val, 0, (i 1).val - 4] := tr5_eq i

abbrev cfgA : Pipeline.Cfg sig Λ₀ := cfg0 (F := F) (tabs m 0)

theorem block0 (c : Dev nD) (t : Fin grid0.N) : (dats m 0 c).blockOf 0 t = (dats m 0 c).after 0 t := by
  have h0 := (coords_val t).1
  have h1 := (coords_val t).2
  have hN : t.val < 128 := lt_of_lt_of_eq t.isLt N_0
  have hix : ((cfgA m).win 0).index t = ![(grid0.coords t 0).val, 0, 0] := tr2_eq (grid0.coords t)
  have key : ∀ y : S1x1536x1.Idx, V m c main_v3 ((((cfgA m).win 0).rect t).emb y) = blkG (V m c main_v3) (t.val / 8) y := by
    intro y
    have hy0 : (y 0).val < 1 := (y 0).isLt
    refine congrArg (V m c main_v3) (funext fun (a : Fin 3) => Fin.ext ?_)
    refine (((cfgA m).win 0).rect_emb_val t y a).trans ?_
    rw [hix]
    have ha : a = 0 ∨ a = 1 ∨ a = 2 := by revert a; exact (by decide : ∀ a : Fin 3, a = 0 ∨ a = 1 ∨ a = 2)
    rcases ha with rfl | rfl | rfl
    · show (grid0.coords t 0).val * 1 + (y 0).val = min (t.val / 8) 15
      omega
    · show 0 * 1536 + (y 1).val = (y 1).val
      omega
    · show 0 * 1 + (y 2).val = (y 2).val
      omega
  exact funext fun y => (View.read_apply ..).trans (key y)

theorem block1 (c : Dev nD) (t : Fin grid0.N) : (dats m 0 c).blockOf 1 t = (dats m 0 c).after 1 t := by
  have h0 := (coords_val t).1
  have h1 := (coords_val t).2
  have hN : t.val < 128 := lt_of_lt_of_eq t.isLt N_0
  have hix : ((cfgA m).win 1).index t = ![(grid0.coords t 0).val, 0, min (grid0.coords t 1).val 3] := tr3_eq (grid0.coords t)
  have key : ∀ y : S1x2048x512.Idx, V m c main_arg6 ((((cfgA m).win 1).rect t).emb y) = blkW (V m c main_arg6) (t.val / 8) (t.val % 8) y := by
    intro y
    have hy0 : (y 0).val < 1 := (y 0).isLt
    refine congrArg (V m c main_arg6) (funext fun (a : Fin 3) => Fin.ext ?_)
    refine (((cfgA m).win 1).rect_emb_val t y a).trans ?_
    rw [hix]
    have ha : a = 0 ∨ a = 1 ∨ a = 2 := by revert a; exact (by decide : ∀ a : Fin 3, a = 0 ∨ a = 1 ∨ a = 2)
    rcases ha with rfl | rfl | rfl
    · show (grid0.coords t 0).val * 1 + (y 0).val = min (t.val / 8) 15
      omega
    · show 0 * 2048 + (y 1).val = (y 1).val
      omega
    · show min (grid0.coords t 1).val 3 * 512 + (y 2).val = 512 * min (t.val % 8) 3 + (y 2).val
      omega
  exact funext fun y => (View.read_apply ..).trans (key y)

theorem block2 (c : Dev nD) (t : Fin grid0.N) : (dats m 0 c).blockOf 2 t = (dats m 0 c).after 2 t := by
  have h0 := (coords_val t).1
  have h1 := (coords_val t).2
  have hN : t.val < 128 := lt_of_lt_of_eq t.isLt N_0
  have hix : ((cfgA m).win 2).index t = ![(grid0.coords t 0).val, 0, min (grid0.coords t 1).val 3] := tr4_eq (grid0.coords t)
  have key : ∀ y : S1x2048x512.Idx, V m c main_arg7 ((((cfgA m).win 2).rect t).emb y) = blkW (V m c main_arg7) (t.val / 8) (t.val % 8) y := by
    intro y
    have hy0 : (y 0).val < 1 := (y 0).isLt
    refine congrArg (V m c main_arg7) (funext fun (a : Fin 3) => Fin.ext ?_)
    refine (((cfgA m).win 2).rect_emb_val t y a).trans ?_
    rw [hix]
    have ha : a = 0 ∨ a = 1 ∨ a = 2 := by revert a; exact (by decide : ∀ a : Fin 3, a = 0 ∨ a = 1 ∨ a = 2)
    rcases ha with rfl | rfl | rfl
    · show (grid0.coords t 0).val * 1 + (y 0).val = min (t.val / 8) 15
      omega
    · show 0 * 2048 + (y 1).val = (y 1).val
      omega
    · show min (grid0.coords t 1).val 3 * 512 + (y 2).val = 512 * min (t.val % 8) 3 + (y 2).val
      omega
  exact funext fun y => (View.read_apply ..).trans (key y)

theorem block3 (c : Dev nD) (t : Fin grid0.N) : (dats m 0 c).blockOf 3 t = (dats m 0 c).after 3 t := by
  have h0 := (coords_val t).1
  have h1 := (coords_val t).2
  have hN : t.val < 128 := lt_of_lt_of_eq t.isLt N_0
  have hix : ((cfgA m).win 3).index t = ![(grid0.coords t 0).val, 0, (grid0.coords t 1).val - 4] := tr5_eq (grid0.coords t)
  have key : ∀ y : S1x2048x512.Idx, V m c main_arg8 ((((cfgA m).win 3).rect t).emb y) = blkW (V m c main_arg8) (t.val / 8) (t.val % 8 - 4) y := by
    intro y
    have hy0 : (y 0).val < 1 := (y 0).isLt
    refine congrArg (V m c main_arg8) (funext fun (a : Fin 3) => Fin.ext ?_)
    refine (((cfgA m).win 3).rect_emb_val t y a).trans ?_
    rw [hix]
    have ha : a = 0 ∨ a = 1 ∨ a = 2 := by revert a; exact (by decide : ∀ a : Fin 3, a = 0 ∨ a = 1 ∨ a = 2)
    rcases ha with rfl | rfl | rfl
    · show (grid0.coords t 0).val * 1 + (y 0).val = min (t.val / 8) 15
      omega
    · show 0 * 2048 + (y 1).val = (y 1).val
      omega
    · show ((grid0.coords t 1).val - 4) * 512 + (y 2).val = 512 * min (t.val % 8 - 4) 3 + (y 2).val
      omega
  exact funext fun y => (View.read_apply ..).trans (key y)

theorem before0 (c : Dev nD) (t : Fin grid0.N) (d) : (dats m 0 c).before 0 t d = (dats m 0 c).after 0 t :=
  ((dats m 0 c).before_in_eq_fetched 0 rfl (fun _ => rfl) (fun _ _ _ => rfl) (fun t => (block0 m c t).symm) t d).trans (block0 m c t)

theorem before1 (c : Dev nD) (t : Fin grid0.N) (d) : (dats m 0 c).before 1 t d = (dats m 0 c).after 1 t :=
  ((dats m 0 c).before_in_eq_fetched 1 rfl (fun _ => rfl) (fun _ _ _ => rfl) (fun t => (block1 m c t).symm) t d).trans (block1 m c t)

theorem before2 (c : Dev nD) (t : Fin grid0.N) (d) : (dats m 0 c).before 2 t d = (dats m 0 c).after 2 t :=
  ((dats m 0 c).before_in_eq_fetched 2 rfl (fun _ => rfl) (fun _ _ _ => rfl) (fun t => (block2 m c t).symm) t d).trans (block2 m c t)

theorem before3 (c : Dev nD) (t : Fin grid0.N) (d) : (dats m 0 c).before 3 t d = (dats m 0 c).after 3 t :=
  ((dats m 0 c).before_in_eq_fetched 3 rfl (fun _ => rfl) (fun _ _ _ => rfl) (fun t => (block3 m c t).symm) t d).trans (block3 m c t)

theorem flush4_false (t : Fin grid0.N) (hs : (grid0.coords t 1).val < 4) : ((cfgA m).win 4).flush t = false := by
  have h0 := (coords_val t).1
  have h1 := (coords_val t).2
  have hN : t.val < 128 := lt_of_lt_of_eq t.isLt N_0
  have hl : t.val + 1 < grid0.N := lt_of_lt_of_eq (by omega) N_0.symm
  have e0 := (coords_val ⟨t.val + 1, hl⟩).1
  have e1 := (coords_val ⟨t.val + 1, hl⟩).2
  dsimp only at e0 e1
  have hix : ((cfgA m).win 4).index ⟨t.val + 1, hl⟩ = ((cfgA m).win 4).index t := by
    refine (tr6_eq (grid0.coords ⟨t.val + 1, hl⟩)).trans (Eq.trans ?_ (tr6_eq (grid0.coords t)).symm)
    rw [e0, e1, h0, h1, show (t.val + 1) / 8 = t.val / 8 from by omega, show (t.val + 1) % 8 - 4 = t.val % 8 - 4 from by omega]
  unfold Pipeline.Window.flush
  rw [Bool.and_eq_false_iff]
  right
  rw [Bool.or_eq_false_iff]
  refine ⟨decide_eq_false (by have : (cfgA m).grid.N = 128 := N_0; omega), decide_eq_false fun ⟨h, hne⟩ => hne hix⟩

theorem flush5_false (t : Fin grid0.N) (hs : (grid0.coords t 1).val < 4) : ((cfgA m).win 5).flush t = false := by
  have h0 := (coords_val t).1
  have h1 := (coords_val t).2
  have hN : t.val < 128 := lt_of_lt_of_eq t.isLt N_0
  have hl : t.val + 1 < grid0.N := lt_of_lt_of_eq (by omega) N_0.symm
  have e0 := (coords_val ⟨t.val + 1, hl⟩).1
  have e1 := (coords_val ⟨t.val + 1, hl⟩).2
  dsimp only at e0 e1
  have hix : ((cfgA m).win 5).index ⟨t.val + 1, hl⟩ = ((cfgA m).win 5).index t := by
    refine (tr7_eq (grid0.coords ⟨t.val + 1, hl⟩)).trans (Eq.trans ?_ (tr7_eq (grid0.coords t)).symm)
    rw [e0, e1, h0, h1, show (t.val + 1) / 8 = t.val / 8 from by omega, show (t.val + 1) % 8 - 4 = t.val % 8 - 4 from by omega]
  unfold Pipeline.Window.flush
  rw [Bool.and_eq_false_iff]
  right
  rw [Bool.or_eq_false_iff]
  refine ⟨decide_eq_false (by have : (cfgA m).grid.N = 128 := N_0; omega), decide_eq_false fun ⟨h, hne⟩ => hne hix⟩

end Cert.KernelIdeal.Hand

end
-- ==== Proof.Run.lean ====
/-
  THE RUN: the body keeps the state at every grid point, so @main runs, every argument ends as it began, the two results at the
  write-backs of what the points left, and every semaphore counter at zero.
-/
module

public import proofs.«01_k».proof.Proof.Data

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

abbrev stg0 (t : Fin grid0.N) : Memref sig .tc .vmem S1x1536x1 .f32 := spec0_0.stage ((cfgA m).slots t 0)
theorem hstg0 (t : Fin grid0.N) : (stg0 m t).IsWhole := hstage0_0 (((cfgA m).slots t 0).cast nbuf0_0)
abbrev stg1 (t : Fin grid0.N) : Memref sig .tc .vmem S1x2048x512 .f32 := spec0_1.stage ((cfgA m).slots t 1)
theorem hstg1 (t : Fin grid0.N) : (stg1 m t).IsWhole := hstage0_1 (((cfgA m).slots t 1).cast nbuf0_1)
abbrev stg2 (t : Fin grid0.N) : Memref sig .tc .vmem S1x2048x512 .f32 := spec0_2.stage ((cfgA m).slots t 2)
theorem hstg2 (t : Fin grid0.N) : (stg2 m t).IsWhole := hstage0_2 (((cfgA m).slots t 2).cast nbuf0_2)
abbrev stg3 (t : Fin grid0.N) : Memref sig .tc .vmem S1x2048x512 .f32 := spec0_3.stage ((cfgA m).slots t 3)
theorem hstg3 (t : Fin grid0.N) : (stg3 m t).IsWhole := hstage0_3 (((cfgA m).slots t 3).cast nbuf0_3)
abbrev stg4 (t : Fin grid0.N) : Memref sig .tc .vmem S1x1024x512 .f32 := spec0_4.stage ((cfgA m).slots t 4)
theorem hstg4 (t : Fin grid0.N) : (stg4 m t).IsWhole := hstage0_4 (((cfgA m).slots t 4).cast nbuf0_4)
abbrev stg5 (t : Fin grid0.N) : Memref sig .tc .vmem S1x512x512 .f32 := spec0_5.stage ((cfgA m).slots t 5)
theorem hstg5 (t : Fin grid0.N) : (stg5 m t).IsWhole := hstage0_5 (((cfgA m).slots t 5).cast nbuf0_5)

/-- The body at a point, as the launch calls it. -/
abbrev bodyAt (t : Fin grid0.N) : Prog (TpuEff nD τ sig (Elt F) Λ₀ .tc) PUnit :=
  cc0_expert_ffn (F := F) (grid0.coords t) (Memref.whole main_v1) (Memref.isWhole_whole _) (Memref.whole main_arg2) (Memref.isWhole_whole _) (Memref.whole main_arg3) (Memref.isWhole_whole _) (stg0 m t) (hstg0 m t) (stg1 m t) (hstg1 m t) (stg2 m t) (hstg2 m t) (stg3 m t) (hstg3 m t) (stg4 m t) (hstg4 m t) (stg5 m t) (hstg5 m t) (Memref.whole cc0_scratch0) (Memref.isWhole_whole _) (Memref.whole cc0_scratch1) (Memref.isWhole_whole _) (Memref.whole cc0_scratch2) (Memref.isWhole_whole _) cc0_scratch3

theorem defs₀_row (t : Fin grid0.N) : defs₀ (F := F) .tc (cfgA m).body ((cfgA m).bodyArgs t ((cfgA m).slots t)) = bodyAt m t := by
  unfold defs₀; rw [Defs.onTc_tc]

/-- The state after a point whose coordinates are those of an expert's first four. -/
theorem stN_succ_head (c : Dev nD) (t : Fin grid0.N) (hs : (grid0.coords t 1).val < 4) :
    StN m c (t.val + 1) = St (F := F) (V m c main_v1) (V m c main_arg2) (V m c main_arg3) (V m c main_arg6) (V m c main_arg7) c (grid0.coords t 0).val ((grid0.coords t 1).val + 1) := by
  have h0 := (coords_val t).1
  have h1 := (coords_val t).2
  unfold StN
  rw [h0, h1, show (t.val + 1) / 8 = t.val / 8 from by omega, show (t.val + 1) % 8 = t.val % 8 + 1 from by omega]

/-- The state after a point of an expert's last four. -/
theorem stN_succ_tail (c : Dev nD) (t : Fin grid0.N) :
    StN m c (t.val + 1) = Nx (F := F) (V m c main_v1) (V m c main_arg2) (V m c main_arg3) (V m c main_arg6) (V m c main_arg7) c (grid0.coords t 0).val (grid0.coords t 1).val := by
  have h0 := (coords_val t).1
  have h1 := (coords_val t).2
  unfold StN Nx
  rw [h0, h1]
  by_cases h : t.val % 8 = 7
  · rw [if_pos h, show (t.val + 1) / 8 = t.val / 8 + 1 from by omega, show (t.val + 1) % 8 = 0 from by omega]
  · rw [if_neg h, show (t.val + 1) / 8 = t.val / 8 from by omega, show (t.val + 1) % 8 = t.val % 8 + 1 from by omega]

def bodyPre (c : Dev nD) (t : Fin grid0.N) : sProp 𝕄 :=
  iprop((dats m 0 c).Φ t.castSucc ∗ (dats m 0 c).owesAt () t.castSucc
    ∗ (∃ d, owns (c : Thread nD τ) (stg0 m t) fullShare ((dats m 0 c).before 0 t d))
    ∗ (∃ d, owns (c : Thread nD τ) (stg1 m t) fullShare ((dats m 0 c).before 1 t d))
    ∗ (∃ d, owns (c : Thread nD τ) (stg2 m t) fullShare ((dats m 0 c).before 2 t d))
    ∗ (∃ d, owns (c : Thread nD τ) (stg3 m t) fullShare ((dats m 0 c).before 3 t d))
    ∗ (∃ d, owns (c : Thread nD τ) (stg4 m t) fullShare ((dats m 0 c).before 4 t d))
    ∗ (∃ d, owns (c : Thread nD τ) (stg5 m t) fullShare ((dats m 0 c).before 5 t d)))

/-- What the body leaves in a result's buffer: at an expert's first four points what it found there. -/
def outPost4 (c : Dev nD) (t : Fin grid0.N) : sProp 𝕄 :=
  match (cfgA m).idle 4 (grid0.coords t) with
  | true => match ((cfgA m).win 4).flush t with
    | false => iprop(∃ d, owns (c : Thread nD τ) (stg4 m t) fullShare ((dats m 0 c).before 4 t d))
    | true => owns (c : Thread nD τ) (stg4 m t) fullShare ((dats m 0 c).after 4 t)
  | false => owns (c : Thread nD τ) (stg4 m t) fullShare ((dats m 0 c).after 4 t)
@[inherit_doc outPost4]
def outPost5 (c : Dev nD) (t : Fin grid0.N) : sProp 𝕄 :=
  match (cfgA m).idle 5 (grid0.coords t) with
  | true => match ((cfgA m).win 5).flush t with
    | false => iprop(∃ d, owns (c : Thread nD τ) (stg5 m t) fullShare ((dats m 0 c).before 5 t d))
    | true => owns (c : Thread nD τ) (stg5 m t) fullShare ((dats m 0 c).after 5 t)
  | false => owns (c : Thread nD τ) (stg5 m t) fullShare ((dats m 0 c).after 5 t)

def bodyPost (c : Dev nD) (t : Fin grid0.N) : sProp 𝕄 :=
  iprop((dats m 0 c).Φ t.succ ∗ (dats m 0 c).owesAt () t.succ
    ∗ owns (c : Thread nD τ) (stg0 m t) fullShare ((dats m 0 c).after 0 t)
    ∗ owns (c : Thread nD τ) (stg1 m t) fullShare ((dats m 0 c).after 1 t)
    ∗ owns (c : Thread nD τ) (stg2 m t) fullShare ((dats m 0 c).after 2 t)
    ∗ owns (c : Thread nD τ) (stg3 m t) fullShare ((dats m 0 c).after 3 t)
    ∗ outPost4 m c t ∗ outPost5 m c t)

theorem idle4_head (t : Fin grid0.N) (hs : (grid0.coords t 1).val < 4) : (cfgA m).idle 4 (grid0.coords t) = true := by
  show (!(k0_cond4 (grid0.coords t) == 1#1)) = true
  have : ¬k0_cond4 (grid0.coords t) = 1#1 := fun h => by have := (cond4_iff _).mp h; omega
  simp [this]
theorem idle4_tail (t : Fin grid0.N) (hs : 4 ≤ (grid0.coords t 1).val) : (cfgA m).idle 4 (grid0.coords t) = false := by
  show (!(k0_cond4 (grid0.coords t) == 1#1)) = false
  have : k0_cond4 (grid0.coords t) = 1#1 := (cond4_iff _).mpr hs
  simp [this]

/-- What is held of the core's tallies, opened. -/
theorem owesAt_open (c : Dev nD) (t : Fin (grid0.N + 1)) : (dats m 0 c).owesAt () t ⊢ iprop(∃ W, owes (c : Thread nD τ) 0 W) := by
  unfold Dat.owesAt Pipeline.owesWithin
  rw [show (dats m 0 c).owed t = 0 from rfl]
  iintro ⟨%W, -, HW⟩
  iexists W; iexact HW
/-- And closed. -/
theorem owesAt_close (c : Dev nD) (t : Fin (grid0.N + 1)) : iprop(∃ W, owes (c : Thread nD τ) 0 W) ⊢ (dats m 0 c).owesAt () t := by
  unfold Dat.owesAt Pipeline.owesWithin
  rw [show (dats m 0 c).owed t = 0 from rfl]
  iintro ⟨%W, HW⟩
  iexists W; isplitr
  · ipureintro; exact fun _ _ => Or.inl trivial
  iexact HW

theorem sound_body (hT : ∀ c, InRange (V m c main_v1)) (c : Dev nD) (t : Fin grid0.N) :
    bodyPre m c t ⊢ wp frame (wpE (defs₀ (F := F)) Variants.none c none) Set.univ (bodyAt m t) (fun _ => bodyPost m c t) := by
  have h0 := (coords_val t).1
  have h1 := (coords_val t).2
  have hΦ : (dats m 0 c).Φ t.castSucc = St (F := F) (V m c main_v1) (V m c main_arg2) (V m c main_arg3) (V m c main_arg6) (V m c main_arg7) c (grid0.coords t 0).val (grid0.coords t 1).val := by
    rw [h0, h1]; rfl
  have hΦ' : (dats m 0 c).Φ t.succ = StN m c (t.val + 1) := rfl
  unfold bodyPre bodyPost
  rw [hΦ, hΦ']
  simp only [before0, before1, before2, before3]
  have a0 : (dats m 0 c).after 0 t = blkG (V m c main_v3) (grid0.coords t 0).val := by rw [h0]; rfl
  have a1 : (dats m 0 c).after 1 t = blkW (V m c main_arg6) (grid0.coords t 0).val (grid0.coords t 1).val := by rw [h0, h1]; rfl
  have a2 : (dats m 0 c).after 2 t = blkW (V m c main_arg7) (grid0.coords t 0).val (grid0.coords t 1).val := by rw [h0, h1]; rfl
  have a3 : (dats m 0 c).after 3 t = blkW (V m c main_arg8) (grid0.coords t 0).val ((grid0.coords t 1).val - 4) := by rw [h0, h1]; rfl
  have a4 : (dats m 0 c).after 4 t = OutA (V m c main_v1) (V m c main_arg2) (V m c main_arg3) (V m c main_arg6) (V m c main_arg7) (V m c main_arg8) (V m c main_v3) (grid0.coords t 0).val (grid0.coords t 1).val := by rw [h0, h1]; rfl
  have a5 : (dats m 0 c).after 5 t = OutB (V m c main_v1) (V m c main_arg2) (V m c main_arg3) (V m c main_arg6) (V m c main_arg7) (V m c main_arg8) (V m c main_v3) (grid0.coords t 0).val (grid0.coords t 1).val := by rw [h0, h1]; rfl
  iintro ⟨HS, HW, ⟨%d0, H0⟩, ⟨%d1, H1⟩, ⟨%d2, H2⟩, ⟨%d3, H3⟩, ⟨%d4, H4⟩, ⟨%d5, H5⟩⟩
  ihave HW' := (owesAt_open m c t.castSucc) $$ HW
  by_cases hs : (grid0.coords t 1).val < 4
  · rw [stN_succ_head m c t hs]
    unfold outPost4 outPost5
    rw [a1, a2]
    rw [idle4_head m t hs, show (cfgA m).idle 5 (grid0.coords t) = true from idle4_head m t hs, flush4_false m t hs, flush5_false m t hs]
    iapply (point_head (F := F) (V m c main_v1) (V m c main_arg2) (V m c main_arg3) (V m c main_arg6) (V m c main_arg7) c Variants.none (grid0.coords t)
      (stg0 m t) (hstg0 m t) (stg1 m t) (hstg1 m t) (stg2 m t) (hstg2 m t) (stg3 m t) (hstg3 m t) (stg4 m t) (hstg4 m t) (stg5 m t) (hstg5 m t) (hT c) hs) $$ [HS HW' H1 H2]
    · isplitl [HS]; · iexact HS
      isplitl [HW']; · iexact HW'
      isplitl [H1]; · iexact H1
      iexact H2
    iintro ⟨HS, HW, H1, H2⟩
    isplitl [HS]; · iexact HS
    isplitl [HW]; · iapply (owesAt_close m c t.succ); iexact HW
    isplitl [H0]; · iexact H0
    isplitl [H1]; · iexact H1
    isplitl [H2]; · iexact H2
    isplitl [H3]; · iexact H3
    isplitl [H4]; · iexists d4; iexact H4
    iexists d5; iexact H5
  · have h4 : 4 ≤ (grid0.coords t 1).val := Nat.not_lt.mp hs
    rw [stN_succ_tail m c t]
    unfold outPost4 outPost5
    rw [idle4_tail m t h4, show (cfgA m).idle 5 (grid0.coords t) = false from idle4_tail m t h4]
    dsimp only
    rw [a0, a3, a4, a5]
    iapply (point_tail (F := F) (V m c main_v1) (V m c main_arg2) (V m c main_arg3) (V m c main_arg6) (V m c main_arg7) (V m c main_arg8) (V m c main_v3) c Variants.none (grid0.coords t)
      (stg0 m t) (hstg0 m t) (stg1 m t) (hstg1 m t) (stg2 m t) (hstg2 m t) (stg3 m t) (hstg3 m t) (stg4 m t) (hstg4 m t) (stg5 m t) (hstg5 m t) (hT c) h4
      ((dats m 0 c).before 4 t d4) ((dats m 0 c).before 5 t d5)) $$ [HS HW' H0 H3 H4 H5]
    · isplitl [HS]; · iexact HS
      isplitl [HW']; · iexact HW'
      isplitl [H0]; · iexact H0
      isplitl [H3]; · iexact H3
      isplitl [H4]; · iexact H4
      iexact H5
    iintro ⟨HS, HW, H0, H3, H4, H5⟩
    isplitl [HS]; · iexact HS
    isplitl [HW]; · iapply (owesAt_close m c t.succ); iexact HW
    isplitl [H0]; · iexact H0
    isplitl [H1]; · iexact H1
    isplitl [H2]; · iexact H2
    isplitl [H3]; · iexact H3
    isplitl [H4]; · iexact H4
    iexact H5

theorem body_obligation (hT : ∀ c, InRange (V m c main_v1)) (c : Dev nD) : BodyObligation (dats (F := F) m 0 c) (defs₀ (F := F)) Variants.none () Set.univ := fun t => by
  rw [bigSep_W0, bigSep_W0, defs₀_row]
  exact triple_restated (sound_body m hT c t) rfl .rfl fun _ => .rfl

/-- The two transfer semaphores. -/
def osem0 : Fin 2 → SemLoc sig := ![SemLoc.dma 12, SemLoc.dma 13]
theorem ownSemFacts0 : Pipeline.OwnSemFacts spec0 osem0 := by decide
/-- The arrays the copies read. -/
def H0 : Finset (Ref sig .tc) := {main_arg2, main_arg3}
theorem H0_sub : H0 ⊆ Pipeline.restRefsP sig pre0 spec0 := by decide

theorem phiD_eq (c : Dev nD) : (Pipeline.ΦD osem0 spec0 H0 (V m) c : sProp 𝕄)
    = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))
      ∗ (∃ r, prngReg c r) ∗ iprop(semVal ((c : Thread nD τ), SemLoc.dma 12) 0 ∗ semVal ((c : Thread nD τ), SemLoc.dma 13) 0)
      ∗ iprop((((c : Thread nD τ).loc main_arg2) ↦{fullShare} V m c main_arg2) ∗ (((c : Thread nD τ).loc main_arg3) ↦{fullShare} V m c main_arg3))) := by
  rw [Pipeline.ΦD_eq, scopedRest0_eq, show (Pipeline.ownSems0 osem0 c : sProp 𝕄) = iprop(semVal ((c : Thread nD τ), SemLoc.dma 12) 0 ∗ semVal ((c : Thread nD τ), SemLoc.dma 13) 0) from by
    rw [Pipeline.ownSems0_eq_of_list c osem0 [0, 1] (by decide) (by decide)]; rfl,
    show (bigSep H0 (fun b => ((c : Thread nD τ).loc b) ↦{fullShare} V m c b) : sProp 𝕄) = iprop((((c : Thread nD τ).loc main_arg2) ↦{fullShare} V m c main_arg2) ∗ (((c : Thread nD τ).loc main_arg3) ↦{fullShare} V m c main_arg3)) from by
    rw [BI.bigSep_eq_bigSepL_of_eq [main_arg2, main_arg3] (by decide) (by decide)]; rfl]

theorem phiT_eq (c : Dev nD) : (Pipeline.ΦT pre0 (tabs m 0).1 c : sProp 𝕄) = iprop(((c : Thread nD τ).loc main_v1) ↦{fullShare.right} V m 0 main_v1) := by
  show (bigSep (Finset.univ : Finset (Fin 1)) (fun k => ((c : Thread nD τ).loc (pre0.ref k)) ↦{fullShare.right} (tabs m 0).1 k) : sProp 𝕄) = _
  rw [BI.bigSep_eq_bigSepL_of_eq [0] (by decide) (by decide)]; rfl

/-- What the launch hands the body makes the state before the first point. -/
theorem hin (c : Dev nD) : iprop(Pipeline.ΦD osem0 spec0 H0 (V m) c ∗ Pipeline.ΦT pre0 (tabs m 0).1 c) ⊢ ((dats m 0 c).Φ 0 : sProp 𝕄) := by
  have hc : c = 0 := Subsingleton.elim _ _
  subst hc
  rw [phiD_eq, phiT_eq]
  show _ ⊢ StN m 0 0
  unfold StN St TS Idle
  rw [if_pos rfl, if_pos (Or.inl rfl)]
  iintro ⟨⟨⟨⟨%f0, H0⟩, ⟨%f1, H1⟩, ⟨%f2, H2⟩⟩, Hr, ⟨Ha, Hb⟩, HA, HB⟩, Ht⟩
  isplitl [Ht]; · iexact Ht
  isplitl [H0 HA HB Ha Hb]
  · iexists f0
    isplitl [H0]; · iexact H0
    isplitl [HA]; · iexact HA
    isplitl [HB]; · iexact HB
    isplitl [Ha]; · iexact Ha
    iexact Hb
  isplitl [H1]
  · iexists f1
    isplitl [H1]
    · iapply (own_whole (F := F) 0 cc0_scratch1 fullShare f1); iexact H1
    ipureintro; exact fun h => absurd rfl h
  isplitl [H2]
  · iexists f2
    isplitl [H2]
    · iapply (own_whole (F := F) 0 cc0_scratch2 fullShare f2); iexact H2
    ipureintro; exact fun k r d hk => absurd hk (Nat.not_lt_zero _)
  iexact Hr

/-- The state after the last point gives the launch back what it handed out. -/
theorem hout (c : Dev nD) : (dats m 0 c).Φ (Fin.last (cfgA m).N) ⊢ (Pipeline.ΦD osem0 spec0 H0 (V m) c : sProp 𝕄) := by
  rw [phiD_eq]
  have e : (dats m 0 c).Φ (Fin.last (cfgA m).N) = StN m c 128 := by
    show StN m c (cfgA m).N = _
    rw [show (cfgA m).N = 128 from N_0]
  rw [e]
  unfold StN St TS Idle
  rw [if_pos (by decide), if_pos (Or.inr (by decide))]
  iintro ⟨Ht, ⟨%f0, H0, HA, HB, Ha, Hb⟩, ⟨%f1, H1, -⟩, ⟨%f2, H2, -⟩, Hr⟩
  isplitl [H0 H1 H2]
  · isplitl [H0]; · iexists f0; iexact H0
    isplitl [H1]
    · iexists f1; iapply (whole_own (F := F) c cc0_scratch1 fullShare f1); iexact H1
    iexists f2; iapply (whole_own (F := F) c cc0_scratch2 fullShare f2); iexact H2
  isplitl [Hr]; · iexact Hr
  isplitl [Ha Hb]
  · isplitl [Ha]; · iexact Ha
    iexact Hb
  isplitl [HA]; · iexact HA
  iexact HB

theorem hmain : Pipeline.HMainP (Ix := Unit) (Name := ℕ) (U := Pipeline.UD sig nD τ) (Lvl := ℕ) (pcfgs (F := F)) 0 defs₀ Variants.none m (main (F := F)) (V m) :=
  Pipeline.hmainP_prefix pcfgs 0 defs₀ Variants.none m main hostOps0 hostOps0_sub ⟨rfl, rfl, rfl, rfl⟩ fun c => main_chain c

set_option backward.isDefEq.respectTransparency.types false in
/-- The run of @main: every windowed array at its write-backs, every other buffer as the host operations left it, every counter at zero. -/
theorem run_main (hT : ∀ c, InRange (V m c main_v1)) :
    θ_run defs (onTc (τ := τ) (main (F := F))) (s₀ m ρ) (fun r => Pipeline.FramePost (Pipeline.pin (pcfgs (F := F)) (tabs m)) (dats m) 0 (V m) r ∧ r.2.sem = fun _ => 0) :=
  Pipeline.θ_run_frameP_dma (Q' := _) pcfgs (tabs m) (dats m) (0 : Fin 1) launch0 osem0 defs₀ Variants.none ownSemFacts0 H0 H0_sub m ρ main
    (hbody := fun c => (body_obligation m hT c).loose) (hshare := fun c => (dats m 0 c).share_full fun _ => rfl)
    (howed := fun _ _ => rfl) (V := V m) (hmain := hmain m) (hA := fun _ _ => rfl)
    (hpf := fun c k => by have hc : c = 0 := Subsingleton.elim _ _; subst hc; rfl)
    (hin := hin m) (hout := hout m)

/-- The frame: every argument ends as it began, every counter at zero. -/
theorem frame (hT : ∀ c, InRange (V m c main_v1)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c).2 main_arg0 (Pipeline.mem_restRefs_of main_arg0 (by decide) (by exact (by decide : ∀ w : Fin 6, (spec0 w).arr.view.ref ≠ main_arg0))),
    (h.1 c).2 main_arg1 (Pipeline.mem_restRefs_of main_arg1 (by decide) (by exact (by decide : ∀ w : Fin 6, (spec0 w).arr.view.ref ≠ main_arg1))),
    (h.1 c).2 main_arg2 (Pipeline.mem_restRefs_of main_arg2 (by decide) (by exact (by decide : ∀ w : Fin 6, (spec0 w).arr.view.ref ≠ main_arg2))),
    (h.1 c).2 main_arg3 (Pipeline.mem_restRefs_of main_arg3 (by decide) (by exact (by decide : ∀ w : Fin 6, (spec0 w).arr.view.ref ≠ main_arg3))),
    (h.1 c).2 main_arg4 (Pipeline.mem_restRefs_of main_arg4 (by decide) (by exact (by decide : ∀ w : Fin 6, (spec0 w).arr.view.ref ≠ main_arg4))),
    (h.1 c).2 main_arg5 (Pipeline.mem_restRefs_of main_arg5 (by decide) (by exact (by decide : ∀ w : Fin 6, (spec0 w).arr.view.ref ≠ main_arg5))),
    ((h.1 c).1 1).trans ((dats m 0 c).arrAt_in 1 rfl _),
    ((h.1 c).1 2).trans ((dats m 0 c).arrAt_in 2 rfl _),
    ((h.1 c).1 3).trans ((dats m 0 c).arrAt_in 3 rfl _)⟩, h.2⟩) (run_main m ρ hT)

end Cert.KernelIdeal.Hand

end
-- ==== Proof.Pre.lean ====
/-
  THE PRECONDITION READ: every entry of the two index arrays names a row of its table, so every entry of the table the host joins
  from them does too (`inRange`); and the host's joined arrays read at an index.
-/
module

public import proofs.«01_k».proof.Proof.Run
public import proofs.«01_k».proof.Proof.Gen.Pre_rows_in_range
public import Idealize.ShloMosaic.Lib.ReduceAll

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-- The printed predicate, at every entry: the first group's indices are below 8192, the second's below 4096. -/
theorem words_of_pre (a0 : S16x1024.Idx → BitVec 32) (a1 : S16x512.Idx → BitVec 32) (a2 : S8192x1024.Idx → BitVec 32) (a3 : S4096x1024.Idx → BitVec 32)
    (a4 : S16x1024.Idx → F .f32) (a5 : S16x512.Idx → F .f32) (a6 a7 a8 : S16x2048x2048.Idx → F .f32)
    (h : Cert.Pre_rows_in_range.fn (F := F) a0 a1 a2 a3 a4 a5 a6 a7 a8 = fun _ => 1#1) :
    (∀ i, (a0 i).toNat < 8192) ∧ ∀ i, (a1 i).toNat < 4096 := by
  have and1 : ∀ p q : BitVec 1, IntOp.andi p q = 1#1 → p = 1#1 ∧ q = 1#1 := by decide
  have e := congrFun h (Shape.Idx.first Cert.Pre_rows_in_range.Gen.h_S_)
  obtain ⟨e0, e1⟩ := and1 _ _ e
  haveI : Subsingleton Cert.Pre_rows_in_range.S_.Idx := ⟨fun a b => funext fun x => x.elim0⟩
  constructor
  · intro i
    obtain ⟨hge, hlt⟩ := and1 _ _ (Host.reduce_andi_all _ _ _ _ _ e0 i)
    have hge := IntOp.cmpi_sge.1 hge
    have hlt := IntOp.cmpi_slt.1 hlt
    have hge : (0 : Int) ≤ (a0 i).toInt := hge
    have hlt : (a0 i).toInt < (8192 : Int) := hlt
    have hw := (a0 i).isLt
    have hc := BitVec.toInt_eq_toNat_cond (a0 i)
    split at hc <;> omega
  · intro i
    obtain ⟨hge, hlt⟩ := and1 _ _ (Host.reduce_andi_all _ _ _ _ _ e1 i)
    have hge := IntOp.cmpi_sge.1 hge
    have hlt := IntOp.cmpi_slt.1 hlt
    have hge : (0 : Int) ≤ (a1 i).toInt := hge
    have hlt : (a1 i).toInt < (4096 : Int) := hlt
    have hw := (a1 i).isLt
    have hc := BitVec.toInt_eq_toNat_cond (a1 i)
    split at hc <;> omega

variable (m : (ℓ : Loc nD τ sig) → Buf (Elt F) ℓ) (c : Dev nD)

/-- The two index arrays of the launch. -/
abbrev ixA : S16x1024.Idx → BitVec 32 := m ((c.tc : Thread nD τ).loc main_arg0)
abbrev ixB : S16x512.Idx → BitVec 32 := m ((c.tc : Thread nD τ).loc main_arg1)
/-- The two gate arrays of the launch. -/
abbrev gtA : S16x1024.Idx → Elt F .f32 := m ((c.tc : Thread nD τ).loc main_arg4)
abbrev gtB : S16x512.Idx → Elt F .f32 := m ((c.tc : Thread nD τ).loc main_arg5)

/-- The table of row numbers is the two index arrays joined along the experts' rows, laid out flat. -/
theorem table_eq : (V m c main_v1 : S24576.Idx → BitVec 32)
    = shapeCast S24576 (concatenate S16x1536 1 [⟨S16x1024, ixA m c⟩, ⟨S16x512, ixB m c⟩] concatenates_S16x1024_S16x512_S16x1536_d1) shapeCasts_S16x1536_S24576 := by
  show StableHlo.after hostOps0 _ _ = _
  after_results
  rfl

/-- The gates are the two gate arrays joined likewise, one to a row. -/
theorem gates_eq : (V m c main_v3 : S16x1536x1.Idx → Elt F .f32)
    = broadcastInDim S16x1536x1 ![0, 1] bcast_S16x1536_S16x1536x1_0_1 (concatenate S16x1536 1 [⟨S16x1024, gtA m c⟩, ⟨S16x512, gtB m c⟩] concatenates_S16x1024_S16x512_S16x1536_d1) := by
  show StableHlo.after hostOps0 _ _ = _
  after_results

theorem join_left {α : Type} (x : S16x1024.Idx → α) (y : S16x512.Idx → α) (e : Fin 16) (r : Fin 1536) (h : r.val < 1024) :
    concatenate S16x1536 1 [⟨S16x1024, x⟩, ⟨S16x512, y⟩] concatenates_S16x1024_S16x512_S16x1536_d1 (ix2 e r) = x (ix2 e ⟨r.val, h⟩) :=
  concatenate_pair_apply_left (t := S16x1536) (s₁ := S16x1024) (s₂ := S16x512) 1 x y _ _ rfl _ (by
    intro b
    match b with
    | ⟨0, _⟩ => rfl
    | ⟨1, _⟩ => rfl)

theorem join_right {α : Type} (x : S16x1024.Idx → α) (y : S16x512.Idx → α) (e : Fin 16) (r : Fin 1536) (h : ¬r.val < 1024) :
    concatenate S16x1536 1 [⟨S16x1024, x⟩, ⟨S16x512, y⟩] concatenates_S16x1024_S16x512_S16x1536_d1 (ix2 e r) = y (ix2 e ⟨r.val - 1024, by omega⟩) :=
  concatenate_pair_apply_right (t := S16x1536) (s₁ := S16x1024) (s₂ := S16x512) 1 x y _ _ rfl rfl _ (by
    intro b hb
    match b, hb with
    | ⟨0, _⟩, _ => rfl
    | ⟨1, _⟩, hb => exact absurd rfl hb) (by
    show r.val - 1024 + 1024 = r.val
    omega)

theorem table_at (e : Fin 16) (r : Fin 1536) :
    tblN (V m c main_v1) (e.val * 1536 + r.val) = concatenate S16x1536 1 [⟨S16x1024, ixA m c⟩, ⟨S16x512, ixB m c⟩] concatenates_S16x1024_S16x512_S16x1536_d1 (ix2 e r) := by
  unfold tblN
  rw [dif_pos (by omega)]
  refine (congrFun (table_eq m c) _).trans (shapeCast_apply _ _ _ (ix2 e r) ?_)
  rw [Shape.rowMajor_val_two, Shape.rowMajor_val_one]
  rfl

theorem table_left (e : Fin 16) (r : Fin 1024) : tblN (V m c main_v1) (e.val * 1536 + r.val) = ixA m c (ix2 e r) :=
  (table_at m c e ⟨r.val, by omega⟩).trans (join_left _ _ e ⟨r.val, by omega⟩ r.isLt)

theorem table_right (e : Fin 16) (r : Fin 512) : tblN (V m c main_v1) (e.val * 1536 + (1024 + r.val)) = ixB m c (ix2 e r) :=
  ((table_at m c e ⟨1024 + r.val, by omega⟩).trans (join_right _ _ e ⟨1024 + r.val, by omega⟩ (by show ¬1024 + r.val < 1024; omega))).trans
    (congrArg (fun k => ixB m c (ix2 e k)) (Fin.ext (by show 1024 + r.val - 1024 = r.val; omega)))

/-- Entries in range make a table in range. -/
theorem inRange (h0 : ∀ i, (ixA m c i).toNat < 8192) (h1 : ∀ i, (ixB m c i).toNat < 4096) : InRange (V m c main_v1) := by
  intro e r he hr
  constructor
  · intro h
    have := table_left m c ⟨e, he⟩ ⟨r, h⟩
    dsimp only at this
    rw [this]; exact h0 _
  · intro h
    have := table_right m c ⟨e, he⟩ ⟨r - 1024, by omega⟩
    dsimp only at this
    rw [show 1024 + (r - 1024) = r by omega] at this
    rw [this]; exact h1 _

end Cert.KernelIdeal.Hand

end
-- ==== Proof.Frames.lean ====
/-
  THE TWO FRAMES of the kernel, from one run: the program as printed has the ideal pass's text, so its frame is the ideal program's run
  at the words.
-/
module

public import proofs.«01_k».proof.Defs
public import proofs.«01_k».proof.Proof.Gen.Kernel
public import proofs.«01_k».proof.Proof.Pre

@[expose] public section

noncomputable section

namespace Cert.KernelIdeal.Hand

open Idealize.ShloMosaic Idealize.ShloMosaic.TcCoe Idealize.SL.Sem

/-- The ideal program's precondition puts its table in range. -/
theorem inRange_ideal (m : (ℓ : Loc Cert.KernelIdeal.nD Cert.KernelIdeal.τ Cert.KernelIdeal.sig) → Buf (Elt Ideal) ℓ) (h : Cert.Pre_KernelIdeal m) (c) :
    InRange (V m c Cert.KernelIdeal.main_v1) :=
  inRange m c (words_of_pre _ _ _ _ _ _ _ _ _ (h c)).1 (words_of_pre _ _ _ _ _ _ _ _ _ (h c)).2

/-- The ideal program runs, its arguments unchanged and every counter at zero. -/
theorem frame_ideal : Cert.quiescent_KernelIdeal := fun m ρ h => frame m ρ (inRange_ideal m h)

/-- The two programs' body tables agree, … -/
theorem defs0_eq : Cert.Kernel.defs₀ (F := Bits) = Cert.KernelIdeal.defs₀ (F := Bits) := by
  refine congrArg Defs.onTc (funext fun l => funext fun x => ?_)
  match l, x with
  | 0, (t, s) => rfl

/-- … and so do the tables with the pipeline's labels. -/
theorem defs_eq : Cert.Kernel.defs (F := Bits) = Cert.KernelIdeal.defs (F := Bits) :=
  congrArg (Pipeline.defs (Cert.KernelIdeal.pcfgs (F := Bits))) defs0_eq

/-- A run of the ideal program at the words is a run of the program as printed. -/
theorem run_over (σ : MemSt Cert.KernelIdeal.nD Cert.KernelIdeal.τ Cert.KernelIdeal.sig (Elt Bits)) (Q)
    (h : θ_run (Cert.KernelIdeal.defs (F := Bits)) (onTc (τ := Cert.KernelIdeal.τ) (Cert.KernelIdeal.main (F := Bits))) σ Q) :
    θ_run (Cert.Kernel.defs (F := Bits)) (onTc (τ := Cert.Kernel.τ) (Cert.Kernel.main (F := Bits))) σ Q :=
  (congrArg (fun D => θ_run D (onTc (τ := Cert.KernelIdeal.τ) (Cert.KernelIdeal.main (F := Bits))) σ Q) defs_eq).mpr h

/-- So does the program as printed: one run, taken over. -/
theorem frame_kernel : Cert.quiescent_Kernel := fun m ρ h =>
  run_over _ _ (frame (F := Bits) m ρ fun c => inRange (F := Bits) m c (words_of_pre _ _ _ _ _ _ _ _ _ (h c)).1 (words_of_pre _ _ _ _ _ _ _ _ _ (h c)).2)

end Cert.KernelIdeal.Hand

end
-- ==== Proof.RefFrame.lean ====
/-
  THE REFERENCE'S FRAME: host lines alone, no semaphore declared.
-/
module

public import proofs.«01_k».proof.Defs
public import proofs.«01_k».proof.Proof.Gen.ReferenceIdeal
public import proofs.«01_k».proof.Proof.Gen.ReferenceIdeal.Run
public import proofs.«01_k».proof.Proof.Gen.Pre_rows_in_range
public import Idealize.ShloMosaic.Lib.Quiescent

@[expose] public section

noncomputable section

namespace Cert.ReferenceIdeal.Hand

open Idealize.ShloMosaic Idealize.ShloMosaic.TcCoe Idealize.SL.Sem

/-- The reference runs, its arguments unchanged; it declares no semaphore. -/
theorem frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The same on inputs in range. -/
theorem frame_pre : Cert.quiescent_ReferenceIdeal_pre_rows_in_range := fun m ρ _ => frame m ρ trivial

end Cert.ReferenceIdeal.Hand

end
-- ==== Proof.Words.lean ====
/-
  A PACKED PAIR AT THE IDEAL VALUES: a 32-bit word's lower half read as bfloat16 is the word moved up by 16 bits read as float32, its
  upper half the word with its lower half cleared.
-/
module

public import Idealize.ShloMosaic.PureOps.Ideal

@[expose] public section

namespace Cert.KernelIdeal.Hand

open Idealize.ShloMosaic

/-- A bfloat16 pattern over sixteen zero bits, read as float32, denotes what the pattern does. -/
theorem ofBits_widen (b : BitVec 16) (v : BitVec 32) (h : v.toNat = b.toNat * 2 ^ 16) : Ideal.ofBits .bf16 b = Ideal.ofBits .f32 v := by
  have hb := b.isLt
  have e1 : (b.extractLsb' 15 1 == 1#1) = (v.extractLsb' 31 1 == 1#1) := by
    have : (b.extractLsb' 15 1).toNat = (v.extractLsb' 31 1).toNat := by
      rw [BitVec.extractLsb'_toNat, BitVec.extractLsb'_toNat, Nat.shiftRight_eq_div_pow, Nat.shiftRight_eq_div_pow, h]; omega
    rw [BitVec.eq_of_toNat_eq this]
  have e2 : (b.extractLsb' 7 8).toNat = (v.extractLsb' 23 8).toNat := by
    rw [BitVec.extractLsb'_toNat, BitVec.extractLsb'_toNat, Nat.shiftRight_eq_div_pow, Nat.shiftRight_eq_div_pow, h]; omega
  have e3 : (v.extractLsb' 0 23).toNat = (b.extractLsb' 0 7).toNat * 2 ^ 16 := by
    rw [BitVec.extractLsb'_toNat, BitVec.extractLsb'_toNat, Nat.shiftRight_eq_div_pow, Nat.shiftRight_eq_div_pow, h]; omega
  have p1 : (2 : ℝ) ^ (-133 : ℤ) = 65536 * (2 : ℝ) ^ (-149 : ℤ) := by norm_num
  have p2 : ∀ x : ℕ, (2 : ℝ) ^ ((x : ℤ) - 127 - 7 : ℤ) = 65536 * (2 : ℝ) ^ ((x : ℤ) - 127 - 23 : ℤ) := by
    intro x
    rw [show ((x : ℤ) - 127 - 7 : ℤ) = 16 + ((x : ℤ) - 127 - 23) by ring, zpow_add₀ (by norm_num)]
    norm_num
  show Ideal.ieee 8 7 b = Ideal.ieee 8 23 v
  unfold Ideal.ieee
  simp only [Nat.reduceAdd, e1, e2, e3]
  split
  · by_cases h0 : (b.extractLsb' 0 7).toNat = 0
    · simp [h0]
    · simp [h0]
  split
  · congr 1
    push_cast
    rw [p1]; ring
  · congr 1
    push_cast
    rw [p2]; ring

/-- The lower half. -/
theorem ofBits_low (w : BitVec 32) : Ideal.ofBits .bf16 (w.extractLsb' 0 16) = Ideal.ofBits .f32 (w <<< 16) := by
  refine ofBits_widen _ _ ?_
  rw [BitVec.toNat_shiftLeft, BitVec.extractLsb'_toNat, Nat.shiftLeft_eq, Nat.shiftRight_eq_div_pow]
  omega

/-- The upper half. -/
theorem ofBits_high (w : BitVec 32) : Ideal.ofBits .bf16 (w.extractLsb' 16 16) = Ideal.ofBits .f32 (w &&& 4294901760#32) := by
  refine ofBits_widen _ _ ?_
  have e : w &&& 4294901760#32 = (w >>> 16) <<< 16 := by
    apply BitVec.eq_of_getLsbD_eq
    intro i hi
    have h : ∀ i : Fin 32, (4294901760#32).getLsbD i.val = decide (16 ≤ i.val) := by decide
    rw [BitVec.getLsbD_and, h ⟨i, hi⟩, BitVec.getLsbD_shiftLeft, BitVec.getLsbD_ushiftRight]
    by_cases h16 : 16 ≤ i
    · simp [h16, hi, show 16 + (i - 16) = i by omega]
    · simp [h16, hi]
  have hw := w.isLt
  rw [e, BitVec.toNat_shiftLeft, BitVec.toNat_ushiftRight, BitVec.extractLsb'_toNat, Nat.shiftLeft_eq, Nat.shiftRight_eq_div_pow]
  omega

end Cert.KernelIdeal.Hand
-- ==== Proof.Spec.lean ====
/-
  WHAT ONE ROW OF ONE EXPERT IS: the gated feed-forward of a row of 2048 values, over the extended reals, and the row of values that a
  row of 1024 packed words holds.
-/
module

public import Idealize.ShloMosaic.PureOps.Ideal

@[expose] public section

noncomputable section

namespace Cert.Ffn

open Idealize.ShloMosaic

/-- The 2048 values of a row of 1024 words: the lower halves, then the upper ones. -/
def row (H : Fin 1024 → BitVec 32) (j : Fin 2048) : EReal :=
  if h : j.val < 1024 then Ideal.ofBits .f32 (H ⟨j.val, h⟩ <<< 16) else Ideal.ofBits .f32 (H ⟨j.val - 1024, by omega⟩ &&& 4294901760#32)

/-- One hidden entry: the gate's product with its logistic, times the up product. -/
def hid (x wg wu : Fin 2048 → EReal) : EReal :=
  (∑ j, x j * wg j) * Ideal.logistic (∑ j, x j * wg j) * ∑ j, x j * wu j

/-- One entry of the expert's output for one row, weighted by the row's gate. -/
def ffn (x : Fin 2048 → EReal) (wg wu : Fin 2048 → Fin 2048 → EReal) (wd : Fin 2048 → EReal) (g : EReal) : EReal :=
  (∑ f, hid x (fun j => wg j f) (fun j => wu j f) * wd f) * g

theorem ofBits_one : Ideal.ofBits .f32 0x3F800000#32 = 1 := by
  simp [Ideal.ofBits, Ideal.ieee, -EReal.coe_mul]; norm_num

end Cert.Ffn

end
-- ==== Proof.KerRead.lean ====
/-
  THE KERNEL'S BLOCKS READ AT AN ENTRY, at the ideal values: the unpacked rows, a chunk of the hidden layer, and the output's blocks, whose
  four partial products add up to the sum over the whole hidden width.
-/
module

public import proofs.«01_k».proof.Proof.Invariant
public import proofs.«01_k».proof.Proof.Words
public import proofs.«01_k».proof.Proof.Spec
public import Idealize.ShloMosaic.Lib.MatmulPlain
public import Idealize.ShloMosaic.Lib.ValueIdxCore
public import Idealize.ShloMosaic.Lib.Pipeline.Value

@[expose] public section

noncomputable section

namespace Cert.KernelIdeal.Hand

open Cert.KernelIdeal Cert.KernelIdeal.Gen Cert.Ffn
open Idealize.ShloMosaic Idealize.ShloMosaic.TcCoe Idealize.ShloMosaic.Tactic
open Idealize.ShloMosaic.ValueIdx

/-! ## Layout -/

/-- A cast that drops a leading axis of size one. -/
theorem cast_drop {α : Type} {M N : ℕ} (x : (⟨3, ![1, M, N]⟩ : Shape).Idx → α) (h : (⟨3, ![1, M, N]⟩ : Shape).ShapeCasts ⟨2, ![M, N]⟩) (r : Fin M) (d : Fin N) :
    shapeCast ⟨2, ![M, N]⟩ x h (ix2 r d) = x (ix3 0 r d) := by
  refine shapeCast_apply _ _ _ _ ?_
  rw [Shape.rowMajor_val_three, Shape.rowMajor_val_two]
  show (0 * M + r.val) * N + d.val = r.val * N + d.val
  rw [Nat.zero_mul, Nat.zero_add]

/-- A cast that adds one. -/
theorem cast_add {α : Type} {M N : ℕ} (x : (⟨2, ![M, N]⟩ : Shape).Idx → α) (h : (⟨2, ![M, N]⟩ : Shape).ShapeCasts ⟨3, ![1, M, N]⟩) (r : Fin M) (d : Fin N) :
    shapeCast ⟨3, ![1, M, N]⟩ x h (ix3 0 r d) = x (ix2 r d) := by
  refine shapeCast_apply _ _ _ _ ?_
  rw [Shape.rowMajor_val_three, Shape.rowMajor_val_two]
  show r.val * N + d.val = (0 * M + r.val) * N + d.val
  rw [Nat.zero_mul, Nat.zero_add]

/-- A product into the zero accumulator. -/
theorem prod_zero {M K N : ℕ} (lhs : FVec Ideal ⟨2, ![M, K]⟩ .bf16) (rhs : FVec Ideal ⟨2, ![K, N]⟩ .bf16) (r : Fin M) (c : Fin N) :
    FloatOps.matmul (DotDims.plain M K N) none lhs rhs (constant ⟨2, ![M, N]⟩ .f32 0x00000000#32 : FVec Ideal ⟨2, ![M, N]⟩ .f32) (ix2 r c)
      = ∑ k : Fin K, lhs (ix2 r k) * rhs (ix2 k c) := by
  rw [Ideal.matmul_plain_apply]
  show Ideal.ofBits .f32 0x00000000#32 + _ = _
  rw [Ideal.ofBits_zero_f32, zero_add]

/-! ## The unpacked rows -/

theorem pay13_read (w : S768x1024.Idx → BitVec 32) (a : Fin 768) (b : Fin 1024) :
    k0_pay13 (F := Ideal) w (ix2 a b) = Ideal.ofBits .f32 (w (ix2 a b) <<< 16) := by
  unfold k0_pay13
  refine (shapeCast_apply _ _ (ix2 a b) (ix2 a b) rfl).trans ?_
  exact ofBits_low _
theorem pay1_read (w : S768x1024.Idx → BitVec 32) (a : Fin 768) (b : Fin 1024) :
    k0_pay1 (F := Ideal) w (ix2 a b) = Ideal.ofBits .f32 (w (ix2 a b) <<< 16) := pay13_read w a b
theorem pay14_read (w : S768x1024.Idx → BitVec 32) (a : Fin 768) (b : Fin 1024) :
    k0_pay14 (F := Ideal) w (ix2 a b) = Ideal.ofBits .f32 (w (ix2 a b) &&& 4294901760#32) := by
  unfold k0_pay14
  refine (shapeCast_apply _ _ (ix2 a b) (ix2 a b) rfl).trans ?_
  exact ofBits_high _
theorem pay2_read (w : S768x1024.Idx → BitVec 32) (a : Fin 768) (b : Fin 1024) :
    k0_pay2 (F := Ideal) w (ix2 a b) = Ideal.ofBits .f32 (w (ix2 a b) &&& 4294901760#32) := pay14_read w a b

theorem wTop_read (X : S1536x1024.Idx → BitVec 32) (a : Fin 768) (b : Fin 1024) : wTop X (ix2 a b) = X (ix2 ⟨a.val, by omega⟩ b) := by
  refine congrArg X (funext fun i => Fin.ext ?_)
  rw [emb_val]
  fin_cases i
  · show 0 + a.val = a.val; omega
  · show 0 + b.val = b.val; omega
theorem wBot_read (X : S1536x1024.Idx → BitVec 32) (a : Fin 768) (b : Fin 1024) : wBot X (ix2 a b) = X (ix2 ⟨768 + a.val, by omega⟩ b) := by
  refine congrArg X (funext fun i => Fin.ext ?_)
  rw [emb_val]
  fin_cases i
  · rfl
  · show 0 + b.val = b.val; omega

/-- Row `r` unpacked is the row of values its words hold. -/
theorem XB_read (X : S1536x1024.Idx → BitVec 32) (r : Fin 1536) (j : Fin 2048) :
    XB (F := Ideal) X (ix2 r j) = row (fun k => X (ix2 r k)) j := by
  unfold XB row
  by_cases h0 : r.val < 768
  · rw [dif_pos (show ((ix2 r j : S1536x2048.Idx) 0).val < 768 from h0)]
    by_cases h1 : j.val < 1024
    · rw [dif_pos (show ((ix2 r j : S1536x2048.Idx) 1).val < 1024 from h1), dif_pos h1, pay13_read, wTop_read]
    · rw [dif_neg (show ¬((ix2 r j : S1536x2048.Idx) 1).val < 1024 from h1), dif_neg h1, pay14_read, wTop_read]
  · rw [dif_neg (show ¬((ix2 r j : S1536x2048.Idx) 0).val < 768 from h0)]
    have er : ∀ h, (⟨768 + (r.val - 768), h⟩ : Fin 1536) = r := fun h => Fin.ext (by show 768 + (r.val - 768) = r.val; omega)
    by_cases h1 : j.val < 1024
    · rw [dif_pos (show ((ix2 r j : S1536x2048.Idx) 1).val < 1024 from h1), dif_pos h1, pay1_read, wBot_read]
      exact congrArg (fun i => Ideal.ofBits .f32 (X (ix2 i ⟨j.val, h1⟩) <<< 16)) (er _)
    · rw [dif_neg (show ¬((ix2 r j : S1536x2048.Idx) 1).val < 1024 from h1), dif_neg h1, pay2_read, wBot_read]
      exact congrArg (fun i => Ideal.ofBits .f32 (X (ix2 i ⟨j.val - 1024, by omega⟩) &&& 4294901760#32)) (er _)

/-! ## A chunk of the hidden layer -/

theorem pay4_read (w : S1x2048x512.Idx → EReal) (j : Fin 2048) (d : Fin 512) : k0_pay4 (F := Ideal) w (ix2 j d) = w (ix3 0 j d) :=
  cast_drop (M := 2048) (N := 512) w _ j d

theorem gate_read (w : S1x2048x512.Idx → EReal) (x : S768x2048.Idx → EReal) (r : Fin 768) (d : Fin 512) :
    (matmul (F := Ideal) (φ₁ := .bf16) (φ₂ := .bf16) dot_S768x2048_S2048x512_S768x512_1_0_0_1_n_n none x (k0_pay4 (F := Ideal) w) (constant S768x512 .f32 0x00000000#32)) (ix2 r d)
      = ∑ j : Fin 2048, x (ix2 r j) * w (ix3 0 j d) :=
  (prod_zero (M := 768) (K := 2048) (N := 512) x (k0_pay4 (F := Ideal) w) r d).trans
    (Finset.sum_congr rfl fun j _ => congrArg (x (ix2 r j) * ·) (pay4_read w j d))

theorem pay6_read (wg wu : S1x2048x512.Idx → EReal) (x : S768x2048.Idx → EReal) (r : Fin 768) (d : Fin 512) :
    k0_pay6 (F := Ideal) wg wu x (ix3 0 r d) = hid (fun j => x (ix2 r j)) (fun j => wg (ix3 0 j d)) (fun j => wu (ix3 0 j d)) := by
  unfold k0_pay6
  refine (cast_add (M := 768) (N := 512) _ _ r d).trans ?_
  have eg := gate_read wg x r d
  have eu := gate_read wu x r d
  unfold hid
  rw [← eg, ← eu]
  rfl

theorem pay7_read (wg wu : S1x2048x512.Idx → EReal) (x : S768x2048.Idx → EReal) (r : Fin 768) (d : Fin 512) :
    k0_pay7 (F := Ideal) wg wu x (ix3 0 r d) = hid (fun j => x (ix2 r j)) (fun j => wg (ix3 0 j d)) (fun j => wu (ix3 0 j d)) :=
  pay6_read wg wu x r d

theorem HE_read (wg wu : S1x2048x512.Idx → EReal) (B : S1536x2048.Idx → EReal) (r : Fin 1536) (d : Fin 512) :
    HE (F := Ideal) wg wu B (ix2 r d) = hid (fun j => B (ix2 r j)) (fun j => wg (ix3 0 j d)) (fun j => wu (ix3 0 j d)) := by
  unfold HE
  by_cases h0 : r.val < 768
  · rw [dif_pos (show ((ix2 r d : S1536x512.Idx) 0).val < 768 from h0)]
    refine (pay6_read wg wu _ ⟨r.val, h0⟩ d).trans ?_
    refine congrArg (fun x => hid x _ _) (funext fun j => congrArg B (funext fun i => Fin.ext ?_))
    rw [emb_val]
    fin_cases i
    · show 0 + r.val = r.val; omega
    · show 0 + j.val = j.val; omega
  · rw [dif_neg (show ¬((ix2 r d : S1536x512.Idx) 0).val < 768 from h0)]
    refine (pay7_read wg wu _ ⟨r.val - 768, by omega⟩ d).trans ?_
    refine congrArg (fun x => hid x _ _) (funext fun j => congrArg B (funext fun i => Fin.ext ?_))
    rw [emb_val]
    fin_cases i
    · show 768 + (r.val - 768) = r.val; omega
    · show 0 + j.val = j.val; omega

/-! ## The output's blocks -/

/-- A sum over 2048 in four quarters. -/
theorem sum_quarters (g : Fin 2048 → EReal) :
    ∑ f, g f = (∑ k : Fin 512, g ⟨0 + k.val, by omega⟩) + (∑ k : Fin 512, g ⟨512 + k.val, by omega⟩) + (∑ k : Fin 512, g ⟨1024 + k.val, by omega⟩)
      + ∑ k : Fin 512, g ⟨1536 + k.val, by omega⟩ := by
  have h3 := Fin.sum_univ_add (a := 1536) (b := 512) (fun i => g i)
  have h2 := Fin.sum_univ_add (a := 1024) (b := 512) (fun i => g (Fin.castAdd 512 i))
  have h1 := Fin.sum_univ_add (a := 512) (b := 512) (fun i => g (Fin.castAdd 512 (Fin.castAdd 512 i)))
  refine h3.trans (congrArg₂ (· + ·) (h2.trans (congrArg₂ (· + ·) (h1.trans (congrArg₂ (· + ·) ?_ rfl)) rfl)) rfl)
  exact Finset.sum_congr rfl fun k _ => congrArg g (Fin.ext (by show k.val = 0 + k.val; omega))

/-- One partial product of the projection, from rows `off …` of the block of the down weights. -/
theorem part_read (he : S1x1536x512.Idx → EReal) (wd : S1x2048x512.Idx → EReal) (off : ℕ) (ho : off + 512 ≤ 2048)
    (hs : S2048x512.Slices ![off, 0] S512x512) (r : Fin 1536) (d : Fin 512) :
    (matmul (F := Ideal) (φ₁ := .bf16) (φ₂ := .bf16) dot_S1536x512_S512x512_S1536x512_1_0_0_1_n_n none (shapeCast S1536x512 he shapeCasts_S1x1536x512_S1536x512)
      (extractStridedSlice S512x512 ![off, 0] (k0_pay16 (F := Ideal) wd) hs) (constant S1536x512 .f32 0x00000000#32)) (ix2 r d)
      = ∑ k : Fin 512, he (ix3 0 r k) * wd (ix3 0 ⟨off + k.val, by omega⟩ d) := by
  refine (prod_zero (M := 1536) (K := 512) (N := 512) _ _ r d).trans (Finset.sum_congr rfl fun k _ => congrArg₂ (· * ·) ?_ ?_)
  · exact cast_drop (M := 1536) (N := 512) he _ r k
  · refine (extractStridedSlice_apply _ _ _ (ix2 k d) (ix2 ⟨off + k.val, by omega⟩ d) fun a => ?_).trans (pay4_read wd _ d)
    match a with
    | ⟨0, _⟩ => rfl
    | ⟨1, _⟩ => exact (Nat.zero_add _).symm

/-- The projection of row `r`, weighted: the four partial products' sum times the gate. -/
theorem proj_read (h0 h1 h2 h3 : S1x1536x512.Idx → EReal) (wd : S1x2048x512.Idx → EReal) (g : S1x1536x1.Idx → EReal) (r : Fin 1536) (d : Fin 512) :
    k0_pay8 (F := Ideal) (k0_pay16 (F := Ideal) wd) (k0_pay17 (F := Ideal) wd h0) (k0_pay18 (F := Ideal) wd h1) h2 h3 g (ix2 r d)
      = ((∑ k : Fin 512, h0 (ix3 0 r k) * wd (ix3 0 ⟨0 + k.val, by omega⟩ d)) + (∑ k : Fin 512, h1 (ix3 0 r k) * wd (ix3 0 ⟨512 + k.val, by omega⟩ d))
        + (∑ k : Fin 512, h2 (ix3 0 r k) * wd (ix3 0 ⟨1024 + k.val, by omega⟩ d)) + ∑ k : Fin 512, h3 (ix3 0 r k) * wd (ix3 0 ⟨1536 + k.val, by omega⟩ d))
        * g (ix3 0 r 0) := by
  have e0 := part_read h0 wd 0 (by omega) slices_S2048x512_o0_0_S512x512 r d
  have e1 := part_read h1 wd 512 (by omega) slices_S2048x512_o512_0_S512x512 r d
  have e2 := part_read h2 wd 1024 (by omega) slices_S2048x512_o1024_0_S512x512 r d
  have e3 := part_read h3 wd 1536 (by omega) slices_S2048x512_o1536_0_S512x512 r d
  have eg : broadcastTo S1536x512 (shapeCast S1536x1 g shapeCasts_S1x1536x1_S1536x1) broadcasts_S1536x1_S1536x512 (ix2 r d) = g (ix3 0 r 0) := by
    refine (broadcastTo_apply _ _ (ix2 r d) (ix2 r (0 : Fin 1)) fun a => ?_).trans (cast_drop (M := 1536) (N := 1) g _ r 0)
    match a with
    | ⟨0, _⟩ => rfl
    | ⟨1, _⟩ => rfl
  rw [← e0, ← e1, ← e2, ← e3, ← eg]
  rfl

variable (T : S24576.Idx → BitVec 32) (HA : S8192x1024.Idx → BitVec 32) (HB : S4096x1024.Idx → BitVec 32)
variable (WG WU WD : S16x2048x2048.Idx → EReal) (G : S16x1536x1.Idx → EReal)

/-- An entry of an expert's hidden layer. -/
theorem Hid_read (e k : ℕ) (he : e < 16) (hk : k < 4) (r : Fin 1536) (d : Fin 512) :
    Hid (F := Ideal) T HA HB WG WU e k (ix2 r d)
      = hid (row fun j => XE T HA HB e (ix2 r j)) (fun j => WG (ix3 ⟨e, he⟩ j ⟨512 * k + d.val, by omega⟩)) (fun j => WU (ix3 ⟨e, he⟩ j ⟨512 * k + d.val, by omega⟩)) := by
  have hb : ∀ (A : S16x2048x2048.Idx → EReal) (j : Fin 2048) (c : Fin 512),
      blkW (F := Ideal) A e k (ix3 0 j c) = A (ix3 ⟨e, he⟩ j ⟨512 * k + c.val, by omega⟩) := by
    intro A j c
    refine congrArg A (funext fun i => Fin.ext ?_)
    fin_cases i
    · show min e 15 = e; omega
    · rfl
    · show 512 * min k 3 + c.val = 512 * k + c.val; rw [min_eq_left (by omega)]
  unfold Hid
  refine (HE_read _ _ _ r d).trans ?_
  have e1 : (fun j : Fin 2048 => XB (F := Ideal) (XE T HA HB e) (ix2 r j)) = row (fun k => XE T HA HB e (ix2 r k)) := funext fun j => XB_read _ r j
  have e2 : (fun j : Fin 2048 => blkW (F := Ideal) WG e k (ix3 0 j d)) = fun j => WG (ix3 ⟨e, he⟩ j ⟨512 * k + d.val, by omega⟩) := funext fun j => hb WG j d
  have e3 : (fun j : Fin 2048 => blkW (F := Ideal) WU e k (ix3 0 j d)) = fun j => WU (ix3 ⟨e, he⟩ j ⟨512 * k + d.val, by omega⟩) := funext fun j => hb WU j d
  rw [e1, e2, e3]

/-- The projection of the whole hidden layer: the feed-forward of the gathered row. -/
theorem proj_Hid (e q : ℕ) (he : e < 16) (hq : q < 4) (r : Fin 1536) (d : Fin 512) :
    k0_pay8 (F := Ideal) (k0_pay16 (F := Ideal) (blkW (F := Ideal) WD e q)) (k0_pay17 (F := Ideal) (blkW (F := Ideal) WD e q) (he0 (F := Ideal) (HF (Hid (F := Ideal) T HA HB WG WU e))))
      (k0_pay18 (F := Ideal) (blkW (F := Ideal) WD e q) (he1 (F := Ideal) (HF (Hid (F := Ideal) T HA HB WG WU e)))) (he2 (F := Ideal) (HF (Hid (F := Ideal) T HA HB WG WU e)))
      (he3 (F := Ideal) (HF (Hid (F := Ideal) T HA HB WG WU e))) (blkG (F := Ideal) G e) (ix2 r d)
      = ffn (row fun j => XE T HA HB e (ix2 r j)) (fun j f => WG (ix3 ⟨e, he⟩ j f)) (fun j f => WU (ix3 ⟨e, he⟩ j f))
          (fun f => WD (ix3 ⟨e, he⟩ f ⟨512 * q + d.val, by omega⟩)) (G (ix3 ⟨e, he⟩ r 0)) := by
  have hw : ∀ (f : Fin 2048), blkW (F := Ideal) WD e q (ix3 0 f d) = WD (ix3 ⟨e, he⟩ f ⟨512 * q + d.val, by omega⟩) := by
    intro f
    refine congrArg WD (funext fun i => Fin.ext ?_)
    fin_cases i
    · show min e 15 = e; omega
    · rfl
    · show 512 * min q 3 + d.val = 512 * q + d.val; rw [min_eq_left (by omega)]
  have hg : blkG (F := Ideal) G e (ix3 0 r 0) = G (ix3 ⟨e, he⟩ r 0) := by
    refine congrArg G (funext fun i => Fin.ext ?_)
    fin_cases i
    · show min e 15 = e; omega
    · rfl
    · rfl
  have hh : ∀ (n : ℕ) (hn : n < 4) (k : Fin 512), Hid (F := Ideal) T HA HB WG WU e n (ix2 r k)
      = hid (row fun j => XE T HA HB e (ix2 r j)) (fun j => WG (ix3 ⟨e, he⟩ j ⟨512 * n + k.val, by omega⟩)) (fun j => WU (ix3 ⟨e, he⟩ j ⟨512 * n + k.val, by omega⟩)) :=
    fun n hn k => Hid_read T HA HB WG WU e n he hn r k
  refine (proj_read _ _ _ _ _ _ r d).trans ?_
  unfold ffn
  rw [sum_quarters, hg]
  refine congrArg (· * _) (congrArg₂ (· + ·) (congrArg₂ (· + ·) (congrArg₂ (· + ·) ?_ ?_) ?_) ?_)
  · refine Finset.sum_congr rfl fun k _ => congrArg₂ (· * ·) (Eq.trans ?_ (hh 0 (by omega) k)) (hw _)
    refine congrArg₂ (fun n i => Hid (F := Ideal) T HA HB WG WU e n i) (emb_val (S := S4x1536x512) inb_S4x1536x512_S1x1536x512_0_0_0 (ix3 (0 : Fin 1) r k) 0) (congrArg₂ ix2 (Fin.ext ?_) (Fin.ext ?_))
    · exact (emb_val (S := S4x1536x512) inb_S4x1536x512_S1x1536x512_0_0_0 (ix3 (0 : Fin 1) r k) 1).trans (Nat.zero_add _)
    · exact (emb_val (S := S4x1536x512) inb_S4x1536x512_S1x1536x512_0_0_0 (ix3 (0 : Fin 1) r k) 2).trans (Nat.zero_add _)
  · refine Finset.sum_congr rfl fun k _ => congrArg₂ (· * ·) (Eq.trans ?_ (hh 1 (by omega) k)) (hw _)
    refine congrArg₂ (fun n i => Hid (F := Ideal) T HA HB WG WU e n i) (emb_val (S := S4x1536x512) inb_S4x1536x512_S1x1536x512_1_0_0 (ix3 (0 : Fin 1) r k) 0) (congrArg₂ ix2 (Fin.ext ?_) (Fin.ext ?_))
    · exact (emb_val (S := S4x1536x512) inb_S4x1536x512_S1x1536x512_1_0_0 (ix3 (0 : Fin 1) r k) 1).trans (Nat.zero_add _)
    · exact (emb_val (S := S4x1536x512) inb_S4x1536x512_S1x1536x512_1_0_0 (ix3 (0 : Fin 1) r k) 2).trans (Nat.zero_add _)
  · refine Finset.sum_congr rfl fun k _ => congrArg₂ (· * ·) (Eq.trans ?_ (hh 2 (by omega) k)) (hw _)
    refine congrArg₂ (fun n i => Hid (F := Ideal) T HA HB WG WU e n i) (emb_val (S := S4x1536x512) inb_S4x1536x512_S1x1536x512_2_0_0 (ix3 (0 : Fin 1) r k) 0) (congrArg₂ ix2 (Fin.ext ?_) (Fin.ext ?_))
    · exact (emb_val (S := S4x1536x512) inb_S4x1536x512_S1x1536x512_2_0_0 (ix3 (0 : Fin 1) r k) 1).trans (Nat.zero_add _)
    · exact (emb_val (S := S4x1536x512) inb_S4x1536x512_S1x1536x512_2_0_0 (ix3 (0 : Fin 1) r k) 2).trans (Nat.zero_add _)
  · refine Finset.sum_congr rfl fun k _ => congrArg₂ (· * ·) (Eq.trans ?_ (hh 3 (by omega) k)) (hw _)
    refine congrArg₂ (fun n i => Hid (F := Ideal) T HA HB WG WU e n i) (emb_val (S := S4x1536x512) inb_S4x1536x512_S1x1536x512_3_0_0 (ix3 (0 : Fin 1) r k) 0) (congrArg₂ ix2 (Fin.ext ?_) (Fin.ext ?_))
    · exact (emb_val (S := S4x1536x512) inb_S4x1536x512_S1x1536x512_3_0_0 (ix3 (0 : Fin 1) r k) 1).trans (Nat.zero_add _)
    · exact (emb_val (S := S4x1536x512) inb_S4x1536x512_S1x1536x512_3_0_0 (ix3 (0 : Fin 1) r k) 2).trans (Nat.zero_add _)

/-- The first group's block at an entry. -/
theorem OutA_read (e q : ℕ) (he : e < 16) (hq : q < 4) (r : Fin 1024) (d : Fin 512) :
    OutA (F := Ideal) T HA HB WG WU WD G e (4 + q) (ix3 0 r d)
      = ffn (row (rowA HA (tblN T (e * 1536 + r.val)).toNat)) (fun j f => WG (ix3 ⟨e, he⟩ j f)) (fun j f => WU (ix3 ⟨e, he⟩ j f))
          (fun f => WD (ix3 ⟨e, he⟩ f ⟨512 * q + d.val, by omega⟩)) (G (ix3 ⟨e, he⟩ ⟨r.val, by omega⟩ 0)) := by
  unfold OutA OA k0_pay9
  rw [Nat.add_sub_cancel_left]
  refine (cast_add (M := 1024) (N := 512) _ _ r d).trans ?_
  refine (extractStridedSlice_apply _ _ _ (ix2 r d) (ix2 (⟨r.val, by omega⟩ : Fin 1536) d) fun a => ?_).trans ?_
  · match a with
    | ⟨0, _⟩ => exact (Nat.zero_add _).symm
    | ⟨1, _⟩ => exact (Nat.zero_add _).symm
  refine (proj_Hid T HA HB WG WU WD G e q he hq _ d).trans ?_
  refine congrArg (fun x => ffn x _ _ _ _) (congrArg row (funext fun j => ?_))
  unfold XE
  rw [if_pos (show ((ix2 (⟨r.val, by omega⟩ : Fin 1536) j : S1536x1024.Idx) 0).val < 1024 from r.isLt)]

/-- The second group's. -/
theorem OutB_read (e q : ℕ) (he : e < 16) (hq : q < 4) (r : Fin 512) (d : Fin 512) :
    OutB (F := Ideal) T HA HB WG WU WD G e (4 + q) (ix3 0 r d)
      = ffn (row (rowB HB (tblN T (e * 1536 + (1024 + r.val))).toNat)) (fun j f => WG (ix3 ⟨e, he⟩ j f)) (fun j f => WU (ix3 ⟨e, he⟩ j f))
          (fun f => WD (ix3 ⟨e, he⟩ f ⟨512 * q + d.val, by omega⟩)) (G (ix3 ⟨e, he⟩ ⟨1024 + r.val, by omega⟩ 0)) := by
  unfold OutB OB k0_pay10
  rw [Nat.add_sub_cancel_left]
  refine (cast_add (M := 512) (N := 512) _ _ r d).trans ?_
  refine (extractStridedSlice_apply _ _ _ (ix2 r d) (ix2 (⟨1024 + r.val, by omega⟩ : Fin 1536) d) fun a => ?_).trans ?_
  · match a with
    | ⟨0, _⟩ => rfl
    | ⟨1, _⟩ => exact (Nat.zero_add _).symm
  refine (proj_Hid T HA HB WG WU WD G e q he hq _ d).trans ?_
  refine congrArg (fun x => ffn x _ _ _ _) (congrArg row (funext fun j => ?_))
  unfold XE
  rw [if_neg (show ¬((ix2 (⟨1024 + r.val, by omega⟩ : Fin 1536) j : S1536x1024.Idx) 0).val < 1024 from by show ¬(1024 + r.val < 1024); omega)]

end Cert.KernelIdeal.Hand

end
-- ==== Proof.RefRead.lean ====
/-
  THE REFERENCE READ AT AN ENTRY: the row that the index names, unpacked, through the gated feed-forward of its expert, times its gate.
-/
module

public import proofs.«01_k».proof.Proof.Gen.ReferenceIdeal
public import proofs.«01_k».proof.Proof.Gen.ReferenceIdeal.Run
public import proofs.«01_k».proof.Proof.Spec
public import Idealize.ShloMosaic.Lib.StackMember
public import Idealize.ShloMosaic.Lib.ValueIdxCore
public import Idealize.ShloMosaic.Lib.Pipeline.Value

@[expose] public section

noncomputable section

namespace Cert.ReferenceIdeal.Hand

open Idealize.ShloMosaic Idealize.ShloMosaic.TcCoe Idealize.ShloMosaic.ValueIdx Cert.ReferenceIdeal Cert.ReferenceIdeal.Gen Cert.Ffn

/-- A gather of whole rows: result rows `[e, r]` are the operand's at the start indices `[e, r, 0]`. -/
abbrev rowsDims (N R : Nat) (wf : GatherDims.WF ⟨2, ![N, 2048]⟩ ⟨3, ![16, R, 1]⟩ ⟨3, ![16, R, 2048]⟩ [2] [0] [] [0] [] 2 ![1, 2048]) :
    GatherDims ⟨2, ![N, 2048]⟩ ⟨3, ![16, R, 1]⟩ ⟨3, ![16, R, 2048]⟩ where
  offsetDims := [2]
  collapsedSliceDims := [0]
  operandBatchingDims := []
  startIndicesBatchingDims := []
  startIndexMap := [0]
  indexVectorDim := 2
  sliceSizes := ![1, 2048]
  wf := wf

/-- Such a gather at an entry: the index read signed and clamped into the operand's rows. -/
theorem gather_rows {N R : Nat} {α : Type} (hN : 0 < N)
    (wf : GatherDims.WF ⟨2, ![N, 2048]⟩ ⟨3, ![16, R, 1]⟩ ⟨3, ![16, R, 2048]⟩ [2] [0] [] [0] [] 2 ![1, 2048])
    (x : (⟨2, ![N, 2048]⟩ : Shape).Idx → α) (idx : IVec ⟨3, ![16, R, 1]⟩ 32) (e : Fin 16) (r : Fin R) (j : Fin 2048) :
    Host.gather (rowsDims N R wf) x idx (ix3 e r j) = x (ix2 ⟨min (idx (ix3 e r 0)).toInt.toNat (N - 1), by omega⟩ j) := by
  unfold Host.gather
  congr 1
  funext a
  refine Fin.ext ?_
  show (rowsDims N R wf).start (ix3 e r j) idx a + (rowsDims N R wf).batchCoord (ix3 e r j) a + (rowsDims N R wf).offCoord (ix3 e r j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R wf).startIndexMap from List.mem_singleton.mpr rfl)]
    have hsi : (rowsDims N R wf).siIdx (ix3 e r j) ⟨List.idxOf (0 : Fin 2) (rowsDims N R wf).startIndexMap,
        List.idxOf_lt_length_iff.2 (List.mem_singleton.mpr rfl)⟩ = ix3 e r 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show (1 : Fin 2) ∉ (rowsDims N R wf).startIndexMap from fun h => one_ne_zero (List.mem_singleton.mp h))]
    unfold GatherDims.offCoord
    rw [dif_pos ((GatherDims.mem_sKept _ _).mpr ⟨fun h => one_ne_zero (List.mem_singleton.mp h), List.not_mem_nil⟩)]
    simp only [Nat.zero_add, Nat.add_zero]
    rfl

/-- The packed rows as a table of values. -/
theorem table_read {N : Nat} (H : (⟨2, ![N, 1024]⟩ : Shape).Idx → BitVec 32) (x y : (⟨2, ![N, 1024]⟩ : Shape).Idx → EReal)
    (hx : ∀ i, x i = Ideal.ofBits .f32 (H i <<< 16)) (hy : ∀ i, y i = Ideal.ofBits .f32 (H i &&& 4294901760#32)) (h) (n : Fin N) (j : Fin 2048) :
    concatenate (⟨2, ![N, 2048]⟩ : Shape) 1 [⟨⟨2, ![N, 1024]⟩, x⟩, ⟨⟨2, ![N, 1024]⟩, y⟩] h (ix2 n j) = row (fun k => H (ix2 n k)) j := by
  unfold row
  split_ifs with hj
  · rw [concatenate_pair_apply_left (t := ⟨2, ![N, 2048]⟩) (s₁ := ⟨2, ![N, 1024]⟩) (s₂ := ⟨2, ![N, 1024]⟩) 1 x y h (ix2 n j) rfl (ix2 n ⟨j.val, hj⟩) (by
      intro b
      match b with
      | ⟨0, _⟩ => rfl
      | ⟨1, _⟩ => rfl), hx]
  · rw [concatenate_pair_apply_right (t := ⟨2, ![N, 2048]⟩) (s₁ := ⟨2, ![N, 1024]⟩) (s₂ := ⟨2, ![N, 1024]⟩) 1 x y h (ix2 n j) rfl rfl (ix2 n ⟨j.val - 1024, by omega⟩) (by
      intro b hb
      match b, hb with
      | ⟨0, _⟩, _ => rfl
      | ⟨1, _⟩, hb => exact absurd rfl hb) (by
      show j.val - 1024 + 1024 = j.val
      omega), hy]

/-- A word in range is not negative, so the index is the word itself. -/
theorem index_read (a b z : BitVec 32) (hz : z = 0) (h : a.toNat < 2 ^ 31) : Scalar.select (IntOp.cmpi .slt a z) (IntOp.addi a b) a = a := by
  subst hz
  have : IntOp.cmpi .slt a 0 = 0#1 := by
    unfold IntOp.cmpi
    have : a.slt 0 = false := by
      rw [BitVec.slt_eq_decide, decide_eq_false_iff_not, BitVec.toInt_eq_toNat_of_lt (by omega)]
      simp
    simp only [this]; rfl
  unfold Scalar.select
  rw [if_neg (by rw [this]; decide)]

/-- The start indices of the row gather. -/
def startsA (m : (ℓ : Loc nD τ sig) → Buf (Elt Ideal) ℓ) (c : Dev nD) : IVec S16x1024x1 32 :=
  broadcastInDim S16x1024x1 ![0, 1] bcast_S16x1024_S16x1024x1_0_1 (select (cmpi .slt (m ((c.tc : Thread nD τ).loc main_arg0)) (broadcastInDim S16x1024 ![] bcast_S_S16x1024 (constantI S_ 32 0#32))) (addi (m ((c.tc : Thread nD τ).loc main_arg0)) (broadcastInDim S16x1024 ![] bcast_S_S16x1024 (constantI S_ 32 8192#32))) (m ((c.tc : Thread nD τ).loc main_arg0)))

/-- The gathered rows, unpacked. -/
def rowsA (m : (ℓ : Loc nD τ sig) → Buf (Elt Ideal) ℓ) (c : Dev nD) : FVec Ideal S16x1024x2048 .f32 :=
  Host.gather gather_S8192x2048_S16x1024x1_S16x1024x2048_2_0_n_n_0_2_12048 (concatenate S8192x2048 1 [⟨S8192x1024, (bitcastToFloat (F := Ideal) .f32 (Host.shli (m ((c.tc : Thread nD τ).loc main_arg2)) (broadcastInDim S8192x1024 ![] bcast_S_S8192x1024 (constantI S_ 32 16#32))))⟩, ⟨S8192x1024, (bitcastToFloat (F := Ideal) .f32 (andi (m ((c.tc : Thread nD τ).loc main_arg2)) (broadcastInDim S8192x1024 ![] bcast_S_S8192x1024 (constantI S_ 32 4294901760#32))))⟩] concatenates_S8192x1024_S8192x1024_S8192x2048_d1) (startsA m c)

/-- The gate product. -/
def gateA (m : (ℓ : Loc nD τ sig) → Buf (Elt Ideal) ℓ) (c : Dev nD) : FVec Ideal S16x1024x2048 .f32 :=
  Host.dotGeneral (φ₁ := .f32) (φ₂ := .f32) dot_S16x1024x2048_S16x2048x2048_S16x1024x2048_2_1_1_2_0_0 none (rowsA m c) (m ((c.tc : Thread nD τ).loc main_arg6) : FVec Ideal S16x2048x2048 .f32)

/-- The up product. -/
def upA (m : (ℓ : Loc nD τ sig) → Buf (Elt Ideal) ℓ) (c : Dev nD) : FVec Ideal S16x1024x2048 .f32 :=
  Host.dotGeneral (φ₁ := .f32) (φ₂ := .f32) dot_S16x1024x2048_S16x2048x2048_S16x1024x2048_2_1_1_2_0_0 none (rowsA m c) (m ((c.tc : Thread nD τ).loc main_arg7) : FVec Ideal S16x2048x2048 .f32)

/-- The hidden entries. -/
def hiddenA (m : (ℓ : Loc nD τ sig) → Buf (Elt Ideal) ℓ) (c : Dev nD) : FVec Ideal S16x1024x2048 .f32 :=
  mulf (mulf (gateA m c) (Host.divf (broadcastInDim S16x1024x2048 ![] bcast_S_S16x1024x2048 (constant S_ .f32 0x3F800000#32)) (addf (broadcastInDim S16x1024x2048 ![] bcast_S_S16x1024x2048 (constant S_ .f32 0x3F800000#32)) (Host.exp (Host.negf (gateA m c)))))) (upA m c)

/-- The result, gated. -/
def outA (m : (ℓ : Loc nD τ sig) → Buf (Elt Ideal) ℓ) (c : Dev nD) : FVec Ideal S16x1024x2048 .f32 :=
  mulf (Host.dotGeneral (φ₁ := .f32) (φ₂ := .f32) dot_S16x1024x2048_S16x2048x2048_S16x1024x2048_2_1_1_2_0_0 none (hiddenA m c) (m ((c.tc : Thread nD τ).loc main_arg8) : FVec Ideal S16x2048x2048 .f32)) (broadcastInDim S16x1024x2048 ![0, 1, 2] bcast_S16x1024x1_S16x1024x2048_0_1_2 (broadcastInDim S16x1024x1 ![0, 1] bcast_S16x1024_S16x1024x1_0_1 (m ((c.tc : Thread nD τ).loc main_arg4))))

/-- The first result at an entry, its index below the table's 8192 rows. -/
theorem resultA (m : (ℓ : Loc nD τ sig) → Buf (Elt Ideal) ℓ) (c : Dev nD) (e : Fin 16) (r : Fin 1024) (d : Fin 2048)
    (hr : ((m ((c.tc : Thread nD τ).loc main_arg0) : S16x1024.Idx → BitVec 32) (ix2 e r)).toNat < 8192) :
    (outA m c : S16x1024x2048.Idx → EReal) (ix3 e r d)
      = ffn (row fun k => (m ((c.tc : Thread nD τ).loc main_arg2) : S8192x1024.Idx → BitVec 32)
            (ix2 ⟨((m ((c.tc : Thread nD τ).loc main_arg0) : S16x1024.Idx → BitVec 32) (ix2 e r)).toNat, hr⟩ k))
          (fun j f => (m ((c.tc : Thread nD τ).loc main_arg6) : S16x2048x2048.Idx → EReal) (ix3 e j f))
          (fun j f => (m ((c.tc : Thread nD τ).loc main_arg7) : S16x2048x2048.Idx → EReal) (ix3 e j f))
          (fun f => (m ((c.tc : Thread nD τ).loc main_arg8) : S16x2048x2048.Idx → EReal) (ix3 e f d))
          ((m ((c.tc : Thread nD τ).loc main_arg4) : S16x1024.Idx → EReal) (ix2 e r)) := by
  have hX : ∀ j : Fin 2048, (rowsA m c : S16x1024x2048.Idx → EReal) (ix3 e r j)
      = row (fun k => (m ((c.tc : Thread nD τ).loc main_arg2) : S8192x1024.Idx → BitVec 32)
            (ix2 ⟨((m ((c.tc : Thread nD τ).loc main_arg0) : S16x1024.Idx → BitVec 32) (ix2 e r)).toNat, hr⟩ k)) j := by
    intro j
    refine (gather_rows (N := 8192) (R := 1024) (by decide) _ _ _ e r j).trans ?_
    have hi : (startsA m c : S16x1024x1.Idx → BitVec 32) (ix3 e r 0) = (m ((c.tc : Thread nD τ).loc main_arg0) : S16x1024.Idx → BitVec 32) (ix2 e r) := by
      refine (broadcastInDim_apply _ _ _ _ (ix2 e r) (by
        intro b
        match b with
        | ⟨0, _⟩ => rfl
        | ⟨1, _⟩ => rfl)).trans ?_
      exact index_read _ _ _ rfl (by omega)
    have ht := fun n => table_read (N := 8192) (m ((c.tc : Thread nD τ).loc main_arg2) : S8192x1024.Idx → BitVec 32) _ _
      (fun _ => rfl) (fun _ => rfl) concatenates_S8192x1024_S8192x1024_S8192x2048_d1 n j
    refine (ht _).trans ?_
    refine congrArg (fun n => row (fun k => (m ((c.tc : Thread nD τ).loc main_arg2) : S8192x1024.Idx → BitVec 32) (ix2 n k)) j) (Fin.ext ?_)
    show min ((startsA m c : S16x1024x1.Idx → BitVec 32) (ix3 e r 0)).toInt.toNat (8192 - 1) = _
    rw [hi, BitVec.toInt_eq_toNat_of_lt (by omega), Int.toNat_natCast]
    exact Nat.min_eq_left (by omega)
  have hG : ∀ f : Fin 2048, (gateA m c : S16x1024x2048.Idx → EReal) (ix3 e r f)
      = ∑ j, row (fun k => (m ((c.tc : Thread nD τ).loc main_arg2) : S8192x1024.Idx → BitVec 32)
            (ix2 ⟨((m ((c.tc : Thread nD τ).loc main_arg0) : S16x1024.Idx → BitVec 32) (ix2 e r)).toNat, hr⟩ k)) j
          * (m ((c.tc : Thread nD τ).loc main_arg6) : S16x2048x2048.Idx → EReal) (ix3 e j f) := fun f =>
    (StackMember.dotGeneral_stack_apply (φ₁ := .f32) (φ₂ := .f32) _ none (rowsA m c) (m ((c.tc : Thread nD τ).loc main_arg6) : FVec Ideal S16x2048x2048 .f32) e r f).trans (Finset.sum_congr rfl fun j _ => congrArg (· * _) (hX j))
  have hU : ∀ f : Fin 2048, (upA m c : S16x1024x2048.Idx → EReal) (ix3 e r f)
      = ∑ j, row (fun k => (m ((c.tc : Thread nD τ).loc main_arg2) : S8192x1024.Idx → BitVec 32)
            (ix2 ⟨((m ((c.tc : Thread nD τ).loc main_arg0) : S16x1024.Idx → BitVec 32) (ix2 e r)).toNat, hr⟩ k)) j
          * (m ((c.tc : Thread nD τ).loc main_arg7) : S16x2048x2048.Idx → EReal) (ix3 e j f) := fun f =>
    (StackMember.dotGeneral_stack_apply (φ₁ := .f32) (φ₂ := .f32) _ none (rowsA m c) (m ((c.tc : Thread nD τ).loc main_arg7) : FVec Ideal S16x2048x2048 .f32) e r f).trans (Finset.sum_congr rfl fun j _ => congrArg (· * _) (hX j))
  have hs : ∀ f : Fin 2048, (hiddenA m c : S16x1024x2048.Idx → EReal) (ix3 e r f)
      = (gateA m c : S16x1024x2048.Idx → EReal) (ix3 e r f)
          * Ideal.div (Ideal.ofBits .f32 0x3F800000#32) (Ideal.ofBits .f32 0x3F800000#32 + Ideal.exp (-(gateA m c : S16x1024x2048.Idx → EReal) (ix3 e r f)))
          * (upA m c : S16x1024x2048.Idx → EReal) (ix3 e r f) := fun f => rfl
  have hw : (broadcastInDim S16x1024x2048 ![0, 1, 2] bcast_S16x1024x1_S16x1024x2048_0_1_2 (broadcastInDim S16x1024x1 ![0, 1] bcast_S16x1024_S16x1024x1_0_1 (m ((c.tc : Thread nD τ).loc main_arg4))) : S16x1024x2048.Idx → EReal) (ix3 e r d)
      = (m ((c.tc : Thread nD τ).loc main_arg4) : S16x1024.Idx → EReal) (ix2 e r) :=
    (broadcastInDim_apply _ _ _ _ (ix3 e r (0 : Fin 1)) (by
      intro b
      match b with
      | ⟨0, _⟩ => rfl
      | ⟨1, _⟩ => rfl
      | ⟨2, _⟩ => rfl)).trans (broadcastInDim_apply _ _ _ _ (ix2 e r) (by
      intro b
      match b with
      | ⟨0, _⟩ => rfl
      | ⟨1, _⟩ => rfl))
  unfold ffn
  refine congrArg₂ (· * ·) ?_ hw
  refine (StackMember.dotGeneral_stack_apply (φ₁ := .f32) (φ₂ := .f32) _ none (hiddenA m c) (m ((c.tc : Thread nD τ).loc main_arg8) : FVec Ideal S16x2048x2048 .f32) e r d).trans (Finset.sum_congr rfl fun f _ => congrArg₂ (· * ·) ?_ rfl)
  refine (hs f).trans ?_
  rw [hG f, hU f, ofBits_one]
  rfl

/-- The start indices of the row gather. -/
def startsB (m : (ℓ : Loc nD τ sig) → Buf (Elt Ideal) ℓ) (c : Dev nD) : IVec S16x512x1 32 :=
  broadcastInDim S16x512x1 ![0, 1] bcast_S16x512_S16x512x1_0_1 (select (cmpi .slt (m ((c.tc : Thread nD τ).loc main_arg1)) (broadcastInDim S16x512 ![] bcast_S_S16x512 (constantI S_ 32 0#32))) (addi (m ((c.tc : Thread nD τ).loc main_arg1)) (broadcastInDim S16x512 ![] bcast_S_S16x512 (constantI S_ 32 4096#32))) (m ((c.tc : Thread nD τ).loc main_arg1)))

/-- The gathered rows, unpacked. -/
def rowsB (m : (ℓ : Loc nD τ sig) → Buf (Elt Ideal) ℓ) (c : Dev nD) : FVec Ideal S16x512x2048 .f32 :=
  Host.gather gather_S4096x2048_S16x512x1_S16x512x2048_2_0_n_n_0_2_12048 (concatenate S4096x2048 1 [⟨S4096x1024, (bitcastToFloat (F := Ideal) .f32 (Host.shli (m ((c.tc : Thread nD τ).loc main_arg3)) (broadcastInDim S4096x1024 ![] bcast_S_S4096x1024 (constantI S_ 32 16#32))))⟩, ⟨S4096x1024, (bitcastToFloat (F := Ideal) .f32 (andi (m ((c.tc : Thread nD τ).loc main_arg3)) (broadcastInDim S4096x1024 ![] bcast_S_S4096x1024 (constantI S_ 32 4294901760#32))))⟩] concatenates_S4096x1024_S4096x1024_S4096x2048_d1) (startsB m c)

/-- The gate product. -/
def gateB (m : (ℓ : Loc nD τ sig) → Buf (Elt Ideal) ℓ) (c : Dev nD) : FVec Ideal S16x512x2048 .f32 :=
  Host.dotGeneral (φ₁ := .f32) (φ₂ := .f32) dot_S16x512x2048_S16x2048x2048_S16x512x2048_2_1_1_2_0_0 none (rowsB m c) (m ((c.tc : Thread nD τ).loc main_arg6) : FVec Ideal S16x2048x2048 .f32)

/-- The up product. -/
def upB (m : (ℓ : Loc nD τ sig) → Buf (Elt Ideal) ℓ) (c : Dev nD) : FVec Ideal S16x512x2048 .f32 :=
  Host.dotGeneral (φ₁ := .f32) (φ₂ := .f32) dot_S16x512x2048_S16x2048x2048_S16x512x2048_2_1_1_2_0_0 none (rowsB m c) (m ((c.tc : Thread nD τ).loc main_arg7) : FVec Ideal S16x2048x2048 .f32)

/-- The hidden entries. -/
def hiddenB (m : (ℓ : Loc nD τ sig) → Buf (Elt Ideal) ℓ) (c : Dev nD) : FVec Ideal S16x512x2048 .f32 :=
  mulf (mulf (gateB m c) (Host.divf (broadcastInDim S16x512x2048 ![] bcast_S_S16x512x2048 (constant S_ .f32 0x3F800000#32)) (addf (broadcastInDim S16x512x2048 ![] bcast_S_S16x512x2048 (constant S_ .f32 0x3F800000#32)) (Host.exp (Host.negf (gateB m c)))))) (upB m c)

/-- The result, gated. -/
def outB (m : (ℓ : Loc nD τ sig) → Buf (Elt Ideal) ℓ) (c : Dev nD) : FVec Ideal S16x512x2048 .f32 :=
  mulf (Host.dotGeneral (φ₁ := .f32) (φ₂ := .f32) dot_S16x512x2048_S16x2048x2048_S16x512x2048_2_1_1_2_0_0 none (hiddenB m c) (m ((c.tc : Thread nD τ).loc main_arg8) : FVec Ideal S16x2048x2048 .f32)) (broadcastInDim S16x512x2048 ![0, 1, 2] bcast_S16x512x1_S16x512x2048_0_1_2 (broadcastInDim S16x512x1 ![0, 1] bcast_S16x512_S16x512x1_0_1 (m ((c.tc : Thread nD τ).loc main_arg5))))

/-- The second result at an entry, its index below the table's 4096 rows. -/
theorem resultB (m : (ℓ : Loc nD τ sig) → Buf (Elt Ideal) ℓ) (c : Dev nD) (e : Fin 16) (r : Fin 512) (d : Fin 2048)
    (hr : ((m ((c.tc : Thread nD τ).loc main_arg1) : S16x512.Idx → BitVec 32) (ix2 e r)).toNat < 4096) :
    (outB m c : S16x512x2048.Idx → EReal) (ix3 e r d)
      = ffn (row fun k => (m ((c.tc : Thread nD τ).loc main_arg3) : S4096x1024.Idx → BitVec 32)
            (ix2 ⟨((m ((c.tc : Thread nD τ).loc main_arg1) : S16x512.Idx → BitVec 32) (ix2 e r)).toNat, hr⟩ k))
          (fun j f => (m ((c.tc : Thread nD τ).loc main_arg6) : S16x2048x2048.Idx → EReal) (ix3 e j f))
          (fun j f => (m ((c.tc : Thread nD τ).loc main_arg7) : S16x2048x2048.Idx → EReal) (ix3 e j f))
          (fun f => (m ((c.tc : Thread nD τ).loc main_arg8) : S16x2048x2048.Idx → EReal) (ix3 e f d))
          ((m ((c.tc : Thread nD τ).loc main_arg5) : S16x512.Idx → EReal) (ix2 e r)) := by
  have hX : ∀ j : Fin 2048, (rowsB m c : S16x512x2048.Idx → EReal) (ix3 e r j)
      = row (fun k => (m ((c.tc : Thread nD τ).loc main_arg3) : S4096x1024.Idx → BitVec 32)
            (ix2 ⟨((m ((c.tc : Thread nD τ).loc main_arg1) : S16x512.Idx → BitVec 32) (ix2 e r)).toNat, hr⟩ k)) j := by
    intro j
    refine (gather_rows (N := 4096) (R := 512) (by decide) _ _ _ e r j).trans ?_
    have hi : (startsB m c : S16x512x1.Idx → BitVec 32) (ix3 e r 0) = (m ((c.tc : Thread nD τ).loc main_arg1) : S16x512.Idx → BitVec 32) (ix2 e r) := by
      refine (broadcastInDim_apply _ _ _ _ (ix2 e r) (by
        intro b
        match b with
        | ⟨0, _⟩ => rfl
        | ⟨1, _⟩ => rfl)).trans ?_
      exact index_read _ _ _ rfl (by omega)
    have ht := fun n => table_read (N := 4096) (m ((c.tc : Thread nD τ).loc main_arg3) : S4096x1024.Idx → BitVec 32) _ _
      (fun _ => rfl) (fun _ => rfl) concatenates_S4096x1024_S4096x1024_S4096x2048_d1 n j
    refine (ht _).trans ?_
    refine congrArg (fun n => row (fun k => (m ((c.tc : Thread nD τ).loc main_arg3) : S4096x1024.Idx → BitVec 32) (ix2 n k)) j) (Fin.ext ?_)
    show min ((startsB m c : S16x512x1.Idx → BitVec 32) (ix3 e r 0)).toInt.toNat (4096 - 1) = _
    rw [hi, BitVec.toInt_eq_toNat_of_lt (by omega), Int.toNat_natCast]
    exact Nat.min_eq_left (by omega)
  have hG : ∀ f : Fin 2048, (gateB m c : S16x512x2048.Idx → EReal) (ix3 e r f)
      = ∑ j, row (fun k => (m ((c.tc : Thread nD τ).loc main_arg3) : S4096x1024.Idx → BitVec 32)
            (ix2 ⟨((m ((c.tc : Thread nD τ).loc main_arg1) : S16x512.Idx → BitVec 32) (ix2 e r)).toNat, hr⟩ k)) j
          * (m ((c.tc : Thread nD τ).loc main_arg6) : S16x2048x2048.Idx → EReal) (ix3 e j f) := fun f =>
    (StackMember.dotGeneral_stack_apply (φ₁ := .f32) (φ₂ := .f32) _ none (rowsB m c) (m ((c.tc : Thread nD τ).loc main_arg6) : FVec Ideal S16x2048x2048 .f32) e r f).trans (Finset.sum_congr rfl fun j _ => congrArg (· * _) (hX j))
  have hU : ∀ f : Fin 2048, (upB m c : S16x512x2048.Idx → EReal) (ix3 e r f)
      = ∑ j, row (fun k => (m ((c.tc : Thread nD τ).loc main_arg3) : S4096x1024.Idx → BitVec 32)
            (ix2 ⟨((m ((c.tc : Thread nD τ).loc main_arg1) : S16x512.Idx → BitVec 32) (ix2 e r)).toNat, hr⟩ k)) j
          * (m ((c.tc : Thread nD τ).loc main_arg7) : S16x2048x2048.Idx → EReal) (ix3 e j f) := fun f =>
    (StackMember.dotGeneral_stack_apply (φ₁ := .f32) (φ₂ := .f32) _ none (rowsB m c) (m ((c.tc : Thread nD τ).loc main_arg7) : FVec Ideal S16x2048x2048 .f32) e r f).trans (Finset.sum_congr rfl fun j _ => congrArg (· * _) (hX j))
  have hs : ∀ f : Fin 2048, (hiddenB m c : S16x512x2048.Idx → EReal) (ix3 e r f)
      = (gateB m c : S16x512x2048.Idx → EReal) (ix3 e r f)
          * Ideal.div (Ideal.ofBits .f32 0x3F800000#32) (Ideal.ofBits .f32 0x3F800000#32 + Ideal.exp (-(gateB m c : S16x512x2048.Idx → EReal) (ix3 e r f)))
          * (upB m c : S16x512x2048.Idx → EReal) (ix3 e r f) := fun f => rfl
  have hw : (broadcastInDim S16x512x2048 ![0, 1, 2] bcast_S16x512x1_S16x512x2048_0_1_2 (broadcastInDim S16x512x1 ![0, 1] bcast_S16x512_S16x512x1_0_1 (m ((c.tc : Thread nD τ).loc main_arg5))) : S16x512x2048.Idx → EReal) (ix3 e r d)
      = (m ((c.tc : Thread nD τ).loc main_arg5) : S16x512.Idx → EReal) (ix2 e r) :=
    (broadcastInDim_apply _ _ _ _ (ix3 e r (0 : Fin 1)) (by
      intro b
      match b with
      | ⟨0, _⟩ => rfl
      | ⟨1, _⟩ => rfl
      | ⟨2, _⟩ => rfl)).trans (broadcastInDim_apply _ _ _ _ (ix2 e r) (by
      intro b
      match b with
      | ⟨0, _⟩ => rfl
      | ⟨1, _⟩ => rfl))
  unfold ffn
  refine congrArg₂ (· * ·) ?_ hw
  refine (StackMember.dotGeneral_stack_apply (φ₁ := .f32) (φ₂ := .f32) _ none (hiddenB m c) (m ((c.tc : Thread nD τ).loc main_arg8) : FVec Ideal S16x2048x2048 .f32) e r d).trans (Finset.sum_congr rfl fun f _ => congrArg₂ (· * ·) ?_ rfl)
  refine (hs f).trans ?_
  rw [hG f, hU f, ofBits_one]
  rfl

end Cert.ReferenceIdeal.Hand

end
-- ==== Proof.Values.lean ====
/-
  THE VALUE CLAIM: the two result arrays the pipeline leaves are the feed-forward of each gathered row, which the reference's are.
-/
module

public import proofs.«01_k».proof.Defs
public import proofs.«01_k».proof.Proof.Frames
public import proofs.«01_k».proof.Proof.KerRead
public import proofs.«01_k».proof.Proof.RefRead

@[expose] public section

noncomputable section

namespace Cert.KernelIdeal.Hand

open Cert.KernelIdeal Cert.KernelIdeal.Gen Cert.Ffn
open Idealize.ShloMosaic Idealize.ShloMosaic.TcCoe Idealize.ShloMosaic.Tactic
open Idealize.ShloMosaic.ValueIdx
open Idealize.SL Idealize.SL.RA Idealize.SL.BI Idealize.SL.Sem

variable (m : (ℓ : Loc nD τ sig) → Buf (Elt Ideal) ℓ) (c : Dev nD)

/-- The gates of the first group. -/
theorem gates_left (e : Fin 16) (r : Fin 1024) : (V m c main_v3 : S16x1536x1.Idx → EReal) (ix3 e ⟨r.val, by omega⟩ 0) = gtA m c (ix2 e r) := by
  refine (congrFun (gates_eq m c) _).trans ((broadcastInDim_apply _ _ _ _ (ix2 e (⟨r.val, by omega⟩ : Fin 1536)) (by
    intro b
    match b with
    | ⟨0, _⟩ => rfl
    | ⟨1, _⟩ => rfl)).trans (join_left _ _ e ⟨r.val, by omega⟩ r.isLt))

/-- The gates of the second. -/
theorem gates_right (e : Fin 16) (r : Fin 512) : (V m c main_v3 : S16x1536x1.Idx → EReal) (ix3 e ⟨1024 + r.val, by omega⟩ 0) = gtB m c (ix2 e r) := by
  refine (congrFun (gates_eq m c) _).trans ((broadcastInDim_apply _ _ _ _ (ix2 e (⟨1024 + r.val, by omega⟩ : Fin 1536)) (by
    intro b
    match b with
    | ⟨0, _⟩ => rfl
    | ⟨1, _⟩ => rfl)).trans ((join_right _ _ e ⟨1024 + r.val, by omega⟩ (by show ¬1024 + r.val < 1024; omega)).trans ?_))
  exact congrArg (fun k => gtB m c (ix2 e k)) (Fin.ext (by show 1024 + r.val - 1024 = r.val; omega))

/-- At the points of the projection the block of result 1 is written back. -/
theorem flush4_true (t : Fin grid0.N) (hs : 4 ≤ t.val % 8) : ((cfgA m).win 4).flush t = true := by
  have h0 := (coords_val t).1
  have h1 := (coords_val t).2
  have hN : t.val < 128 := lt_of_lt_of_eq t.isLt N_0
  unfold Pipeline.Window.flush
  rw [Bool.and_eq_true]
  refine ⟨rfl, ?_⟩
  rw [Bool.or_eq_true]
  by_cases hlast : t.val + 1 = 128
  · exact Or.inl (decide_eq_true (hlast.trans N_0.symm))
  · right
    have hl : t.val + 1 < grid0.N := lt_of_lt_of_eq (by omega) N_0.symm
    have e0 := (coords_val ⟨t.val + 1, hl⟩).1
    have e1 := (coords_val ⟨t.val + 1, hl⟩).2
    dsimp only at e0 e1
    refine decide_eq_true ⟨hl, fun h => ?_⟩
    have h' := (tr6_eq (grid0.coords ⟨t.val + 1, hl⟩)).symm.trans (h.trans (tr6_eq (grid0.coords t)))
    have a0 : (grid0.coords ⟨t.val + 1, hl⟩ 0).val = (grid0.coords t 0).val := congrFun h' 0
    have a2 : (grid0.coords ⟨t.val + 1, hl⟩ 1).val - 4 = (grid0.coords t 1).val - 4 := congrFun h' 2
    omega

/-- Result 1 at the run's end is any array whose blocks are the projection's. -/
theorem arr4_eq (R : S16x1024x2048.Idx → EReal)
    (hR : ∀ (e q : ℕ) (he : e < 16) (hq : q < 4) (r : Fin 1024) (d : Fin 512), R (ix3 ⟨e, he⟩ r ⟨512 * q + d.val, by omega⟩)
      = OutA (F := Ideal) (V m c main_v1) (V m c main_arg2) (V m c main_arg3) (V m c main_arg6) (V m c main_arg7) (V m c main_arg8) (V m c main_v3) e (4 + q) (ix3 0 r d)) :
    (dats m 0 c).arrAt 4 (cfgA m).N = (R : Buf (Elt Ideal) _) := by
  have hix : ∀ t, ((cfgA m).win 4).index t = ![(grid0.coords t 0).val, 0, (grid0.coords t 1).val - 4] := fun t => tr6_eq (grid0.coords t)
  refine (dats m 0 c).arrAt_eq_of_cover 4 _ (fun t hf => ?_) (fun (i : S16x1024x2048.Idx) => ?_)
  · have h0 := (coords_val t).1
    have h1 := (coords_val t).2
    have hN : t.val < 128 := lt_of_lt_of_eq t.isLt N_0
    have hs : 4 ≤ t.val % 8 := by
      by_contra hlt
      rw [flush4_false m t (by omega)] at hf
      exact Bool.noConfusion hf
    have key : ∀ y : S1x1024x512.Idx, OutA (F := Ideal) (V m c main_v1) (V m c main_arg2) (V m c main_arg3) (V m c main_arg6) (V m c main_arg7) (V m c main_arg8) (V m c main_v3) (t.val / 8) (t.val % 8) y
        = R ((((cfgA m).win 4).rect t).emb y) := by
      intro y
      have hy0 : (y 0).val < 1 := (y 0).isLt
      have hr := hR (t.val / 8) (t.val % 8 - 4) (by omega) (by omega) (y 1) (y 2)
      rw [show 4 + (t.val % 8 - 4) = t.val % 8 by omega] at hr
      have ey : (ix3 0 (y 1) (y 2) : S1x1024x512.Idx) = y := by
        funext a; apply Fin.ext
        match a with
        | ⟨0, _⟩ => show 0 = (y 0).val; omega
        | ⟨1, _⟩ => rfl
        | ⟨2, _⟩ => rfl
      rw [ey] at hr
      refine hr.symm.trans (congrArg R (funext fun (a : Fin 3) => Fin.ext (Eq.symm ?_)))
      refine (((cfgA m).win 4).rect_emb_val t y a).trans ?_
      rw [hix]
      have ha : a = 0 ∨ a = 1 ∨ a = 2 := by revert a; exact (by decide : ∀ a : Fin 3, a = 0 ∨ a = 1 ∨ a = 2)
      rcases ha with rfl | rfl | rfl
      · show (grid0.coords t 0).val * 1 + (y 0).val = t.val / 8
        omega
      · show 0 * 1024 + (y 1).val = (y 1).val
        omega
      · show ((grid0.coords t 1).val - 4) * 512 + (y 2).val = 512 * (t.val % 8 - 4) + (y 2).val
        omega
    refine funext fun y => (key y).trans (Eq.symm ?_)
    exact View.read_apply (Val := Elt Ideal) (v := (((cfgA m).win 4).blk t).view) R y
  · have hi0 : (i 0).val < 16 := (i 0).isLt
    have hi1 : (i 1).val < 1024 := (i 1).isLt
    have hi2 : (i 2).val < 2048 := (i 2).isLt
    have hlt : 8 * (i 0).val + 4 + (i 2).val / 512 < grid0.N := lt_of_lt_of_eq (by omega) N_0.symm
    have h0 := (coords_val ⟨_, hlt⟩).1
    have h1 := (coords_val ⟨_, hlt⟩).2
    dsimp only at h0 h1
    refine ⟨⟨_, hlt⟩, flush4_true m ⟨_, hlt⟩ (by show 4 ≤ (8 * (i 0).val + 4 + (i 2).val / 512) % 8; omega), ?_⟩
    have key : (((cfgA m).win 4).rect ⟨_, hlt⟩).emb (ix3 (0 : Fin 1) (⟨(i 1).val, hi1⟩ : Fin 1024) (⟨(i 2).val % 512, by omega⟩ : Fin 512)) = i := by
      refine funext fun (a : Fin 3) => Fin.ext ?_
      refine (((cfgA m).win 4).rect_emb_val ⟨_, hlt⟩ _ a).trans ?_
      rw [hix]
      have ha : a = 0 ∨ a = 1 ∨ a = 2 := by revert a; exact (by decide : ∀ a : Fin 3, a = 0 ∨ a = 1 ∨ a = 2)
      rcases ha with rfl | rfl | rfl
      · show (grid0.coords ⟨_, hlt⟩ 0).val * 1 + 0 = (i 0).val
        omega
      · show 0 * 1024 + (i 1).val = (i 1).val
        omega
      · show ((grid0.coords ⟨_, hlt⟩ 1).val - 4) * 512 + (i 2).val % 512 = (i 2).val
        omega
    have hm := (((cfgA m).win 4).blk ⟨_, hlt⟩).view.emb_mem_set (ix3 (0 : Fin 1) (⟨(i 1).val, hi1⟩ : Fin 1024) (⟨(i 2).val % 512, by omega⟩ : Fin 512))
    exact (congrArg (· ∈ _) key).mp hm

/-- The reference's result 1 at an entry, from the kernel's arguments. -/
theorem refA_read (m' : (ℓ : Loc Cert.ReferenceIdeal.nD Cert.ReferenceIdeal.τ Cert.ReferenceIdeal.sig) → Buf (Elt Ideal) ℓ)
    (a0 : S16x1024.Idx → BitVec 32) (a2 : S8192x1024.Idx → BitVec 32) (a4 : S16x1024.Idx → EReal) (a6 a7 a8 : S16x2048x2048.Idx → EReal)
    (h0 : m' ((c.tc : Thread Cert.ReferenceIdeal.nD Cert.ReferenceIdeal.τ).loc Cert.ReferenceIdeal.main_arg0) = a0)
    (h2 : m' ((c.tc : Thread Cert.ReferenceIdeal.nD Cert.ReferenceIdeal.τ).loc Cert.ReferenceIdeal.main_arg2) = a2)
    (h4 : m' ((c.tc : Thread Cert.ReferenceIdeal.nD Cert.ReferenceIdeal.τ).loc Cert.ReferenceIdeal.main_arg4) = a4)
    (h6 : m' ((c.tc : Thread Cert.ReferenceIdeal.nD Cert.ReferenceIdeal.τ).loc Cert.ReferenceIdeal.main_arg6) = a6)
    (h7 : m' ((c.tc : Thread Cert.ReferenceIdeal.nD Cert.ReferenceIdeal.τ).loc Cert.ReferenceIdeal.main_arg7) = a7)
    (h8 : m' ((c.tc : Thread Cert.ReferenceIdeal.nD Cert.ReferenceIdeal.τ).loc Cert.ReferenceIdeal.main_arg8) = a8)
    (e : Fin 16) (r : Fin 1024) (d : Fin 2048) (hr : (a0 (ix2 e r)).toNat < 8192) :
    (Cert.ReferenceIdeal.Hand.outA m' c : S16x1024x2048.Idx → EReal) (ix3 e r d)
      = ffn (row fun k => a2 (ix2 ⟨(a0 (ix2 e r)).toNat, hr⟩ k)) (fun j f => a6 (ix3 e j f)) (fun j f => a7 (ix3 e j f)) (fun f => a8 (ix3 e f d)) (a4 (ix2 e r)) := by
  subst h0 h2 h4 h6 h7 h8
  exact Cert.ReferenceIdeal.Hand.resultA m' c e r d hr

/-- Result 1: what the kernel leaves is the reference's array. -/
theorem valueA (m' : (ℓ : Loc Cert.ReferenceIdeal.nD Cert.ReferenceIdeal.τ Cert.ReferenceIdeal.sig) → Buf (Elt Ideal) ℓ)
    (hx : ∀ i, (ixA m c i).toNat < 8192)
    (h0 : m' ((c.tc : Thread Cert.ReferenceIdeal.nD Cert.ReferenceIdeal.τ).loc Cert.ReferenceIdeal.main_arg0) = m ((c.tc : Thread nD τ).loc main_arg0))
    (h2 : m' ((c.tc : Thread Cert.ReferenceIdeal.nD Cert.ReferenceIdeal.τ).loc Cert.ReferenceIdeal.main_arg2) = m ((c.tc : Thread nD τ).loc main_arg2))
    (h4 : m' ((c.tc : Thread Cert.ReferenceIdeal.nD Cert.ReferenceIdeal.τ).loc Cert.ReferenceIdeal.main_arg4) = m ((c.tc : Thread nD τ).loc main_arg4))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8)) :
    (dats m 0 c).arrAt 4 (cfgA m).N = (Cert.ReferenceIdeal.Hand.outA m' c : S16x1024x2048.Idx → EReal) := by
  refine arr4_eq m c _ fun e q he hq r d => ?_
  have hrow := hx (ix2 ⟨e, he⟩ r)
  refine (refA_read c m' _ _ _ _ _ _ h0 h2 h4 h6 h7 h8 ⟨e, he⟩ r _ hrow).trans (Eq.trans ?_ (OutA_read (V m c main_v1) (V m c main_arg2) (V m c main_arg3) (V m c main_arg6) (V m c main_arg7) (V m c main_arg8) (V m c main_v3) e q he hq r d).symm)
  have hg := gates_left m c ⟨e, he⟩ r
  have ht := table_left m c ⟨e, he⟩ r
  dsimp only at ht
  rw [hg, ht]
  refine congrArg (fun x => ffn (row x) _ _ _ _) (funext fun k => ?_)
  unfold rowA
  rw [dif_pos hrow]
  rfl

/-- At the points of the projection the block of result 2 is written back. -/
theorem flush5_true (t : Fin grid0.N) (hs : 4 ≤ t.val % 8) : ((cfgA m).win 5).flush t = true := by
  have h0 := (coords_val t).1
  have h1 := (coords_val t).2
  have hN : t.val < 128 := lt_of_lt_of_eq t.isLt N_0
  unfold Pipeline.Window.flush
  rw [Bool.and_eq_true]
  refine ⟨rfl, ?_⟩
  rw [Bool.or_eq_true]
  by_cases hlast : t.val + 1 = 128
  · exact Or.inl (decide_eq_true (hlast.trans N_0.symm))
  · right
    have hl : t.val + 1 < grid0.N := lt_of_lt_of_eq (by omega) N_0.symm
    have e0 := (coords_val ⟨t.val + 1, hl⟩).1
    have e1 := (coords_val ⟨t.val + 1, hl⟩).2
    dsimp only at e0 e1
    refine decide_eq_true ⟨hl, fun h => ?_⟩
    have h' := (tr7_eq (grid0.coords ⟨t.val + 1, hl⟩)).symm.trans (h.trans (tr7_eq (grid0.coords t)))
    have a0 : (grid0.coords ⟨t.val + 1, hl⟩ 0).val = (grid0.coords t 0).val := congrFun h' 0
    have a2 : (grid0.coords ⟨t.val + 1, hl⟩ 1).val - 4 = (grid0.coords t 1).val - 4 := congrFun h' 2
    omega

/-- Result 2 at the run's end is any array whose blocks are the projection's. -/
theorem arr5_eq (R : S16x512x2048.Idx → EReal)
    (hR : ∀ (e q : ℕ) (he : e < 16) (hq : q < 4) (r : Fin 512) (d : Fin 512), R (ix3 ⟨e, he⟩ r ⟨512 * q + d.val, by omega⟩)
      = OutB (F := Ideal) (V m c main_v1) (V m c main_arg2) (V m c main_arg3) (V m c main_arg6) (V m c main_arg7) (V m c main_arg8) (V m c main_v3) e (4 + q) (ix3 0 r d)) :
    (dats m 0 c).arrAt 5 (cfgA m).N = (R : Buf (Elt Ideal) _) := by
  have hix : ∀ t, ((cfgA m).win 5).index t = ![(grid0.coords t 0).val, 0, (grid0.coords t 1).val - 4] := fun t => tr7_eq (grid0.coords t)
  refine (dats m 0 c).arrAt_eq_of_cover 5 _ (fun t hf => ?_) (fun (i : S16x512x2048.Idx) => ?_)
  · have h0 := (coords_val t).1
    have h1 := (coords_val t).2
    have hN : t.val < 128 := lt_of_lt_of_eq t.isLt N_0
    have hs : 4 ≤ t.val % 8 := by
      by_contra hlt
      rw [flush5_false m t (by omega)] at hf
      exact Bool.noConfusion hf
    have key : ∀ y : S1x512x512.Idx, OutB (F := Ideal) (V m c main_v1) (V m c main_arg2) (V m c main_arg3) (V m c main_arg6) (V m c main_arg7) (V m c main_arg8) (V m c main_v3) (t.val / 8) (t.val % 8) y
        = R ((((cfgA m).win 5).rect t).emb y) := by
      intro y
      have hy0 : (y 0).val < 1 := (y 0).isLt
      have hr := hR (t.val / 8) (t.val % 8 - 4) (by omega) (by omega) (y 1) (y 2)
      rw [show 4 + (t.val % 8 - 4) = t.val % 8 by omega] at hr
      have ey : (ix3 0 (y 1) (y 2) : S1x512x512.Idx) = y := by
        funext a; apply Fin.ext
        match a with
        | ⟨0, _⟩ => show 0 = (y 0).val; omega
        | ⟨1, _⟩ => rfl
        | ⟨2, _⟩ => rfl
      rw [ey] at hr
      refine hr.symm.trans (congrArg R (funext fun (a : Fin 3) => Fin.ext (Eq.symm ?_)))
      refine (((cfgA m).win 5).rect_emb_val t y a).trans ?_
      rw [hix]
      have ha : a = 0 ∨ a = 1 ∨ a = 2 := by revert a; exact (by decide : ∀ a : Fin 3, a = 0 ∨ a = 1 ∨ a = 2)
      rcases ha with rfl | rfl | rfl
      · show (grid0.coords t 0).val * 1 + (y 0).val = t.val / 8
        omega
      · show 0 * 512 + (y 1).val = (y 1).val
        omega
      · show ((grid0.coords t 1).val - 4) * 512 + (y 2).val = 512 * (t.val % 8 - 4) + (y 2).val
        omega
    refine funext fun y => (key y).trans (Eq.symm ?_)
    exact View.read_apply (Val := Elt Ideal) (v := (((cfgA m).win 5).blk t).view) R y
  · have hi0 : (i 0).val < 16 := (i 0).isLt
    have hi1 : (i 1).val < 512 := (i 1).isLt
    have hi2 : (i 2).val < 2048 := (i 2).isLt
    have hlt : 8 * (i 0).val + 4 + (i 2).val / 512 < grid0.N := lt_of_lt_of_eq (by omega) N_0.symm
    have h0 := (coords_val ⟨_, hlt⟩).1
    have h1 := (coords_val ⟨_, hlt⟩).2
    dsimp only at h0 h1
    refine ⟨⟨_, hlt⟩, flush5_true m ⟨_, hlt⟩ (by show 4 ≤ (8 * (i 0).val + 4 + (i 2).val / 512) % 8; omega), ?_⟩
    have key : (((cfgA m).win 5).rect ⟨_, hlt⟩).emb (ix3 (0 : Fin 1) (⟨(i 1).val, hi1⟩ : Fin 512) (⟨(i 2).val % 512, by omega⟩ : Fin 512)) = i := by
      refine funext fun (a : Fin 3) => Fin.ext ?_
      refine (((cfgA m).win 5).rect_emb_val ⟨_, hlt⟩ _ a).trans ?_
      rw [hix]
      have ha : a = 0 ∨ a = 1 ∨ a = 2 := by revert a; exact (by decide : ∀ a : Fin 3, a = 0 ∨ a = 1 ∨ a = 2)
      rcases ha with rfl | rfl | rfl
      · show (grid0.coords ⟨_, hlt⟩ 0).val * 1 + 0 = (i 0).val
        omega
      · show 0 * 512 + (i 1).val = (i 1).val
        omega
      · show ((grid0.coords ⟨_, hlt⟩ 1).val - 4) * 512 + (i 2).val % 512 = (i 2).val
        omega
    have hm := (((cfgA m).win 5).blk ⟨_, hlt⟩).view.emb_mem_set (ix3 (0 : Fin 1) (⟨(i 1).val, hi1⟩ : Fin 512) (⟨(i 2).val % 512, by omega⟩ : Fin 512))
    exact (congrArg (· ∈ _) key).mp hm

/-- The reference's result 2 at an entry, from the kernel's arguments. -/
theorem refB_read (m' : (ℓ : Loc Cert.ReferenceIdeal.nD Cert.ReferenceIdeal.τ Cert.ReferenceIdeal.sig) → Buf (Elt Ideal) ℓ)
    (a0 : S16x512.Idx → BitVec 32) (a2 : S4096x1024.Idx → BitVec 32) (a4 : S16x512.Idx → EReal) (a6 a7 a8 : S16x2048x2048.Idx → EReal)
    (h0 : m' ((c.tc : Thread Cert.ReferenceIdeal.nD Cert.ReferenceIdeal.τ).loc Cert.ReferenceIdeal.main_arg1) = a0)
    (h2 : m' ((c.tc : Thread Cert.ReferenceIdeal.nD Cert.ReferenceIdeal.τ).loc Cert.ReferenceIdeal.main_arg3) = a2)
    (h4 : m' ((c.tc : Thread Cert.ReferenceIdeal.nD Cert.ReferenceIdeal.τ).loc Cert.ReferenceIdeal.main_arg5) = a4)
    (h6 : m' ((c.tc : Thread Cert.ReferenceIdeal.nD Cert.ReferenceIdeal.τ).loc Cert.ReferenceIdeal.main_arg6) = a6)
    (h7 : m' ((c.tc : Thread Cert.ReferenceIdeal.nD Cert.ReferenceIdeal.τ).loc Cert.ReferenceIdeal.main_arg7) = a7)
    (h8 : m' ((c.tc : Thread Cert.ReferenceIdeal.nD Cert.ReferenceIdeal.τ).loc Cert.ReferenceIdeal.main_arg8) = a8)
    (e : Fin 16) (r : Fin 512) (d : Fin 2048) (hr : (a0 (ix2 e r)).toNat < 4096) :
    (Cert.ReferenceIdeal.Hand.outB m' c : S16x512x2048.Idx → EReal) (ix3 e r d)
      = ffn (row fun k => a2 (ix2 ⟨(a0 (ix2 e r)).toNat, hr⟩ k)) (fun j f => a6 (ix3 e j f)) (fun j f => a7 (ix3 e j f)) (fun f => a8 (ix3 e f d)) (a4 (ix2 e r)) := by
  subst h0 h2 h4 h6 h7 h8
  exact Cert.ReferenceIdeal.Hand.resultB m' c e r d hr

/-- Result 2: what the kernel leaves is the reference's array. -/
theorem valueB (m' : (ℓ : Loc Cert.ReferenceIdeal.nD Cert.ReferenceIdeal.τ Cert.ReferenceIdeal.sig) → Buf (Elt Ideal) ℓ)
    (hx : ∀ i, (ixB m c i).toNat < 4096)
    (h0 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8)) :
    (dats m 0 c).arrAt 5 (cfgA m).N = (Cert.ReferenceIdeal.Hand.outB m' c : S16x512x2048.Idx → EReal) := by
  refine arr5_eq m c _ fun e q he hq r d => ?_
  have hrow := hx (ix2 ⟨e, he⟩ r)
  refine (refB_read c m' _ _ _ _ _ _ h0 h2 h4 h6 h7 h8 ⟨e, he⟩ r _ hrow).trans (Eq.trans ?_ (OutB_read (V m c main_v1) (V m c main_arg2) (V m c main_arg3) (V m c main_arg6) (V m c main_arg7) (V m c main_arg8) (V m c main_v3) e q he hq r d).symm)
  have hg := gates_right m c ⟨e, he⟩ r
  have ht := table_right m c ⟨e, he⟩ r
  dsimp only at ht
  rw [hg, ht]
  refine congrArg (fun x => ffn (row x) _ _ _ _) (funext fun k => ?_)
  unfold rowB
  rw [dif_pos hrow]
  rfl

/-- The kernel's two results are the reference's, whenever the row indices are in range. -/
theorem algebraic : Cert.algebraic_KernelIdeal_ReferenceIdeal := by
  intro m g m' g' hpre hargs
  refine ⟨fun c => Cert.ReferenceIdeal.Hand.outA m' c, fun c => Cert.ReferenceIdeal.Hand.outB m' c, ?_, ?_⟩
  · refine (θ_run defs _ _).mono (fun r h c => ?_) (run_main m g (inRange_ideal m hpre))
    have hw := words_of_pre _ _ _ _ _ _ _ _ _ (hpre c)
    obtain ⟨h0, h1, h2, h3, h4, h5, h6, h7, h8⟩ := hargs c
    exact ⟨((h.1 c).1 4).trans (valueA m c m' hw.1 h0 h2 h4 h6 h7 h8), ((h.1 c).1 5).trans (valueB m c m' hw.2 h1 h3 h5 h6 h7 h8),
      (h.1 c).2 main_arg0 (Pipeline.mem_restRefs_of main_arg0 (by decide) (by exact (by decide : ∀ w : Fin 6, (spec0 w).arr.view.ref ≠ main_arg0))),
      (h.1 c).2 main_arg1 (Pipeline.mem_restRefs_of main_arg1 (by decide) (by exact (by decide : ∀ w : Fin 6, (spec0 w).arr.view.ref ≠ main_arg1))),
      (h.1 c).2 main_arg2 (Pipeline.mem_restRefs_of main_arg2 (by decide) (by exact (by decide : ∀ w : Fin 6, (spec0 w).arr.view.ref ≠ main_arg2))),
      (h.1 c).2 main_arg3 (Pipeline.mem_restRefs_of main_arg3 (by decide) (by exact (by decide : ∀ w : Fin 6, (spec0 w).arr.view.ref ≠ main_arg3))),
      (h.1 c).2 main_arg4 (Pipeline.mem_restRefs_of main_arg4 (by decide) (by exact (by decide : ∀ w : Fin 6, (spec0 w).arr.view.ref ≠ main_arg4))),
      (h.1 c).2 main_arg5 (Pipeline.mem_restRefs_of main_arg5 (by decide) (by exact (by decide : ∀ w : Fin 6, (spec0 w).arr.view.ref ≠ main_arg5))),
      ((h.1 c).1 1).trans ((dats m 0 c).arrAt_in 1 rfl _),
      ((h.1 c).1 2).trans ((dats m 0 c).arrAt_in 2 rfl _),
      ((h.1 c).1 3).trans ((dats m 0 c).arrAt_in 3 rfl _)⟩
  · exact (θ_run Cert.ReferenceIdeal.defs _ _).mono (fun r h c => ⟨(h c).1, (h c).2.1, (h c).2.2⟩) (Cert.ReferenceIdeal.Value.run (F := Ideal) m' g')

end Cert.KernelIdeal.Hand

end
-- ==== Proof.CtxFrame.lean ====
/-
  THE CONTEXT ATTENTION'S REFERENCE: host lines alone, no semaphore declared.
-/
module

public import proofs.«01_k».proof.Defs
public import proofs.«01_k».proof.Proof.Gen.Reference2Ideal
public import proofs.«01_k».proof.Proof.Gen.Reference2Ideal.Run
public import Idealize.ShloMosaic.Lib.Quiescent

@[expose] public section

noncomputable section

namespace Cert.Kernel2Ideal.Hand

open Idealize.ShloMosaic Idealize.ShloMosaic.TcCoe Idealize.SL.Sem

/-- The reference of the context attention runs, its arguments unchanged; it declares no semaphore. -/
theorem frame_reference : Cert.quiescent_Reference2Ideal := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

end Cert.Kernel2Ideal.Hand

end
-- ==== Proof.CtxCaches.lean ====
/-
  THE CONTEXT ATTENTION'S CACHES: the keys and the values of every head, as the kernel leaves them and as the reference has them.
-/
module

public import proofs.«01_k».proof.Proof.Gen.Kernel2Ideal.Frame
public import proofs.«01_k».proof.Proof.Gen.Reference2Ideal
public import Idealize.ShloMosaic.Lib.Pipeline.ValueKit

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen

/-- The keys of every head: columns 1024 … 2047, by batch, head, row and depth. -/
def REFK (X : FVec Ideal Cert.Reference2Ideal.S8192x5120 .f32) : FVec Ideal Cert.Reference2Ideal.S32x1x16x256x64 .f32 :=
  broadcastInDim Cert.Reference2Ideal.S32x1x16x256x64 ![0, 2, 3, 4] Cert.Reference2Ideal.Gen.bcast_S32x16x256x64_S32x1x16x256x64_0_2_3_4
    (transpose Cert.Reference2Ideal.S32x16x256x64 [0, 2, 1, 3]
      (shapeCast Cert.Reference2Ideal.S32x256x16x64
        (extractStridedSlice Cert.Reference2Ideal.S8192x1024 ![0, 1024] X Cert.Reference2Ideal.Gen.slices_S8192x5120_S8192x1024_0_1024)
        Cert.Reference2Ideal.Gen.shapeCasts_S8192x1024_S32x256x16x64)
      Cert.Reference2Ideal.Gen.transposes_S32x256x16x64_S32x16x256x64_0_2_1_3)

/-- The values of every head: columns 2048 … 3071, likewise. -/
def REFV (X : FVec Ideal Cert.Reference2Ideal.S8192x5120 .f32) : FVec Ideal Cert.Reference2Ideal.S32x1x16x256x64 .f32 :=
  broadcastInDim Cert.Reference2Ideal.S32x1x16x256x64 ![0, 2, 3, 4] Cert.Reference2Ideal.Gen.bcast_S32x16x256x64_S32x1x16x256x64_0_2_3_4
    (transpose Cert.Reference2Ideal.S32x16x256x64 [0, 2, 1, 3]
      (shapeCast Cert.Reference2Ideal.S32x256x16x64
        (extractStridedSlice Cert.Reference2Ideal.S8192x1024 ![0, 2048] X Cert.Reference2Ideal.Gen.slices_S8192x5120_S8192x1024_0_2048)
        Cert.Reference2Ideal.Gen.shapeCasts_S8192x1024_S32x256x16x64)
      Cert.Reference2Ideal.Gen.transposes_S32x256x16x64_S32x16x256x64_0_2_1_3)

/-- Where each window's block lies. -/
theorem idx : ∀ t : Fin cfg0.N, win0_0.index t = ![t.val, 0] ∧ win0_1.index t = ![t.val, 1] ∧ win0_2.index t = ![t.val, 2]
    ∧ win0_3.index t = ![t.val, 0] ∧ win0_4.index t = ![t.val, 0, 0, 0, 0] ∧ win0_5.index t = ![t.val, 0, 0, 0, 0] :=
  (by decide +kernel : ∀ t : Fin grid0.N, _)

variable (m : (ℓ : Loc nD τ sig) → Buf (Elt Ideal) ℓ) (c : Dev nD)

/-- A cell of the key cache. -/
theorem coreK (t : Fin cfg0.N) (y : S1x1x16x256x64.Idx) (i : S256x1024.Idx) (j : S32x1x16x256x64.Idx)
    (hi0 : (i 0 : ℕ) = y 3) (hi1 : (i 1 : ℕ) = y 2 * 64 + y 4)
    (hj0 : (j 0 : ℕ) = t.val) (hj2 : (j 2 : ℕ) = y 2) (hj3 : (j 3 : ℕ) = y 3) (hj4 : (j 4 : ℕ) = y 4) :
    (show FVec Ideal S256x1024 .f32 from iblk m c 1 t) i = REFK (m ((c : Thread nD τ).loc main_arg0)) j := by
  pointwise [REFK]
  blk_ext [iblk, V, idx t]

/-- The block's key cache at a cell. -/
theorem pointK (t : Fin cfg0.N) (y : S1x1x16x256x64.Idx) :
    out0_4 (F := Ideal) (iblk m c 0 t) (iblk m c 1 t) (iblk m c 2 t) y
      = REFK (m ((c : Thread nD τ).loc main_arg0)) (((View.whole main_v0_1).slice (win0_4.rect t)).emb y) := by
  obtain_idx i : S256x1024 := [(y 3 : ℕ), (y 2 : ℕ) * 64 + (y 4 : ℕ)] with hi
  refine Eq.trans (b := (show FVec Ideal S256x1024 .f32 from iblk m c 1 t) i) ?_ (coreK m c t y i _ hi0 hi1 ?_ ?_ ?_ ?_)
  · unfold_out out0_4
    canon_tiles x h
    all_goals (open_payloads; pointwise; blk_ext)
  all_goals (blk_simp [idx t] <;> try omega)

/-- The key cache of the whole array. -/
theorem final4 : (dats m 0 c).arrAt 4 (cfgs 0).N = REFK (m ((c : Thread nD τ).loc main_arg0)) := by
  refine (dats m 0 c).arrAt_eq_of_covers 4 _ (by decide +kernel) fun t _ y => ?_
  blk_simp
  rw [after0_4]
  exact pointK m c t y

/-- A cell of the value cache. -/
theorem coreV (t : Fin cfg0.N) (y : S1x1x16x256x64.Idx) (i : S256x1024.Idx) (j : S32x1x16x256x64.Idx)
    (hi0 : (i 0 : ℕ) = y 3) (hi1 : (i 1 : ℕ) = y 2 * 64 + y 4)
    (hj0 : (j 0 : ℕ) = t.val) (hj2 : (j 2 : ℕ) = y 2) (hj3 : (j 3 : ℕ) = y 3) (hj4 : (j 4 : ℕ) = y 4) :
    (show FVec Ideal S256x1024 .f32 from iblk m c 2 t) i = REFV (m ((c : Thread nD τ).loc main_arg0)) j := by
  pointwise [REFV]
  blk_ext [iblk, V, idx t]

/-- The block's value cache at a cell. -/
theorem pointV (t : Fin cfg0.N) (y : S1x1x16x256x64.Idx) :
    out0_5 (F := Ideal) (iblk m c 0 t) (iblk m c 1 t) (iblk m c 2 t) y
      = REFV (m ((c : Thread nD τ).loc main_arg0)) (((View.whole main_v0_2).slice (win0_5.rect t)).emb y) := by
  obtain_idx i : S256x1024 := [(y 3 : ℕ), (y 2 : ℕ) * 64 + (y 4 : ℕ)] with hi
  refine Eq.trans (b := (show FVec Ideal S256x1024 .f32 from iblk m c 2 t) i) ?_ (coreV m c t y i _ hi0 hi1 ?_ ?_ ?_ ?_)
  · unfold_out out0_5
    canon_tiles x h
    all_goals (open_payloads; pointwise; blk_ext)
  all_goals (blk_simp [idx t] <;> try omega)

/-- The value cache of the whole array. -/
theorem final5 : (dats m 0 c).arrAt 5 (cfgs 0).N = REFV (m ((c : Thread nD τ).loc main_arg0)) := by
  refine (dats m 0 c).arrAt_eq_of_covers 5 _ (by decide +kernel) fun t _ y => ?_
  blk_simp
  rw [after0_5]
  exact pointV m c t y

end Cert.Kernel2Ideal.Hand

end
-- ==== Proof.CtxMath.lean ====
/-
  ONE HEAD'S ATTENTION FOR ONE ROW: the kernel divides the weighted sum by the weights' sum and scales the query first;
  the reference divides every weight and scales the product. Over finite queries and keys they are equal.
-/
module

public import Idealize.ShloMosaic.Lib.Pipeline.ValueKit

@[expose] public section

noncomputable section

namespace Cert.Kernel2Ideal.Hand

open Idealize.ShloMosaic

/-- A row's scores in the kernel: the query scaled first. -/
def scoreK (q : Fin 64 → EReal) (k : Fin 256 → Fin 64 → EReal) (x : Fin 256) : EReal :=
  ∑ d : Fin 64, q d * Ideal.ofBits .f32 1040187392#32 * k x d

/-- A row's scores in the reference: the product scaled. -/
def scoreR (q : Fin 64 → EReal) (k : Fin 256 → Fin 64 → EReal) (x : Fin 256) : EReal :=
  (∑ d : Fin 64, q d * k x d) * Ideal.ofBits .f32 1040187392#32

/-- The largest of a row's scores. -/
def top (s : Fin 256 → EReal) : EReal := Finset.fold max (Ideal.ofBits .f32 4286578688#32) (fun x => s x) Finset.univ

/-- A row's output in the kernel. -/
def attK (q : Fin 64 → EReal) (k : Fin 256 → Fin 64 → EReal) (v : Fin 256 → EReal) : EReal :=
  Ideal.div (∑ x : Fin 256, Ideal.exp (scoreK q k x - top (scoreK q k)) * v x)
    (∑ x : Fin 256, Ideal.exp (scoreK q k x - top (scoreK q k)))

/-- A row's output in the reference. -/
def attR (q : Fin 64 → EReal) (k : Fin 256 → Fin 64 → EReal) (v : Fin 256 → EReal) : EReal :=
  ∑ x : Fin 256, Ideal.div (Ideal.exp (scoreR q k x - top (scoreR q k)))
    (∑ x : Fin 256, Ideal.exp (scoreR q k x - top (scoreR q k))) * v x

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- The scale is an eighth. -/
theorem scale_eq : Ideal.ofBits .f32 1040187392#32 = ((1 / 8 : ℝ) : EReal) := by
  simp [Ideal.ofBits, Ideal.ieee]
  rw [← EReal.coe_mul]
  exact congrArg _ (by norm_num)

/-- The largest score starts from −∞. -/
theorem floor_eq : Ideal.ofBits .f32 4286578688#32 = ⊥ := by
  simp [Ideal.ofBits, Ideal.ieee]

/-- The largest of real scores is real. -/
theorem top_real (f : Fin 256 → ℝ) : ∃ M : ℝ, top (fun x => (f x : EReal)) = (M : EReal) := by
  have h0 : ∀ s : Finset (Fin 256), s.Nonempty → ∃ M : ℝ, Finset.fold max (⊥ : EReal) (fun x => (f x : EReal)) s = (M : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM]; exact (EReal.coe_strictMono.monotone.map_max).symm⟩
  unfold top
  rw [floor_eq]
  exact h0 _ ⟨0, Finset.mem_univ _⟩

/-- With finite queries and keys the two are equal, whatever the values are. -/
theorem att_eq (q : Fin 64 → EReal) (k : Fin 256 → Fin 64 → EReal) (v : Fin 256 → EReal)
    (hq : ∀ d, ∃ a : ℝ, q d = (a : EReal)) (hk : ∀ x d, ∃ a : ℝ, k x d = (a : EReal)) : attK q k v = attR q k v := by
  choose qr hq using hq
  choose kr hk using hk
  have hK : scoreK q k = fun x => ((∑ d : Fin 64, qr d * kr x d * (1 / 8) : ℝ) : EReal) := by
    funext x
    rw [coe_sum]
    unfold scoreK
    refine Finset.sum_congr rfl fun d _ => ?_
    rw [hq, hk, scale_eq, ← EReal.coe_mul, ← EReal.coe_mul]
    exact congrArg _ (by ring)
  have hR : scoreR q k = fun x => ((∑ d : Fin 64, qr d * kr x d * (1 / 8) : ℝ) : EReal) := by
    funext x
    unfold scoreR
    rw [scale_eq, sum_mul_real _ _ _ (by norm_num), coe_sum]
    refine Finset.sum_congr rfl fun d _ => ?_
    rw [hq, hk, ← EReal.coe_mul, ← EReal.coe_mul]
  unfold attK attR
  rw [hK, hR]
  obtain ⟨M, hM⟩ := top_real fun x => ∑ d : Fin 64, qr d * kr x d * (1 / 8)
  rw [hM]
  have hpos : (0 : ℝ) < ∑ x : Fin 256, Real.exp ((∑ d : Fin 64, qr d * kr x d * (1 / 8)) - M) :=
    Finset.sum_pos (fun _ _ => Real.exp_pos _) ⟨0, Finset.mem_univ _⟩
  simp only [← EReal.coe_sub, Ideal.exp_coe, ← coe_sum]
  rw [Ideal.div_coe hpos.ne', sum_mul_real _ _ _ (by positivity)]
  refine Finset.sum_congr rfl fun x _ => ?_
  rw [Ideal.div_coe hpos.ne', mul_right_comm]

end Cert.Kernel2Ideal.Hand

end
-- ==== Proof.CtxCore.lean ====
/-
  THE CONTEXT ATTENTION OF TWO HEADS: one 128-wide column group of the kernel, read at an entry.
-/
module

public import proofs.«01_k».proof.Proof.Gen.Kernel2Ideal.Frame
public import proofs.«01_k».proof.Proof.CtxMath
public import Idealize.ShloMosaic.Lib.Pipeline.ValueKit

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen

/-- The two heads of a column group. -/
def headTile (L : IVec S1x128 32) (Q K V : Vec Ideal S256x128 .f32) : FVec Ideal S256x128 .bf16 :=
  k0_pay10 L (k0_pay8 L (k0_pay2 Q) (k0_pay3 K) V 0#32) (k0_pay9 L (k0_pay2 Q) (k0_pay3 K) V) 64#32

/-- The lane of a depth within the head that lane `l` belongs to. -/
def laneOf (l : Fin 128) (d : Fin 64) : Fin 128 := ⟨l.val / 64 * 64 + d.val, by omega⟩

/-- The comparisons of a lane's number with the heads' bounds. -/
theorem left_iff : ∀ n : Fin 128, IntOp.cmpi CmpIPredicate.slt (BitVec.ofNat 32 n.val) 64#32 = if n.val < 64 then 1#1 else 0#1 := by decide +kernel

theorem first_iff : ∀ n : Fin 128, IntOp.andi (IntOp.cmpi CmpIPredicate.sge (BitVec.ofNat 32 n.val) 0#32) (IntOp.cmpi CmpIPredicate.slt (BitVec.ofNat 32 n.val) 64#32)
    = if n.val < 64 then 1#1 else 0#1 := by decide +kernel

theorem second_iff : ∀ n : Fin 128, IntOp.andi (IntOp.cmpi CmpIPredicate.sge (BitVec.ofNat 32 n.val) 64#32) (IntOp.cmpi CmpIPredicate.slt (BitVec.ofNat 32 n.val) 128#32)
    = if n.val < 64 then 0#1 else 1#1 := by decide +kernel

theorem sel_left {α : Type} (n : Fin 128) (a b : α) :
    Scalar.select (IntOp.cmpi CmpIPredicate.slt (BitVec.ofNat 32 n.val) 64#32) a b = if n.val < 64 then a else b := by
  rw [left_iff]; unfold Scalar.select; by_cases h : n.val < 64 <;> simp [h]

theorem sel_first {α : Type} (n : Fin 128) (a b : α) :
    Scalar.select (IntOp.andi (IntOp.cmpi CmpIPredicate.sge (BitVec.ofNat 32 n.val) 0#32) (IntOp.cmpi CmpIPredicate.slt (BitVec.ofNat 32 n.val) 64#32)) a b
      = if n.val < 64 then a else b := by
  rw [first_iff]; unfold Scalar.select; by_cases h : n.val < 64 <;> simp [h]

theorem sel_second {α : Type} (n : Fin 128) (a b : α) :
    Scalar.select (IntOp.andi (IntOp.cmpi CmpIPredicate.sge (BitVec.ofNat 32 n.val) 64#32) (IntOp.cmpi CmpIPredicate.slt (BitVec.ofNat 32 n.val) 128#32)) a b
      = if n.val < 64 then b else a := by
  rw [second_iff]; unfold Scalar.select; by_cases h : n.val < 64 <;> simp [h]

/-- A sum over the lanes of the first head, and of the second. -/
theorem sum_first (f : Fin 128 → EReal) : (∑ x : Fin 128, if x.val < 64 then f x else 0) = ∑ d : Fin 64, f ⟨d.val, by omega⟩ := by
  have h := Fin.sum_univ_add (a := 64) (b := 64) (fun x : Fin (64 + 64) => if x.val < 64 then f x else 0)
  refine h.trans ?_
  simp [Fin.castAdd, Fin.castLE]

theorem sum_second (f : Fin 128 → EReal) : (∑ x : Fin 128, if x.val < 64 then 0 else f x) = ∑ d : Fin 64, f ⟨64 + d.val, by omega⟩ := by
  have h := Fin.sum_univ_add (a := 64) (b := 64) (fun x : Fin (64 + 64) => if x.val < 64 then 0 else f x)
  refine h.trans ?_
  simp [Fin.natAdd]

/-- A column group at an entry: the attention of the head its lane belongs to. -/
theorem core (x : Vec Ideal S256x1024 .f32) (Q K V : Vec Ideal S256x128 .f32) (r : Fin 256) (l : Fin 128) :
    headTile (k0_pay93 (F := Ideal) x x x) Q K V (ix2 r l)
      = attK (fun d => Q (ix2 r (laneOf l d))) (fun j d => K (ix2 j (laneOf l d))) (fun j => V (ix2 j l)) := by
  pointwise [headTile, k0_pay93, k0_pay10, k0_pay8, k0_pay9, k0_pay2, k0_pay3]
  have p : (l.val + 128 - 64) % 128 < 128 := Nat.mod_lt _ (by norm_num)
  have e1 := fun a b : EReal => sel_left (⟨_, p⟩ : Fin 128) a b
  have e2 := fun a b : EReal => sel_first (⟨_, p⟩ : Fin 128) a b
  have e3 := fun a b : EReal => sel_second (⟨_, p⟩ : Fin 128) a b
  dsimp only at e1 e2 e3
  simp only [sel_left, sel_first, sel_second, sum_first, sum_second, e1, e2, e3]
  unfold attK top scoreK laneOf
  by_cases hl : l.val < 64
  · have hp : ¬ (l.val + 128 - 64) % 128 < 64 := by omega
    have hd : l.val / 64 * 64 = 0 := by omega
    simp only [hl, hp, if_true, if_false, hd, zero_add, mul_one]
  · have hp : (l.val + 128 - 64) % 128 < 64 := by omega
    have hd : l.val / 64 * 64 = 64 := by omega
    simp only [hl, hp, if_true, if_false, hd, mul_one]

end Cert.Kernel2Ideal.Hand

end
-- ==== Proof.CtxRef.lean ====
/-
  THE CONTEXT ATTENTION'S REFERENCE, stage by stage: its scores, their exponentials and its output, and the output read at an entry.
-/
module

public import proofs.«01_k».proof.Proof.CtxMath
public import proofs.«01_k».proof.Proof.Gen.Reference2Ideal
public import proofs.«01_k».proof.Proof.Gen.Reference2Ideal.Run
public import Idealize.ShloMosaic.Lib.Pipeline.ValueKit

@[expose] public section

set_option maxRecDepth 16384

noncomputable section

namespace Cert.Reference2Ideal.Hand

open Idealize.ShloMosaic Idealize.ShloMosaic.TcCoe Idealize.SL.Sem
open Cert.Reference2Ideal Cert.Reference2Ideal.Gen
open Cert.Kernel2Ideal.Hand (attR scoreR top floor_eq)

/-- The queries of every head. -/
def heads0 (X : FVec Ideal S8192x5120 .f32) : FVec Ideal S32x16x256x64 .f32 :=
  transpose S32x16x256x64 [0, 2, 1, 3] (shapeCast S32x256x16x64 (extractStridedSlice S8192x1024 ![0, 0] X slices_S8192x5120_S8192x1024_0_0) shapeCasts_S8192x1024_S32x256x16x64) transposes_S32x256x16x64_S32x16x256x64_0_2_1_3

/-- The keys of every head. -/
def heads1 (X : FVec Ideal S8192x5120 .f32) : FVec Ideal S32x16x256x64 .f32 :=
  transpose S32x16x256x64 [0, 2, 1, 3] (shapeCast S32x256x16x64 (extractStridedSlice S8192x1024 ![0, 1024] X slices_S8192x5120_S8192x1024_0_1024) shapeCasts_S8192x1024_S32x256x16x64) transposes_S32x256x16x64_S32x16x256x64_0_2_1_3

/-- The values of every head. -/
def heads2 (X : FVec Ideal S8192x5120 .f32) : FVec Ideal S32x16x256x64 .f32 :=
  transpose S32x16x256x64 [0, 2, 1, 3] (shapeCast S32x256x16x64 (extractStridedSlice S8192x1024 ![0, 2048] X slices_S8192x5120_S8192x1024_0_2048) shapeCasts_S8192x1024_S32x256x16x64) transposes_S32x256x16x64_S32x16x256x64_0_2_1_3

/-- The scores of queries against keys. -/
def scores (q k : FVec Ideal S32x16x256x64 .f32) : FVec Ideal S32x16x256x256 .f32 :=
  mulf (Host.dotGeneral dot_S32x16x256x64_S32x16x256x64_S32x16x256x256_3_3_2_2_01_01 none q k) (broadcastInDim S32x16x256x256 ![] bcast_S_S32x16x256x256 (constant S_ .f32 0x3E000000#32))

/-- The exponentials of the scores less their row's largest. -/
def weights (s : FVec Ideal S32x16x256x256 .f32) : FVec Ideal S32x16x256x256 .f32 :=
  Host.exp (subf s (broadcastInDim S32x16x256x256 ![0, 1, 2, 3] bcast_S32x16x256x1_S32x16x256x256_0_1_2_3 (broadcastInDim S32x16x256x1 ![0, 1, 2] bcast_S32x16x256_S32x16x256x1_0_1_2 (maximumf (broadcastInDim S32x16x256 ![] bcast_S_S32x16x256 (constant S_ .f32 0xFF800000#32)) (Host.reduce FloatOps.maximumf s (constant S_ .f32 0xFF800000#32) reducesTo_S32x16x256x256_S32x16x256_d3 h_S_)))))

/-- The output: the weights over their row's sum, against the values, laid out by row. -/
def output (e : FVec Ideal S32x16x256x256 .f32) (v : FVec Ideal S32x16x256x64 .f32) : FVec Ideal S8192x1024 .bf16 :=
  truncf .bf16 (shapeCast S8192x1024 (transpose S32x256x16x64 [0, 2, 1, 3] (Host.dotGeneral dot_S32x16x256x256_S32x16x256x64_S32x16x256x64_3_2_2_3_01_01 none
    (Host.divf e (broadcastInDim S32x16x256x256 ![0, 1, 2, 3] bcast_S32x16x256x1_S32x16x256x256_0_1_2_3 (broadcastInDim S32x16x256x1 ![0, 1, 2] bcast_S32x16x256_S32x16x256x1_0_1_2 (Host.reduceAdd e (constant S_ .f32 0x00000000#32) reducesTo_S32x16x256x256_S32x16x256_d3 h_S_)))) v) transposes_S32x16x256x64_S32x256x16x64_0_2_1_3) shapeCasts_S32x256x16x64_S8192x1024) bitsLt_bf16_f32

/-- The reference's attention of the projected rows. -/
def attention (X : FVec Ideal S8192x5120 .f32) : FVec Ideal S8192x1024 .bf16 := output (weights (scores (heads0 X) (heads1 X))) (heads2 X)

/-- It is what the reference computes. -/
theorem result_eq (m : (ℓ : Loc nD τ sig) → Buf (Elt Ideal) ℓ) (c : Dev nD) :
    Value.res_main_v26 m c = attention (m ((c.tc : Thread nD τ).loc main_arg0)) := rfl

theorem heads0_read (X : FVec Ideal S8192x5120 .f32) (b : Fin 32) (h : Fin 16) (r : Fin 256) (d : Fin 64) :
    heads0 X (ix4 b h r d) = X (ix2 ⟨b.val * 256 + r.val, by omega⟩ ⟨h.val * 64 + d.val, by omega⟩) := by
  pointwise [heads0]; blk_ext

theorem heads1_read (X : FVec Ideal S8192x5120 .f32) (b : Fin 32) (h : Fin 16) (r : Fin 256) (d : Fin 64) :
    heads1 X (ix4 b h r d) = X (ix2 ⟨b.val * 256 + r.val, by omega⟩ ⟨1024 + (h.val * 64 + d.val), by omega⟩) := by
  pointwise [heads1]; blk_ext

theorem heads2_read (X : FVec Ideal S8192x5120 .f32) (b : Fin 32) (h : Fin 16) (r : Fin 256) (d : Fin 64) :
    heads2 X (ix4 b h r d) = X (ix2 ⟨b.val * 256 + r.val, by omega⟩ ⟨2048 + (h.val * 64 + d.val), by omega⟩) := by
  pointwise [heads2]; blk_ext

theorem max_fold (b : EReal) (f : Fin 256 → EReal) : max b (Finset.fold max b f Finset.univ) = Finset.fold max b f Finset.univ := by
  refine max_eq_right ?_
  exact (Finset.le_fold_max b).2 (Or.inl le_rfl)

/-- The largest of a row of scores. -/
theorem max_read (s : FVec Ideal S32x16x256x256 .f32) (b : Fin 32) (h : Fin 16) (r : Fin 256) :
    Host.reduce FloatOps.maximumf s (constant S_ .f32 0xFF800000#32) reducesTo_S32x16x256x256_S32x16x256_d3 h_S_ (ix3 b h r) = Finset.fold max (Ideal.ofBits FTy.f32 4286578688#32) (fun x => s (ix4 b h r x)) Finset.univ := by
  pointwise

/-- The exponential less a row's largest. -/
theorem exp_read (s : FVec Ideal S32x16x256x256 .f32) (T : FVec Ideal S32x16x256 .f32) (b : Fin 32) (h : Fin 16) (r x : Fin 256) :
   Host.exp (subf s (broadcastInDim S32x16x256x256 ![0, 1, 2, 3] bcast_S32x16x256x1_S32x16x256x256_0_1_2_3 (broadcastInDim S32x16x256x1 ![0, 1, 2] bcast_S32x16x256_S32x16x256x1_0_1_2 (maximumf (broadcastInDim S32x16x256 ![] bcast_S_S32x16x256 (constant S_ .f32 0xFF800000#32)) T)))) (ix4 b h r x)
   = Ideal.exp (s (ix4 b h r x) - max (Ideal.ofBits FTy.f32 4286578688#32) (T (ix3 b h r))) := by
  pointwise

/-- A score. -/
theorem score_read (q k : FVec Ideal S32x16x256x64 .f32) (b : Fin 32) (h : Fin 16) (r x : Fin 256) :
   scores q k (ix4 b h r x) = scoreR (fun d => q (ix4 b h r d)) (fun j d => k (ix4 b h j d)) x := by
  pointwise [scores, scoreR]

/-- A weight. -/
theorem weights_read (q k : FVec Ideal S32x16x256x64 .f32) (b : Fin 32) (h : Fin 16) (r x : Fin 256) :
    weights (scores q k) (ix4 b h r x) = Ideal.exp (scoreR (fun d => q (ix4 b h r d)) (fun j d => k (ix4 b h j d)) x - top (scoreR (fun d => q (ix4 b h r d)) (fun j d => k (ix4 b h j d)))) := by
  have e := exp_read (scores q k) (Host.reduce FloatOps.maximumf (scores q k) (constant S_ .f32 0xFF800000#32) reducesTo_S32x16x256x256_S32x16x256_d3 h_S_) b h r x
  rw [max_read, max_fold] at e
  simp only [score_read] at e
  unfold weights
  exact e

/-- The output at an entry. -/
theorem attention_read (X : FVec Ideal S8192x5120 .f32) (b : Fin 32) (h : Fin 16) (r : Fin 256) (l : Fin 64) (R : Fin 8192) (C : Fin 1024)
    (hR : R.val = b.val * 256 + r.val) (hC : C.val = h.val * 64 + l.val) :
    attention X (ix2 R C) = attR (fun d => heads0 X (ix4 b h r d)) (fun j d => heads1 X (ix4 b h j d)) (fun j => heads2 X (ix4 b h j l)) := by
  have hb : R.val / 256 = b.val := by omega
  have hr : R.val % 256 = r.val := by omega
  have hh : C.val / 64 = h.val := by omega
  have hl : C.val % 64 = l.val := by omega
  have e : attention X (ix2 R C) = ∑ x : Fin 256, Ideal.div (weights (scores (heads0 X) (heads1 X)) (ix4 b h r x))
      (∑ x : Fin 256, weights (scores (heads0 X) (heads1 X)) (ix4 b h r x)) * heads2 X (ix4 b h x l) := by
    pointwise [attention, output]
    have hb' : (⟨R.val / 256, by omega⟩ : Fin 32) = b := Fin.ext hb
    have hr' : (⟨R.val % 256, by omega⟩ : Fin 256) = r := Fin.ext hr
    have hh' : (⟨C.val / 64, by omega⟩ : Fin 16) = h := Fin.ext hh
    have hl' : (⟨C.val % 64, by omega⟩ : Fin 64) = l := Fin.ext hl
    simp only [hb', hr', hh', hl']
  rw [e]
  simp only [weights_read]
  unfold attR
  with_reducible rfl

end Cert.Reference2Ideal.Hand

end
-- ==== Proof.CtxValues.lean ====
/-
  THE CONTEXT ATTENTION'S OUTPUT: the eight column groups of a block, and the whole array.
-/
module

public import proofs.«01_k».proof.Proof.CtxCore
public import proofs.«01_k».proof.Proof.CtxRef
public import proofs.«01_k».proof.Proof.CtxCaches

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen

/-- The queries and keys are finite: columns 0 … 2047. -/
def Finite (X : FVec Ideal S8192x5120 .f32) : Prop := ∀ (R : Fin 8192) (C : Fin 5120), C.val < 2048 → ∃ a : ℝ, X (ix2 R C) = (a : EReal)

/-- A column group of a block is the reference's attention there. -/
theorem tile_read (X : FVec Ideal S8192x5120 .f32) (hX : Finite X) (L : Vec Ideal S256x1024 .f32) (b : Fin 32) (p : Fin 8)
    (Q K V : Vec Ideal S256x128 .f32)
    (hQ : ∀ (r : Fin 256) (l : Fin 128), Q (ix2 r l) = X (ix2 ⟨b.val * 256 + r.val, by omega⟩ ⟨p.val * 128 + l.val, by omega⟩))
    (hK : ∀ (r : Fin 256) (l : Fin 128), K (ix2 r l) = X (ix2 ⟨b.val * 256 + r.val, by omega⟩ ⟨1024 + (p.val * 128 + l.val), by omega⟩))
    (hV : ∀ (r : Fin 256) (l : Fin 128), V (ix2 r l) = X (ix2 ⟨b.val * 256 + r.val, by omega⟩ ⟨2048 + (p.val * 128 + l.val), by omega⟩))
    (r : Fin 256) (l : Fin 128) (R : Fin 8192) (C : Fin 1024) (hR : R.val = b.val * 256 + r.val) (hC : C.val = p.val * 128 + l.val) :
    headTile (k0_pay93 (F := Ideal) L L L) Q K V (ix2 r l) = Cert.Reference2Ideal.Hand.attention X (ix2 R C) := by
  rw [core, att_eq _ _ _ (fun d => by rw [hQ]; exact hX _ _ (by have := l.isLt; have := p.isLt; have := d.isLt; simp only [laneOf]; omega))
      (fun j d => by rw [hK]; exact hX _ _ (by have := l.isLt; have := p.isLt; have := d.isLt; simp only [laneOf]; omega)),
    Cert.Reference2Ideal.Hand.attention_read X b ⟨2 * p.val + l.val / 64, by omega⟩ r ⟨l.val % 64, by omega⟩ R C hR (by dsimp only; omega)]
  congr 1
  · funext d
    rw [hQ, Cert.Reference2Ideal.Hand.heads0_read]
    exact congrArg X (congrArg (ix2 _) (Fin.ext (by simp only [laneOf]; omega)))
  · funext j d
    rw [hK, Cert.Reference2Ideal.Hand.heads1_read]
    exact congrArg X (congrArg (ix2 _) (Fin.ext (by simp only [laneOf]; omega)))
  · funext j
    rw [hV, Cert.Reference2Ideal.Hand.heads2_read]
    exact congrArg X (congrArg (ix2 _) (Fin.ext (by dsimp only; omega)))

/-- The same at an index of the result. -/
theorem tile_at (X : FVec Ideal S8192x5120 .f32) (hX : Finite X) (L : Vec Ideal S256x1024 .f32) (b : Fin 32) (p : Fin 8)
    (Q K V : Vec Ideal S256x128 .f32)
    (hQ : ∀ (r : Fin 256) (l : Fin 128), Q (ix2 r l) = X (ix2 ⟨b.val * 256 + r.val, by omega⟩ ⟨p.val * 128 + l.val, by omega⟩))
    (hK : ∀ (r : Fin 256) (l : Fin 128), K (ix2 r l) = X (ix2 ⟨b.val * 256 + r.val, by omega⟩ ⟨1024 + (p.val * 128 + l.val), by omega⟩))
    (hV : ∀ (r : Fin 256) (l : Fin 128), V (ix2 r l) = X (ix2 ⟨b.val * 256 + r.val, by omega⟩ ⟨2048 + (p.val * 128 + l.val), by omega⟩))
    (x : S256x128.Idx) (j : S8192x1024.Idx) (h0 : (j 0 : ℕ) = b.val * 256 + (x 0 : ℕ)) (h1 : (j 1 : ℕ) = p.val * 128 + (x 1 : ℕ)) :
    headTile (k0_pay93 (F := Ideal) L L L) Q K V x = Cert.Reference2Ideal.Hand.attention X j := by
  obtain ⟨r, l, rfl⟩ : ∃ (r : Fin 256) (l : Fin 128), x = ix2 r l := ⟨x 0, x 1, eq_ix2 x⟩
  obtain ⟨R, C, rfl⟩ : ∃ (R : Fin 8192) (C : Fin 1024), j = ix2 R C := ⟨j 0, j 1, eq_ix2 j⟩
  exact tile_read X hX L b p Q K V hQ hK hV r l R C h0 h1

theorem piece7 (X0 X1 X2 : Vec Ideal S256x1024 .f32) :
    k0_pay1 (F := Ideal) (k0_pay89 (F := Ideal) (k0_pay109 (F := Ideal) X0 X1 X2) (k0_pay110 (F := Ideal) X0 X1 X2) (k0_pay111 (F := Ideal) X0 X1 X2)) (k0_pay90 (F := Ideal) (k0_pay93 (F := Ideal) X0 X1 X2) (k0_pay107 (F := Ideal) X0 X1 X2) (k0_pay108 (F := Ideal) X0 X1 X2) (View.ld (Val := Elt Ideal) X2 r0_21)) (k0_pay91 (k0_pay93 (F := Ideal) X0 X1 X2)) (k0_pay92 (F := Ideal) (k0_pay93 (F := Ideal) X0 X1 X2) (k0_pay107 (F := Ideal) X0 X1 X2) (k0_pay108 (F := Ideal) X0 X1 X2) (View.ld (Val := Elt Ideal) X2 r0_21) (k0_pay109 (F := Ideal) X0 X1 X2) (k0_pay110 (F := Ideal) X0 X1 X2) (k0_pay111 (F := Ideal) X0 X1 X2))
      = headTile (k0_pay93 (F := Ideal) X0 X1 X2) (View.ld (Val := Elt Ideal) X0 r0_21) (View.ld (Val := Elt Ideal) X1 r0_21) (View.ld (Val := Elt Ideal) X2 r0_21) := rfl

theorem piece6 (X0 X1 X2 : Vec Ideal S256x1024 .f32) :
    k0_pay77 (F := Ideal) (k0_pay93 (F := Ideal) X0 X1 X2) (k0_pay105 (F := Ideal) X0 X1 X2) (k0_pay106 (F := Ideal) X0 X1 X2) (View.ld (Val := Elt Ideal) X2 r0_18) (k0_pay75 (F := Ideal) (k0_pay93 (F := Ideal) X0 X1 X2) (k0_pay105 (F := Ideal) X0 X1 X2) (k0_pay106 (F := Ideal) X0 X1 X2) (View.ld (Val := Elt Ideal) X2 r0_18)) (k0_pay76 (k0_pay93 (F := Ideal) X0 X1 X2))
      = headTile (k0_pay93 (F := Ideal) X0 X1 X2) (View.ld (Val := Elt Ideal) X0 r0_18) (View.ld (Val := Elt Ideal) X1 r0_18) (View.ld (Val := Elt Ideal) X2 r0_18) := rfl

theorem piece5 (X0 X1 X2 : Vec Ideal S256x1024 .f32) :
    k0_pay68 (F := Ideal) (k0_pay93 (F := Ideal) X0 X1 X2) (k0_pay64 (F := Ideal) (k0_pay93 (F := Ideal) X0 X1 X2) (k0_pay103 (F := Ideal) X0 X1 X2) (k0_pay104 (F := Ideal) X0 X1 X2) (View.ld (Val := Elt Ideal) X2 r0_15)) (k0_pay66 (F := Ideal) (k0_pay93 (F := Ideal) X0 X1 X2) (View.ld (Val := Elt Ideal) X2 r0_15)) (k0_pay67 (F := Ideal) (k0_pay93 (F := Ideal) X0 X1 X2) (k0_pay103 (F := Ideal) X0 X1 X2) (k0_pay104 (F := Ideal) X0 X1 X2))
      = headTile (k0_pay93 (F := Ideal) X0 X1 X2) (View.ld (Val := Elt Ideal) X0 r0_15) (View.ld (Val := Elt Ideal) X1 r0_15) (View.ld (Val := Elt Ideal) X2 r0_15) := rfl

theorem piece4 (X0 X1 X2 : Vec Ideal S256x1024 .f32) :
    k0_pay56 (F := Ideal) (k0_pay52 (F := Ideal) (k0_pay93 (F := Ideal) X0 X1 X2) (k0_pay101 (F := Ideal) X0 X1 X2) (k0_pay102 (F := Ideal) X0 X1 X2) (View.ld (Val := Elt Ideal) X2 r0_12) (k0_pay50 (k0_pay93 (F := Ideal) X0 X1 X2)) k0_pay51) (k0_pay53 (F := Ideal) (k0_pay93 (F := Ideal) X0 X1 X2) (k0_pay101 (F := Ideal) X0 X1 X2) (k0_pay102 (F := Ideal) X0 X1 X2) (View.ld (Val := Elt Ideal) X2 r0_12)) (k0_pay54 (k0_pay93 (F := Ideal) X0 X1 X2)) (k0_pay55 (k0_pay93 (F := Ideal) X0 X1 X2))
      = headTile (k0_pay93 (F := Ideal) X0 X1 X2) (View.ld (Val := Elt Ideal) X0 r0_12) (View.ld (Val := Elt Ideal) X1 r0_12) (View.ld (Val := Elt Ideal) X2 r0_12) := rfl

theorem piece3 (X0 X1 X2 : Vec Ideal S256x1024 .f32) :
    k0_pay43 (F := Ideal) (k0_pay93 (F := Ideal) X0 X1 X2) (k0_pay100 (F := Ideal) X0 X1 X2) (k0_pay34 (F := Ideal) (View.ld (Val := Elt Ideal) X1 r0_9)) (View.ld (Val := Elt Ideal) X2 r0_9) (k0_pay41 (F := Ideal) (k0_pay93 (F := Ideal) X0 X1 X2) (k0_pay100 (F := Ideal) X0 X1 X2)) (k0_pay42 (F := Ideal) (k0_pay93 (F := Ideal) X0 X1 X2) (View.ld (Val := Elt Ideal) X2 r0_9))
      = headTile (k0_pay93 (F := Ideal) X0 X1 X2) (View.ld (Val := Elt Ideal) X0 r0_9) (View.ld (Val := Elt Ideal) X1 r0_9) (View.ld (Val := Elt Ideal) X2 r0_9) := rfl

theorem piece2 (X0 X1 X2 : Vec Ideal S256x1024 .f32) :
    k0_pay32 (F := Ideal) (k0_pay93 (F := Ideal) X0 X1 X2) (k0_pay98 (F := Ideal) X0 X1 X2) (k0_pay99 (F := Ideal) X0 X1 X2) (View.ld (Val := Elt Ideal) X2 r0_6) (k0_pay30 (F := Ideal) (k0_pay93 (F := Ideal) X0 X1 X2) (k0_pay98 (F := Ideal) X0 X1 X2) (k0_pay99 (F := Ideal) X0 X1 X2) (View.ld (Val := Elt Ideal) X2 r0_6)) (k0_pay31 (k0_pay93 (F := Ideal) X0 X1 X2))
      = headTile (k0_pay93 (F := Ideal) X0 X1 X2) (View.ld (Val := Elt Ideal) X0 r0_6) (View.ld (Val := Elt Ideal) X1 r0_6) (View.ld (Val := Elt Ideal) X2 r0_6) := rfl

theorem piece1 (X0 X1 X2 : Vec Ideal S256x1024 .f32) :
    k0_pay22 (F := Ideal) (k0_pay93 (F := Ideal) X0 X1 X2) (k0_pay97 (F := Ideal) X0 X1 X2) (View.ld (Val := Elt Ideal) X2 r0_3) (k0_pay17 (F := Ideal) (k0_pay93 (F := Ideal) X0 X1 X2) (k0_pay96 (F := Ideal) X0 X1 X2) (k0_pay97 (F := Ideal) X0 X1 X2) (View.ld (Val := Elt Ideal) X2 r0_3)) (k0_pay19 (F := Ideal) (k0_pay93 (F := Ideal) X0 X1 X2) (k0_pay96 (F := Ideal) X0 X1 X2)) (k0_pay20 (k0_pay93 (F := Ideal) X0 X1 X2)) (k0_pay21 (F := Ideal))
      = headTile (k0_pay93 (F := Ideal) X0 X1 X2) (View.ld (Val := Elt Ideal) X0 r0_3) (View.ld (Val := Elt Ideal) X1 r0_3) (View.ld (Val := Elt Ideal) X2 r0_3) := rfl

theorem piece0 (X0 X1 X2 : Vec Ideal S256x1024 .f32) :
    k0_pay10 (F := Ideal) (k0_pay93 (F := Ideal) X0 X1 X2) (k0_pay8 (F := Ideal) (k0_pay93 (F := Ideal) X0 X1 X2) (k0_pay94 (F := Ideal) X0 X1 X2) (k0_pay95 (F := Ideal) X0 X1 X2) (View.ld (Val := Elt Ideal) X2 r0_0) 0#32) (k0_pay9 (F := Ideal) (k0_pay93 (F := Ideal) X0 X1 X2) (k0_pay94 (F := Ideal) X0 X1 X2) (k0_pay95 (F := Ideal) X0 X1 X2) (View.ld (Val := Elt Ideal) X2 r0_0)) 64#32
      = headTile (k0_pay93 (F := Ideal) X0 X1 X2) (View.ld (Val := Elt Ideal) X0 r0_0) (View.ld (Val := Elt Ideal) X1 r0_0) (View.ld (Val := Elt Ideal) X2 r0_0) := rfl

variable (m : (ℓ : Loc nD τ sig) → Buf (Elt Ideal) ℓ) (c : Dev nD)

/-- Where an entry of the output's block lies in the result. -/
theorem embO (t : Fin cfg0.N) (y : S256x1024.Idx) :
    (((((View.whole main_v0_0).slice (win0_3.rect t)).emb y) 0 : Fin _) : ℕ) = t.val * 256 + (y 0 : ℕ)
      ∧ (((((View.whole main_v0_0).slice (win0_3.rect t)).emb y) 1 : Fin _) : ℕ) = (y 1 : ℕ) := by
  have ht : t.val < 32 := lt_of_lt_of_eq t.isLt N_0
  constructor
  · blk_simp [idx t]
  · blk_simp [idx t]

set_option maxHeartbeats 2000000 in
/-- The block's output at an entry. -/
theorem pointO (hX : Finite (m ((c : Thread nD τ).loc main_arg0))) (t : Fin cfg0.N) (y : S256x1024.Idx) :
    out0_3 (F := Ideal) (iblk m c 0 t) (iblk m c 1 t) (iblk m c 2 t) y
      = Cert.Reference2Ideal.Hand.attention (m ((c : Thread nD τ).loc main_arg0)) (((View.whole main_v0_0).slice (win0_3.rect t)).emb y) := by
  have ht : t.val < 32 := lt_of_lt_of_eq t.isLt N_0
  unfold out0_3
  canon_tiles x h
  case piece0 =>
    refine (congrFun (piece7 _ _ _) x).trans (tile_at _ hX (iblk m c 0 t) ⟨t.val, ht⟩ ⟨7, by decide⟩ _ _ _ (fun r l => ?_) (fun r l => ?_) (fun r l => ?_) x _ ?_ ?_)
    · blk_ext! [iblk, V, idx t]
    · blk_ext! [iblk, V, idx t]
    · blk_ext! [iblk, V, idx t]
    · rw [(embO t y).1, h0]
    · rw [(embO t y).2, h1]; dsimp only
  case piece1 =>
    refine (congrFun (piece6 _ _ _) x).trans (tile_at _ hX (iblk m c 0 t) ⟨t.val, ht⟩ ⟨6, by decide⟩ _ _ _ (fun r l => ?_) (fun r l => ?_) (fun r l => ?_) x _ ?_ ?_)
    · blk_ext! [iblk, V, idx t]
    · blk_ext! [iblk, V, idx t]
    · blk_ext! [iblk, V, idx t]
    · rw [(embO t y).1, h0]
    · rw [(embO t y).2, h1]; dsimp only
  case piece2 =>
    refine (congrFun (piece5 _ _ _) x).trans (tile_at _ hX (iblk m c 0 t) ⟨t.val, ht⟩ ⟨5, by decide⟩ _ _ _ (fun r l => ?_) (fun r l => ?_) (fun r l => ?_) x _ ?_ ?_)
    · blk_ext! [iblk, V, idx t]
    · blk_ext! [iblk, V, idx t]
    · blk_ext! [iblk, V, idx t]
    · rw [(embO t y).1, h0]
    · rw [(embO t y).2, h1]; dsimp only
  case piece3 =>
    refine (congrFun (piece4 _ _ _) x).trans (tile_at _ hX (iblk m c 0 t) ⟨t.val, ht⟩ ⟨4, by decide⟩ _ _ _ (fun r l => ?_) (fun r l => ?_) (fun r l => ?_) x _ ?_ ?_)
    · blk_ext! [iblk, V, idx t]
    · blk_ext! [iblk, V, idx t]
    · blk_ext! [iblk, V, idx t]
    · rw [(embO t y).1, h0]
    · rw [(embO t y).2, h1]; dsimp only
  case piece4 =>
    refine (congrFun (piece3 _ _ _) x).trans (tile_at _ hX (iblk m c 0 t) ⟨t.val, ht⟩ ⟨3, by decide⟩ _ _ _ (fun r l => ?_) (fun r l => ?_) (fun r l => ?_) x _ ?_ ?_)
    · blk_ext! [iblk, V, idx t]
    · blk_ext! [iblk, V, idx t]
    · blk_ext! [iblk, V, idx t]
    · rw [(embO t y).1, h0]
    · rw [(embO t y).2, h1]; dsimp only
  case piece5 =>
    refine (congrFun (piece2 _ _ _) x).trans (tile_at _ hX (iblk m c 0 t) ⟨t.val, ht⟩ ⟨2, by decide⟩ _ _ _ (fun r l => ?_) (fun r l => ?_) (fun r l => ?_) x _ ?_ ?_)
    · blk_ext! [iblk, V, idx t]
    · blk_ext! [iblk, V, idx t]
    · blk_ext! [iblk, V, idx t]
    · rw [(embO t y).1, h0]
    · rw [(embO t y).2, h1]; dsimp only
  case piece6 =>
    refine (congrFun (piece1 _ _ _) x).trans (tile_at _ hX (iblk m c 0 t) ⟨t.val, ht⟩ ⟨1, by decide⟩ _ _ _ (fun r l => ?_) (fun r l => ?_) (fun r l => ?_) x _ ?_ ?_)
    · blk_ext! [iblk, V, idx t]
    · blk_ext! [iblk, V, idx t]
    · blk_ext! [iblk, V, idx t]
    · rw [(embO t y).1, h0]
    · rw [(embO t y).2, h1]; dsimp only
  case piece7 =>
    refine (congrFun (piece0 _ _ _) x).trans (tile_at _ hX (iblk m c 0 t) ⟨t.val, ht⟩ ⟨0, by decide⟩ _ _ _ (fun r l => ?_) (fun r l => ?_) (fun r l => ?_) x _ ?_ ?_)
    · blk_ext! [iblk, V, idx t]
    · blk_ext! [iblk, V, idx t]
    · blk_ext! [iblk, V, idx t]
    · rw [(embO t y).1, h0]
    · rw [(embO t y).2, h1]; dsimp only; omega

/-- The output of the whole array. -/
theorem final3 (hX : Finite (m ((c : Thread nD τ).loc main_arg0))) :
    (dats m 0 c).arrAt 3 (cfgs 0).N = Cert.Reference2Ideal.Hand.attention (m ((c : Thread nD τ).loc main_arg0)) := by
  refine (dats m 0 c).arrAt_eq_of_covers 3 _ (by decide +kernel) fun t _ y => ?_
  blk_simp
  rw [after0_3]
  exact pointO m c hX t y

end Cert.Kernel2Ideal.Hand

end
-- ==== Proof.CtxClaims.lean ====
/-
  THE CONTEXT ATTENTION CALL: what is claimed of it. The precondition read (every query and key is real), and the three
  results at the ideal instance.
-/
module

public import proofs.«01_k».proof.Defs
public import proofs.«01_k».proof.Proof.CtxCaches
public import proofs.«01_k».proof.Proof.CtxValues
public import proofs.«01_k».proof.Proof.Gen.Pre_keys_finite
public import Idealize.ShloMosaic.Lib.ReduceAll

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen

/-- An extended real whose size is below +∞ is a real. -/
theorem real_of_abs (x : EReal) (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe a => exact ⟨a, rfl⟩

/-- The printed predicate, at every entry: the queries and keys are real. -/
theorem finite_of_pre (X : FVec Ideal S8192x5120 .f32) (h : Cert.Pre_keys_finite.fn (F := Ideal) X = fun _ => 1#1) : Finite X := by
  intro R C hC
  have e := congrFun h (Shape.Idx.first Cert.Pre_keys_finite.Gen.h_S_)
  haveI : Subsingleton Cert.Pre_keys_finite.S_.Idx := ⟨fun a b => funext fun x => x.elim0⟩
  have e := Host.reduce_andi_all _ _ _ _ _ e (ix2 R (⟨C.val, hC⟩ : Fin 2048))
  have hx : ∀ (Y : FVec Ideal Cert.Pre_keys_finite.S8192x2048 .f32) (i : Cert.Pre_keys_finite.S8192x2048.Idx),
      cmpf .olt (Host.absf Y) (broadcastInDim Cert.Pre_keys_finite.S8192x2048 ![] Cert.Pre_keys_finite.Gen.bcast_S_S8192x2048 (constant (F := Ideal) Cert.Pre_keys_finite.S_ .f32 0x7F800000#32)) i = 1#1 →
      ∃ a : ℝ, Y i = (a : EReal) := fun Y i h => real_of_abs (Y i) h
  obtain ⟨a, ha⟩ := hx _ _ e
  refine ⟨a, Eq.trans ?_ ha⟩
  pointwise

/-- The three results of the context attention are the reference's, the queries and keys real. -/
theorem algebraic : Cert.algebraic_Kernel2Ideal_Reference2Ideal_pre_keys_finite := by
  intro m g m' g' hpre hargs
  have hX : ∀ c : Dev nD, Finite (m ((c.tc : Thread nD τ).loc main_arg0)) := fun c => finite_of_pre _ (hpre c)
  refine ⟨fun c => Cert.Reference2Ideal.Hand.attention (m' ((c.tc : Thread Cert.Reference2Ideal.nD Cert.Reference2Ideal.τ).loc Cert.Reference2Ideal.main_arg0)),
    fun c => REFK (m' ((c.tc : Thread Cert.Reference2Ideal.nD Cert.Reference2Ideal.τ).loc Cert.Reference2Ideal.main_arg0)),
    fun c => REFV (m' ((c.tc : Thread Cert.Reference2Ideal.nD Cert.Reference2Ideal.τ).loc Cert.Reference2Ideal.main_arg0)), ?_, ?_⟩
  · refine (θ_run defs _ _).mono (fun _ h c => ?_) (run_main m g)
    refine ⟨((h c).1 3).trans ((final3 m c (hX c)).trans ?_), ((h c).1 4).trans ((final4 m c).trans ?_), ((h c).1 5).trans ((final5 m c).trans ?_),
      ((h c).1 2).trans (((dats m 0 c).arrAt_in 2 rfl _).trans ((A_eq m c 2).trans (V_main_arg0 m c)))⟩
    · beta_reduce; rw [hargs c]
    · beta_reduce; rw [hargs c]
    · beta_reduce; rw [hargs c]
  · exact (θ_run Cert.Reference2Ideal.defs _ _).mono
      (fun r h c => ⟨(h c).1.trans (Cert.Reference2Ideal.Hand.result_eq m' c), (h c).2.1, (h c).2.2.1, (h c).2.2.2⟩)
      (Cert.Reference2Ideal.Value.run (F := Ideal) m' g')

end Cert.Kernel2Ideal.Hand

end
-- ==== Proof.OutRef.lean ====
/-
  THE OUT-PROJECTION'S REFERENCE, stage by stage: its three results are the stages one after another.
-/
module

public import proofs.«01_k».proof.Proof.Gen.Kernel4Ideal.Frame
public import proofs.«01_k».proof.Proof.Gen.Reference4Ideal.Run
public import Idealize.ShloMosaic.Lib.Pipeline.ValueKit

@[expose] public section

set_option maxRecDepth 16384

noncomputable section

namespace Cert.Kernel4Ideal.Hand

open Cert.Kernel4Ideal Cert.Kernel4Ideal.Gen
open Idealize.ShloMosaic Idealize.ShloMosaic.TcCoe Idealize.SL.Sem

/-- The reference's rows after the projection and the gated residual. -/
def REFX (at0 lr : FVec Ideal S8192x1024 .bf16) (w : FVec Ideal S2048x2048 .f32) (x : FVec Ideal S32x256x2048 .f32) (md : FVec Ideal S8x6x2048 .f32) : FVec Ideal S8192x2048 .f32 :=
  addf (shapeCast _ x Cert.Reference4Ideal.Gen.shapeCasts_S32x256x2048_S8192x2048) (mulf (broadcastInDim Cert.Reference4Ideal.S8192x2048 ![0, 1] Cert.Reference4Ideal.Gen.bcast_S1x2048_S8192x2048_0_1 (shapeCast _ (extractStridedSlice Cert.Reference4Ideal.S1x1x2048 ![0, 2, 0] md Cert.Reference4Ideal.Gen.slices_S8x6x2048_S1x1x2048_0_2_0) Cert.Reference4Ideal.Gen.shapeCasts_S1x1x2048_S1x2048)) (Host.dotGeneral (φ₁ := .f32) (φ₂ := .f32) Cert.Reference4Ideal.dot_S8192x2048_S2048x2048_S8192x2048_1_0_0_1_n_n none (extf .f32 (concatenate Cert.Reference4Ideal.S8192x2048 1 [⟨S8192x1024, at0⟩, ⟨S8192x1024, lr⟩] Cert.Reference4Ideal.Gen.concatenates_S8192x1024_S8192x1024_S8192x2048_d1) Cert.Reference4Ideal.Gen.bitsLt_bf16_f32) w))

/-- Its rows after the norm and the modulation. -/
def REFH (X : FVec Ideal S8192x2048 .f32) (md : FVec Ideal S8x6x2048 .f32) (nw : FVec Ideal S2048 .f32) : FVec Ideal S8192x2048 .f32 :=
  addf (mulf (mulf (mulf X (broadcastInDim Cert.Reference4Ideal.S8192x2048 ![0, 1] Cert.Reference4Ideal.Gen.bcast_S8192x1_S8192x2048_0_1 (Host.rsqrt (addf (Host.divf (broadcastInDim Cert.Reference4Ideal.S8192x1 ![0] Cert.Reference4Ideal.Gen.bcast_S8192_S8192x1_0 (Host.reduceAdd (mulf X X) (constant Cert.Reference4Ideal.S_ .f32 0x00000000#32) Cert.Reference4Ideal.Gen.reducesTo_S8192x2048_S8192_d1 Cert.Reference4Ideal.Gen.h_S_)) (broadcastInDim Cert.Reference4Ideal.S8192x1 ![] Cert.Reference4Ideal.Gen.bcast_S_S8192x1 (constant Cert.Reference4Ideal.S_ .f32 0x45000000#32))) (broadcastInDim Cert.Reference4Ideal.S8192x1 ![] Cert.Reference4Ideal.Gen.bcast_S_S8192x1 (constant Cert.Reference4Ideal.S_ .f32 0x358637BD#32)))))) (broadcastInDim Cert.Reference4Ideal.S8192x2048 ![0, 1] Cert.Reference4Ideal.Gen.bcast_S1x2048_S8192x2048_0_1 (broadcastInDim Cert.Reference4Ideal.S1x2048 ![1] Cert.Reference4Ideal.Gen.bcast_S2048_S1x2048_1 nw))) (broadcastInDim Cert.Reference4Ideal.S8192x2048 ![0, 1] Cert.Reference4Ideal.Gen.bcast_S1x2048_S8192x2048_0_1 (addf (broadcastInDim Cert.Reference4Ideal.S1x2048 ![] Cert.Reference4Ideal.Gen.bcast_S_S1x2048 (constant Cert.Reference4Ideal.S_ .f32 0x3F800000#32)) (shapeCast _ (extractStridedSlice Cert.Reference4Ideal.S1x1x2048 ![0, 4, 0] md Cert.Reference4Ideal.Gen.slices_S8x6x2048_S1x1x2048_0_4_0) Cert.Reference4Ideal.Gen.shapeCasts_S1x1x2048_S1x2048)))) (broadcastInDim Cert.Reference4Ideal.S8192x2048 ![0, 1] Cert.Reference4Ideal.Gen.bcast_S1x2048_S8192x2048_0_1 (shapeCast _ (extractStridedSlice Cert.Reference4Ideal.S1x1x2048 ![0, 3, 0] md Cert.Reference4Ideal.Gen.slices_S8x6x2048_S1x1x2048_0_3_0) Cert.Reference4Ideal.Gen.shapeCasts_S1x1x2048_S1x2048))

/-- Its router's logits. -/
def REFL (H : FVec Ideal S8192x2048 .f32) (wr : FVec Ideal S2048x16 .f32) : FVec Ideal Cert.Reference4Ideal.S8192x16 .f32 :=
  Host.dotGeneral (φ₁ := .f32) (φ₂ := .f32) Cert.Reference4Ideal.dot_S8192x2048_S2048x16_S8192x16_1_0_0_1_n_n none H wr

/-- Its affinities, an expert to a row. -/
def REFA (L : FVec Ideal Cert.Reference4Ideal.S8192x16 .f32) : FVec Ideal S16x8192 .f32 :=
  transpose Cert.Reference4Ideal.S16x8192 [1, 0] (Host.divf (Host.exp (subf L (broadcastInDim Cert.Reference4Ideal.S8192x16 ![0, 1] Cert.Reference4Ideal.Gen.bcast_S8192x1_S8192x16_0_1 (broadcastInDim Cert.Reference4Ideal.S8192x1 ![0] Cert.Reference4Ideal.Gen.bcast_S8192_S8192x1_0 (maximumf (broadcastInDim Cert.Reference4Ideal.S8192 ![] Cert.Reference4Ideal.Gen.bcast_S_S8192 (constant Cert.Reference4Ideal.S_ .f32 0xFF800000#32)) (Host.reduce FloatOps.maximumf L (constant Cert.Reference4Ideal.S_ .f32 0xFF800000#32) Cert.Reference4Ideal.Gen.reducesTo_S8192x16_S8192_d1 Cert.Reference4Ideal.Gen.h_S_)))))) (broadcastInDim Cert.Reference4Ideal.S8192x16 ![0, 1] Cert.Reference4Ideal.Gen.bcast_S8192x1_S8192x16_0_1 (broadcastInDim Cert.Reference4Ideal.S8192x1 ![0] Cert.Reference4Ideal.Gen.bcast_S8192_S8192x1_0 (Host.reduceAdd (Host.exp (subf L (broadcastInDim Cert.Reference4Ideal.S8192x16 ![0, 1] Cert.Reference4Ideal.Gen.bcast_S8192x1_S8192x16_0_1 (broadcastInDim Cert.Reference4Ideal.S8192x1 ![0] Cert.Reference4Ideal.Gen.bcast_S8192_S8192x1_0 (maximumf (broadcastInDim Cert.Reference4Ideal.S8192 ![] Cert.Reference4Ideal.Gen.bcast_S_S8192 (constant Cert.Reference4Ideal.S_ .f32 0xFF800000#32)) (Host.reduce FloatOps.maximumf L (constant Cert.Reference4Ideal.S_ .f32 0xFF800000#32) Cert.Reference4Ideal.Gen.reducesTo_S8192x16_S8192_d1 Cert.Reference4Ideal.Gen.h_S_)))))) (constant Cert.Reference4Ideal.S_ .f32 0x00000000#32) Cert.Reference4Ideal.Gen.reducesTo_S8192x16_S8192_d1 Cert.Reference4Ideal.Gen.h_S_)))) Cert.Reference4Ideal.Gen.transposes_S8192x16_S16x8192_1_0

theorem resX (m : (ℓ : Loc Cert.Reference4Ideal.nD Cert.Reference4Ideal.τ Cert.Reference4Ideal.sig) → Buf (Elt Ideal) ℓ) (c : Dev Cert.Reference4Ideal.nD) :
    Cert.Reference4Ideal.Value.res_out2 m c = REFA (REFL (REFH (REFX (m ((c.tc : Thread _ _).loc Cert.Reference4Ideal.main_arg0)) (m ((c.tc : Thread _ _).loc Cert.Reference4Ideal.main_arg1)) (m ((c.tc : Thread _ _).loc Cert.Reference4Ideal.main_arg2)) (m ((c.tc : Thread _ _).loc Cert.Reference4Ideal.main_arg3)) (m ((c.tc : Thread _ _).loc Cert.Reference4Ideal.main_arg4))) (m ((c.tc : Thread _ _).loc Cert.Reference4Ideal.main_arg4)) (m ((c.tc : Thread _ _).loc Cert.Reference4Ideal.main_arg5))) (m ((c.tc : Thread _ _).loc Cert.Reference4Ideal.main_arg6))) := rfl

end Cert.Kernel4Ideal.Hand

end
-- ==== Proof.OutValues.lean ====
/-
  THE OUT-PROJECTION'S VALUES: what the kernel leaves in each of its three results is the reference's array, block by block.
-/
module

public import proofs.«01_k».proof.Proof.Gen.Kernel4Ideal.Frame
public import proofs.«01_k».proof.Proof.Gen.Reference4Ideal.Run
public import proofs.«01_k».proof.Proof.OutRef
public import Idealize.ShloMosaic.Lib.Pipeline.ValueKit

@[expose] public section

set_option maxRecDepth 16384

noncomputable section

namespace Cert.Kernel4Ideal.Hand

open Cert.Kernel4Ideal Cert.Kernel4Ideal.Gen
open Idealize.ShloMosaic Idealize.ShloMosaic.TcCoe Idealize.SL.Sem

/-- The blocks the windows are at. -/
theorem idx : ∀ t : Fin cfg0.N, win0_0.index t = ![t.val, 0] ∧ win0_1.index t = ![t.val, 0] ∧ win0_2.index t = ![0, 0] ∧ win0_3.index t = ![t.val, 0] ∧ win0_4.index t = ![0, 0, 0] ∧ win0_5.index t = ![0, 0] ∧ win0_6.index t = ![0, 0]
    ∧ win0_7.index t = ![t.val, 0] ∧ win0_8.index t = ![t.val, 0] ∧ win0_9.index t = ![0, t.val] :=
  (by decide +kernel : ∀ t : Fin grid0.N, _)

/-- The starting value of a maximum, taken once more, changes nothing. -/
theorem max_fold {n : ℕ} (b : EReal) (f : Fin n → EReal) : max b (Finset.fold max b f Finset.univ) = Finset.fold max b f Finset.univ :=
  max_eq_right ((Finset.le_fold_max _).mpr (Or.inl le_rfl))

variable (m : (ℓ : Loc nD τ sig) → Buf (Elt Ideal) ℓ) (c : Dev nD)

/-- The projected rows: row `r` of point `t`'s block is row `R` of the whole. -/
theorem rowX (t : Fin cfg0.N) (r : Fin 512) (d : Fin 2048) (R : Fin 8192) (h : R.val = t.val * 512 + r.val) :
    k0_pay5 (F := Ideal) (iblk m c 0 t) (View.ld (iblk m c 2 t) r0_1) (iblk m c 1 t) (View.ld (iblk m c 2 t) r0_2) (iblk m c 4 t) (iblk m c 3 t) (ix2 r d) = REFX (m ((c : Thread nD τ).loc main_arg0)) (m ((c : Thread nD τ).loc main_arg1)) (m ((c : Thread nD τ).loc main_arg2)) (m ((c : Thread nD τ).loc main_arg3)) (m ((c : Thread nD τ).loc main_arg4)) (ix2 R d) := by
  pointwise [k0_pay5, k0_pay4, REFX]
  blk_point [iblk, V, idx t]

/-- The normalised and modulated rows, likewise. -/
theorem rowH (t : Fin cfg0.N) (r : Fin 512) (d : Fin 2048) (R : Fin 8192) (h : R.val = t.val * 512 + r.val) :
    k0_pay1 (F := Ideal) (k0_pay4 (iblk m c 4 t)) (k0_pay6 (iblk m c 0 t) (View.ld (iblk m c 2 t) r0_1) (iblk m c 1 t) (View.ld (iblk m c 2 t) r0_2) (iblk m c 4 t) (iblk m c 3 t) (iblk m c 5 t)) (k0_pay7 (iblk m c 4 t)) (ix2 r d) = REFH (REFX (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg4)) (m ((c : Thread nD τ).loc main_arg5)) (ix2 R d) := by
  pointwise [k0_pay1, k0_pay6, k0_pay7, k0_pay4, REFH]
  reads_congr
  · exact rowX m c t r d R h
  · exact rowX m c t r _ R h
  all_goals blk_ext! [iblk, V, idx t]

/-- The reference's logits at an entry. -/
theorem logits_read (H : FVec Ideal S8192x2048 .f32) (wr : FVec Ideal S2048x16 .f32) (R : Fin 8192) (e : Fin 16) :
    REFL H wr (ix2 R e) = ∑ k : Fin 2048, wr (ix2 k e) * H (ix2 R k) := by
  pointwise [REFL]
  exact Finset.sum_congr rfl fun k _ => mul_comm _ _

/-- The kernel's logits are the reference's. -/
theorem rowL (t : Fin cfg0.N) (r : Fin 512) (e : Fin 16) (R : Fin 8192) (h : R.val = t.val * 512 + r.val) :
    (∑ x : Fin 2048, (show FVec Ideal S16x2048 .bf16 from iblk m c 6 t) (ix2 e x) * k0_pay1 (F := Ideal) (k0_pay4 (iblk m c 4 t)) (k0_pay6 (iblk m c 0 t) (View.ld (iblk m c 2 t) r0_1) (iblk m c 1 t) (View.ld (iblk m c 2 t) r0_2) (iblk m c 4 t) (iblk m c 3 t) (iblk m c 5 t)) (k0_pay7 (iblk m c 4 t)) (ix2 r x) : EReal)
      = REFL (REFH (REFX (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg4)) (m ((c : Thread nD τ).loc main_arg5))) (m ((c : Thread nD τ).loc main_arg6)) (ix2 R e) := by
  rw [logits_read]
  refine Finset.sum_congr rfl fun x _ => ?_
  rw [rowH m c t r x R h]
  refine congrArg (· * _) ?_
  blk_ext! [iblk, V, idx t]

/-- Equal scores have equal shares. -/
theorem softmax_congr (b : EReal) (f g : Fin 16 → EReal) (h : ∀ e, f e = g e) (i : Fin 16) :
    Ideal.div (Ideal.exp (f i - Finset.fold max b (fun x => f x) Finset.univ))
        (∑ x, Ideal.exp (f x - Finset.fold max b (fun x => f x) Finset.univ))
      = Ideal.div (Ideal.exp (g i - Finset.fold max b (fun x => g x) Finset.univ))
        (∑ x, Ideal.exp (g x - Finset.fold max b (fun x => g x) Finset.univ)) := by
  obtain rfl := funext h
  rfl

/-- Result 0: the projected rows. -/
theorem final7 : (dats m 0 c).arrAt 7 (cfgs 0).N = REFX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  obtain ⟨r, d, rfl⟩ : ∃ (r : Fin 512) (d : Fin 2048), y = ix2 r d := ⟨y 0, y 1, (by blk_ext)⟩
  refine (rowX m c t r d (((View.whole main_v5_0).slice (win0_7.rect t)).emb (ix2 r d) 0) (by blk_simp [idx t])).trans (congrArg (REFX (m ((c : Thread nD τ).loc main_arg0)) (m ((c : Thread nD τ).loc main_arg1)) (m ((c : Thread nD τ).loc main_arg2)) (m ((c : Thread nD τ).loc main_arg3)) (m ((c : Thread nD τ).loc main_arg4))) ?_)
  blk_ext [idx t]

/-- Result 1: the normalised rows. -/
theorem final8 : (dats m 0 c).arrAt 8 (cfgs 0).N = REFH (REFX (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg4)) (m ((c : Thread nD τ).loc main_arg5)) := by
  refine (dats m 0 c).arrAt_eq_of_covers 8 _ (by decide +kernel) fun t _ y => ?_
  blk_simp
  rw [after0_8]; frame_out
  unfold k0_pay8 k0_pay9 k0_pay10
  frame_out
  obtain ⟨r, d, rfl⟩ : ∃ (r : Fin 512) (d : Fin 2048), y = ix2 r d := ⟨y 0, y 1, (by blk_ext)⟩
  refine (rowH m c t r d (((View.whole main_v5_1).slice (win0_8.rect t)).emb (ix2 r d) 0) (by blk_simp [idx t])).trans (congrArg (REFH (REFX (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg4)) (m ((c : Thread nD τ).loc main_arg5))) ?_)
  blk_ext [idx t]

/-- Result 2: the router's scores. -/
theorem final9 : (dats m 0 c).arrAt 9 (cfgs 0).N = REFA (REFL (REFH (REFX (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg4)) (m ((c : Thread nD τ).loc main_arg5))) (m ((c : Thread nD τ).loc main_arg6))) := by
  refine (dats m 0 c).arrAt_eq_of_covers 9 _ (by decide +kernel) fun t _ y => ?_
  blk_simp
  rw [after0_9]; frame_out
  unfold k0_pay8 k0_pay9 k0_pay10
  frame_out
  pointwise [k0_pay3, REFA]
  simp only [max_fold]
  have key := fun e => rowL m c t (y 1) e (((View.whole main_v5_2).slice (win0_9.rect t)).emb y 1) (by blk_simp [idx t])
  have e0 : ((View.whole main_v5_2).slice (win0_9.rect t)).emb y 0 = y 0 := Fin.ext (by blk_simp [idx t])
  dsimp only at key
  rw [e0]
  have := softmax_congr (Ideal.ofBits FTy.f32 4286578688#32) _ _ key (y 0)
  exact this

end Cert.Kernel4Ideal.Hand

end
-- ==== Proof.OutClaims.lean ====
/-
  THE OUT-PROJECTION AND ROUTER CALL: what is claimed of it. Its three results are the reference's at the ideal
  instance, on every input.
-/
module

public import proofs.«01_k».proof.Defs
public import proofs.«01_k».proof.Proof.OutValues
public import proofs.«01_k».proof.Proof.Gen.Kernel4
public import proofs.«01_k».proof.Proof.Gen.Kernel4.Frame
public import Idealize.ShloMosaic.Lib.Quiescent

@[expose] public section

set_option maxRecDepth 16384

noncomputable section

namespace Cert.Kernel4Ideal.Hand

open Idealize.ShloMosaic Idealize.ShloMosaic.TcCoe Idealize.SL.Sem
open Cert.Kernel4Ideal Cert.Kernel4Ideal.Gen

/-- The reference of the out-projection runs, its arguments unchanged; it declares no semaphore. -/
theorem frame_reference : Cert.quiescent_Reference4Ideal := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

/-- The three results of the out-projection call are the reference's. -/
theorem algebraic : Cert.algebraic_Kernel4Ideal_Reference4Ideal := by
  intro m g m' g' _ hargs
  refine ⟨fun c => REFX (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)),
    fun c => REFH (REFX (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)),
    fun c => REFA (REFL (REFH (REFX (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5))) (m' ((c.tc : Thread Cert.Reference4Ideal.nD Cert.Reference4Ideal.τ).loc Cert.Reference4Ideal.main_arg6))), ?_, ?_⟩
  · refine (θ_run defs _ _).mono (fun _ h c => ?_) (run_main m g)
    obtain ⟨h0, h1, h2, h3, h4, h5, h6⟩ := hargs c
    refine ⟨((h c).1 7).trans ((final7 m c).trans ?_), ((h c).1 8).trans ((final8 m c).trans ?_), ((h c).1 9).trans ((final9 m c).trans ?_),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩
    · beta_reduce; rw [h0, h1, h2, h3, h4]
    · beta_reduce; rw [h0, h1, h2, h3, h4, h5]
    · beta_reduce; rw [h0, h1, h2, h3, h4, h5, h6]
  · exact (θ_run Cert.Reference4Ideal.defs _ _).mono (fun r h c => ⟨(h c).1, (h c).2.1, (h c).2.2.1.trans (resX m' c), (h c).2.2.2⟩)
      (Cert.Reference4Ideal.Value.run (F := Ideal) m' g')

end Cert.Kernel4Ideal.Hand

end
-- ==== Proof.InDefs.lean ====
/-
  THE INPUT PROJECTION, what its body computes: the normed rows of a token block sixteen at a time, the product, and the product normed by head.
-/
module

public import proofs.«01_k».proof.Proof.Gen.Kernel5Ideal.Launch
public import Idealize.ShloMosaic.Lib.Pipeline.FrameBody
public import Idealize.ShloMosaic.Lib.Pipeline.Value
public import Idealize.ShloMosaic.Lib.VecWindow
public import Idealize.ShloMosaic.Lib.Pointwise.Index
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Sixteen rows of a 1024-row block, from row `16 * b`. -/
def rows (x : Vec F S1024x2048 .f32) (b : ℕ) : Vec F S16x2048 .f32 := fun z =>
  x (ix2 (⟨(16 * b + (z 0).val) % 1024, Nat.mod_lt _ (by decide)⟩ : Fin 1024) (z 1))

/-- The modulated RMS norm of sixteen rows: `x * rsqrt(mean(x²) + eps) * w * (1 + scale) + shift`, rounded. -/
def nrm (x : Vec F S16x2048 .f32) (w : Vec F S1x2048 .f32) (mm : Vec F S1x6x2048 .f32) : FVec F S16x2048 .bf16 :=
  have v22 : FVec F S16x2048 .f32 := shapeCast S16x2048 x shapeCasts_S16x2048_S16x2048
  have v18 : FVec F S6x2048 .f32 := shapeCast S6x2048 mm shapeCasts_S1x6x2048_S6x2048
  have v25 : FVec F S16x1 .f32 := shapeCast S16x1 (multiReduction .add [1] S16 (mulf v22 v22) 0x00000000#32 reduces_S16x2048_S16 (.inl rfl) rfl) shapeCasts_S16_S16x1
  have v30 : FVec F S16x1 .f32 := rsqrt (addf (divf v25 (broadcast S16x1 (Scalar.ofBits .f32 0x45000000#32))) (broadcast S16x1 (Scalar.ofBits .f32 0x358637BD#32)))
  have v34 : FVec F S16x2048 .f32 := mulf (mulf v22 (broadcastTo S16x2048 v30 broadcasts_S16x1_S16x2048)) (broadcastTo S16x2048 (shapeCast S1x2048 w shapeCasts_S1x2048_S1x2048 : FVec F S1x2048 .f32) broadcasts_S1x2048_S16x2048)
  have v37 : FVec F S1x2048 .f32 := addf (broadcast S1x2048 (Scalar.ofBits .f32 0x3F800000#32)) (extractStridedSlice S1x2048 ![1, 0] v18 slices_S6x2048_o1_0_S1x2048)
  have v40 : FVec F S1x2048 .f32 := extractStridedSlice S1x2048 ![0, 0] v18 slices_S6x2048_o0_0_S1x2048
  have v43 : FVec F S16x2048 .bf16 := truncf .bf16 (addf (mulf v34 (broadcastTo S16x2048 v37 broadcasts_S1x2048_S16x2048)) (broadcastTo S16x2048 v40 broadcasts_S1x2048_S16x2048)) bitsLt_bf16_f32
  shapeCast S16x2048 v43 shapeCasts_S16x2048_S16x2048

/-- The normed block, sixteen rows at a time. -/
def NB (x : Vec F S1024x2048 .f32) (w : Vec F S1x2048 .f32) (mm : Vec F S1x6x2048 .f32) : Vec F S1024x2048 .bf16 := fun y =>
  nrm (rows x ((y 0).val / 16)) w mm (ix2 (⟨(y 0).val % 16, Nat.mod_lt _ (by decide)⟩ : Fin 16) (y 1))

/-- `B` with `n` groups of sixteen rows, from group `b` on, replaced by the normed block's. -/
def Up (x : Vec F S1024x2048 .f32) (w : Vec F S1x2048 .f32) (mm : Vec F S1x6x2048 .f32) (B : Vec F S1024x2048 .bf16) (b n : ℕ) : Vec F S1024x2048 .bf16 := fun y =>
  if 16 * b ≤ (y 0).val ∧ (y 0).val < 16 * (b + n) then NB x w mm y else B y

theorem Up_zero (x : Vec F S1024x2048 .f32) (w : Vec F S1x2048 .f32) (mm : Vec F S1x6x2048 .f32) (B : Vec F S1024x2048 .bf16) (b : ℕ) : Up x w mm B b 0 = B := by
  funext y; unfold Up; rw [if_neg (by omega)]

theorem Up_all (x : Vec F S1024x2048 .f32) (w : Vec F S1x2048 .f32) (mm : Vec F S1x6x2048 .f32) (B : Vec F S1024x2048 .bf16) : Up x w mm B 0 64 = NB x w mm := by
  funext y; unfold Up; rw [if_pos ⟨by omega, by have := (y 0).isLt; have e : S1024x2048.size 0 = 1024 := rfl; omega⟩]

/-- One more group of sixteen rows. -/
theorem put_Up (x : Vec F S1024x2048 .f32) (w : Vec F S1x2048 .f32) (mm : Vec F S1x6x2048 .f32) (B : Vec F S1024x2048 .bf16) (b n : ℕ) (hb : b + n < 64) :
    VecWindow.put (Up x w mm B b n) ![16 * (b + n), 0] S16x2048.size (nrm (rows x (b + n)) w mm) = Up x w mm B b (n + 1) := by
  funext y
  have hy1 := (y 1).isLt
  have e1 : S1024x2048.size 1 = 2048 := rfl
  have e2 : S16x2048.size 1 = 2048 := rfl
  have e3 : S16x2048.size 0 = 16 := rfl
  unfold VecWindow.put
  by_cases h : ∀ a, (![16 * (b + n), 0] : Fin 2 → ℕ) a ≤ (y a).val ∧ (y a).val < (![16 * (b + n), 0] : Fin 2 → ℕ) a + S16x2048.size a
  · rw [dif_pos h]
    have h0 := h 0
    have h0' : 16 * (b + n) ≤ (y 0).val ∧ (y 0).val < 16 * (b + n) + 16 := h0
    unfold Up
    rw [if_pos ⟨by omega, by omega⟩]
    unfold NB
    rw [show (y 0).val / 16 = b + n by omega]
    refine congrArg _ (funext fun a => Fin.ext ?_)
    fin_cases a
    · show (y 0).val - 16 * (b + n) = (y 0).val % 16; omega
    · show (y 1).val - 0 = (y 1).val; omega
  · rw [dif_neg h]
    have h' : ¬ (16 * (b + n) ≤ (y 0).val ∧ (y 0).val < 16 * (b + n) + 16) := fun hh => h fun a => by
      fin_cases a
      · exact hh
      · exact ⟨Nat.zero_le _, by show (y 1).val < 0 + 2048; omega⟩
    unfold Up
    by_cases hc : 16 * b ≤ (y 0).val ∧ (y 0).val < 16 * (b + n)
    · rw [if_pos hc, if_pos ⟨hc.1, by omega⟩]
    · rw [if_neg hc, if_neg (by omega)]

/-- A load of sixteen rows at a closed offset reads `rows`. -/
theorem ld_rows (x : Vec F S1024x2048 .f32) (off : Fin 2 → ℕ) (inb : ∀ a, off a + S16x2048.size a ≤ S1024x2048.size a) (b : ℕ) (h : off = ![16 * b, 0]) (hb : b < 64) :
    (View.ld (Val := Elt F) x (Rect.unit (s := S1024x2048) off S16x2048.size inb) : S16x2048.Idx → Elt F .f32) = rows x b := by
  subst h
  funext z
  have hz : (z 0).val < 16 := (z 0).isLt
  unfold rows
  refine congrArg x (funext fun a => Fin.ext ?_)
  fin_cases a
  · show 16 * b + 1 * (z 0).val = (16 * b + (z 0).val) % 1024; omega
  · show 0 + 1 * (z 1).val = (z 1).val; omega

/-- The payload of one group, as the body computes it from the loads. -/
theorem pay_eq (x : Vec F S1024x2048 .f32) (w : Vec F S1x2048 .f32) (mm : Vec F S1x6x2048 .f32) (off : Fin 2 → ℕ) (inb : ∀ a, off a + S16x2048.size a ≤ S1024x2048.size a) (b : ℕ) (h : off = ![16 * b, 0]) (hb : b < 64) :
    nrm (View.ld (Val := Elt F) x (Rect.unit (s := S1024x2048) off S16x2048.size inb)) (View.ld (Val := Elt F) w (Rect.unit (s := S1x2048) ![0, 0] S1x2048.size inb_S1x2048_S1x2048_0_0)) (View.ld (Val := Elt F) mm (Rect.unit (s := S1x6x2048) ![0, 0, 0] S1x6x2048.size inb_S1x6x2048_S1x6x2048_0_0_0))
      = nrm (rows x b) w mm := by
  rw [ld_rows x off inb b h hb]
  rw [show View.ld (Val := Elt F) w (Rect.unit (s := S1x2048) ![0, 0] S1x2048.size inb_S1x2048_S1x2048_0_0) = w from View.ld_unit_zero (funext fun a => by fin_cases a <;> rfl) _ w]
  rw [show View.ld (Val := Elt F) mm (Rect.unit (s := S1x6x2048) ![0, 0, 0] S1x6x2048.size inb_S1x6x2048_S1x6x2048_0_0_0) = mm from View.ld_unit_zero (funext fun a => by fin_cases a <;> rfl) _ mm]

/-- One store of a group over earlier stores. -/
theorem read_group {κ : Kind} {sp : Space} (v : View sig κ sp S1024x2048 .bf16) (f : v.ty.Contents (Elt F)) (L : List (View.Piece (Elt F) S1024x2048 .bf16)) (x : Vec F S1024x2048 .f32) (w : Vec F S1x2048 .f32) (mm : Vec F S1x6x2048 .f32) (B : Vec F S1024x2048 .bf16)
    (off : Fin 2 → ℕ) (inb : ∀ a, off a + S16x2048.size a ≤ S1024x2048.size a) (b n : ℕ) (h : off = ![16 * (b + n), 0]) (hb : b + n < 64)
    (hL : v.read (Elt F) (v.writes (Elt F) f L) = Up x w mm B b n) (inb' : ∀ a, off a + S16x2048.size a ≤ S1024x2048.size a) :
    v.read (Elt F) (v.writes (Elt F) f (⟨Rect.unit (s := S1024x2048) off S16x2048.size inb, nrm (View.ld (Val := Elt F) x (Rect.unit (s := S1024x2048) off S16x2048.size inb')) (View.ld (Val := Elt F) w (Rect.unit (s := S1x2048) ![0, 0] S1x2048.size inb_S1x2048_S1x2048_0_0)) (View.ld (Val := Elt F) mm (Rect.unit (s := S1x6x2048) ![0, 0, 0] S1x6x2048.size inb_S1x6x2048_S1x6x2048_0_0_0))⟩ :: L))
      = Up x w mm B b (n + 1) := by
  rw [View.read_writes_cons_put v f inb _ L h, hL, pay_eq x w mm off inb' (b + n) h hb]
  exact put_Up x w mm B b n hb

/-- The plain product with a column block of the weights. -/
def projT (A : Vec F S1024x2048 .bf16) (w : Vec F S2048x512 .f32) : FVec F S1024x512 .f32 :=
  matmul dot_S1024x2048_S2048x512_S1024x512_1_0_0_1_n_n none A (truncf .bf16 (w : FVec F S2048x512 .f32) bitsLt_bf16_f32) (constant S1024x512 .f32 0x00000000#32)

/-- The product normed per head: the squares averaged over each head by a product with `g`. -/
def headT (arg1 : BitVec 32) (A : Vec F S1024x2048 .bf16) (w : Vec F S2048x512 .f32) (hq hk : Vec F S1x512 .f32) (g : Vec F S512x512 .bf16) : FVec F S1024x512 .f32 :=
  have acc : FVec F S1024x512 .f32 := projT A w
  have sq : FVec F S1024x512 .f32 := mulf acc acc
  have hi : FVec F S1024x512 .bf16 := truncf .bf16 sq bitsLt_bf16_f32
  have lo : FVec F S1024x512 .bf16 := truncf .bf16 (subf sq (extf .f32 hi bitsLt_bf16_f32)) bitsLt_bf16_f32
  have gg : FVec F S512x512 .bf16 := shapeCast S512x512 g shapeCasts_S512x512_S512x512
  have ms : FVec F S1024x512 .f32 := addf (matmul dot_S1024x512_S512x512_S1024x512_1_0_0_1_n_n none hi gg (constant S1024x512 .f32 0x00000000#32)) (matmul dot_S1024x512_S512x512_S1024x512_1_0_0_1_n_n none lo gg (constant S1024x512 .f32 0x00000000#32))
  have hw : FVec F S1x512 .f32 := Scalar.select (Scalar.cmpi .slt arg1 2#32) (shapeCast S1x512 hq shapeCasts_S1x512_S1x512 : FVec F S1x512 .f32) (shapeCast S1x512 hk shapeCasts_S1x512_S1x512 : FVec F S1x512 .f32)
  mulf (mulf acc (rsqrt (addf ms (broadcast S1024x512 (Scalar.ofBits .f32 0x358637BD#32))))) (broadcastTo S1024x512 hw broadcasts_S1x512_S1024x512)

/-- The body's loads of the whole buffers read their contents. -/
theorem projT_ld (A : Vec F S1024x2048 .bf16) (w : Vec F S2048x512 .f32) : projT (View.ld (Val := Elt F) A (Rect.unit (s := S1024x2048) ![0, 0] S1024x2048.size inb_S1024x2048_S1024x2048_0_0)) (View.ld (Val := Elt F) w (Rect.unit (s := S2048x512) ![0, 0] S2048x512.size inb_S2048x512_S2048x512_0_0)) = projT A w := by
  rw [show (View.ld (Val := Elt F) A (Rect.unit (s := S1024x2048) ![0, 0] S1024x2048.size inb_S1024x2048_S1024x2048_0_0)) = A from View.ld_unit_zero (funext fun a => by fin_cases a <;> rfl) _ A, show (View.ld (Val := Elt F) w (Rect.unit (s := S2048x512) ![0, 0] S2048x512.size inb_S2048x512_S2048x512_0_0)) = w from View.ld_unit_zero (funext fun a => by fin_cases a <;> rfl) _ w]

/-- The same under the head norm. -/
theorem headT_ld (arg1 : BitVec 32) (A : Vec F S1024x2048 .bf16) (w : Vec F S2048x512 .f32) (hq hk : Vec F S1x512 .f32) (g : Vec F S512x512 .bf16) :
    headT arg1 (View.ld (Val := Elt F) A (Rect.unit (s := S1024x2048) ![0, 0] S1024x2048.size inb_S1024x2048_S1024x2048_0_0)) (View.ld (Val := Elt F) w (Rect.unit (s := S2048x512) ![0, 0] S2048x512.size inb_S2048x512_S2048x512_0_0)) (View.ld (Val := Elt F) hq (Rect.unit (s := S1x512) ![0, 0] S1x512.size inb_S1x512_S1x512_0_0)) (View.ld (Val := Elt F) hk (Rect.unit (s := S1x512) ![0, 0] S1x512.size inb_S1x512_S1x512_0_0)) (View.ld (Val := Elt F) g (Rect.unit (s := S512x512) ![0, 0] S512x512.size inb_S512x512_S512x512_0_0)) = headT arg1 A w hq hk g := by
  rw [show (View.ld (Val := Elt F) A (Rect.unit (s := S1024x2048) ![0, 0] S1024x2048.size inb_S1024x2048_S1024x2048_0_0)) = A from View.ld_unit_zero (funext fun a => by fin_cases a <;> rfl) _ A, show (View.ld (Val := Elt F) w (Rect.unit (s := S2048x512) ![0, 0] S2048x512.size inb_S2048x512_S2048x512_0_0)) = w from View.ld_unit_zero (funext fun a => by fin_cases a <;> rfl) _ w, show (View.ld (Val := Elt F) hq (Rect.unit (s := S1x512) ![0, 0] S1x512.size inb_S1x512_S1x512_0_0)) = hq from View.ld_unit_zero (funext fun a => by fin_cases a <;> rfl) _ hq, show (View.ld (Val := Elt F) hk (Rect.unit (s := S1x512) ![0, 0] S1x512.size inb_S1x512_S1x512_0_0)) = hk from View.ld_unit_zero (funext fun a => by fin_cases a <;> rfl) _ hk, show (View.ld (Val := Elt F) g (Rect.unit (s := S512x512) ![0, 0] S512x512.size inb_S512x512_S512x512_0_0)) = g from View.ld_unit_zero (funext fun a => by fin_cases a <;> rfl) _ g]

end Cert.Kernel5Ideal.Hand
-- ==== Proof.InBase.lean ====
/-
  THE INPUT PROJECTION, the buffers its body holds, and where the eight groups of rows a point norms begin.
-/
module

public import proofs.«01_k».proof.Proof.Gen.Kernel5Ideal.Launch
public import Idealize.ShloMosaic.Lib.Pipeline.FrameBody
public import Idealize.ShloMosaic.Lib.Pipeline.Value
public import Idealize.ShloMosaic.Lib.VecWindow
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.InDefs

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers the body holds, with their contents. -/
def St (c : Dev nD) (arg2 : Memref sig .tc .vmem S1024x2048 .f32) (arg3 : Memref sig .tc .vmem S1024x2048 .f32) (arg4 : Memref sig .tc .vmem S1x6x2048 .f32) (arg5 : Memref sig .tc .vmem S1x6x2048 .f32) (arg6 : Memref sig .tc .vmem S1x2048 .f32) (arg7 : Memref sig .tc .vmem S2048x512 .f32) (arg8 : Memref sig .tc .vmem S1x512 .f32) (arg9 : Memref sig .tc .vmem S1x512 .f32) (arg10 : Memref sig .tc .vmem S512x512 .bf16) (arg11 : Memref sig .tc .vmem S1024x512 .f32) (arg12 : Memref sig .tc .vmem S1024x2048 .bf16) (arg13 : Memref sig .tc .vmem S1024x2048 .bf16) (x2 : Vec F S1024x2048 .f32) (x3 : Vec F S1024x2048 .f32) (x4 : Vec F S1x6x2048 .f32) (x5 : Vec F S1x6x2048 .f32) (x6 : Vec F S1x2048 .f32) (x7 : Vec F S2048x512 .f32) (x8 : Vec F S1x512 .f32) (x9 : Vec F S1x512 .f32) (x10 : Vec F S512x512 .bf16) (d11 : Vec F S1024x512 .f32) (A : Vec F S1024x2048 .bf16) (B : Vec F S1024x2048 .bf16) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare d11 ∗ owns (c : Thread nD τ) arg12 fullShare A ∗ owns (c : Thread nD τ) arg13 fullShare B)

theorem off2_row (i : grid0.Coords) (r : Fin 8) : k0_off2 i (BitVec.ofNat 32 (16 * r.val)) = ![16 * (8 * (min (i 1).val 7) + r.val), 0] := by
  rw [k0_off2_eq]; congr 1; omega
theorem off3_row (i : grid0.Coords) (r : Fin 8) : k0_off3 i (BitVec.ofNat 32 (16 * r.val)) = ![16 * (8 * (min (i 1).val 7) + r.val), 0] := by
  rw [k0_off3_eq]; congr 1; omega
theorem off4_row (i : grid0.Coords) (r : Fin 8) : k0_off4 i (BitVec.ofNat 32 (16 * r.val)) = ![16 * (8 * (min (i 1).val 7) + r.val), 0] := by
  rw [k0_off4_eq]; congr 1; omega
theorem off5_row (i : grid0.Coords) (r : Fin 8) : k0_off5 i (BitVec.ofNat 32 (16 * r.val)) = ![16 * (8 * (min (i 1).val 7) + r.val), 0] := by
  rw [k0_off5_eq]; congr 1; omega

end Cert.Kernel5Ideal.Hand
-- ==== Proof.InBody1.lean ====
/-
  THE INPUT PROJECTION'S BODY at an odd block and a normed column.
-/
module

public import proofs.«01_k».proof.Proof.Gen.Kernel5Ideal.Launch
public import Idealize.ShloMosaic.Lib.Pipeline.FrameBody
public import Idealize.ShloMosaic.Lib.Pipeline.Value
public import Idealize.ShloMosaic.Lib.VecWindow
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.InBase

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- An odd block, a normed column. -/
theorem body_odd_head (c : Dev nD) (E : Set ℕ) (i : grid0.Coords) (h1 : ¬ k0_cond1 i = 1#1) (h2 : ¬ k0_cond2 i = 1#1) (h5 : k0_cond5 i = 1#1) (h6 : k0_cond6 i = 1#1) (h7 : ¬ k0_cond7 i = 1#1)
    (arg2 : Memref sig .tc .vmem S1024x2048 .f32) (harg2 : arg2.IsWhole) (arg3 : Memref sig .tc .vmem S1024x2048 .f32) (harg3 : arg3.IsWhole) (arg4 : Memref sig .tc .vmem S1x6x2048 .f32) (harg4 : arg4.IsWhole) (arg5 : Memref sig .tc .vmem S1x6x2048 .f32) (harg5 : arg5.IsWhole) (arg6 : Memref sig .tc .vmem S1x2048 .f32) (harg6 : arg6.IsWhole) (arg7 : Memref sig .tc .vmem S2048x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S1024x2048 .bf16) (harg12 : arg12.IsWhole) (arg13 : Memref sig .tc .vmem S1024x2048 .bf16) (harg13 : arg13.IsWhole)
    (x2 : Vec F S1024x2048 .f32) (x3 : Vec F S1024x2048 .f32) (x4 : Vec F S1x6x2048 .f32) (x5 : Vec F S1x6x2048 .f32) (x6 : Vec F S1x2048 .f32) (x7 : Vec F S2048x512 .f32) (x8 : Vec F S1x512 .f32) (x9 : Vec F S1x512 .f32) (x10 : Vec F S512x512 .bf16) (d11 : Vec F S1024x512 .f32) (A : Vec F S1024x2048 .bf16) (B : Vec F S1024x2048 .bf16) (K : PUnit → sProp 𝕄) :
    St c arg2 arg3 arg4 arg5 arg6 arg7 arg8 arg9 arg10 arg11 arg12 arg13 x2 x3 x4 x5 x6 x7 x8 x9 x10 d11 A B
      ⊢ iprop((St c arg2 arg3 arg4 arg5 arg6 arg7 arg8 arg9 arg10 arg11 arg12 arg13 x2 x3 x4 x5 x6 x7 x8 x9 x10 (headT (BitVec.ofNat 32 (i 1).val) B x7 x8 x9 x10) (Up x3 x6 x5 A (8 * (min (i 1).val 7)) 8) B -∗ K ⟨⟩) -∗ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13) K) := by
  unfold cc0_in_projection
  rw [show St c arg2 arg3 arg4 arg5 arg6 arg7 arg8 arg9 arg10 arg11 arg12 arg13 x2 x3 x4 x5 x6 x7 x8 x9 x10 d11 A B = iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare d11 ∗ owns (c : Thread nD τ) arg12 fullShare A ∗ owns (c : Thread nD τ) arg13 fullShare B) from rfl]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩ HK
  subst hf2 hf3 hf4 hf5 hf6 hf7 hf8 hf9 hf10 hf11 hf12 hf13
  sl_exec
  sl_step
  iapply HK
  unfold St owns
  isplitl [H2]
  · iexists f2; isplitr [H2]; ipureintro; rfl; iexact H2
  isplitl [H3]
  · iexists f3; isplitr [H3]; ipureintro; rfl; iexact H3
  isplitl [H4]
  · iexists f4; isplitr [H4]; ipureintro; rfl; iexact H4
  isplitl [H5]
  · iexists f5; isplitr [H5]; ipureintro; rfl; iexact H5
  isplitl [H6]
  · iexists f6; isplitr [H6]; ipureintro; rfl; iexact H6
  isplitl [H7]
  · iexists f7; isplitr [H7]; ipureintro; rfl; iexact H7
  isplitl [H8]
  · iexists f8; isplitr [H8]; ipureintro; rfl; iexact H8
  isplitl [H9]
  · iexists f9; isplitr [H9]; ipureintro; rfl; iexact H9
  isplitl [H10]
  · iexists f10; isplitr [H10]; ipureintro; rfl; iexact H10
  isplitl [H11]
  · iexists _; isplitr [H11]; swap
    · iexact H11
    · ipureintro; exact (View.read_writes_full _ _ _ _ _).trans (headT_ld _ _ _ _ _ _)
  isplitl [H12]
  · iexists _; isplitr [H12]; swap
    · iexact H12
    · ipureintro
      have hb : 8 * (min (i 1).val 7) + 7 < 64 := by omega
      exact read_group _ _ _ _ _ _ _ _ _ _ 7 (off4_row i 7) (by omega) (read_group _ _ _ _ _ _ _ _ _ _ 6 (off4_row i 6) (by omega) (read_group _ _ _ _ _ _ _ _ _ _ 5 (off4_row i 5) (by omega) (read_group _ _ _ _ _ _ _ _ _ _ 4 (off4_row i 4) (by omega) (read_group _ _ _ _ _ _ _ _ _ _ 3 (off4_row i 3) (by omega) (read_group _ _ _ _ _ _ _ _ _ _ 2 (off4_row i 2) (by omega) (read_group _ _ _ _ _ _ _ _ _ _ 1 (off4_row i 1) (by omega) (read_group _ _ _ _ _ _ _ _ _ _ 0 (off4_row i 0) (by omega) ((Up_zero _ _ _ _ _).symm) _) _) _) _) _) _) _) _
  iexists f13; isplitr [H13]; ipureintro; rfl; iexact H13

end Cert.Kernel5Ideal.Hand
-- ==== Proof.InBody2.lean ====
/-
  THE INPUT PROJECTION'S BODY at an odd block and a plain column.
-/
module

public import proofs.«01_k».proof.Proof.Gen.Kernel5Ideal.Launch
public import Idealize.ShloMosaic.Lib.Pipeline.FrameBody
public import Idealize.ShloMosaic.Lib.Pipeline.Value
public import Idealize.ShloMosaic.Lib.VecWindow
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.InBase

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- An odd block, a plain column. -/
theorem body_odd_plain (c : Dev nD) (E : Set ℕ) (i : grid0.Coords) (h1 : ¬ k0_cond1 i = 1#1) (h2 : ¬ k0_cond2 i = 1#1) (h5 : k0_cond5 i = 1#1) (h6 : ¬ k0_cond6 i = 1#1) (h7 : k0_cond7 i = 1#1)
    (arg2 : Memref sig .tc .vmem S1024x2048 .f32) (harg2 : arg2.IsWhole) (arg3 : Memref sig .tc .vmem S1024x2048 .f32) (harg3 : arg3.IsWhole) (arg4 : Memref sig .tc .vmem S1x6x2048 .f32) (harg4 : arg4.IsWhole) (arg5 : Memref sig .tc .vmem S1x6x2048 .f32) (harg5 : arg5.IsWhole) (arg6 : Memref sig .tc .vmem S1x2048 .f32) (harg6 : arg6.IsWhole) (arg7 : Memref sig .tc .vmem S2048x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S1024x2048 .bf16) (harg12 : arg12.IsWhole) (arg13 : Memref sig .tc .vmem S1024x2048 .bf16) (harg13 : arg13.IsWhole)
    (x2 : Vec F S1024x2048 .f32) (x3 : Vec F S1024x2048 .f32) (x4 : Vec F S1x6x2048 .f32) (x5 : Vec F S1x6x2048 .f32) (x6 : Vec F S1x2048 .f32) (x7 : Vec F S2048x512 .f32) (x8 : Vec F S1x512 .f32) (x9 : Vec F S1x512 .f32) (x10 : Vec F S512x512 .bf16) (d11 : Vec F S1024x512 .f32) (A : Vec F S1024x2048 .bf16) (B : Vec F S1024x2048 .bf16) (K : PUnit → sProp 𝕄) :
    St c arg2 arg3 arg4 arg5 arg6 arg7 arg8 arg9 arg10 arg11 arg12 arg13 x2 x3 x4 x5 x6 x7 x8 x9 x10 d11 A B
      ⊢ iprop((St c arg2 arg3 arg4 arg5 arg6 arg7 arg8 arg9 arg10 arg11 arg12 arg13 x2 x3 x4 x5 x6 x7 x8 x9 x10 (projT B x7) (Up x3 x6 x5 A (8 * (min (i 1).val 7)) 8) B -∗ K ⟨⟩) -∗ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13) K) := by
  unfold cc0_in_projection
  rw [show St c arg2 arg3 arg4 arg5 arg6 arg7 arg8 arg9 arg10 arg11 arg12 arg13 x2 x3 x4 x5 x6 x7 x8 x9 x10 d11 A B = iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare d11 ∗ owns (c : Thread nD τ) arg12 fullShare A ∗ owns (c : Thread nD τ) arg13 fullShare B) from rfl]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩ HK
  subst hf2 hf3 hf4 hf5 hf6 hf7 hf8 hf9 hf10 hf11 hf12 hf13
  sl_exec
  sl_step
  iapply HK
  unfold St owns
  isplitl [H2]
  · iexists f2; isplitr [H2]; ipureintro; rfl; iexact H2
  isplitl [H3]
  · iexists f3; isplitr [H3]; ipureintro; rfl; iexact H3
  isplitl [H4]
  · iexists f4; isplitr [H4]; ipureintro; rfl; iexact H4
  isplitl [H5]
  · iexists f5; isplitr [H5]; ipureintro; rfl; iexact H5
  isplitl [H6]
  · iexists f6; isplitr [H6]; ipureintro; rfl; iexact H6
  isplitl [H7]
  · iexists f7; isplitr [H7]; ipureintro; rfl; iexact H7
  isplitl [H8]
  · iexists f8; isplitr [H8]; ipureintro; rfl; iexact H8
  isplitl [H9]
  · iexists f9; isplitr [H9]; ipureintro; rfl; iexact H9
  isplitl [H10]
  · iexists f10; isplitr [H10]; ipureintro; rfl; iexact H10
  isplitl [H11]
  · iexists _; isplitr [H11]; swap
    · iexact H11
    · ipureintro; exact (View.read_writes_full _ _ _ _ _).trans (projT_ld _ _)
  isplitl [H12]
  · iexists _; isplitr [H12]; swap
    · iexact H12
    · ipureintro
      have hb : 8 * (min (i 1).val 7) + 7 < 64 := by omega
      exact read_group _ _ _ _ _ _ _ _ _ _ 7 (off5_row i 7) (by omega) (read_group _ _ _ _ _ _ _ _ _ _ 6 (off5_row i 6) (by omega) (read_group _ _ _ _ _ _ _ _ _ _ 5 (off5_row i 5) (by omega) (read_group _ _ _ _ _ _ _ _ _ _ 4 (off5_row i 4) (by omega) (read_group _ _ _ _ _ _ _ _ _ _ 3 (off5_row i 3) (by omega) (read_group _ _ _ _ _ _ _ _ _ _ 2 (off5_row i 2) (by omega) (read_group _ _ _ _ _ _ _ _ _ _ 1 (off5_row i 1) (by omega) (read_group _ _ _ _ _ _ _ _ _ _ 0 (off5_row i 0) (by omega) ((Up_zero _ _ _ _ _).symm) _) _) _) _) _) _) _) _
  iexists f13; isplitr [H13]; ipureintro; rfl; iexact H13

end Cert.Kernel5Ideal.Hand
-- ==== Proof.InBody3.lean ====
/-
  THE INPUT PROJECTION'S BODY at an even block after the first and a normed column.
-/
module

public import proofs.«01_k».proof.Proof.Gen.Kernel5Ideal.Launch
public import Idealize.ShloMosaic.Lib.Pipeline.FrameBody
public import Idealize.ShloMosaic.Lib.Pipeline.Value
public import Idealize.ShloMosaic.Lib.VecWindow
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.InBase

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- An even block after the first, a normed column. -/
theorem body_even_head (c : Dev nD) (E : Set ℕ) (i : grid0.Coords) (h1 : ¬ k0_cond1 i = 1#1) (h2 : k0_cond2 i = 1#1) (h3 : k0_cond3 i = 1#1) (h4 : ¬ k0_cond4 i = 1#1) (h5 : ¬ k0_cond5 i = 1#1)
    (arg2 : Memref sig .tc .vmem S1024x2048 .f32) (harg2 : arg2.IsWhole) (arg3 : Memref sig .tc .vmem S1024x2048 .f32) (harg3 : arg3.IsWhole) (arg4 : Memref sig .tc .vmem S1x6x2048 .f32) (harg4 : arg4.IsWhole) (arg5 : Memref sig .tc .vmem S1x6x2048 .f32) (harg5 : arg5.IsWhole) (arg6 : Memref sig .tc .vmem S1x2048 .f32) (harg6 : arg6.IsWhole) (arg7 : Memref sig .tc .vmem S2048x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S1024x2048 .bf16) (harg12 : arg12.IsWhole) (arg13 : Memref sig .tc .vmem S1024x2048 .bf16) (harg13 : arg13.IsWhole)
    (x2 : Vec F S1024x2048 .f32) (x3 : Vec F S1024x2048 .f32) (x4 : Vec F S1x6x2048 .f32) (x5 : Vec F S1x6x2048 .f32) (x6 : Vec F S1x2048 .f32) (x7 : Vec F S2048x512 .f32) (x8 : Vec F S1x512 .f32) (x9 : Vec F S1x512 .f32) (x10 : Vec F S512x512 .bf16) (d11 : Vec F S1024x512 .f32) (A : Vec F S1024x2048 .bf16) (B : Vec F S1024x2048 .bf16) (K : PUnit → sProp 𝕄) :
    St c arg2 arg3 arg4 arg5 arg6 arg7 arg8 arg9 arg10 arg11 arg12 arg13 x2 x3 x4 x5 x6 x7 x8 x9 x10 d11 A B
      ⊢ iprop((St c arg2 arg3 arg4 arg5 arg6 arg7 arg8 arg9 arg10 arg11 arg12 arg13 x2 x3 x4 x5 x6 x7 x8 x9 x10 (headT (BitVec.ofNat 32 (i 1).val) A x7 x8 x9 x10) A (Up x3 x6 x5 B (8 * (min (i 1).val 7)) 8) -∗ K ⟨⟩) -∗ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13) K) := by
  unfold cc0_in_projection
  rw [show St c arg2 arg3 arg4 arg5 arg6 arg7 arg8 arg9 arg10 arg11 arg12 arg13 x2 x3 x4 x5 x6 x7 x8 x9 x10 d11 A B = iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare d11 ∗ owns (c : Thread nD τ) arg12 fullShare A ∗ owns (c : Thread nD τ) arg13 fullShare B) from rfl]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩ HK
  subst hf2 hf3 hf4 hf5 hf6 hf7 hf8 hf9 hf10 hf11 hf12 hf13
  sl_exec
  sl_step
  iapply HK
  unfold St owns
  isplitl [H2]
  · iexists f2; isplitr [H2]; ipureintro; rfl; iexact H2
  isplitl [H3]
  · iexists f3; isplitr [H3]; ipureintro; rfl; iexact H3
  isplitl [H4]
  · iexists f4; isplitr [H4]; ipureintro; rfl; iexact H4
  isplitl [H5]
  · iexists f5; isplitr [H5]; ipureintro; rfl; iexact H5
  isplitl [H6]
  · iexists f6; isplitr [H6]; ipureintro; rfl; iexact H6
  isplitl [H7]
  · iexists f7; isplitr [H7]; ipureintro; rfl; iexact H7
  isplitl [H8]
  · iexists f8; isplitr [H8]; ipureintro; rfl; iexact H8
  isplitl [H9]
  · iexists f9; isplitr [H9]; ipureintro; rfl; iexact H9
  isplitl [H10]
  · iexists f10; isplitr [H10]; ipureintro; rfl; iexact H10
  isplitl [H11]
  · iexists _; isplitr [H11]; swap
    · iexact H11
    · ipureintro; exact (View.read_writes_full _ _ _ _ _).trans (headT_ld _ _ _ _ _ _)
  isplitl [H12]
  · iexists f12; isplitr [H12]; ipureintro; rfl; iexact H12
  iexists _; isplitr [H13]; swap
  · iexact H13
  · ipureintro
    have hb : 8 * (min (i 1).val 7) + 7 < 64 := by omega
    exact read_group _ _ _ _ _ _ _ _ _ _ 7 (off2_row i 7) (by omega) (read_group _ _ _ _ _ _ _ _ _ _ 6 (off2_row i 6) (by omega) (read_group _ _ _ _ _ _ _ _ _ _ 5 (off2_row i 5) (by omega) (read_group _ _ _ _ _ _ _ _ _ _ 4 (off2_row i 4) (by omega) (read_group _ _ _ _ _ _ _ _ _ _ 3 (off2_row i 3) (by omega) (read_group _ _ _ _ _ _ _ _ _ _ 2 (off2_row i 2) (by omega) (read_group _ _ _ _ _ _ _ _ _ _ 1 (off2_row i 1) (by omega) (read_group _ _ _ _ _ _ _ _ _ _ 0 (off2_row i 0) (by omega) ((Up_zero _ _ _ _ _).symm) _) _) _) _) _) _) _) _

end Cert.Kernel5Ideal.Hand
-- ==== Proof.InBody4.lean ====
/-
  THE INPUT PROJECTION'S BODY at an even block and a plain column.
-/
module

public import proofs.«01_k».proof.Proof.Gen.Kernel5Ideal.Launch
public import Idealize.ShloMosaic.Lib.Pipeline.FrameBody
public import Idealize.ShloMosaic.Lib.Pipeline.Value
public import Idealize.ShloMosaic.Lib.VecWindow
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.InBase

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- An even block, a plain column. -/
theorem body_even_plain (c : Dev nD) (E : Set ℕ) (i : grid0.Coords) (h1 : ¬ k0_cond1 i = 1#1) (h2 : k0_cond2 i = 1#1) (h3 : ¬ k0_cond3 i = 1#1) (h4 : k0_cond4 i = 1#1) (h5 : ¬ k0_cond5 i = 1#1)
    (arg2 : Memref sig .tc .vmem S1024x2048 .f32) (harg2 : arg2.IsWhole) (arg3 : Memref sig .tc .vmem S1024x2048 .f32) (harg3 : arg3.IsWhole) (arg4 : Memref sig .tc .vmem S1x6x2048 .f32) (harg4 : arg4.IsWhole) (arg5 : Memref sig .tc .vmem S1x6x2048 .f32) (harg5 : arg5.IsWhole) (arg6 : Memref sig .tc .vmem S1x2048 .f32) (harg6 : arg6.IsWhole) (arg7 : Memref sig .tc .vmem S2048x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S1024x2048 .bf16) (harg12 : arg12.IsWhole) (arg13 : Memref sig .tc .vmem S1024x2048 .bf16) (harg13 : arg13.IsWhole)
    (x2 : Vec F S1024x2048 .f32) (x3 : Vec F S1024x2048 .f32) (x4 : Vec F S1x6x2048 .f32) (x5 : Vec F S1x6x2048 .f32) (x6 : Vec F S1x2048 .f32) (x7 : Vec F S2048x512 .f32) (x8 : Vec F S1x512 .f32) (x9 : Vec F S1x512 .f32) (x10 : Vec F S512x512 .bf16) (d11 : Vec F S1024x512 .f32) (A : Vec F S1024x2048 .bf16) (B : Vec F S1024x2048 .bf16) (K : PUnit → sProp 𝕄) :
    St c arg2 arg3 arg4 arg5 arg6 arg7 arg8 arg9 arg10 arg11 arg12 arg13 x2 x3 x4 x5 x6 x7 x8 x9 x10 d11 A B
      ⊢ iprop((St c arg2 arg3 arg4 arg5 arg6 arg7 arg8 arg9 arg10 arg11 arg12 arg13 x2 x3 x4 x5 x6 x7 x8 x9 x10 (projT A x7) A (Up x3 x6 x5 B (8 * (min (i 1).val 7)) 8) -∗ K ⟨⟩) -∗ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13) K) := by
  unfold cc0_in_projection
  rw [show St c arg2 arg3 arg4 arg5 arg6 arg7 arg8 arg9 arg10 arg11 arg12 arg13 x2 x3 x4 x5 x6 x7 x8 x9 x10 d11 A B = iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare d11 ∗ owns (c : Thread nD τ) arg12 fullShare A ∗ owns (c : Thread nD τ) arg13 fullShare B) from rfl]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩ HK
  subst hf2 hf3 hf4 hf5 hf6 hf7 hf8 hf9 hf10 hf11 hf12 hf13
  sl_exec
  sl_step
  iapply HK
  unfold St owns
  isplitl [H2]
  · iexists f2; isplitr [H2]; ipureintro; rfl; iexact H2
  isplitl [H3]
  · iexists f3; isplitr [H3]; ipureintro; rfl; iexact H3
  isplitl [H4]
  · iexists f4; isplitr [H4]; ipureintro; rfl; iexact H4
  isplitl [H5]
  · iexists f5; isplitr [H5]; ipureintro; rfl; iexact H5
  isplitl [H6]
  · iexists f6; isplitr [H6]; ipureintro; rfl; iexact H6
  isplitl [H7]
  · iexists f7; isplitr [H7]; ipureintro; rfl; iexact H7
  isplitl [H8]
  · iexists f8; isplitr [H8]; ipureintro; rfl; iexact H8
  isplitl [H9]
  · iexists f9; isplitr [H9]; ipureintro; rfl; iexact H9
  isplitl [H10]
  · iexists f10; isplitr [H10]; ipureintro; rfl; iexact H10
  isplitl [H11]
  · iexists _; isplitr [H11]; swap
    · iexact H11
    · ipureintro; exact (View.read_writes_full _ _ _ _ _).trans (projT_ld _ _)
  isplitl [H12]
  · iexists f12; isplitr [H12]; ipureintro; rfl; iexact H12
  iexists _; isplitr [H13]; swap
  · iexact H13
  · ipureintro
    have hb : 8 * (min (i 1).val 7) + 7 < 64 := by omega
    exact read_group _ _ _ _ _ _ _ _ _ _ 7 (off3_row i 7) (by omega) (read_group _ _ _ _ _ _ _ _ _ _ 6 (off3_row i 6) (by omega) (read_group _ _ _ _ _ _ _ _ _ _ 5 (off3_row i 5) (by omega) (read_group _ _ _ _ _ _ _ _ _ _ 4 (off3_row i 4) (by omega) (read_group _ _ _ _ _ _ _ _ _ _ 3 (off3_row i 3) (by omega) (read_group _ _ _ _ _ _ _ _ _ _ 2 (off3_row i 2) (by omega) (read_group _ _ _ _ _ _ _ _ _ _ 1 (off3_row i 1) (by omega) (read_group _ _ _ _ _ _ _ _ _ _ 0 (off3_row i 0) (by omega) ((Up_zero _ _ _ _ _).symm) _) _) _) _) _) _) _) _

end Cert.Kernel5Ideal.Hand
-- ==== Proof.InBody5.lean ====
/-
  THE INPUT PROJECTION'S BODY at the first point, which norms the first block itself.
-/
module

public import proofs.«01_k».proof.Proof.Gen.Kernel5Ideal.Launch
public import Idealize.ShloMosaic.Lib.Pipeline.FrameBody
public import Idealize.ShloMosaic.Lib.Pipeline.Value
public import Idealize.ShloMosaic.Lib.VecWindow
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.InBase

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point: the first block is normed by a loop, then as an even block with a normed column. -/
theorem body_first (c : Dev nD) (E : Set ℕ) (i : grid0.Coords) (h1 : k0_cond1 i = 1#1) (h2 : k0_cond2 i = 1#1) (h3 : k0_cond3 i = 1#1) (h4 : ¬ k0_cond4 i = 1#1) (h5 : ¬ k0_cond5 i = 1#1)
    (arg2 : Memref sig .tc .vmem S1024x2048 .f32) (harg2 : arg2.IsWhole) (arg3 : Memref sig .tc .vmem S1024x2048 .f32) (harg3 : arg3.IsWhole) (arg4 : Memref sig .tc .vmem S1x6x2048 .f32) (harg4 : arg4.IsWhole) (arg5 : Memref sig .tc .vmem S1x6x2048 .f32) (harg5 : arg5.IsWhole) (arg6 : Memref sig .tc .vmem S1x2048 .f32) (harg6 : arg6.IsWhole) (arg7 : Memref sig .tc .vmem S2048x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S1024x2048 .bf16) (harg12 : arg12.IsWhole) (arg13 : Memref sig .tc .vmem S1024x2048 .bf16) (harg13 : arg13.IsWhole)
    (x2 : Vec F S1024x2048 .f32) (x3 : Vec F S1024x2048 .f32) (x4 : Vec F S1x6x2048 .f32) (x5 : Vec F S1x6x2048 .f32) (x6 : Vec F S1x2048 .f32) (x7 : Vec F S2048x512 .f32) (x8 : Vec F S1x512 .f32) (x9 : Vec F S1x512 .f32) (x10 : Vec F S512x512 .bf16) (d11 : Vec F S1024x512 .f32) (A : Vec F S1024x2048 .bf16) (B : Vec F S1024x2048 .bf16) (K : PUnit → sProp 𝕄) :
    St c arg2 arg3 arg4 arg5 arg6 arg7 arg8 arg9 arg10 arg11 arg12 arg13 x2 x3 x4 x5 x6 x7 x8 x9 x10 d11 A B
      ⊢ iprop((St c arg2 arg3 arg4 arg5 arg6 arg7 arg8 arg9 arg10 arg11 arg12 arg13 x2 x3 x4 x5 x6 x7 x8 x9 x10 (headT (BitVec.ofNat 32 (i 1).val) (NB x2 x6 x4) x7 x8 x9 x10) (NB x2 x6 x4) (Up x3 x6 x5 B (8 * (min (i 1).val 7)) 8) -∗ K ⟨⟩) -∗ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13) K) := by
  unfold cc0_in_projection
  rw [show St c arg2 arg3 arg4 arg5 arg6 arg7 arg8 arg9 arg10 arg11 arg12 arg13 x2 x3 x4 x5 x6 x7 x8 x9 x10 d11 A B = iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare d11 ∗ owns (c : Thread nD τ) arg12 fullShare A ∗ owns (c : Thread nD τ) arg13 fullShare B) from rfl]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩ HK
  subst hf2 hf3 hf4 hf5 hf6 hf7 hf8 hf9 hf10 hf11 hf12 hf13
  sl_exec
  have htr : k0_t1_loop.trips = 64 := by decide
  iapply (Scf.wp_for_bind frame (wpE (defs₀ (F := F)) Variants.none c none) E k0_t1_loop.lb k0_t1_loop.ub k0_t1_loop.st (k0_t1_ok i h1) _ _
    (fun k _ => iprop(∃ g, ⌜arg12.view.read (Elt F) g = Up (arg2.view.read (Elt F) f2) (arg6.view.read (Elt F) f6) (arg4.view.read (Elt F) f4) (arg12.view.read (Elt F) f12) 0 k⌝ ∗ (View.loc (c : Thread nD τ) arg12.view ↦[arg12.view.set]{fullShare} g) ∗ (View.loc (c : Thread nD τ) arg2.view ↦[arg2.view.set]{fullShare} f2) ∗ (View.loc (c : Thread nD τ) arg4.view ↦[arg4.view.set]{fullShare} f4))) ?step) $$ [H12 H2 H4]
  case step =>
    intro k acc
    have hk : k.val < 64 := by have := k.isLt; rw [← htr]; exact this
    iintro ⟨%g, %hg, H12, H2, H4⟩
    sl_exec
    sl_step
    iexists _; isplitr [H12 H2 H4]; swap
    · isplitl [H12]
      · iexact H12
      isplitl [H2]
      · iexact H2
      iexact H4
    · ipureintro
      exact read_group _ _ _ _ _ _ _ _ _ _ k.val ((k0_off1_eq k).trans (by rw [Nat.zero_add])) (by omega) hg _
  · iexists f12; isplitr [H12 H2 H4]
    · ipureintro; exact (Up_zero _ _ _ _ _).symm
    isplitl [H12]
    · iexact H12
    isplitl [H2]
    · iexact H2
    iexact H4
  iintro %acc ⟨%g, %hg0, H12, H2, H4⟩
  have hg : arg12.view.read (Elt F) g = NB (arg2.view.read (Elt F) f2) (arg6.view.read (Elt F) f6) (arg4.view.read (Elt F) f4) := by
    rw [hg0, show Scf.trips k0_t1_loop.lb k0_t1_loop.ub k0_t1_loop.st = 64 from htr]; exact Up_all _ _ _ _
  sl_exec
  sl_step
  iapply HK
  unfold St owns
  isplitl [H2]
  · iexists f2; isplitr [H2]; ipureintro; rfl; iexact H2
  isplitl [H3]
  · iexists f3; isplitr [H3]; ipureintro; rfl; iexact H3
  isplitl [H4]
  · iexists f4; isplitr [H4]; ipureintro; rfl; iexact H4
  isplitl [H5]
  · iexists f5; isplitr [H5]; ipureintro; rfl; iexact H5
  isplitl [H6]
  · iexists f6; isplitr [H6]; ipureintro; rfl; iexact H6
  isplitl [H7]
  · iexists f7; isplitr [H7]; ipureintro; rfl; iexact H7
  isplitl [H8]
  · iexists f8; isplitr [H8]; ipureintro; rfl; iexact H8
  isplitl [H9]
  · iexists f9; isplitr [H9]; ipureintro; rfl; iexact H9
  isplitl [H10]
  · iexists f10; isplitr [H10]; ipureintro; rfl; iexact H10
  isplitl [H11]
  · iexists _; isplitr [H11]; swap
    · iexact H11
    · ipureintro; exact (View.read_writes_full _ _ _ _ _).trans ((headT_ld _ _ _ _ _ _).trans (congrArg (fun A' => headT (BitVec.ofNat 32 (i 1).val) A' (arg7.view.read (Elt F) f7) (arg8.view.read (Elt F) f8) (arg9.view.read (Elt F) f9) (arg10.view.read (Elt F) f10)) hg))
  isplitl [H12]
  · iexists g; isplitr [H12]; ipureintro; exact hg; iexact H12
  iexists _; isplitr [H13]; swap
  · iexact H13
  · ipureintro
    have hb : 8 * (min (i 1).val 7) + 7 < 64 := by omega
    exact read_group _ _ _ _ _ _ _ _ _ _ 7 (off2_row i 7) (by omega) (read_group _ _ _ _ _ _ _ _ _ _ 6 (off2_row i 6) (by omega) (read_group _ _ _ _ _ _ _ _ _ _ 5 (off2_row i 5) (by omega) (read_group _ _ _ _ _ _ _ _ _ _ 4 (off2_row i 4) (by omega) (read_group _ _ _ _ _ _ _ _ _ _ 3 (off2_row i 3) (by omega) (read_group _ _ _ _ _ _ _ _ _ _ 2 (off2_row i 2) (by omega) (read_group _ _ _ _ _ _ _ _ _ _ 1 (off2_row i 1) (by omega) (read_group _ _ _ _ _ _ _ _ _ _ 0 (off2_row i 0) (by omega) ((Up_zero _ _ _ _ _).symm) _) _) _) _) _) _) _) _

end Cert.Kernel5Ideal.Hand
-- ==== Proof.InStep.lean ====
/-
  THE INPUT PROJECTION, one grid point: which of the five bodies runs, and how the two buffers of normed rows change.
-/
module

public import proofs.«01_k».proof.Proof.Gen.Kernel5Ideal.Launch
public import Idealize.ShloMosaic.Lib.Pipeline.FrameBody
public import Idealize.ShloMosaic.Lib.Pipeline.Value
public import Idealize.ShloMosaic.Lib.VecWindow
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.InBody1
public import proofs.«01_k».proof.Proof.InBody2
public import proofs.«01_k».proof.Proof.InBody3
public import proofs.«01_k».proof.Proof.InBody4
public import proofs.«01_k».proof.Proof.InBody5

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cond1_iff : ∀ i : grid0.Coords, k0_cond1 i = 1#1 ↔ ((i 0).val = 0 ∧ (i 1).val = 0) := by decide +kernel
theorem cond2_iff : ∀ i : grid0.Coords, k0_cond2 i = 1#1 ↔ (i 0).val % 2 = 0 := by decide +kernel
theorem cond3_iff : ∀ i : grid0.Coords, k0_cond3 i = 1#1 ↔ (i 1).val < 4 := by decide +kernel
theorem cond4_iff : ∀ i : grid0.Coords, k0_cond4 i = 1#1 ↔ ¬ (i 1).val < 4 := by decide +kernel
theorem cond5_iff : ∀ i : grid0.Coords, k0_cond5 i = 1#1 ↔ ¬ (i 0).val % 2 = 0 := by decide +kernel
theorem cond6_iff : ∀ i : grid0.Coords, k0_cond6 i = 1#1 ↔ (i 1).val < 4 := by decide +kernel
theorem cond7_iff : ∀ i : grid0.Coords, k0_cond7 i = 1#1 ↔ ¬ (i 1).val < 4 := by decide +kernel
theorem idle9_false : ∀ i : grid0.Coords, idle0 9 i = false := by decide +kernel
theorem coords_val : ∀ t : Fin grid0.N, (grid0.coords t 0).val = t.val / 10 ∧ (grid0.coords t 1).val = t.val % 10 := by decide +kernel

/-- The result's block from the normed rows. -/
def outF (j : ℕ) (A : Vec F S1024x2048 .bf16) (x7 : Vec F S2048x512 .f32) (x8 x9 : Vec F S1x512 .f32) (x10 : Vec F S512x512 .bf16) : Vec F S1024x512 .f32 :=
  if j < 4 then headT (BitVec.ofNat 32 j) A x7 x8 x9 x10 else projT A x7

/-- The normed rows a point multiplies: at the first point those it norms itself. -/
def cur (i j : ℕ) (x2 : Vec F S1024x2048 .f32) (x4 : Vec F S1x6x2048 .f32) (x6 : Vec F S1x2048 .f32) (C : Vec F S1024x2048 .bf16) : Vec F S1024x2048 .bf16 :=
  if i = 0 ∧ j = 0 then NB x2 x6 x4 else C

/-- The rows the point norms for the next block. -/
def nxt (j : ℕ) (x3 : Vec F S1024x2048 .f32) (x5 : Vec F S1x6x2048 .f32) (x6 : Vec F S1x2048 .f32) (C : Vec F S1024x2048 .bf16) : Vec F S1024x2048 .bf16 :=
  Up x3 x6 x5 C (8 * (min j 7)) 8

/-- The body at any point. -/
theorem body_any (c : Dev nD) (E : Set ℕ) (i : grid0.Coords)
    (arg2 : Memref sig .tc .vmem S1024x2048 .f32) (harg2 : arg2.IsWhole) (arg3 : Memref sig .tc .vmem S1024x2048 .f32) (harg3 : arg3.IsWhole) (arg4 : Memref sig .tc .vmem S1x6x2048 .f32) (harg4 : arg4.IsWhole) (arg5 : Memref sig .tc .vmem S1x6x2048 .f32) (harg5 : arg5.IsWhole) (arg6 : Memref sig .tc .vmem S1x2048 .f32) (harg6 : arg6.IsWhole) (arg7 : Memref sig .tc .vmem S2048x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S1024x2048 .bf16) (harg12 : arg12.IsWhole) (arg13 : Memref sig .tc .vmem S1024x2048 .bf16) (harg13 : arg13.IsWhole)
    (x2 : Vec F S1024x2048 .f32) (x3 : Vec F S1024x2048 .f32) (x4 : Vec F S1x6x2048 .f32) (x5 : Vec F S1x6x2048 .f32) (x6 : Vec F S1x2048 .f32) (x7 : Vec F S2048x512 .f32) (x8 : Vec F S1x512 .f32) (x9 : Vec F S1x512 .f32) (x10 : Vec F S512x512 .bf16) (d11 : Vec F S1024x512 .f32) (A : Vec F S1024x2048 .bf16) (B : Vec F S1024x2048 .bf16) (K : PUnit → sProp 𝕄) :
    St c arg2 arg3 arg4 arg5 arg6 arg7 arg8 arg9 arg10 arg11 arg12 arg13 x2 x3 x4 x5 x6 x7 x8 x9 x10 d11 A B
      ⊢ iprop((St c arg2 arg3 arg4 arg5 arg6 arg7 arg8 arg9 arg10 arg11 arg12 arg13 x2 x3 x4 x5 x6 x7 x8 x9 x10 (outF (i 1).val (if (i 0).val % 2 = 0 then cur (i 0).val (i 1).val x2 x4 x6 A else B) x7 x8 x9 x10) (if (i 0).val % 2 = 0 then cur (i 0).val (i 1).val x2 x4 x6 A else nxt (i 1).val x3 x5 x6 A) (if (i 0).val % 2 = 0 then nxt (i 1).val x3 x5 x6 B else B) -∗ K ⟨⟩) -∗ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13) K) := by
  by_cases he : (i 0).val % 2 = 0
  · by_cases hj : (i 1).val < 4
    · by_cases hf : (i 0).val = 0 ∧ (i 1).val = 0
      · have h := body_first c E i ((cond1_iff i).mpr hf) ((cond2_iff i).mpr he) ((cond3_iff i).mpr hj) (fun h => (cond4_iff i).mp h hj) (fun h => (cond5_iff i).mp h he) arg2 harg2 arg3 harg3 arg4 harg4 arg5 harg5 arg6 harg6 arg7 harg7 arg8 harg8 arg9 harg9 arg10 harg10 arg11 harg11 arg12 harg12 arg13 harg13 x2 x3 x4 x5 x6 x7 x8 x9 x10 d11 A B K
        unfold outF cur nxt
        rw [if_pos he, if_pos he, if_pos he, if_pos hf, if_pos hj]
        exact h
      · have h := body_even_head c E i (fun h => hf ((cond1_iff i).mp h)) ((cond2_iff i).mpr he) ((cond3_iff i).mpr hj) (fun h => (cond4_iff i).mp h hj) (fun h => (cond5_iff i).mp h he) arg2 harg2 arg3 harg3 arg4 harg4 arg5 harg5 arg6 harg6 arg7 harg7 arg8 harg8 arg9 harg9 arg10 harg10 arg11 harg11 arg12 harg12 arg13 harg13 x2 x3 x4 x5 x6 x7 x8 x9 x10 d11 A B K
        unfold outF cur nxt
        rw [if_pos he, if_pos he, if_pos he, if_neg hf, if_pos hj]
        exact h
    · have hf : ¬ ((i 0).val = 0 ∧ (i 1).val = 0) := fun h => hj (by omega)
      have h := body_even_plain c E i (fun h => hf ((cond1_iff i).mp h)) ((cond2_iff i).mpr he) (fun h => hj ((cond3_iff i).mp h)) ((cond4_iff i).mpr hj) (fun h => (cond5_iff i).mp h he) arg2 harg2 arg3 harg3 arg4 harg4 arg5 harg5 arg6 harg6 arg7 harg7 arg8 harg8 arg9 harg9 arg10 harg10 arg11 harg11 arg12 harg12 arg13 harg13 x2 x3 x4 x5 x6 x7 x8 x9 x10 d11 A B K
      unfold outF cur nxt
      rw [if_pos he, if_pos he, if_pos he, if_neg hf, if_neg hj]
      exact h
  · have hf : ¬ ((i 0).val = 0 ∧ (i 1).val = 0) := fun h => he (by omega)
    by_cases hj : (i 1).val < 4
    · have h := body_odd_head c E i (fun h => hf ((cond1_iff i).mp h)) (fun h => he ((cond2_iff i).mp h)) ((cond5_iff i).mpr he) ((cond6_iff i).mpr hj) (fun h => (cond7_iff i).mp h hj) arg2 harg2 arg3 harg3 arg4 harg4 arg5 harg5 arg6 harg6 arg7 harg7 arg8 harg8 arg9 harg9 arg10 harg10 arg11 harg11 arg12 harg12 arg13 harg13 x2 x3 x4 x5 x6 x7 x8 x9 x10 d11 A B K
      unfold outF cur nxt
      rw [if_neg he, if_neg he, if_neg he, if_pos hj]
      exact h
    · have h := body_odd_plain c E i (fun h => hf ((cond1_iff i).mp h)) (fun h => he ((cond2_iff i).mp h)) ((cond5_iff i).mpr he) (fun h => hj ((cond6_iff i).mp h)) ((cond7_iff i).mpr hj) arg2 harg2 arg3 harg3 arg4 harg4 arg5 harg5 arg6 harg6 arg7 harg7 arg8 harg8 arg9 harg9 arg10 harg10 arg11 harg11 arg12 harg12 arg13 harg13 x2 x3 x4 x5 x6 x7 x8 x9 x10 d11 A B K
      unfold outF cur nxt
      rw [if_neg he, if_neg he, if_neg he, if_neg hj]
      exact h

/-- The 1024 rows of block `b` of the tokens. -/
def blkX (X : Vec F S8192x2048 .f32) (b : ℕ) : Vec F S1024x2048 .f32 := fun y =>
  X (ix2 (⟨(1024 * b + (y 0).val) % 8192, Nat.mod_lt _ (by decide)⟩ : Fin 8192) (y 1))

/-- The modulation rows `b`. -/
def blkM (M : Vec F S8x6x2048 .f32) (b : ℕ) : Vec F S1x6x2048 .f32 := fun y =>
  M (ix3 (⟨b % 8, Nat.mod_lt _ (by decide)⟩ : Fin 8) (y 1) (y 2))

/-- The normed rows of block `i`. -/
def NX (X : Vec F S8192x2048 .f32) (M : Vec F S8x6x2048 .f32) (w : Vec F S1x2048 .f32) (i : ℕ) : Vec F S1024x2048 .bf16 :=
  NB (blkX X (min i 7)) w (blkM M 0)

/-- What the two scratch buffers hold before point `n`: the block's normed rows, and the next block's so far. -/
def Inv (X : Vec F S8192x2048 .f32) (M : Vec F S8x6x2048 .f32) (w : Vec F S1x2048 .f32) (n : ℕ) (A B : Vec F S1024x2048 .bf16) : Prop :=
  (n ≠ 0 → (if n / 10 % 2 = 0 then A else B) = NX X M w (n / 10))
    ∧ ∀ y, (y 0).val < 128 * min (n % 10) 8 → (if n / 10 % 2 = 0 then B else A) y = NX X M w (n / 10 + 1) y

/-- The rows multiplied at point `n` are the block's. -/
theorem cur_eq (X : Vec F S8192x2048 .f32) (M : Vec F S8x6x2048 .f32) (w : Vec F S1x2048 .f32) (n : ℕ) (A B : Vec F S1024x2048 .bf16) (x2 : Vec F S1024x2048 .f32) (x4 : Vec F S1x6x2048 .f32)
    (hx2 : x2 = blkX X 0) (hx4 : x4 = blkM M 0) (h : Inv X M w n A B) :
    (if n / 10 % 2 = 0 then cur (n / 10) (n % 10) x2 x4 w A else B) = NX X M w (n / 10) := by
  subst hx2 hx4
  by_cases hn : n = 0
  · subst hn; rw [if_pos (by decide)]; unfold cur; rw [if_pos ⟨by decide, by decide⟩]; rfl
  · rw [← h.1 hn]
    by_cases he : n / 10 % 2 = 0
    · rw [if_pos he, if_pos he]; unfold cur; rw [if_neg (by omega)]
    · rw [if_neg he, if_neg he]

/-- The next block's rows after point `n`. -/
theorem nxt_eq (X : Vec F S8192x2048 .f32) (M : Vec F S8x6x2048 .f32) (w : Vec F S1x2048 .f32) (n : ℕ) (C : Vec F S1024x2048 .bf16) (x3 : Vec F S1024x2048 .f32) (x5 : Vec F S1x6x2048 .f32)
    (hx3 : x3 = blkX X (min (n / 10 + 1) 7)) (hx5 : x5 = blkM M 0)
    (h : ∀ y, (y 0).val < 128 * min (n % 10) 8 → C y = NX X M w (n / 10 + 1) y) :
    ∀ y, (y 0).val < 128 * min (n % 10 + 1) 8 → nxt (n % 10) x3 x5 w C y = NX X M w (n / 10 + 1) y := by
  subst hx3 hx5
  intro y hy
  unfold nxt Up
  split
  · rfl
  · exact h y (by omega)

/-- The scratch buffers after point `n`. -/
theorem Inv_step (X : Vec F S8192x2048 .f32) (M : Vec F S8x6x2048 .f32) (w : Vec F S1x2048 .f32) (n : ℕ) (A B : Vec F S1024x2048 .bf16) (x2 x3 : Vec F S1024x2048 .f32) (x4 x5 : Vec F S1x6x2048 .f32)
    (hx2 : x2 = blkX X 0) (hx4 : x4 = blkM M 0) (hx3 : x3 = blkX X (min (n / 10 + 1) 7)) (hx5 : x5 = blkM M 0) (h : Inv X M w n A B) :
    Inv X M w (n + 1) (if n / 10 % 2 = 0 then cur (n / 10) (n % 10) x2 x4 w A else nxt (n % 10) x3 x5 w A) (if n / 10 % 2 = 0 then nxt (n % 10) x3 x5 w B else B) := by
  have hc := cur_eq X M w n A B x2 x4 hx2 hx4 h
  have hn := nxt_eq X M w n _ x3 x5 hx3 hx5 h.2
  by_cases he : n / 10 % 2 = 0
  · rw [if_pos he] at hc hn ⊢
    rw [if_pos he]
    by_cases h9 : n % 10 = 9
    · refine ⟨fun _ => ?_, fun y hy => absurd hy (by omega)⟩
      rw [if_neg (by omega), show (n + 1) / 10 = n / 10 + 1 by omega]
      exact funext fun y => hn y (by have : (y 0).val < 1024 := (y 0).isLt; omega)
    · unfold Inv
      rw [show (n + 1) / 10 = n / 10 by omega, if_pos he, if_pos he, show (n + 1) % 10 = n % 10 + 1 by omega]
      exact ⟨fun _ => hc, hn⟩
  · rw [if_neg he] at hc hn ⊢
    rw [if_neg he]
    by_cases h9 : n % 10 = 9
    · refine ⟨fun _ => ?_, fun y hy => absurd hy (by omega)⟩
      rw [if_pos (by omega), show (n + 1) / 10 = n / 10 + 1 by omega]
      exact funext fun y => hn y (by have : (y 0).val < 1024 := (y 0).isLt; omega)
    · unfold Inv
      rw [show (n + 1) / 10 = n / 10 by omega, if_neg he, if_neg he, show (n + 1) % 10 = n % 10 + 1 by omega]
      exact ⟨fun _ => hc, hn⟩

end Cert.Kernel5Ideal.Hand
-- ==== Proof.InData.lean ====
/-
  THE INPUT PROJECTION'S PIPELINE: the arrays at its start, the blocks each grid point reads and writes, the state carried.
-/
module

public import proofs.«01_k».proof.Proof.Gen.Kernel5Ideal.Launch
public import Idealize.ShloMosaic.Lib.Pipeline.FrameBody
public import Idealize.ShloMosaic.Lib.Pipeline.Value
public import Idealize.ShloMosaic.Lib.VecWindow
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.InStep

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the region. -/
abbrev pre : List (List (HloOp τ sig (Elt F))) := [hostOps0, hostOps0_1, hostOps0_2]

/-- Core `c`'s buffers when the region is entered. -/
abbrev V (c : Dev nD) (b : Ref sig .tc) : Buf (Elt F) ((c : Thread nD τ).loc b) := StableHlo.after (pre : List (List (HloOp τ sig (Elt F)))).flatten (fun b => m (c, b)) b

theorem pre_fresh : (pre : List (List (HloOp τ sig (Elt F)))).Forall fun ops => ops.Forall fun op => op.fresh = ∅ := by
  simp only [List.Forall]; repeat' constructor

set_option maxHeartbeats 800000 in
/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main pre ⟨hostOps0_sub, hostOps0_1_sub, hostOps0_2_sub⟩ pre_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, List.flatten_cons, List.flatten_nil, List.append_nil, List.cons_append,
      List.nil_append, List.Forall, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, List.flatten_cons, List.flatten_nil, List.append_nil, List.cons_append,
      List.nil_append, List.Forall, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, List.flatten_cons, List.flatten_nil, List.append_nil, List.cons_append,
      List.nil_append, List.Forall, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [pre, hostOps0, hostOps0_1, hostOps0_2, List.flatten_cons, List.flatten_nil, List.append_nil, List.cons_append,
      List.nil_append, List.Forall, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [pre, hostOps0, hostOps0_1, hostOps0_2, List.flatten_cons, List.flatten_nil, List.append_nil, List.cons_append,
      List.nil_append, List.Forall, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [pre, hostOps0, hostOps0_1, hostOps0_2, List.flatten_cons, List.flatten_nil, List.append_nil, List.cons_append,
      List.nil_append, List.Forall, StableHlo.TRef.unary, StableHlo.TRef.binary, StableHlo.TRef.reshape, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem tr0_eq : ∀ i : grid0.Coords, cc0_transform_0 i = ![0, 0] := by decide +kernel
theorem tr1_eq : ∀ i : grid0.Coords, cc0_transform_1 i = ![min ((i 0).val + 1) 7, 0] := by decide +kernel
theorem tr2_eq : ∀ i : grid0.Coords, cc0_transform_2 i = ![0, 0, 0] := by decide +kernel
theorem tr3_eq : ∀ i : grid0.Coords, cc0_transform_3 i = ![0, 0, 0] := by decide +kernel
theorem tr4_eq : ∀ i : grid0.Coords, cc0_transform_4 i = ![0, 0] := by decide +kernel
theorem iblk0_eq (c : Dev nD) (t : Fin grid0.N) : iblk m c 0 t = blkX (V m c main_v19) 0 := by
  have h0 := (coords_val t).1
  have hN : t.val < 80 := lt_of_lt_of_eq t.isLt N_0
  have hix : (cfg0.win 0).index t = ![0, 0] := tr0_eq (grid0.coords t)
  have key : ∀ y : S1024x2048.Idx, V m c main_v19 (((cfg0.win 0).rect t).emb y) = blkX (V m c main_v19) 0 y := by
    intro y
    refine congrArg (V m c main_v19) (funext fun (a : Fin 2) => Fin.ext ?_)
    refine ((cfg0.win 0).rect_emb_val t y a).trans ?_
    rw [hix]
    have hy0 : (y 0).val < 1024 := (y 0).isLt
    have ha : a = 0 ∨ a = 1 := by revert a; exact (by decide : ∀ a : Fin 2, a = 0 ∨ a = 1)
    rcases ha with rfl | rfl
    · show 0 * 1024 + (y 0).val = (1024 * 0 + (y 0).val) % 8192
      omega
    · show 0 * 2048 + (y 1).val = (y 1).val
      omega
  exact funext fun y => (View.read_apply ..).trans (key y)
theorem iblk1_eq (c : Dev nD) (t : Fin grid0.N) : iblk m c 1 t = blkX (V m c main_v19) (min (t.val / 10 + 1) 7) := by
  have h0 := (coords_val t).1
  have hN : t.val < 80 := lt_of_lt_of_eq t.isLt N_0
  have hix : (cfg0.win 1).index t = ![(min ((grid0.coords t 0).val + 1) 7), 0] := tr1_eq (grid0.coords t)
  have key : ∀ y : S1024x2048.Idx, V m c main_v19 (((cfg0.win 1).rect t).emb y) = blkX (V m c main_v19) (min (t.val / 10 + 1) 7) y := by
    intro y
    refine congrArg (V m c main_v19) (funext fun (a : Fin 2) => Fin.ext ?_)
    refine ((cfg0.win 1).rect_emb_val t y a).trans ?_
    rw [hix]
    have hy0 : (y 0).val < 1024 := (y 0).isLt
    have ha : a = 0 ∨ a = 1 := by revert a; exact (by decide : ∀ a : Fin 2, a = 0 ∨ a = 1)
    rcases ha with rfl | rfl
    · show (min ((grid0.coords t 0).val + 1) 7) * 1024 + (y 0).val = (1024 * (min (t.val / 10 + 1) 7) + (y 0).val) % 8192
      omega
    · show 0 * 2048 + (y 1).val = (y 1).val
      omega
  exact funext fun y => (View.read_apply ..).trans (key y)
theorem iblk2_eq (c : Dev nD) (t : Fin grid0.N) : iblk m c 2 t = blkM (V m c main_arg1) 0 := by
  have h0 := (coords_val t).1
  have hN : t.val < 80 := lt_of_lt_of_eq t.isLt N_0
  have hix : (cfg0.win 2).index t = ![0, 0, 0] := tr2_eq (grid0.coords t)
  have key : ∀ y : S1x6x2048.Idx, V m c main_arg1 (((cfg0.win 2).rect t).emb y) = blkM (V m c main_arg1) 0 y := by
    intro y
    refine congrArg (V m c main_arg1) (funext fun (a : Fin 3) => Fin.ext ?_)
    refine ((cfg0.win 2).rect_emb_val t y a).trans ?_
    rw [hix]
    have hy0 : (y 0).val < 1 := (y 0).isLt
    have ha : a = 0 ∨ a = 1 ∨ a = 2 := by revert a; exact (by decide : ∀ a : Fin 3, a = 0 ∨ a = 1 ∨ a = 2)
    rcases ha with rfl | rfl | rfl
    · show 0 * 1 + (y 0).val = 0 % 8
      omega
    · show 0 * 6 + (y 1).val = (y 1).val
      omega
    · show 0 * 2048 + (y 2).val = (y 2).val
      omega
  exact funext fun y => (View.read_apply ..).trans (key y)
theorem iblk3_eq (c : Dev nD) (t : Fin grid0.N) : iblk m c 3 t = blkM (V m c main_arg1) 0 := by
  have h0 := (coords_val t).1
  have hN : t.val < 80 := lt_of_lt_of_eq t.isLt N_0
  have hix : (cfg0.win 3).index t = ![0, 0, 0] := tr3_eq (grid0.coords t)
  have key : ∀ y : S1x6x2048.Idx, V m c main_arg1 (((cfg0.win 3).rect t).emb y) = blkM (V m c main_arg1) 0 y := by
    intro y
    refine congrArg (V m c main_arg1) (funext fun (a : Fin 3) => Fin.ext ?_)
    refine ((cfg0.win 3).rect_emb_val t y a).trans ?_
    rw [hix]
    have hy0 : (y 0).val < 1 := (y 0).isLt
    have ha : a = 0 ∨ a = 1 ∨ a = 2 := by revert a; exact (by decide : ∀ a : Fin 3, a = 0 ∨ a = 1 ∨ a = 2)
    rcases ha with rfl | rfl | rfl
    · show 0 * 1 + (y 0).val = 0 % 8
      omega
    · show 0 * 6 + (y 1).val = (y 1).val
      omega
    · show 0 * 2048 + (y 2).val = (y 2).val
      omega
  exact funext fun y => (View.read_apply ..).trans (key y)
theorem iblk4_eq (c : Dev nD) (t : Fin grid0.N) : iblk m c 4 t = V m c main_v20 := by
  have hix : (cfg0.win 4).index t = ![0, 0] := tr4_eq (grid0.coords t)
  have key : ∀ y : S1x2048.Idx, V m c main_v20 (((cfg0.win 4).rect t).emb y) = V m c main_v20 y := by
    intro y
    refine congrArg (V m c main_v20) (funext fun (a : Fin 2) => Fin.ext ?_)
    refine ((cfg0.win 4).rect_emb_val t y a).trans ?_
    rw [hix]
    have ha : a = 0 ∨ a = 1 := by revert a; exact (by decide : ∀ a : Fin 2, a = 0 ∨ a = 1)
    rcases ha with rfl | rfl
    · show 0 * 1 + (y 0).val = (y 0).val
      omega
    · show 0 * 2048 + (y 1).val = (y 1).val
      omega
  exact funext fun y => (View.read_apply ..).trans (key y)

/-- What the result's buffer holds after point `t`. -/
def outT (c : Dev nD) (t : Fin cfg0.N) : Vec F S1024x512 .f32 :=
  outF (t.val % 10) (NX (V m c main_v19) (V m c main_arg1) (V m c main_v20) (t.val / 10)) (iblk m c 5 t) (iblk m c 6 t) (iblk m c 7 t) (iblk m c 8 t)

/-- The invariant before point `n`. -/
def PhiN (c : Dev nD) (n : ℕ) : sProp 𝕄 :=
  iprop(∃ A : Vec F S1024x2048 .bf16, ∃ B : Vec F S1024x2048 .bf16, ⌜Inv (V m c main_v19) (V m c main_arg1) (V m c main_v20) n A B⌝
    ∗ owns (c : Thread nD τ) (Memref.whole cc0_scratch0) fullShare A ∗ owns (c : Thread nD τ) (Memref.whole cc0_scratch1) fullShare B ∗ ∃ r, prngReg c r)

/-- The pipeline's data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outT m c t
  Φ t := PhiN m c t.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outT m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

end Cert.Kernel5Ideal.Hand
-- ==== Proof.InRun.lean ====
/-
  THE INPUT PROJECTION'S RUN: the whole program, its result and its arguments unchanged.
-/
module

public import proofs.«01_k».proof.Proof.Gen.Kernel5Ideal.Launch
public import Idealize.ShloMosaic.Lib.Pipeline.FrameBody
public import Idealize.ShloMosaic.Lib.Pipeline.Value
public import Idealize.ShloMosaic.Lib.VecWindow
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import proofs.«01_k».proof.Proof.InData

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)
abbrev st0_4 (t : Fin cfg0.N) := (cfg0.win 4).stage (cfg0.slots t 4)
abbrev st0_5 (t : Fin cfg0.N) := (cfg0.win 5).stage (cfg0.slots t 5)
abbrev st0_6 (t : Fin cfg0.N) := (cfg0.win 6).stage (cfg0.slots t 6)
abbrev st0_7 (t : Fin cfg0.N) := (cfg0.win 7).stage (cfg0.slots t 7)
abbrev st0_8 (t : Fin cfg0.N) := (cfg0.win 8).stage (cfg0.slots t 8)
abbrev st0_9 (t : Fin cfg0.N) := (cfg0.win 9).stage (cfg0.slots t 9)

/-- The body at point `t`, on what the pipeline calls it with. -/
abbrev bodyAt0 (t : Fin cfg0.N) : Prog (TpuEff nD τ sig (Elt F) Λ₀ .tc) PUnit :=
  cc0_in_projection (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _)

theorem defs₀_row (t : Fin cfg0.N) :
    defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1600000 in
/-- The body at any point, from the invariant to the invariant. -/
theorem sound_body (c : Dev nD) (t : Fin cfg0.N) :
    bodyPre m c t ⊢ wp frame (wpE (defs₀ (F := F)) Variants.none c none) Set.univ (bodyAt0 t) (fun _ => bodyPost m c t) := by
  have e0 : (grid0.coords t 0).val = t.val / 10 := (coords_val t).1
  have e1 : (grid0.coords t 1).val = t.val % 10 := (coords_val t).2
  unfold bodyPre bodyPost bodyAt0
  simp only [before0_0, before0_1, before0_2, before0_3, before0_4, before0_5, before0_6, before0_7, before0_8]
  rw [show (dats m 0 c).owesAt () t.succ = (dats m 0 c).owesAt () t.castSucc from rfl,
    show (dats m 0 c).Φ t.castSucc = PhiN m c t.val from rfl, show (dats m 0 c).Φ t.succ = PhiN m c (t.val + 1) from rfl,
    after0_0, after0_1, after0_2, after0_3, after0_4, after0_5, after0_6, after0_7, after0_8, after0_9]
  rw [show PhiN m c t.val = iprop(∃ A : Vec F S1024x2048 .bf16, ∃ B : Vec F S1024x2048 .bf16, ⌜Inv (V m c main_v19) (V m c main_arg1) (V m c main_v20) t.val A B⌝
    ∗ owns (c : Thread nD τ) (Memref.whole cc0_scratch0) fullShare A ∗ owns (c : Thread nD τ) (Memref.whole cc0_scratch1) fullShare B ∗ ∃ r, prngReg c r) from rfl]
  iintro ⟨⟨%A, %B, %hI, HA, HB, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hb := body_any c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) ((dats m 0 c).before 9 t d9) A B
  rw [e0, e1] at hb
  have hc := cur_eq (V m c main_v19) (V m c main_arg1) (V m c main_v20) t.val A B (iblk m c 0 t) (iblk m c 2 t) (iblk0_eq m c t) (iblk2_eq m c t) hI
  have hs := Inv_step (V m c main_v19) (V m c main_arg1) (V m c main_v20) t.val A B (iblk m c 0 t) (iblk m c 1 t) (iblk m c 2 t) (iblk m c 3 t) (iblk0_eq m c t) (iblk2_eq m c t) (iblk1_eq m c t) (iblk3_eq m c t) hI
  rw [show V m c main_v20 = iblk m c 4 t from (iblk4_eq m c t).symm] at hc hs
  iapply (hb _) $$ [HA HB H0 H1 H2 H3 H4 H5 H6 H7 H8 H9]
  · unfold St
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HA]; · iexact HA
    iexact HB
  unfold St
  iintro ⟨H0, H1, H2, H3, H4, H5, H6, H7, H8, H9, HA, HB⟩
  isplitl [HA HB Hr]
  · unfold PhiN
    iexists _; iexists _; isplitr [HA HB Hr]; swap
    · isplitl [HA]; · iexact HA
      isplitl [HB]; · iexact HB
      iexact Hr
    · ipureintro; rw [show V m c main_v20 = iblk m c 4 t from (iblk4_eq m c t).symm]; exact hs
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [show outT m c t = outF (t.val % 10) (if t.val / 10 % 2 = 0 then cur (t.val / 10) (t.val % 10) (iblk m c 0 t) (iblk m c 2 t) (iblk m c 4 t) A else B) (iblk m c 5 t) (iblk m c 6 t) (iblk m c 7 t) (iblk m c 8 t) from by
    rw [hc]; unfold outT; rw [show V m c main_v20 = iblk m c 4 t from (iblk4_eq m c t).symm]]
  iexact H9

/-- The library's body obligation. -/
theorem body_obligation (c : Dev nD) : BodyObligation (dats (F := F) m 0 c) (defs₀ (F := F)) Variants.none () Set.univ := fun t => by
  have hi : cfg0.idle 9 (cfg0.grid.coords t) = false := idle9_false (grid0.coords t)
  rw [bigSep_W0, bigSep_W0, defs₀_row]
  rw [hi]
  exact triple_restated (sound_body m c t) rfl .rfl fun _ => .rfl

/-- What the launch hands the region makes the invariant before the first point. -/
theorem hin (c : Dev nD) : Pipeline.ΦA spec0 c ⊢ ((dats m 0 c).Φ 0 : sProp 𝕄) := by
  rw [show (dats m 0 c).Φ 0 = PhiN m c 0 from rfl]
  unfold Pipeline.ΦA PhiN
  rw [scopedRest0_eq]
  iintro ⟨⟨⟨%f0, H0⟩, ⟨%f1, H1⟩⟩, Hr⟩
  iexists f0; iexists f1
  isplitr [H0 H1 Hr]
  · ipureintro; exact ⟨fun h => absurd rfl h, fun y hy => absurd hy (by simp)⟩
  isplitl [H0]
  · rw [owns_whole]; iexact H0
  isplitl [H1]
  · rw [owns_whole]; iexact H1
  iexact Hr

/-- The invariant after the last point gives the launch's back. -/
theorem hout (c : Dev nD) : ((dats m 0 c).Φ (Fin.last cfg0.N) : sProp 𝕄) ⊢ Pipeline.ΦA spec0 c := by
  rw [show (dats m 0 c).Φ (Fin.last cfg0.N) = PhiN m c cfg0.N from rfl]
  unfold Pipeline.ΦA PhiN
  rw [scopedRest0_eq]
  iintro ⟨%A, %B, %hI, HA, HB, Hr⟩
  isplitl [HA HB]
  · isplitl [HA]
    · iexists A; rw [← owns_whole]; iexact HA
    · iexists B; rw [← owns_whole]; iexact HB
  iexact Hr

set_option backward.isDefEq.respectTransparency.types false in
set_option maxHeartbeats 800000 in
/-- The run. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

/-- The frame: the arguments unchanged and every counter at zero. -/
theorem inFrame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel5Ideal.Hand
-- ==== Proof.InFrames.lean ====
/-
  THE INPUT PROJECTION'S FRAMES: the ideal program's from its run, the printed program's from the same run at the words,
  the reference's from its host lines.
-/
module

public import proofs.«01_k».proof.Defs
public import proofs.«01_k».proof.Proof.InRun
public import proofs.«01_k».proof.Proof.Gen.Kernel5
public import proofs.«01_k».proof.Proof.Gen.Reference5Ideal
public import proofs.«01_k».proof.Proof.Gen.Reference5Ideal.Run
public import Idealize.ShloMosaic.Lib.Quiescent

@[expose] public section

set_option maxRecDepth 16384

noncomputable section

namespace Cert.Kernel5Ideal.Hand

open Idealize.ShloMosaic Idealize.ShloMosaic.TcCoe Idealize.SL.Sem

/-- The ideal program's frame. -/
theorem frame_ideal : Cert.quiescent_Kernel5Ideal := fun m ρ _ => inFrame m ρ

/-- The reference's. -/
theorem frame_reference : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The two programs' body tables agree, … -/
theorem defs0_eq : Cert.Kernel5.defs₀ (F := Bits) = Cert.Kernel5Ideal.defs₀ (F := Bits) := by
  refine congrArg Defs.onTc (funext fun l => funext fun x => ?_)
  match l, x with
  | 0, (t, s) => rfl

/-- … and so do the tables with the pipeline's labels. -/
theorem defs_eq : Cert.Kernel5.defs (F := Bits) = Cert.Kernel5Ideal.defs (F := Bits) :=
  congrArg (Pipeline.defs (Cert.Kernel5Ideal.pcfgs (F := Bits))) defs0_eq

/-- A run of the ideal program at the words is a run of the printed program. -/
theorem run_over (σ : MemSt Cert.Kernel5Ideal.nD Cert.Kernel5Ideal.τ Cert.Kernel5Ideal.sig (Elt Bits)) (Q)
    (h : θ_run (Cert.Kernel5Ideal.defs (F := Bits)) (onTc (τ := Cert.Kernel5Ideal.τ) (Cert.Kernel5Ideal.main (F := Bits))) σ Q) :
    θ_run (Cert.Kernel5.defs (F := Bits)) (onTc (τ := Cert.Kernel5.τ) (Cert.Kernel5.main (F := Bits))) σ Q :=
  (congrArg (fun D => θ_run D (onTc (τ := Cert.Kernel5Ideal.τ) (Cert.Kernel5Ideal.main (F := Bits))) σ Q) defs_eq).mpr h

/-- So the printed program's frame. -/
theorem frame_kernel : Cert.quiescent_Kernel5 := fun m ρ _ => run_over _ _ (inFrame (F := Bits) m ρ)

end Cert.Kernel5Ideal.Hand

end
-- ==== Proof.InMath.lean ====
/-
  THE INPUT PROJECTION'S ARITHMETIC: a normed row, a head's norm, and that averaging a block's squares against the
  head matrix, high and low part apart, is the mean over the head. Over finite entries.
-/
module

public import Idealize.ShloMosaic.Lib.Pipeline.ValueKit

@[expose] public section

noncomputable section

namespace Cert.Kernel5Ideal.Hand

open Idealize.ShloMosaic

/-- A row normed and modulated. -/
def hE (x w s t : Fin 2048 → EReal) (k : Fin 2048) : EReal :=
  x k * Ideal.rsqrt (Ideal.div (∑ j : Fin 2048, x j * x j) (Ideal.ofBits .f32 0x45000000#32) + Ideal.ofBits .f32 0x358637BD#32) * w k
    * (Ideal.ofBits .f32 0x3F800000#32 + s k) + t k

/-- A head normed. -/
def headE (p w : Fin 64 → EReal) (d : Fin 64) : EReal :=
  p d * Ideal.rsqrt (Ideal.div (∑ x : Fin 64, p x * p x) (Ideal.ofBits .f32 0x42800000#32) + Ideal.ofBits .f32 0x358637BD#32) * w d

/-- A sum of reals is a real. -/
theorem sum_coe {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem c2048 : Ideal.ofBits .f32 0x45000000#32 = ((2048 : ℝ) : EReal) := by
  simp [Ideal.ofBits, Ideal.ieee]
  rw [← EReal.coe_mul]
  exact congrArg _ (by norm_num)

theorem c64 : Ideal.ofBits .f32 0x42800000#32 = ((64 : ℝ) : EReal) := by
  simp [Ideal.ofBits, Ideal.ieee]
  rw [← EReal.coe_mul]
  exact congrArg _ (by norm_num)

theorem c1 : Ideal.ofBits .f32 0x3F800000#32 = ((1 : ℝ) : EReal) := by
  simp [Ideal.ofBits, Ideal.ieee]
  rw [← EReal.coe_mul]
  exact congrArg _ (by norm_num)

theorem ceps : ∃ e : ℝ, 0 < e ∧ Ideal.ofBits .f32 0x358637BD#32 = (e : EReal) := by
  refine ⟨8796093 * 2 ^ (-43 : ℤ), by positivity, ?_⟩
  simp [Ideal.ofBits, Ideal.ieee]

/-- A row normed is real where its parts are. -/
theorem hE_real (x w s t : Fin 2048 → EReal) (hx : ∀ j, ∃ a : ℝ, x j = (a : EReal)) (hw : ∀ j, ∃ a : ℝ, w j = (a : EReal)) (hs : ∀ j, ∃ a : ℝ, s j = (a : EReal)) (ht : ∀ j, ∃ a : ℝ, t j = (a : EReal)) (k : Fin 2048) :
    ∃ a : ℝ, hE x w s t k = (a : EReal) := by
  choose xr hx using hx
  choose wr hw using hw
  choose sr hs using hs
  choose tr ht using ht
  obtain ⟨e, he, hee⟩ := ceps
  have hpos : 0 < (∑ j : Fin 2048, xr j * xr j) * (1 / 2048) + e :=
    add_pos_of_nonneg_of_pos (mul_nonneg (Finset.sum_nonneg fun j _ => mul_self_nonneg _) (by norm_num)) he
  unfold hE
  simp only [hx, hw, hs, ht, hee, c2048, c1]
  simp only [← EReal.coe_mul, ← sum_coe]
  rw [Ideal.div_coe (by norm_num), ← EReal.coe_mul, ← EReal.coe_add, Ideal.rsqrt_coe, if_neg, if_neg]
  · simp only [← EReal.coe_mul, ← EReal.coe_add]
    exact ⟨_, rfl⟩
  · exact hpos.ne'
  · exact not_lt.mpr hpos.le

/-- The product with the head matrix, of reals: the head's mean. -/
theorem mean_real (f : Fin 512 → ℝ) (l : Fin 512) :
    (∑ x : Fin 512, f x * (if x.val / 64 = l.val / 64 then 1 / 64 else 0)) = (∑ d : Fin 64, f ⟨l.val / 64 * 64 + d.val, by omega⟩) * (1 / 64) := by
  rw [Finset.sum_mul, ← (finProdFinEquiv (m := 8) (n := 64)).sum_comp, Fintype.sum_prod_type, Finset.sum_eq_single (⟨l.val / 64, by omega⟩ : Fin 8)]
  · refine Finset.sum_congr rfl fun d _ => ?_
    have e : (finProdFinEquiv (m := 8) (n := 64) ((⟨l.val / 64, by omega⟩ : Fin 8), d)) = (⟨l.val / 64 * 64 + d.val, by omega⟩ : Fin 512) :=
      Fin.ext (by simp only [finProdFinEquiv, Equiv.coe_fn_mk]; omega)
    rw [e, if_pos (by dsimp only; omega)]
  · intro a _ ha
    refine Finset.sum_eq_zero fun d _ => ?_
    rw [if_neg, mul_zero]
    intro h
    apply ha
    refine Fin.ext ?_
    have : ((finProdFinEquiv (m := 8) (n := 64) (a, d) : Fin (8 * 64)) : ℕ) = d.val + 64 * a.val := rfl
    dsimp only
    omega
  · intro h; exact absurd (Finset.mem_univ _) h

/-- The kernel's mean of the squares, high part and low part apart, is the head's mean. -/
theorem mean_eq (p : Fin 512 → EReal) (g : Fin 512 → EReal) (l : Fin 512) (hp : ∀ x, ∃ a : ℝ, p x = (a : EReal))
    (hg : ∀ x, g x = (((if x.val / 64 = l.val / 64 then 1 / 64 else 0 : ℝ)) : EReal)) :
    (∑ x : Fin 512, p x * p x * g x) + (∑ x : Fin 512, (p x * p x - p x * p x) * g x)
      = Ideal.div (∑ d : Fin 64, p ⟨l.val / 64 * 64 + d.val, by omega⟩ * p ⟨l.val / 64 * 64 + d.val, by omega⟩) (Ideal.ofBits .f32 0x42800000#32) := by
  choose pr hp using hp
  simp only [hp, hg, c64, ← EReal.coe_mul, ← EReal.coe_sub, ← sum_coe, ← EReal.coe_add, sub_self, zero_mul, Finset.sum_const_zero, add_zero]
  rw [mean_real (fun x => pr x * pr x) l, Ideal.div_coe (by norm_num), ← EReal.coe_mul]

end Cert.Kernel5Ideal.Hand

end
-- ==== Proof.InRef.lean ====
/-
  THE INPUT PROJECTION'S REFERENCE, stage by stage, each stage read at an entry.
-/
module

public import proofs.«01_k».proof.Proof.InMath
public import proofs.«01_k».proof.Proof.Gen.Reference5Ideal
public import proofs.«01_k».proof.Proof.Gen.Reference5Ideal.Run
public import Idealize.ShloMosaic.Lib.Pipeline.ValueKit

@[expose] public section

set_option maxRecDepth 16384

noncomputable section

namespace Cert.Reference5Ideal.Hand

open Idealize.ShloMosaic Idealize.ShloMosaic.TcCoe Idealize.SL.Sem
open Cert.Reference5Ideal Cert.Reference5Ideal.Gen
open Cert.Kernel5Ideal.Hand (hE headE)

/-- The reference's normed and modulated rows. -/
def refH (X : FVec Ideal S32x256x2048 .f32) (M : FVec Ideal S8x6x2048 .f32) (w : FVec Ideal S2048 .f32) : FVec Ideal S32x256x2048 .f32 :=
  addf (mulf (mulf (mulf X (broadcastInDim S32x256x2048 ![0, 1, 2] bcast_S32x256x1_S32x256x2048_0_1_2 (Host.rsqrt (addf (Host.divf (broadcastInDim S32x256x1 ![0, 1] bcast_S32x256_S32x256x1_0_1 (Host.reduceAdd (mulf X X) (constant S_ .f32 0x00000000#32) reducesTo_S32x256x2048_S32x256_d2 h_S_)) (broadcastInDim S32x256x1 ![] bcast_S_S32x256x1 (constant S_ .f32 0x45000000#32))) (broadcastInDim S32x256x1 ![] bcast_S_S32x256x1 (constant S_ .f32 0x358637BD#32)))))) (broadcastInDim S32x256x2048 ![0, 1, 2] bcast_S1x1x2048_S32x256x2048_0_1_2 (broadcastInDim S1x1x2048 ![2] bcast_S2048_S1x1x2048_2 w))) (broadcastInDim S32x256x2048 ![0, 1, 2] bcast_S1x1x2048_S32x256x2048_0_1_2 (broadcastInDim S1x1x2048 ![2] bcast_S2048_S1x1x2048_2 (addf (broadcastInDim S2048 ![] bcast_S_S2048 (constant S_ .f32 0x3F800000#32)) (shapeCast _ (extractStridedSlice S1x1x2048 ![0, 1, 0] M slices_S8x6x2048_S1x1x2048_0_1_0) shapeCasts_S1x1x2048_S2048))))) (broadcastInDim S32x256x2048 ![0, 1, 2] bcast_S1x1x2048_S32x256x2048_0_1_2 (broadcastInDim S1x1x2048 ![2] bcast_S2048_S1x1x2048_2 (shapeCast _ (extractStridedSlice S1x1x2048 ![0, 0, 0] M slices_S8x6x2048_S1x1x2048_0_0_0) shapeCasts_S1x1x2048_S2048)))

/-- Its projection. -/
def refP (H : FVec Ideal S32x256x2048 .f32) (W : FVec Ideal S2048x5120 .f32) : FVec Ideal S32x256x5120 .f32 :=
  Host.dotGeneral dot_S32x256x2048_S2048x5120_S32x256x5120_2_0_01_1_n_n none H W

/-- The projected columns from 0 on, by head. -/
def colsQ (P : FVec Ideal S32x256x5120 .f32) : FVec Ideal S32x256x16x64 .f32 :=
  shapeCast _ (extractStridedSlice S32x256x1024 ![0, 0, 0] P slices_S32x256x5120_S32x256x1024_0_0_0) shapeCasts_S32x256x1024_S32x256x16x64

/-- The projected columns from 1024 on, by head. -/
def colsK (P : FVec Ideal S32x256x5120 .f32) : FVec Ideal S32x256x16x64 .f32 :=
  shapeCast _ (extractStridedSlice S32x256x1024 ![0, 0, 1024] P slices_S32x256x5120_S32x256x1024_0_0_1024) shapeCasts_S32x256x1024_S32x256x16x64

/-- The head norm. -/
def refN (Y : FVec Ideal S32x256x16x64 .f32) (w : FVec Ideal S64 .f32) : FVec Ideal S32x256x1024 .f32 :=
  shapeCast _ (mulf (mulf Y (broadcastInDim S32x256x16x64 ![0, 1, 2, 3] bcast_S32x256x16x1_S32x256x16x64_0_1_2_3 (Host.rsqrt (addf (Host.divf (broadcastInDim S32x256x16x1 ![0, 1, 2] bcast_S32x256x16_S32x256x16x1_0_1_2 (Host.reduceAdd (mulf Y Y) (constant S_ .f32 0x00000000#32) reducesTo_S32x256x16x64_S32x256x16_d3 h_S_)) (broadcastInDim S32x256x16x1 ![] bcast_S_S32x256x16x1 (constant S_ .f32 0x42800000#32))) (broadcastInDim S32x256x16x1 ![] bcast_S_S32x256x16x1 (constant S_ .f32 0x358637BD#32)))))) (broadcastInDim S32x256x16x64 ![0, 1, 2, 3] bcast_S1x1x1x64_S32x256x16x64_0_1_2_3 (broadcastInDim S1x1x1x64 ![3] bcast_S64_S1x1x1x64_3 w))) shapeCasts_S32x256x16x64_S32x256x1024

/-- The three column ranges side by side. -/
def refAll (P : FVec Ideal S32x256x5120 .f32) (q k : FVec Ideal S64 .f32) : FVec Ideal S8192x5120 .f32 :=
  shapeCast _ (concatenate S32x256x5120 2 [⟨S32x256x1024, refN (colsQ P) q⟩, ⟨S32x256x1024, refN (colsK P) k⟩, ⟨S32x256x3072, extractStridedSlice S32x256x3072 ![0, 0, 2048] P slices_S32x256x5120_S32x256x3072_0_0_2048⟩] concatenates_S32x256x1024_S32x256x1024_S32x256x3072_S32x256x5120_d2) shapeCasts_S32x256x5120_S8192x5120

/-- They are what the reference computes. -/
theorem result_eq (m : (ℓ : Loc nD τ sig) → Buf (Elt Ideal) ℓ) (c : Dev nD) :
    Value.res_main_v60 m c = refAll (refP (refH (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4)) (m ((c.tc : Thread nD τ).loc main_arg5)) := rfl

theorem refH_read (X : FVec Ideal S32x256x2048 .f32) (M : FVec Ideal S8x6x2048 .f32) (w : FVec Ideal S2048 .f32) (b : Fin 32) (r : Fin 256) (k : Fin 2048) :
    refH X M w (ix3 b r k) = hE (fun j => X (ix3 b r j)) (fun j => w (ix1 j)) (fun j => M (ix3 0 1 j)) (fun j => M (ix3 0 0 j)) k := by
  pointwise [refH, hE]

theorem refP_read (H : FVec Ideal S32x256x2048 .f32) (W : FVec Ideal S2048x5120 .f32) (b : Fin 32) (r : Fin 256) (C : Fin 5120) :
    refP H W (ix3 b r C) = ∑ k : Fin 2048, H (ix3 b r k) * W (ix2 k C) := by
  pointwise [refP]

theorem colsQ_read (P : FVec Ideal S32x256x5120 .f32) (b : Fin 32) (r : Fin 256) (h : Fin 16) (d : Fin 64) :
    colsQ P (ix4 b r h d) = P (ix3 b r ⟨h.val * 64 + d.val, by omega⟩) := by
  pointwise [colsQ]; blk_ext

theorem colsK_read (P : FVec Ideal S32x256x5120 .f32) (b : Fin 32) (r : Fin 256) (h : Fin 16) (d : Fin 64) :
    colsK P (ix4 b r h d) = P (ix3 b r ⟨1024 + (h.val * 64 + d.val), by omega⟩) := by
  pointwise [colsK]; blk_ext

theorem refN_read (Y : FVec Ideal S32x256x16x64 .f32) (w : FVec Ideal S64 .f32) (b : Fin 32) (r : Fin 256) (C : Fin 1024) (h : Fin 16) (d : Fin 64) (hC : C.val = h.val * 64 + d.val) :
    refN Y w (ix3 b r C) = headE (fun x => Y (ix4 b r h x)) (fun x => w (ix1 x)) d := by
  have hh : (⟨C.val / 64, by omega⟩ : Fin 16) = h := Fin.ext (by dsimp only; omega)
  have hd : (⟨C.val % 64, by omega⟩ : Fin 64) = d := Fin.ext (by dsimp only; omega)
  pointwise [refN, headE]
  simp only [hh, hd]

theorem refAll_q (P : FVec Ideal S32x256x5120 .f32) (q k : FVec Ideal S64 .f32) (R : Fin 8192) (C : Fin 5120) (b : Fin 32) (r : Fin 256) (h : Fin 16) (d : Fin 64)
    (hR : R.val = b.val * 256 + r.val) (hC : C.val = h.val * 64 + d.val) :
    refAll P q k (ix2 R C) = headE (fun x => P (ix3 b r ⟨h.val * 64 + x.val, by omega⟩)) (fun x => q (ix1 x)) d := by
  have e : refAll P q k (ix2 R C) = refN (colsQ P) q (ix3 b r ⟨C.val, by omega⟩) := by
    pointwise [refAll]
    have hb : (⟨R.val / 256, by omega⟩ : Fin 32) = b := Fin.ext (by dsimp only; omega)
    have hr : (⟨R.val % 256, by omega⟩ : Fin 256) = r := Fin.ext (by dsimp only; omega)
    rw [dif_pos (by omega), hb, hr]
  rw [e, refN_read _ _ b r _ h d hC]
  simp only [colsQ_read]

theorem refAll_k (P : FVec Ideal S32x256x5120 .f32) (q k : FVec Ideal S64 .f32) (R : Fin 8192) (C : Fin 5120) (b : Fin 32) (r : Fin 256) (h : Fin 16) (d : Fin 64)
    (hR : R.val = b.val * 256 + r.val) (hC : C.val = 1024 + (h.val * 64 + d.val)) :
    refAll P q k (ix2 R C) = headE (fun x => P (ix3 b r ⟨1024 + (h.val * 64 + x.val), by omega⟩)) (fun x => k (ix1 x)) d := by
  have e : refAll P q k (ix2 R C) = refN (colsK P) k (ix3 b r ⟨C.val - 1024, by omega⟩) := by
    pointwise [refAll]
    have hb : (⟨R.val / 256, by omega⟩ : Fin 32) = b := Fin.ext (by dsimp only; omega)
    have hr : (⟨R.val % 256, by omega⟩ : Fin 256) = r := Fin.ext (by dsimp only; omega)
    rw [dif_neg (by omega), dif_pos (by omega), hb, hr]
  rw [e, refN_read _ _ b r _ h d (by dsimp only; omega)]
  simp only [colsK_read]

theorem refAll_plain (P : FVec Ideal S32x256x5120 .f32) (q k : FVec Ideal S64 .f32) (R : Fin 8192) (C : Fin 5120) (b : Fin 32) (r : Fin 256)
    (hR : R.val = b.val * 256 + r.val) (hC : 2048 ≤ C.val) :
    refAll P q k (ix2 R C) = P (ix3 b r C) := by
  pointwise [refAll]
  have hb : (⟨R.val / 256, by omega⟩ : Fin 32) = b := Fin.ext (by dsimp only; omega)
  have hr : (⟨R.val % 256, by omega⟩ : Fin 256) = r := Fin.ext (by dsimp only; omega)
  rw [dif_neg (by omega), dif_neg (by omega), hb, hr]
  exact congrArg P (congrArg (ix3 b r) (Fin.ext (by dsimp only; omega)))

end Cert.Reference5Ideal.Hand

end
-- ==== Proof.InReads.lean ====
/-
  THE INPUT PROJECTION'S BLOCKS at an entry: the normed rows, the product, and the product normed by head.
-/
module

public import proofs.«01_k».proof.Proof.InData
public import proofs.«01_k».proof.Proof.InMath
public import Idealize.ShloMosaic.Lib.Pipeline.ValueKit

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem

/-- Sixteen normed rows. -/
theorem nrm_read (y : FVec Ideal S16x2048 .f32) (w : FVec Ideal S1x2048 .f32) (mm : FVec Ideal S1x6x2048 .f32) (z : Fin 16) (k : Fin 2048) :
    nrm (F := Ideal) y w mm (ix2 z k) = hE (fun j => y (ix2 z j)) (fun j => w (ix2 0 j)) (fun j => mm (ix3 0 1 j)) (fun j => mm (ix3 0 0 j)) k := by
  pointwise [nrm, hE]

/-- The normed block. -/
theorem NB_read (x : FVec Ideal S1024x2048 .f32) (w : FVec Ideal S1x2048 .f32) (mm : FVec Ideal S1x6x2048 .f32) (r : Fin 1024) (k : Fin 2048) :
    NB (F := Ideal) x w mm (ix2 r k) = hE (fun j => x (ix2 r j)) (fun j => w (ix2 0 j)) (fun j => mm (ix3 0 1 j)) (fun j => mm (ix3 0 0 j)) k := by
  have e : ∀ j : Fin 2048, rows (F := Ideal) x (r.val / 16) (ix2 (⟨r.val % 16, Nat.mod_lt _ (by decide)⟩ : Fin 16) j) = x (ix2 r j) := fun j =>
    congrArg x (congrArg (fun q : Fin 1024 => ix2 q j) (Fin.ext (by show (16 * (r.val / 16) + r.val % 16) % 1024 = r.val; omega)))
  refine (nrm_read (rows (F := Ideal) x (r.val / 16)) w mm ⟨r.val % 16, Nat.mod_lt _ (by decide)⟩ k).trans ?_
  simp only [e]

/-- The product. -/
theorem projT_read (A : FVec Ideal S1024x2048 .bf16) (w : FVec Ideal S2048x512 .f32) (r : Fin 1024) (l : Fin 512) :
    projT (F := Ideal) A w (ix2 r l) = ∑ k : Fin 2048, A (ix2 r k) * w (ix2 k l) := by
  pointwise [projT]

/-- The product normed by head, before the head's mean is read. -/
theorem headT_read (a : BitVec 32) (A : FVec Ideal S1024x2048 .bf16) (w : FVec Ideal S2048x512 .f32) (hq hk : FVec Ideal S1x512 .f32) (g : FVec Ideal S512x512 .bf16) (r : Fin 1024) (l : Fin 512) :
    headT (F := Ideal) a A w hq hk g (ix2 r l)
      = projT (F := Ideal) A w (ix2 r l) * Ideal.rsqrt ((∑ x : Fin 512, projT (F := Ideal) A w (ix2 r x) * projT (F := Ideal) A w (ix2 r x) * g (ix2 x l))
          + (∑ x : Fin 512, (projT (F := Ideal) A w (ix2 r x) * projT (F := Ideal) A w (ix2 r x) - projT (F := Ideal) A w (ix2 r x) * projT (F := Ideal) A w (ix2 r x)) * g (ix2 x l)) + Ideal.ofBits .f32 0x358637BD#32)
        * (if Scalar.cmpi .slt a 2#32 = 1#1 then hq (ix2 0 l) else hk (ix2 0 l)) := by
  unfold headT
  generalize projT (F := Ideal) A w = P
  pointwise
  unfold Scalar.select
  by_cases h : Scalar.cmpi .slt a 2#32 = 1#1
  · rw [if_pos h]; exact congrArg _ (if_pos h)
  · rw [if_neg h]; exact congrArg _ (if_neg h)

/-- The product normed by head, its row real and `g` the head matrix. -/
theorem headT_mean (a : BitVec 32) (A : FVec Ideal S1024x2048 .bf16) (w : FVec Ideal S2048x512 .f32) (hq hk : FVec Ideal S1x512 .f32) (g : FVec Ideal S512x512 .bf16) (r : Fin 1024) (l : Fin 512)
    (hp : ∀ x : Fin 512, ∃ b : ℝ, projT (F := Ideal) A w (ix2 r x) = (b : EReal)) (hg : ∀ x : Fin 512, g (ix2 x l) = (((if x.val / 64 = l.val / 64 then 1 / 64 else 0 : ℝ)) : EReal)) :
    headT (F := Ideal) a A w hq hk g (ix2 r l)
      = headE (fun x => projT (F := Ideal) A w (ix2 r ⟨l.val / 64 * 64 + x.val, by omega⟩)) (fun _ => if Scalar.cmpi .slt a 2#32 = 1#1 then hq (ix2 0 l) else hk (ix2 0 l)) ⟨l.val % 64, by omega⟩ := by
  have e := headT_read a A w hq hk g r l
  rw [mean_eq (fun x => projT (F := Ideal) A w (ix2 r x)) (fun x => g (ix2 x l)) l hp hg] at e
  have hl : (⟨l.val / 64 * 64 + l.val % 64, by omega⟩ : Fin 512) = l := Fin.ext (by dsimp only; omega)
  unfold headE
  dsimp only
  rw [hl]
  exact e

/-- Two heads normed agree where their parts do. -/
theorem headE_congr (p p' w w' : Fin 64 → EReal) (d : Fin 64) (h : ∀ x, p x = p' x) (hw : w d = w' d) : headE p w d = headE p' w' d := by
  obtain rfl := funext h
  unfold headE
  rw [hw]

end Cert.Kernel5Ideal.Hand

end
-- ==== Proof.InHost.lean ====
/-
  WHAT THE HOST LINES LEAVE for the input projection: the tokens by row, the head weights tiled, the head matrix.
-/
module

public import proofs.«01_k».proof.Proof.InData
public import proofs.«01_k».proof.Proof.InMath
public import Idealize.ShloMosaic.Lib.Pipeline.ValueKit

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem

variable (m : (ℓ : Loc nD τ sig) → Buf (Elt Ideal) ℓ) (c : Dev nD)

/-- The head weights tiled over a column block. -/
def tiled (q : FVec Ideal S64 .f32) : FVec Ideal S1x512 .f32 :=
  broadcastInDim S1x512 ![1] bcast_S512_S1x512_1 (shapeCast S512 (broadcastInDim S8x64 ![0, 1] bcast_S1x64_S8x64_0_1 (shapeCast S1x64 q shapeCasts_S64_S1x64 : FVec Ideal S1x64 .f32)) shapeCasts_S8x64_S512 : FVec Ideal S512 .f32)

/-- The head matrix. -/
def gmat : FVec Ideal S512x512 .bf16 :=
  truncf .bf16 (Host.divf (shapeCast S512x512 (mulf (broadcastInDim S8x64x8x64 ![0, 1, 2, 3] bcast_S8x1x8x1_S8x64x8x64_0_1_2_3 (broadcastInDim S8x1x8x1 ![0, 2] bcast_S8x8_S8x1x8x1_0_2 (uitofp .f32 (cmpi .eq (addi (iotaInDim S8x8 32 0) (broadcastInDim S8x8 ![] bcast_S_S8x8 (constantI S_ 32 0#32))) (iotaInDim S8x8 32 1)) : FVec Ideal S8x8 .f32)))
    (broadcastInDim S8x64x8x64 ![0, 1, 2, 3] bcast_S1x64x1x64_S8x64x8x64_0_1_2_3 (broadcastInDim S1x64x1x64 ![1, 3] bcast_S64x64_S1x64x1x64_1_3 (broadcastInDim S64x64 ![] bcast_S_S64x64 (constant (F := Ideal) S_ .f32 0x3F800000#32))))) shapeCasts_S8x64x8x64_S512x512 : FVec Ideal S512x512 .f32)
    (broadcastInDim S512x512 ![] bcast_S_S512x512 (constant (F := Ideal) S_ .f32 0x42800000#32))) bitsLt_bf16_f32

theorem V_main_v3 : V m c main_v3 = tiled (m ((c : Thread nD τ).loc main_arg4)) := by
  unfold V
  simp only [pre, hostOps0, hostOps0_1, hostOps0_2, List.flatten_cons, List.flatten_nil, List.append_nil, List.cons_append, List.nil_append, StableHlo.TRef.unary, StableHlo.TRef.binary, StableHlo.TRef.reshape]
  after_results_simp <;> rfl
theorem V_main_v7 : V m c main_v7 = tiled (m ((c : Thread nD τ).loc main_arg5)) := by
  unfold V
  simp only [pre, hostOps0, hostOps0_1, hostOps0_2, List.flatten_cons, List.flatten_nil, List.append_nil, List.cons_append, List.nil_append, StableHlo.TRef.unary, StableHlo.TRef.binary, StableHlo.TRef.reshape]
  after_results_simp <;> rfl
theorem V_main_v18 : V m c main_v18 = gmat := by
  unfold V
  simp only [pre, hostOps0, hostOps0_1, hostOps0_2, List.flatten_cons, List.flatten_nil, List.append_nil, List.cons_append, List.nil_append, StableHlo.TRef.unary, StableHlo.TRef.binary, StableHlo.TRef.reshape]
  after_results_simp <;> rfl
theorem V_main_v19 : V m c main_v19 = (shapeCast S8192x2048 (m ((c : Thread nD τ).loc main_arg0) : FVec Ideal S32x256x2048 .f32) shapeCasts_S32x256x2048_S8192x2048 : FVec Ideal S8192x2048 .f32) := by
  unfold V
  simp only [pre, hostOps0, hostOps0_1, hostOps0_2, List.flatten_cons, List.flatten_nil, List.append_nil, List.cons_append, List.nil_append, StableHlo.TRef.unary, StableHlo.TRef.binary, StableHlo.TRef.reshape]
  after_results_simp <;> rfl
theorem V_main_v20 : V m c main_v20 = broadcastInDim S1x2048 ![1] bcast_S2048_S1x2048_1 (m ((c : Thread nD τ).loc main_arg2) : FVec Ideal S2048 .f32) := by
  unfold V
  simp only [pre, hostOps0, hostOps0_1, hostOps0_2, List.flatten_cons, List.flatten_nil, List.append_nil, List.cons_append, List.nil_append, StableHlo.TRef.unary, StableHlo.TRef.binary, StableHlo.TRef.reshape]
  after_results_simp <;> rfl

theorem tiled_read (q : FVec Ideal S64 .f32) (l : Fin 512) : tiled q (ix2 0 l) = q (ix1 ⟨l.val % 64, by omega⟩) := by
  pointwise [tiled]

/-- The head matrix at an entry: a sixty-fourth within a head, zero outside. -/
theorem gmat_read (x l : Fin 512) : gmat (ix2 x l) = (((if x.val / 64 = l.val / 64 then 1 / 64 else 0 : ℝ)) : EReal) := by
  pointwise [gmat]
  have e : ∀ a b : Fin 8, IntOp.cmpi .eq (IntOp.addi (BitVec.ofNat 32 a.val) 0#32) (BitVec.ofNat 32 b.val) = if a.val = b.val then 1#1 else 0#1 := by decide
  rw [e ⟨x.val / 64, by omega⟩ ⟨l.val / 64, by omega⟩, c64, Ideal.div_coe (by norm_num)]
  dsimp only
  by_cases h : x.val / 64 = l.val / 64
  · rw [if_pos h, if_pos h]
    show (((1#1 : BitVec 1).toNat : ℝ) : EReal) * _ = _
    rw [← EReal.coe_mul]
    exact congrArg _ (by norm_num)
  · rw [if_neg h, if_neg h]
    show (((0#1 : BitVec 1).toNat : ℝ) : EReal) * _ = _
    rw [← EReal.coe_mul]
    exact congrArg _ (by norm_num)

end Cert.Kernel5Ideal.Hand

end
-- ==== Proof.InValues.lean ====
/-
  THE INPUT PROJECTION'S VALUES: a block's entries are the reference's, and so is the whole result, the inputs finite.
-/
module

public import proofs.«01_k».proof.Proof.InRun
public import proofs.«01_k».proof.Proof.InRef
public import proofs.«01_k».proof.Proof.InReads
public import proofs.«01_k».proof.Proof.InHost

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem
open Cert.Reference5Ideal.Hand (refH refP refAll refH_read refP_read refAll_q refAll_k refAll_plain)

/-- The blocks of the remaining windows. -/
theorem idxs : ∀ t : Fin cfg0.N, win0_5.index t = ![0, t.val % 10] ∧ win0_6.index t = ![0, 0] ∧ win0_7.index t = ![0, 0] ∧ win0_8.index t = ![0, 0] ∧ win0_9.index t = ![t.val / 10, t.val % 10] :=
  (by decide +kernel : ∀ t : Fin grid0.N, _)

/-- The tokens, the modulation's first two rows, the norm's weights and the weights of the queries and keys are real. -/
structure Finite (X : FVec Ideal S32x256x2048 .f32) (M : FVec Ideal S8x6x2048 .f32) (w : FVec Ideal S2048 .f32) (W : FVec Ideal S2048x5120 .f32) : Prop where
  x : ∀ b r k, ∃ a : ℝ, X (ix3 b r k) = (a : EReal)
  s : ∀ k, ∃ a : ℝ, M (ix3 0 1 k) = (a : EReal)
  t : ∀ k, ∃ a : ℝ, M (ix3 0 0 k) = (a : EReal)
  w : ∀ k, ∃ a : ℝ, w (ix1 k) = (a : EReal)
  W : ∀ (k : Fin 2048) (C : Fin 5120), C.val < 2048 → ∃ a : ℝ, W (ix2 k C) = (a : EReal)

/-- Then the reference's queries and keys are real. -/
theorem refP_real (X : FVec Ideal S32x256x2048 .f32) (M : FVec Ideal S8x6x2048 .f32) (w : FVec Ideal S2048 .f32) (W : FVec Ideal S2048x5120 .f32) (h : Finite X M w W) (b : Fin 32) (r : Fin 256) (C : Fin 5120) (hC : C.val < 2048) :
    ∃ a : ℝ, refP (refH X M w) W (ix3 b r C) = (a : EReal) := by
  rw [refP_read]
  simp only [refH_read]
  have hh := fun k => hE_real (fun j => X (ix3 b r j)) (fun j => w (ix1 j)) (fun j => M (ix3 0 1 j)) (fun j => M (ix3 0 0 j)) (h.x b r) h.w h.s h.t k
  choose f hf using hh
  choose g hg using fun k => h.W k C hC
  simp only [hf, hg, ← EReal.coe_mul, ← sum_coe]
  exact ⟨_, rfl⟩

variable (m : (ℓ : Loc nD τ sig) → Buf (Elt Ideal) ℓ) (c : Dev nD)

/-- The weights' column block. -/
theorem iblk5_read (t : Fin cfg0.N) (k : Fin 2048) (l : Fin 512) (C : Fin 5120) (hC : C.val = t.val % 10 * 512 + l.val) :
    iblk m c 5 t (ix2 k l) = m ((c : Thread nD τ).loc main_arg3) (ix2 k C) := by
  rw [← V_main_arg3 m c]
  blk_ext! [iblk, idxs t]

theorem iblk6_read (t : Fin cfg0.N) (l : Fin 512) :
    iblk m c 6 t (ix2 0 l) = m ((c : Thread nD τ).loc main_arg4) (ix1 ⟨l.val % 64, by omega⟩) := by
  rw [← tiled_read (m ((c : Thread nD τ).loc main_arg4)) l, ← V_main_v3 m c]
  blk_ext! [iblk, idxs t]

theorem iblk7_read (t : Fin cfg0.N) (l : Fin 512) :
    iblk m c 7 t (ix2 0 l) = m ((c : Thread nD τ).loc main_arg5) (ix1 ⟨l.val % 64, by omega⟩) := by
  rw [← tiled_read (m ((c : Thread nD τ).loc main_arg5)) l, ← V_main_v7 m c]
  blk_ext! [iblk, idxs t]

theorem iblk8_read (t : Fin cfg0.N) (x l : Fin 512) :
    iblk m c 8 t (ix2 x l) = (((if x.val / 64 = l.val / 64 then 1 / 64 else 0 : ℝ)) : EReal) := by
  rw [← gmat_read, ← V_main_v18 m c]
  blk_ext! [iblk, idxs t]

/-- The tokens by row, at an entry. -/
theorem flat_read (X : FVec Ideal S32x256x2048 .f32) (R : Fin 8192) (j : Fin 2048) (b : Fin 32) (r : Fin 256) (h : R.val = b.val * 256 + r.val) :
    (shapeCast S8192x2048 X shapeCasts_S32x256x2048_S8192x2048 : FVec Ideal S8192x2048 .f32) (ix2 R j) = X (ix3 b r j) := by
  have hb : (⟨R.val / 256, by omega⟩ : Fin 32) = b := Fin.ext (by dsimp only; omega)
  have hr : (⟨R.val % 256, by omega⟩ : Fin 256) = r := Fin.ext (by dsimp only; omega)
  pointwise
  rw [hb, hr]

/-- The norm's weights as a row, at an entry. -/
theorem lift_read (w : FVec Ideal S2048 .f32) (j : Fin 2048) : (broadcastInDim S1x2048 ![1] bcast_S2048_S1x2048_1 w : FVec Ideal S1x2048 .f32) (ix2 0 j) = w (ix1 j) := by
  pointwise

/-- The normed rows of a block are the reference's. -/
theorem NX_read (i : ℕ) (hi : i < 8) (r : Fin 1024) (k : Fin 2048) (b : Fin 32) (r' : Fin 256) (hR : i * 1024 + r.val = b.val * 256 + r'.val) :
    NX (V m c main_v19) (V m c main_arg1) (V m c main_v20) i (ix2 r k) = refH (m ((c : Thread nD τ).loc main_arg0)) (m ((c : Thread nD τ).loc main_arg1)) (m ((c : Thread nD τ).loc main_arg2)) (ix3 b r' k) := by
  refine (NB_read _ _ _ r k).trans ?_
  rw [refH_read]
  have e1 : ∀ j : Fin 2048, blkX (V m c main_v19) (min i 7) (ix2 r j) = m ((c : Thread nD τ).loc main_arg0) (ix3 b r' j) := by
    intro j
    have hr : ((1024 * min i 7 + r.val) % 8192) = b.val * 256 + r'.val := by omega
    rw [V_main_v19]
    exact flat_read _ (⟨(1024 * min i 7 + r.val) % 8192, Nat.mod_lt _ (by decide)⟩ : Fin 8192) j b r' hr
  have e2 : ∀ j : Fin 2048, V m c main_v20 (ix2 0 j) = m ((c : Thread nD τ).loc main_arg2) (ix1 j) := by
    intro j
    rw [V_main_v20]
    exact lift_read _ j
  have e3 : ∀ (q : Fin 6) (j : Fin 2048), blkM (V m c main_arg1) 0 (ix3 0 q j) = m ((c : Thread nD τ).loc main_arg1) (ix3 0 q j) := by
    intro q j
    rw [V_main_arg1]
    rfl
  simp only [e1, e2, e3]

/-- The projected entries of a block are the reference's. -/
theorem proj_read (t : Fin cfg0.N) (r : Fin 1024) (l : Fin 512) (b : Fin 32) (r' : Fin 256) (C : Fin 5120) (hR : t.val / 10 * 1024 + r.val = b.val * 256 + r'.val) (hC : C.val = t.val % 10 * 512 + l.val) :
    projT (F := Ideal) (NX (V m c main_v19) (V m c main_arg1) (V m c main_v20) (t.val / 10)) (iblk m c 5 t) (ix2 r l)
      = refP (refH (m ((c : Thread nD τ).loc main_arg0)) (m ((c : Thread nD τ).loc main_arg1)) (m ((c : Thread nD τ).loc main_arg2))) (m ((c : Thread nD τ).loc main_arg3)) (ix3 b r' C) := by
  have hN : t.val < 80 := lt_of_lt_of_eq t.isLt N_0
  refine (projT_read _ _ r l).trans ?_
  rw [refP_read]
  refine Finset.sum_congr rfl fun k _ => ?_
  exact congrArg₂ (· * ·) (NX_read m c (t.val / 10) (by omega) r k b r' hR) (iblk5_read m c t k l C hC)

/-- A block's entry is the reference's. -/
theorem out_read (h : Finite (m ((c : Thread nD τ).loc main_arg0)) (m ((c : Thread nD τ).loc main_arg1)) (m ((c : Thread nD τ).loc main_arg2)) (m ((c : Thread nD τ).loc main_arg3))) (t : Fin cfg0.N) (r : Fin 1024) (l : Fin 512) (R : Fin 8192) (C : Fin 5120) (hR : R.val = t.val / 10 * 1024 + r.val) (hC : C.val = t.val % 10 * 512 + l.val) :
    outT m c t (ix2 r l) = refAll (refP (refH (m ((c : Thread nD τ).loc main_arg0)) (m ((c : Thread nD τ).loc main_arg1)) (m ((c : Thread nD τ).loc main_arg2))) (m ((c : Thread nD τ).loc main_arg3))) (m ((c : Thread nD τ).loc main_arg4)) (m ((c : Thread nD τ).loc main_arg5)) (ix2 R C) := by
  have hN : t.val < 80 := lt_of_lt_of_eq t.isLt N_0
  have hl := l.isLt
  have hRb : t.val / 10 * 1024 + r.val = (⟨R.val / 256, by omega⟩ : Fin 32).val * 256 + (⟨R.val % 256, by omega⟩ : Fin 256).val := by dsimp only; omega
  have hp := fun (x : Fin 512) => proj_read m c t r x ⟨R.val / 256, by omega⟩ ⟨R.val % 256, by omega⟩ ⟨t.val % 10 * 512 + x.val, by omega⟩ hRb rfl
  unfold outT outF
  by_cases hj : t.val % 10 < 4
  · rw [if_pos hj]
    have hreal : ∀ x : Fin 512, ∃ a : ℝ, projT (F := Ideal) (NX (V m c main_v19) (V m c main_arg1) (V m c main_v20) (t.val / 10)) (iblk m c 5 t) (ix2 r x) = (a : EReal) := by
      intro x
      rw [hp x]
      exact refP_real _ _ _ _ h _ _ _ (by have := x.isLt; dsimp only; omega)
    refine (headT_mean _ _ _ _ _ _ r l hreal (fun x => iblk8_read m c t x l)).trans ?_
    by_cases hj2 : t.val % 10 < 2
    · have hc : Scalar.cmpi .slt (BitVec.ofNat 32 (t.val % 10)) 2#32 = 1#1 := (by decide : ∀ j : Fin 2, Scalar.cmpi .slt (BitVec.ofNat 32 j.val) 2#32 = 1#1) ⟨t.val % 10, hj2⟩
      rw [refAll_q _ _ _ R C ⟨R.val / 256, by omega⟩ ⟨R.val % 256, by omega⟩ ⟨t.val % 10 * 8 + l.val / 64, by omega⟩ ⟨l.val % 64, by omega⟩ (by dsimp only; omega) (by dsimp only; omega)]
      have hq : ∀ x : Fin 64, projT (F := Ideal) (NX (V m c main_v19) (V m c main_arg1) (V m c main_v20) (t.val / 10)) (iblk m c 5 t) (ix2 r (⟨l.val / 64 * 64 + x.val, by omega⟩ : Fin 512))
          = refP (refH (m ((c : Thread nD τ).loc main_arg0)) (m ((c : Thread nD τ).loc main_arg1)) (m ((c : Thread nD τ).loc main_arg2))) (m ((c : Thread nD τ).loc main_arg3)) (ix3 (⟨R.val / 256, by omega⟩ : Fin 32) (⟨R.val % 256, by omega⟩ : Fin 256) (⟨(t.val % 10 * 8 + l.val / 64) * 64 + x.val, by omega⟩ : Fin 5120)) :=
        fun x => proj_read m c t r _ _ _ _ hRb (by dsimp only; omega)
      exact headE_congr _ _ _ _ _ hq ((if_pos hc).trans (iblk6_read m c t l))
    · have hc : ¬ Scalar.cmpi .slt (BitVec.ofNat 32 (t.val % 10)) 2#32 = 1#1 := by
        have e : ∀ j : Fin 2, ¬ Scalar.cmpi .slt (BitVec.ofNat 32 (j.val + 2)) 2#32 = 1#1 := by decide
        have := e ⟨t.val % 10 - 2, by omega⟩
        rwa [show (⟨t.val % 10 - 2, by omega⟩ : Fin 2).val + 2 = t.val % 10 from by dsimp only; omega] at this
      rw [refAll_k _ _ _ R C ⟨R.val / 256, by omega⟩ ⟨R.val % 256, by omega⟩ ⟨(t.val % 10 - 2) * 8 + l.val / 64, by omega⟩ ⟨l.val % 64, by omega⟩ (by dsimp only; omega) (by dsimp only; omega)]
      have hq : ∀ x : Fin 64, projT (F := Ideal) (NX (V m c main_v19) (V m c main_arg1) (V m c main_v20) (t.val / 10)) (iblk m c 5 t) (ix2 r (⟨l.val / 64 * 64 + x.val, by omega⟩ : Fin 512))
          = refP (refH (m ((c : Thread nD τ).loc main_arg0)) (m ((c : Thread nD τ).loc main_arg1)) (m ((c : Thread nD τ).loc main_arg2))) (m ((c : Thread nD τ).loc main_arg3)) (ix3 (⟨R.val / 256, by omega⟩ : Fin 32) (⟨R.val % 256, by omega⟩ : Fin 256) (⟨1024 + (((t.val % 10 - 2) * 8 + l.val / 64) * 64 + x.val), by omega⟩ : Fin 5120)) :=
        fun x => proj_read m c t r _ _ _ _ hRb (by dsimp only; omega)
      exact headE_congr _ _ _ _ _ hq ((if_neg hc).trans (iblk7_read m c t l))
  · rw [if_neg hj, refAll_plain _ _ _ R C ⟨R.val / 256, by omega⟩ ⟨R.val % 256, by omega⟩ (by dsimp only; omega) (by omega)]
    exact proj_read m c t r l _ _ C hRb hC

/-- The result of the whole array. -/
theorem final9 (h : Finite (m ((c : Thread nD τ).loc main_arg0)) (m ((c : Thread nD τ).loc main_arg1)) (m ((c : Thread nD τ).loc main_arg2)) (m ((c : Thread nD τ).loc main_arg3))) :
    (dats m 0 c).arrAt 9 (cfgs 0).N = refAll (refP (refH (m ((c : Thread nD τ).loc main_arg0)) (m ((c : Thread nD τ).loc main_arg1)) (m ((c : Thread nD τ).loc main_arg2))) (m ((c : Thread nD τ).loc main_arg3))) (m ((c : Thread nD τ).loc main_arg4)) (m ((c : Thread nD τ).loc main_arg5)) := by
  refine (dats m 0 c).arrAt_eq_of_covers 9 _ (by decide +kernel) fun t _ y => ?_
  blk_simp
  rw [after0_9]
  obtain ⟨r, l, rfl⟩ : ∃ (r : Fin 1024) (l : Fin 512), y = ix2 r l := ⟨y 0, y 1, (by blk_ext)⟩
  refine (out_read m c h t r l (((View.whole main_v21).slice (win0_9.rect t)).emb (ix2 r l) 0) (((View.whole main_v21).slice (win0_9.rect t)).emb (ix2 r l) 1) (by blk_simp [idxs t]) (by blk_simp [idxs t])).trans (congrArg (refAll _ _ _) ?_)
  blk_ext [idxs t]

end Cert.Kernel5Ideal.Hand

end
-- ==== Proof.InClaims.lean ====
/-
  THE IN-PROJECTION CALL: what is claimed of it. The precondition read (the tokens, the modulation's first two rows, the
  norm's weights and the weights of the queries and keys are real), and the result at the ideal instance.
-/
module

public import proofs.«01_k».proof.Defs
public import proofs.«01_k».proof.Proof.InValues
public import proofs.«01_k».proof.Proof.Gen.Pre_inputs_finite
public import Idealize.ShloMosaic.Lib.ReduceAll

@[expose] public section

set_option maxRecDepth 16384

noncomputable section

namespace Cert.Kernel5Ideal.Hand

open Idealize.ShloMosaic Idealize.ShloMosaic.TcCoe Idealize.SL.Sem
open Cert.Kernel5Ideal Cert.Kernel5Ideal.Gen
open Cert.Reference5Ideal.Hand (refH refP refAll result_eq)

/-- An extended real whose size is below +∞ is a real. -/
theorem real_below (x : EReal) (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe a => exact ⟨a, rfl⟩

/-- An array every one of whose sizes is below +∞ is real at every index. -/
theorem real_all {s : Shape} {axes : List (Fin s.rank)} (hb : Cert.Pre_inputs_finite.S_.BroadcastsInDim s (![] : Fin 0 → Fin s.rank)) (hr : s.ReducesTo axes Cert.Pre_inputs_finite.S_) (Y : FVec Ideal s .f32) (j : Cert.Pre_inputs_finite.S_.Idx)
    (h : Host.reduce IntOp.andi (cmpf .olt (Host.absf Y) (broadcastInDim s ![] hb (constant (F := Ideal) Cert.Pre_inputs_finite.S_ .f32 0x7F800000#32))) (constantI Cert.Pre_inputs_finite.S_ 1 1#1) hr Cert.Pre_inputs_finite.Gen.h_S_ j = 1#1) (i : s.Idx) :
    ∃ a : ℝ, Y i = (a : EReal) := by
  haveI : Subsingleton Cert.Pre_inputs_finite.S_.Idx := ⟨fun a b => funext fun x => x.elim0⟩
  exact real_below (Y i) (Host.reduce_andi_all _ _ _ _ _ h i)

/-- The two modulation rows of the predicate are the first two of the modulation. -/
theorem rows_read (M : FVec Ideal Cert.Pre_inputs_finite.S8x6x2048 .f32) (s : Fin 2) (k : Fin 2048) :
    shapeCast Cert.Pre_inputs_finite.S2x2048 (extractStridedSlice Cert.Pre_inputs_finite.S1x2x2048 ![0, 0, 0] M Cert.Pre_inputs_finite.Gen.slices_S8x6x2048_S1x2x2048_0_0_0) Cert.Pre_inputs_finite.Gen.shapeCasts_S1x2x2048_S2x2048 (ix2 s k)
      = M (ix3 (0 : Fin 8) (⟨s.val, by omega⟩ : Fin 6) k) := by
  refine (shapeCast_apply _ _ _ (ix3 (0 : Fin 1) s k) ?_).trans ?_
  · rw [Shape.rowMajor_val_three, Shape.rowMajor_val_two]
    show (0 * 2 + s.val) * 2048 + k.val = s.val * 2048 + k.val
    omega
  · pointwise

/-- The weights of the predicate are the first columns of the weights. -/
theorem cols_read (W : FVec Ideal Cert.Pre_inputs_finite.S2048x5120 .f32) (k : Fin 2048) (C : Fin 2048) :
    extractStridedSlice Cert.Pre_inputs_finite.S2048x2048 ![0, 0] W Cert.Pre_inputs_finite.Gen.slices_S2048x5120_S2048x2048_0_0 (ix2 k C) = W (ix2 k (⟨C.val, by omega⟩ : Fin 5120)) := by
  pointwise

/-- The printed predicate, at every entry. -/
theorem finite_of_pre (X : FVec Ideal S32x256x2048 .f32) (M : FVec Ideal S8x6x2048 .f32) (w : FVec Ideal S2048 .f32) (W : FVec Ideal S2048x5120 .f32) (q k : FVec Ideal S64 .f32)
    (h : Cert.Pre_inputs_finite.fn (F := Ideal) X M w W q k = fun _ => 1#1) : Finite X M w W := by
  have and1 : ∀ a b : BitVec 1, IntOp.andi a b = 1#1 → a = 1#1 ∧ b = 1#1 := by decide
  have e := congrFun h (Shape.Idx.first Cert.Pre_inputs_finite.Gen.h_S_)
  obtain ⟨e, eW⟩ := and1 _ _ e
  obtain ⟨e, ew⟩ := and1 _ _ e
  obtain ⟨eX, eM⟩ := and1 _ _ e
  have fM := fun (s : Fin 2) (k : Fin 2048) => real_all _ _ _ _ eM (ix2 s k)
  refine ⟨fun b r k => real_all _ _ _ _ eX (ix3 b r k), fun k => ?_, fun k => ?_, fun k => real_all _ _ _ _ ew (ix1 k), fun k C hC => ?_⟩
  · obtain ⟨a, ha⟩ := fM 1 k
    exact ⟨a, (rows_read M 1 k).symm.trans ha⟩
  · obtain ⟨a, ha⟩ := fM 0 k
    exact ⟨a, (rows_read M 0 k).symm.trans ha⟩
  · obtain ⟨a, ha⟩ := real_all _ _ _ _ eW (ix2 k (⟨C.val, hC⟩ : Fin 2048))
    exact ⟨a, (cols_read W k ⟨C.val, hC⟩).symm.trans ha⟩

/-- The result of the in-projection is the reference's, the inputs of the norm and of the queries and keys real. -/
theorem algebraic : Cert.algebraic_Kernel5Ideal_Reference5Ideal_pre_inputs_finite := by
  intro m g m' g' hpre hargs
  have hX : ∀ c : Dev nD, Finite (m ((c.tc : Thread nD τ).loc main_arg0)) (m ((c.tc : Thread nD τ).loc main_arg1)) (m ((c.tc : Thread nD τ).loc main_arg2)) (m ((c.tc : Thread nD τ).loc main_arg3)) := fun c => finite_of_pre _ _ _ _ _ _ (hpre c)
  refine ⟨fun c => refAll (refP (refH (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))) (m' ((c.tc : Thread Cert.Reference5Ideal.nD Cert.Reference5Ideal.τ).loc Cert.Reference5Ideal.main_arg3))) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)), ?_, ?_⟩
  · refine (θ_run defs _ _).mono (fun _ h c => ?_) (run_main m g)
    obtain ⟨h0, h1, h2, h3, h4, h5⟩ := hargs c
    refine ⟨((h c).1 9).trans ((final9 m c (hX c)).trans ?_),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩
    beta_reduce
    rw [h0, h1, h2, h3, h4, h5]
  · exact (θ_run Cert.Reference5Ideal.defs _ _).mono (fun r h c => ⟨(h c).1.trans (result_eq m' c), (h c).2⟩)
      (Cert.Reference5Ideal.Value.run (F := Ideal) m' g')

end Cert.Kernel5Ideal.Hand

end
-- ==== Proof.lean ====
/-
  THE CLAIM, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_rows_in_range
public import proofs.«01_k».proof.Proof.Gen.Pre_keys_finite
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel4
public import proofs.«01_k».proof.Proof.Gen.Kernel4Ideal
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Pre_inputs_finite
public import proofs.«01_k».proof.Proof.Frames
public import proofs.«01_k».proof.Proof.RefFrame
public import proofs.«01_k».proof.Proof.Values
public import proofs.«01_k».proof.Proof.CtxFrame
public import proofs.«01_k».proof.Proof.CtxClaims
public import proofs.«01_k».proof.Proof.OutClaims
public import proofs.«01_k».proof.Proof.InFrames
public import proofs.«01_k».proof.Proof.InClaims

@[expose] public section

noncomputable section

/-- The claim: of every program its frame, that the ideal pass kept each program, and that the results of the kernels are the references'. -/
theorem Cert.Proof.claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_rows_in_range.Gen.facts, Cert.Pre_keys_finite.Gen.facts, Cert.Pre_inputs_finite.Gen.facts,
    Cert.KernelIdeal.Hand.frame_kernel, Cert.KernelIdeal.Hand.frame_ideal, Cert.ReferenceIdeal.Hand.frame, Cert.ReferenceIdeal.Hand.frame_pre,
    fun m ρ _ => Cert.Kernel2.Gen.frame m ρ, fun m ρ _ => Cert.Kernel2Ideal.Gen.frame m ρ, fun m ρ _ => Cert.Kernel2Ideal.Gen.frame m ρ,
    Cert.Kernel2Ideal.Hand.frame_reference, fun m ρ _ => Cert.Kernel2Ideal.Hand.frame_reference m ρ trivial,
    fun m ρ _ => Cert.Kernel3.Gen.frame m ρ,
    fun m ρ _ => Cert.Kernel4.Gen.frame m ρ, fun m ρ _ => Cert.Kernel4Ideal.Gen.frame m ρ, Cert.Kernel4Ideal.Hand.frame_reference,
    Cert.Kernel5Ideal.Hand.frame_kernel, Cert.Kernel5Ideal.Hand.frame_ideal, fun m ρ _ => Cert.Kernel5Ideal.Hand.frame_ideal m ρ trivial,
    Cert.Kernel5Ideal.Hand.frame_reference, fun m ρ _ => Cert.Kernel5Ideal.Hand.frame_reference m ρ trivial,
    trivial, Cert.KernelIdeal.Hand.algebraic, trivial, Cert.Kernel2Ideal.Hand.algebraic, trivial, Cert.Kernel4Ideal.Hand.algebraic,
    trivial, Cert.Kernel5Ideal.Hand.algebraic⟩

end
